-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_nonneg [hPre_first_nonneg : Cert.Pre_first_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_first_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_nonneg [hPre_first_nonneg : Cert.Pre_first_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_first_nonneg [hKernelIdeal : Cert.KernelIdeal.Facts] [hPre_first_nonneg : Cert.Pre_first_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_first_nonneg [hReferenceIdeal : Cert.ReferenceIdeal.Facts] [hPre_first_nonneg : Cert.Pre_first_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_first_nonneg [hKernelIdeal : Cert.KernelIdeal.Facts] [hReferenceIdeal : Cert.ReferenceIdeal.Facts] [hPre_first_nonneg : Cert.Pre_first_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_first_nonneg : Cert.Pre_first_nonneg.Facts),
    quiescent_Kernel (hKernel := hKernel)
    ∧ quiescent_KernelIdeal (hKernelIdeal := hKernelIdeal)
    ∧ quiescent_KernelIdeal_pre_first_nonneg (hKernelIdeal := hKernelIdeal) (hPre_first_nonneg := hPre_first_nonneg)
    ∧ quiescent_ReferenceIdeal (hReferenceIdeal := hReferenceIdeal)
    ∧ quiescent_ReferenceIdeal_pre_first_nonneg (hReferenceIdeal := hReferenceIdeal) (hPre_first_nonneg := hPre_first_nonneg)
    ∧ preserves_Kernel_KernelIdeal
    ∧ algebraic_KernelIdeal_ReferenceIdeal_pre_first_nonneg (hKernelIdeal := hKernelIdeal) (hReferenceIdeal := hReferenceIdeal) (hPre_first_nonneg := hPre_first_nonneg)
-- ==== Pre_first_nonneg.lean ====
abbrev S128x16x512 : Shape := ⟨3, ![128, 16, 512]⟩
abbrev S128x16 : Shape := ⟨2, ![128, 16]⟩
abbrev S1280x512 : Shape := ⟨2, ![1280, 512]⟩
abbrev S1280 : Shape := ⟨1, ![1280]⟩
abbrev S1280x256 : Shape := ⟨2, ![1280, 256]⟩
abbrev S256x512 : Shape := ⟨2, ![256, 512]⟩
abbrev S256 : Shape := ⟨1, ![256]⟩
abbrev S256x256 : Shape := ⟨2, ![256, 256]⟩
abbrev S1x16 : Shape := ⟨2, ![1, 16]⟩
abbrev S16 : Shape := ⟨1, ![16]⟩
abbrev S_ : Shape := ⟨0, ![]⟩

class Facts : Prop where
  slices_S128x16_S1x16_0_0 : S128x16.Slices ![0, 0] S1x16
  shapeCasts_S1x16_S16 : S1x16.ShapeCasts S16
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S128x16x512 .f32) (main_arg1 : IVec S128x16 32) (main_arg2 : IVec S128x16 32) (main_arg3 : FVec F S1280x512 .f32) (main_arg4 : FVec F S1280 .f32) (main_arg5 : FVec F S1280x256 .f32) (main_arg6 : FVec F S1280x256 .f32) (main_arg7 : FVec F S256x512 .f32) (main_arg8 : FVec F S256 .f32) (main_arg9 : FVec F S256x256 .f32) (main_arg10 : FVec F S256x256 .f32) : IVec S_ 1 :=
  let main_v0 : IVec S1x16 32 := (extractStridedSlice S1x16 ![0, 0] · slices_S128x16_S1x16_0_0) main_arg1
  let main_v1 : IVec S16 32 := shapeCast S16 main_v0 shapeCasts_S1x16_S16
  let main_c : IVec S_ 32 := constantI S_ 32 0#32
  let main_v2 : IVec S16 32 := broadcastInDim S16 ![] bcast_S_S16 main_c
  let main_v3 : IVec S16 1 := cmpi .sge main_v1 main_v2
  let main_c_0 : IVec S_ 1 := constantI S_ 1 1#1
  let main_v4 : IVec S_ 1 := (fun x v => Host.reduce IntOp.andi x v reducesTo_S16_S_d0 h_S_) main_v3 main_c_0
  let main_v5 : IVec S1x16 32 := (extractStridedSlice S1x16 ![0, 0] · slices_S128x16_S1x16_0_0) main_arg2
  let main_v6 : IVec S16 32 := shapeCast S16 main_v5 shapeCasts_S1x16_S16
  let main_c_1 : IVec S_ 32 := constantI S_ 32 0#32
  let main_v7 : IVec S16 32 := broadcastInDim S16 ![] bcast_S_S16 main_c_1
  let main_v8 : IVec S16 1 := cmpi .sge main_v6 main_v7
  let main_c_2 : IVec S_ 1 := constantI S_ 1 1#1
  let main_v9 : IVec S_ 1 := (fun x v => Host.reduce IntOp.andi x v reducesTo_S16_S_d0 h_S_) main_v8 main_c_2
  let main_v10 : IVec S_ 1 := andi main_v4 main_v9
  main_v10
-- ==== Kernel.lean ====
abbrev S128x16x512 : Shape := ⟨3, ![128, 16, 512]⟩
abbrev S128x16 : Shape := ⟨2, ![128, 16]⟩
abbrev S1280x512 : Shape := ⟨2, ![1280, 512]⟩
abbrev S1280 : Shape := ⟨1, ![1280]⟩
abbrev S1280x256 : Shape := ⟨2, ![1280, 256]⟩
abbrev S256x512 : Shape := ⟨2, ![256, 512]⟩
abbrev S256 : Shape := ⟨1, ![256]⟩
abbrev S256x256 : Shape := ⟨2, ![256, 256]⟩
abbrev S2048x512 : Shape := ⟨2, ![2048, 512]⟩
abbrev S128 : Shape := ⟨1, ![128]⟩
abbrev S128x1 : Shape := ⟨2, ![128, 1]⟩
abbrev S16 : Shape := ⟨1, ![16]⟩
abbrev S1x16 : Shape := ⟨2, ![1, 16]⟩
abbrev S_ : Shape := ⟨0, ![]⟩
abbrev S1x1280 : Shape := ⟨2, ![1, 1280]⟩
abbrev S1x256 : Shape := ⟨2, ![1, 256]⟩
abbrev S16x128x256 : Shape := ⟨3, ![16, 128, 256]⟩
abbrev S2048x1280 : Shape := ⟨2, ![2048, 1280]⟩
abbrev S2048x256 : Shape := ⟨2, ![2048, 256]⟩
abbrev S512x1280 : Shape := ⟨2, ![512, 1280]⟩
abbrev S512x256 : Shape := ⟨2, ![512, 256]⟩
abbrev S2064x256 : Shape := ⟨2, ![2064, 256]⟩
abbrev S256x1280 : Shape := ⟨2, ![256, 1280]⟩
abbrev S16x256 : Shape := ⟨2, ![16, 256]⟩
abbrev S1x1 : Shape := ⟨2, ![1, 1]⟩
abbrev S16x512 : Shape := ⟨2, ![16, 512]⟩
abbrev S16x1280 : Shape := ⟨2, ![16, 1280]⟩
abbrev S16x1x256 : Shape := ⟨3, ![16, 1, 256]⟩

abbrev nBuf : Space → Nat
  | .hbm => 59
  | .vmem => 17
  | .smem => 2
  | _ => 0

abbrev bufTy : (tb : Table) → Fin (tcTables nBuf tb) → BufTy
  | .hbm, ⟨0, _⟩ => ⟨S128x16x512, .f32⟩
  | .hbm, ⟨1, _⟩ => ⟨S128x16, .i32⟩
  | .hbm, ⟨2, _⟩ => ⟨S128x16, .i32⟩
  | .hbm, ⟨3, _⟩ => ⟨S1280x512, .f32⟩
  | .hbm, ⟨4, _⟩ => ⟨S1280, .f32⟩
  | .hbm, ⟨5, _⟩ => ⟨S1280x256, .f32⟩
  | .hbm, ⟨6, _⟩ => ⟨S1280x256, .f32⟩
  | .hbm, ⟨7, _⟩ => ⟨S256x512, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S2048x512, .f32⟩
  | .hbm, ⟨12, _⟩ => ⟨S128, .i32⟩
  | .hbm, ⟨13, _⟩ => ⟨S128x1, .i32⟩
  | .hbm, ⟨14, _⟩ => ⟨S16, .i32⟩
  | .hbm, ⟨15, _⟩ => ⟨S1x16, .i32⟩
  | .hbm, ⟨16, _⟩ => ⟨S128x16, .i32⟩
  | .hbm, ⟨17, _⟩ => ⟨S128x16, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S128x16, .i32⟩
  | .hbm, ⟨22, _⟩ => ⟨S128x16, .i32⟩
  | .hbm, ⟨23, _⟩ => ⟨S_, .i32⟩
  | .hbm, ⟨24, _⟩ => ⟨S128x16, .i32⟩
  | .hbm, ⟨25, _⟩ => ⟨S128x16, .i32⟩
  | .hbm, ⟨26, _⟩ => ⟨S_, .i32⟩
  | .hbm, ⟨27, _⟩ => ⟨S128x16, .i32⟩
  | .hbm, ⟨28, _⟩ => ⟨S128x16, .i32⟩
  | .hbm, ⟨29, _⟩ => ⟨S128x16, .i32⟩
  | .hbm, ⟨30, _⟩ => ⟨S128x16, .i32⟩
  | .hbm, ⟨31, _⟩ => ⟨S_, .i32⟩
  | .hbm, ⟨32, _⟩ => ⟨S1x16, .i32⟩
  | .hbm, ⟨33, _⟩ => ⟨S1x16, .i32⟩
  | .hbm, ⟨34, _⟩ => ⟨S128x16, .i32⟩
  | .hbm, ⟨35, _⟩ => ⟨S128x16, .i32⟩
  | .hbm, ⟨36, _⟩ => ⟨S128x16, .i32⟩
  | .hbm, ⟨37, _⟩ => ⟨S128x16, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S128x16, .i32⟩
  | .hbm, ⟨42, _⟩ => ⟨S128x16, .i32⟩
  | .hbm, ⟨43, _⟩ => ⟨S_, .i32⟩
  | .hbm, ⟨44, _⟩ => ⟨S128x16, .i32⟩
  | .hbm, ⟨45, _⟩ => ⟨S128x16, .i32⟩
  | .hbm, ⟨46, _⟩ => ⟨S_, .i32⟩
  | .hbm, ⟨47, _⟩ => ⟨S128x16, .i32⟩
  | .hbm, ⟨48, _⟩ => ⟨S128x16, .i32⟩
  | .hbm, ⟨49, _⟩ => ⟨S128x16, .i32⟩
  | .hbm, ⟨50, _⟩ => ⟨S128x16, .i32⟩
  | .hbm, ⟨51, _⟩ => ⟨S_, .i32⟩
  | .hbm, ⟨52, _⟩ => ⟨S1x16, .i32⟩
  | .hbm, ⟨53, _⟩ => ⟨S1x16, .i32⟩
  | .hbm, ⟨54, _⟩ => ⟨S128x16, .i32⟩
  | .hbm, ⟨55, _⟩ => ⟨S128x16, .i32⟩
  | .hbm, ⟨56, _⟩ => ⟨S1x1280, .f32⟩
  | .hbm, ⟨57, _⟩ => ⟨S1x256, .f32⟩
  | .hbm, ⟨58, _⟩ => ⟨S16x128x256, .f32⟩
  | .local _ .vmem, ⟨0, _⟩ => ⟨S2048x512, .f32⟩
  | .local _ .vmem, ⟨1, _⟩ => ⟨S1280x512, .f32⟩
  | .local _ .vmem, ⟨2, _⟩ => ⟨S1x1280, .f32⟩
  | .local _ .vmem, ⟨3, _⟩ => ⟨S1x256, .f32⟩
  | .local _ .vmem, ⟨4, _⟩ => ⟨S1280x256, .f32⟩
  | .local _ .vmem, ⟨5, _⟩ => ⟨S1280x256, .f32⟩
  | .local _ .vmem, ⟨6, _⟩ => ⟨S256x512, .f32⟩
  | .local _ .vmem, ⟨7, _⟩ => ⟨S256x256, .f32⟩
  | .local _ .vmem, ⟨8, _⟩ => ⟨S256x256, .f32⟩
  | .local _ .vmem, ⟨9, _⟩ => ⟨S16x128x256, .f32⟩
  | .local _ .vmem, ⟨10, _⟩ => ⟨S2048x1280, .f32⟩
  | .local _ .vmem, ⟨11, _⟩ => ⟨S2048x256, .f32⟩
  | .local _ .vmem, ⟨12, _⟩ => ⟨S512x1280, .f32⟩
  | .local _ .vmem, ⟨13, _⟩ => ⟨S512x256, .f32⟩
  | .local _ .vmem, ⟨14, _⟩ => ⟨S512x1280, .f32⟩
  | .local _ .vmem, ⟨15, _⟩ => ⟨S2064x256, .f32⟩
  | .local _ .vmem, ⟨16, _⟩ => ⟨S256x512, .f32⟩
  | .local _ .smem, ⟨0, _⟩ => ⟨S128x16, .i32⟩
  | .local _ .smem, ⟨1, _⟩ => ⟨S128x16, .i32⟩
  | _, _ => ⟨S128x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_c_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_call3_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v49 : BitVec 32 := Scalar.addi c0_i32 c8_i32
  let c1_i32 : BitVec 32 := 1#32
  ⟨c0_i32, v49, c1_i32⟩
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v52 : Index := Scalar.indexCast v51
  let c0_37 : Index := 0#32
  ![v52.toNat, 0]
def k0_off2 (v53 : BitVec 32) : Fin 2 → Nat :=
  let v56 : Index := Scalar.indexCast v53
  let c0_39 : Index := 0#32
  ![v56.toNat, 0]

def k0_chk1 (v53 : BitVec 32) : Prop :=
  (∀ a, (k0_off2 v53) a + S1x256.size a ≤ S2064x256.size a)
theorem k0_off2_inb : ∀ (v53 : BitVec 32) (k0_hw1 : k0_chk1 v53), ∀ a, (k0_off2 v53) a + S1x256.size a ≤ S2064x256.size a := fun v53 k0_hw1 => k0_hw1

def k0_off3 (v55 : BitVec 32) : Fin 2 → Nat :=
  let v61 : Index := Scalar.indexCast v55
  let c0_42 : Index := 0#32
  ![v61.toNat, 0]

def k0_chk2 (v55 : BitVec 32) : Prop :=
  (∀ a, (k0_off3 v55) a + S1x256.size a ≤ S2064x256.size a)
theorem k0_off3_inb : ∀ (v55 : BitVec 32) (k0_hw2 : k0_chk2 v55), ∀ a, (k0_off3 v55) a + S1x256.size a ≤ S2064x256.size a := fun v55 k0_hw2 => k0_hw2

def k0_off4 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v66 : Index := Scalar.indexCast v51
  let c1 : Index := 1#32
  ![v66.toNat, 1]
def k0_off5 (v67 : BitVec 32) : Fin 2 → Nat :=
  let v70 : Index := Scalar.indexCast v67
  let c0_46 : Index := 0#32
  ![v70.toNat, 0]

def k0_chk3 (v67 : BitVec 32) : Prop :=
  (∀ a, (k0_off5 v67) a + S1x256.size a ≤ S2064x256.size a)
theorem k0_off5_inb : ∀ (v67 : BitVec 32) (k0_hw3 : k0_chk3 v67), ∀ a, (k0_off5 v67) a + S1x256.size a ≤ S2064x256.size a := fun v67 k0_hw3 => k0_hw3

def k0_off6 (v69 : BitVec 32) : Fin 2 → Nat :=
  let v75 : Index := Scalar.indexCast v69
  let c0_49 : Index := 0#32
  ![v75.toNat, 0]

def k0_chk4 (v69 : BitVec 32) : Prop :=
  (∀ a, (k0_off6 v69) a + S1x256.size a ≤ S2064x256.size a)
theorem k0_off6_inb : ∀ (v69 : BitVec 32) (k0_hw4 : k0_chk4 v69), ∀ a, (k0_off6 v69) a + S1x256.size a ≤ S2064x256.size a := fun v69 k0_hw4 => k0_hw4

def k0_off7 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v80 : Index := Scalar.indexCast v51
  let c2 : Index := 2#32
  ![v80.toNat, 2]
def k0_off8 (v81 : BitVec 32) : Fin 2 → Nat :=
  let v84 : Index := Scalar.indexCast v81
  let c0_53 : Index := 0#32
  ![v84.toNat, 0]

def k0_chk5 (v81 : BitVec 32) : Prop :=
  (∀ a, (k0_off8 v81) a + S1x256.size a ≤ S2064x256.size a)
theorem k0_off8_inb : ∀ (v81 : BitVec 32) (k0_hw5 : k0_chk5 v81), ∀ a, (k0_off8 v81) a + S1x256.size a ≤ S2064x256.size a := fun v81 k0_hw5 => k0_hw5

def k0_off9 (v83 : BitVec 32) : Fin 2 → Nat :=
  let v89 : Index := Scalar.indexCast v83
  let c0_56 : Index := 0#32
  ![v89.toNat, 0]

def k0_chk6 (v83 : BitVec 32) : Prop :=
  (∀ a, (k0_off9 v83) a + S1x256.size a ≤ S2064x256.size a)
theorem k0_off9_inb : ∀ (v83 : BitVec 32) (k0_hw6 : k0_chk6 v83), ∀ a, (k0_off9 v83) a + S1x256.size a ≤ S2064x256.size a := fun v83 k0_hw6 => k0_hw6

def k0_off10 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v94 : Index := Scalar.indexCast v51
  let c3 : Index := 3#32
  ![v94.toNat, 3]
def k0_off11 (v95 : BitVec 32) : Fin 2 → Nat :=
  let v98 : Index := Scalar.indexCast v95
  let c0_60 : Index := 0#32
  ![v98.toNat, 0]

def k0_chk7 (v95 : BitVec 32) : Prop :=
  (∀ a, (k0_off11 v95) a + S1x256.size a ≤ S2064x256.size a)
theorem k0_off11_inb : ∀ (v95 : BitVec 32) (k0_hw7 : k0_chk7 v95), ∀ a, (k0_off11 v95) a + S1x256.size a ≤ S2064x256.size a := fun v95 k0_hw7 => k0_hw7

def k0_off12 (v97 : BitVec 32) : Fin 2 → Nat :=
  let v103 : Index := Scalar.indexCast v97
  let c0_63 : Index := 0#32
  ![v103.toNat, 0]

def k0_chk8 (v97 : BitVec 32) : Prop :=
  (∀ a, (k0_off12 v97) a + S1x256.size a ≤ S2064x256.size a)
theorem k0_off12_inb : ∀ (v97 : BitVec 32) (k0_hw8 : k0_chk8 v97), ∀ a, (k0_off12 v97) a + S1x256.size a ≤ S2064x256.size a := fun v97 k0_hw8 => k0_hw8

def k0_off13 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v108 : Index := Scalar.indexCast v51
  let c4 : Index := 4#32
  ![v108.toNat, 4]
def k0_off14 (v109 : BitVec 32) : Fin 2 → Nat :=
  let v112 : Index := Scalar.indexCast v109
  let c0_67 : Index := 0#32
  ![v112.toNat, 0]

def k0_chk9 (v109 : BitVec 32) : Prop :=
  (∀ a, (k0_off14 v109) a + S1x256.size a ≤ S2064x256.size a)
theorem k0_off14_inb : ∀ (v109 : BitVec 32) (k0_hw9 : k0_chk9 v109), ∀ a, (k0_off14 v109) a + S1x256.size a ≤ S2064x256.size a := fun v109 k0_hw9 => k0_hw9

def k0_off15 (v111 : BitVec 32) : Fin 2 → Nat :=
  let v117 : Index := Scalar.indexCast v111
  let c0_70 : Index := 0#32
  ![v117.toNat, 0]

def k0_chk10 (v111 : BitVec 32) : Prop :=
  (∀ a, (k0_off15 v111) a + S1x256.size a ≤ S2064x256.size a)
theorem k0_off15_inb : ∀ (v111 : BitVec 32) (k0_hw10 : k0_chk10 v111), ∀ a, (k0_off15 v111) a + S1x256.size a ≤ S2064x256.size a := fun v111 k0_hw10 => k0_hw10

def k0_off16 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v122 : Index := Scalar.indexCast v51
  let c5 : Index := 5#32
  ![v122.toNat, 5]
def k0_off17 (v123 : BitVec 32) : Fin 2 → Nat :=
  let v126 : Index := Scalar.indexCast v123
  let c0_74 : Index := 0#32
  ![v126.toNat, 0]

def k0_chk11 (v123 : BitVec 32) : Prop :=
  (∀ a, (k0_off17 v123) a + S1x256.size a ≤ S2064x256.size a)
theorem k0_off17_inb : ∀ (v123 : BitVec 32) (k0_hw11 : k0_chk11 v123), ∀ a, (k0_off17 v123) a + S1x256.size a ≤ S2064x256.size a := fun v123 k0_hw11 => k0_hw11

def k0_off18 (v125 : BitVec 32) : Fin 2 → Nat :=
  let v131 : Index := Scalar.indexCast v125
  let c0_77 : Index := 0#32
  ![v131.toNat, 0]

def k0_chk12 (v125 : BitVec 32) : Prop :=
  (∀ a, (k0_off18 v125) a + S1x256.size a ≤ S2064x256.size a)
theorem k0_off18_inb : ∀ (v125 : BitVec 32) (k0_hw12 : k0_chk12 v125), ∀ a, (k0_off18 v125) a + S1x256.size a ≤ S2064x256.size a := fun v125 k0_hw12 => k0_hw12

def k0_off19 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v136 : Index := Scalar.indexCast v51
  let c6 : Index := 6#32
  ![v136.toNat, 6]
def k0_off20 (v137 : BitVec 32) : Fin 2 → Nat :=
  let v140 : Index := Scalar.indexCast v137
  let c0_81 : Index := 0#32
  ![v140.toNat, 0]

def k0_chk13 (v137 : BitVec 32) : Prop :=
  (∀ a, (k0_off20 v137) a + S1x256.size a ≤ S2064x256.size a)
theorem k0_off20_inb : ∀ (v137 : BitVec 32) (k0_hw13 : k0_chk13 v137), ∀ a, (k0_off20 v137) a + S1x256.size a ≤ S2064x256.size a := fun v137 k0_hw13 => k0_hw13

def k0_off21 (v139 : BitVec 32) : Fin 2 → Nat :=
  let v145 : Index := Scalar.indexCast v139
  let c0_84 : Index := 0#32
  ![v145.toNat, 0]

def k0_chk14 (v139 : BitVec 32) : Prop :=
  (∀ a, (k0_off21 v139) a + S1x256.size a ≤ S2064x256.size a)
theorem k0_off21_inb : ∀ (v139 : BitVec 32) (k0_hw14 : k0_chk14 v139), ∀ a, (k0_off21 v139) a + S1x256.size a ≤ S2064x256.size a := fun v139 k0_hw14 => k0_hw14

def k0_off22 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v150 : Index := Scalar.indexCast v51
  let c7 : Index := 7#32
  ![v150.toNat, 7]
def k0_off23 (v151 : BitVec 32) : Fin 2 → Nat :=
  let v154 : Index := Scalar.indexCast v151
  let c0_88 : Index := 0#32
  ![v154.toNat, 0]

def k0_chk15 (v151 : BitVec 32) : Prop :=
  (∀ a, (k0_off23 v151) a + S1x256.size a ≤ S2064x256.size a)
theorem k0_off23_inb : ∀ (v151 : BitVec 32) (k0_hw15 : k0_chk15 v151), ∀ a, (k0_off23 v151) a + S1x256.size a ≤ S2064x256.size a := fun v151 k0_hw15 => k0_hw15

def k0_off24 (v153 : BitVec 32) : Fin 2 → Nat :=
  let v159 : Index := Scalar.indexCast v153
  let c0_91 : Index := 0#32
  ![v159.toNat, 0]

def k0_chk16 (v153 : BitVec 32) : Prop :=
  (∀ a, (k0_off24 v153) a + S1x256.size a ≤ S2064x256.size a)
theorem k0_off24_inb : ∀ (v153 : BitVec 32) (k0_hw16 : k0_chk16 v153), ∀ a, (k0_off24 v153) a + S1x256.size a ≤ S2064x256.size a := fun v153 k0_hw16 => k0_hw16

def k0_off25 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v164 : Index := Scalar.indexCast v51
  let c8 : Index := 8#32
  ![v164.toNat, 8]
def k0_off26 (v165 : BitVec 32) : Fin 2 → Nat :=
  let v168 : Index := Scalar.indexCast v165
  let c0_95 : Index := 0#32
  ![v168.toNat, 0]

def k0_chk17 (v165 : BitVec 32) : Prop :=
  (∀ a, (k0_off26 v165) a + S1x256.size a ≤ S2064x256.size a)
theorem k0_off26_inb : ∀ (v165 : BitVec 32) (k0_hw17 : k0_chk17 v165), ∀ a, (k0_off26 v165) a + S1x256.size a ≤ S2064x256.size a := fun v165 k0_hw17 => k0_hw17

def k0_off27 (v167 : BitVec 32) : Fin 2 → Nat :=
  let v173 : Index := Scalar.indexCast v167
  let c0_98 : Index := 0#32
  ![v173.toNat, 0]

def k0_chk18 (v167 : BitVec 32) : Prop :=
  (∀ a, (k0_off27 v167) a + S1x256.size a ≤ S2064x256.size a)
theorem k0_off27_inb : ∀ (v167 : BitVec 32) (k0_hw18 : k0_chk18 v167), ∀ a, (k0_off27 v167) a + S1x256.size a ≤ S2064x256.size a := fun v167 k0_hw18 => k0_hw18

def k0_off28 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v178 : Index := Scalar.indexCast v51
  let c9 : Index := 9#32
  ![v178.toNat, 9]
def k0_off29 (v179 : BitVec 32) : Fin 2 → Nat :=
  let v182 : Index := Scalar.indexCast v179
  let c0_102 : Index := 0#32
  ![v182.toNat, 0]

def k0_chk19 (v179 : BitVec 32) : Prop :=
  (∀ a, (k0_off29 v179) a + S1x256.size a ≤ S2064x256.size a)
theorem k0_off29_inb : ∀ (v179 : BitVec 32) (k0_hw19 : k0_chk19 v179), ∀ a, (k0_off29 v179) a + S1x256.size a ≤ S2064x256.size a := fun v179 k0_hw19 => k0_hw19

def k0_off30 (v181 : BitVec 32) : Fin 2 → Nat :=
  let v187 : Index := Scalar.indexCast v181
  let c0_105 : Index := 0#32
  ![v187.toNat, 0]

def k0_chk20 (v181 : BitVec 32) : Prop :=
  (∀ a, (k0_off30 v181) a + S1x256.size a ≤ S2064x256.size a)
theorem k0_off30_inb : ∀ (v181 : BitVec 32) (k0_hw20 : k0_chk20 v181), ∀ a, (k0_off30 v181) a + S1x256.size a ≤ S2064x256.size a := fun v181 k0_hw20 => k0_hw20

def k0_off31 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v192 : Index := Scalar.indexCast v51
  let c10 : Index := 10#32
  ![v192.toNat, 10]
def k0_off32 (v193 : BitVec 32) : Fin 2 → Nat :=
  let v196 : Index := Scalar.indexCast v193
  let c0_109 : Index := 0#32
  ![v196.toNat, 0]

def k0_chk21 (v193 : BitVec 32) : Prop :=
  (∀ a, (k0_off32 v193) a + S1x256.size a ≤ S2064x256.size a)
theorem k0_off32_inb : ∀ (v193 : BitVec 32) (k0_hw21 : k0_chk21 v193), ∀ a, (k0_off32 v193) a + S1x256.size a ≤ S2064x256.size a := fun v193 k0_hw21 => k0_hw21

def k0_off33 (v195 : BitVec 32) : Fin 2 → Nat :=
  let v201 : Index := Scalar.indexCast v195
  let c0_112 : Index := 0#32
  ![v201.toNat, 0]

def k0_chk22 (v195 : BitVec 32) : Prop :=
  (∀ a, (k0_off33 v195) a + S1x256.size a ≤ S2064x256.size a)
theorem k0_off33_inb : ∀ (v195 : BitVec 32) (k0_hw22 : k0_chk22 v195), ∀ a, (k0_off33 v195) a + S1x256.size a ≤ S2064x256.size a := fun v195 k0_hw22 => k0_hw22

def k0_off34 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v206 : Index := Scalar.indexCast v51
  let c11 : Index := 11#32
  ![v206.toNat, 11]
def k0_off35 (v207 : BitVec 32) : Fin 2 → Nat :=
  let v210 : Index := Scalar.indexCast v207
  let c0_116 : Index := 0#32
  ![v210.toNat, 0]

def k0_chk23 (v207 : BitVec 32) : Prop :=
  (∀ a, (k0_off35 v207) a + S1x256.size a ≤ S2064x256.size a)
theorem k0_off35_inb : ∀ (v207 : BitVec 32) (k0_hw23 : k0_chk23 v207), ∀ a, (k0_off35 v207) a + S1x256.size a ≤ S2064x256.size a := fun v207 k0_hw23 => k0_hw23

def k0_off36 (v209 : BitVec 32) : Fin 2 → Nat :=
  let v215 : Index := Scalar.indexCast v209
  let c0_119 : Index := 0#32
  ![v215.toNat, 0]

def k0_chk24 (v209 : BitVec 32) : Prop :=
  (∀ a, (k0_off36 v209) a + S1x256.size a ≤ S2064x256.size a)
theorem k0_off36_inb : ∀ (v209 : BitVec 32) (k0_hw24 : k0_chk24 v209), ∀ a, (k0_off36 v209) a + S1x256.size a ≤ S2064x256.size a := fun v209 k0_hw24 => k0_hw24

def k0_off37 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v220 : Index := Scalar.indexCast v51
  let c12 : Index := 12#32
  ![v220.toNat, 12]
def k0_off38 (v221 : BitVec 32) : Fin 2 → Nat :=
  let v224 : Index := Scalar.indexCast v221
  let c0_123 : Index := 0#32
  ![v224.toNat, 0]

def k0_chk25 (v221 : BitVec 32) : Prop :=
  (∀ a, (k0_off38 v221) a + S1x256.size a ≤ S2064x256.size a)
theorem k0_off38_inb : ∀ (v221 : BitVec 32) (k0_hw25 : k0_chk25 v221), ∀ a, (k0_off38 v221) a + S1x256.size a ≤ S2064x256.size a := fun v221 k0_hw25 => k0_hw25

def k0_off39 (v223 : BitVec 32) : Fin 2 → Nat :=
  let v229 : Index := Scalar.indexCast v223
  let c0_126 : Index := 0#32
  ![v229.toNat, 0]

def k0_chk26 (v223 : BitVec 32) : Prop :=
  (∀ a, (k0_off39 v223) a + S1x256.size a ≤ S2064x256.size a)
theorem k0_off39_inb : ∀ (v223 : BitVec 32) (k0_hw26 : k0_chk26 v223), ∀ a, (k0_off39 v223) a + S1x256.size a ≤ S2064x256.size a := fun v223 k0_hw26 => k0_hw26

def k0_off40 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v234 : Index := Scalar.indexCast v51
  let c13 : Index := 13#32
  ![v234.toNat, 13]
def k0_off41 (v235 : BitVec 32) : Fin 2 → Nat :=
  let v238 : Index := Scalar.indexCast v235
  let c0_130 : Index := 0#32
  ![v238.toNat, 0]

def k0_chk27 (v235 : BitVec 32) : Prop :=
  (∀ a, (k0_off41 v235) a + S1x256.size a ≤ S2064x256.size a)
theorem k0_off41_inb : ∀ (v235 : BitVec 32) (k0_hw27 : k0_chk27 v235), ∀ a, (k0_off41 v235) a + S1x256.size a ≤ S2064x256.size a := fun v235 k0_hw27 => k0_hw27

def k0_off42 (v237 : BitVec 32) : Fin 2 → Nat :=
  let v243 : Index := Scalar.indexCast v237
  let c0_133 : Index := 0#32
  ![v243.toNat, 0]

def k0_chk28 (v237 : BitVec 32) : Prop :=
  (∀ a, (k0_off42 v237) a + S1x256.size a ≤ S2064x256.size a)
theorem k0_off42_inb : ∀ (v237 : BitVec 32) (k0_hw28 : k0_chk28 v237), ∀ a, (k0_off42 v237) a + S1x256.size a ≤ S2064x256.size a := fun v237 k0_hw28 => k0_hw28

def k0_off43 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v248 : Index := Scalar.indexCast v51
  let c14 : Index := 14#32
  ![v248.toNat, 14]
def k0_off44 (v249 : BitVec 32) : Fin 2 → Nat :=
  let v252 : Index := Scalar.indexCast v249
  let c0_137 : Index := 0#32
  ![v252.toNat, 0]

def k0_chk29 (v249 : BitVec 32) : Prop :=
  (∀ a, (k0_off44 v249) a + S1x256.size a ≤ S2064x256.size a)
theorem k0_off44_inb : ∀ (v249 : BitVec 32) (k0_hw29 : k0_chk29 v249), ∀ a, (k0_off44 v249) a + S1x256.size a ≤ S2064x256.size a := fun v249 k0_hw29 => k0_hw29

def k0_off45 (v251 : BitVec 32) : Fin 2 → Nat :=
  let v257 : Index := Scalar.indexCast v251
  let c0_140 : Index := 0#32
  ![v257.toNat, 0]

def k0_chk30 (v251 : BitVec 32) : Prop :=
  (∀ a, (k0_off45 v251) a + S1x256.size a ≤ S2064x256.size a)
theorem k0_off45_inb : ∀ (v251 : BitVec 32) (k0_hw30 : k0_chk30 v251), ∀ a, (k0_off45 v251) a + S1x256.size a ≤ S2064x256.size a := fun v251 k0_hw30 => k0_hw30

def k0_off46 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v262 : Index := Scalar.indexCast v51
  let c15 : Index := 15#32
  ![v262.toNat, 15]
def k0_off47 (v263 : BitVec 32) : Fin 2 → Nat :=
  let v266 : Index := Scalar.indexCast v263
  let c0_144 : Index := 0#32
  ![v266.toNat, 0]

def k0_chk31 (v263 : BitVec 32) : Prop :=
  (∀ a, (k0_off47 v263) a + S1x256.size a ≤ S2064x256.size a)
theorem k0_off47_inb : ∀ (v263 : BitVec 32) (k0_hw31 : k0_chk31 v263), ∀ a, (k0_off47 v263) a + S1x256.size a ≤ S2064x256.size a := fun v263 k0_hw31 => k0_hw31

def k0_off48 (v265 : BitVec 32) : Fin 2 → Nat :=
  let v271 : Index := Scalar.indexCast v265
  let c0_147 : Index := 0#32
  ![v271.toNat, 0]

def k0_chk32 (v265 : BitVec 32) : Prop :=
  (∀ a, (k0_off48 v265) a + S1x256.size a ≤ S2064x256.size a)
theorem k0_off48_inb : ∀ (v265 : BitVec 32) (k0_hw32 : k0_chk32 v265), ∀ a, (k0_off48 v265) a + S1x256.size a ≤ S2064x256.size a := fun v265 k0_hw32 => k0_hw32

def k0_off49 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let c16_i32_152 : BitVec 32 := 16#32
  let v279 : BitVec 32 := Scalar.muli v51 c16_i32_152
  let v280 : Index := Scalar.indexCast v279
  let c0_153 : Index := 0#32
  ![v280.toNat, 0]
def k0_off50 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let c16_i32_161 : BitVec 32 := 16#32
  let v299 : BitVec 32 := Scalar.muli v51 c16_i32_161
  let v300 : Index := Scalar.indexCast v299
  let c0_162 : Index := 0#32
  ![v300.toNat, 0]
def k0_off51 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let c16_i32_168 : BitVec 32 := 16#32
  let v312 : BitVec 32 := Scalar.muli v51 c16_i32_168
  let v313 : Index := Scalar.indexCast v312
  let c0_169 : Index := 0#32
  ![v313.toNat, 0]
def k0_off52 (k0_t1 : Fin k0_t1_loop.trips) : Fin 3 → Nat :=
  let c0_170 : Index := 0#32
  let c0_i32 : BitVec 32 := 0#32
  let c1_i32 : BitVec 32 := 1#32
  let arg19 : BitVec 32 := Scf.iv c0_i32 c1_i32 k0_t1
  let c16_i32 : BitVec 32 := 16#32
  let v50 : BitVec 32 := Scalar.muli arg19 c16_i32
  let c0_i32_36 : BitVec 32 := 0#32
  let v51 : BitVec 32 := Scalar.addi v50 c0_i32_36
  let v318 : Index := Scalar.indexCast v51
  let c0_171 : Index := 0#32
  ![0, v318.toNat, 0]
def k0_off53 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v322 : Index := Scalar.indexCast v321
  let c0_174 : Index := 0#32
  ![v322.toNat, 0]
def k0_off54 (v323 : BitVec 32) : Fin 2 → Nat :=
  let v326 : Index := Scalar.indexCast v323
  let c0_176 : Index := 0#32
  ![v326.toNat, 0]

def k0_chk33 (v323 : BitVec 32) : Prop :=
  (∀ a, (k0_off54 v323) a + S1x256.size a ≤ S2064x256.size a)
theorem k0_off54_inb : ∀ (v323 : BitVec 32) (k0_hw33 : k0_chk33 v323), ∀ a, (k0_off54 v323) a + S1x256.size a ≤ S2064x256.size a := fun v323 k0_hw33 => k0_hw33

def k0_off55 (v325 : BitVec 32) : Fin 2 → Nat :=
  let v331 : Index := Scalar.indexCast v325
  let c0_178 : Index := 0#32
  ![v331.toNat, 0]

def k0_chk34 (v325 : BitVec 32) : Prop :=
  (∀ a, (k0_off55 v325) a + S1x256.size a ≤ S2064x256.size a)
theorem k0_off55_inb : ∀ (v325 : BitVec 32) (k0_hw34 : k0_chk34 v325), ∀ a, (k0_off55 v325) a + S1x256.size a ≤ S2064x256.size a := fun v325 k0_hw34 => k0_hw34

def k0_off56 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v336 : Index := Scalar.indexCast v321
  let c1_181 : Index := 1#32
  ![v336.toNat, 1]
def k0_off57 (v337 : BitVec 32) : Fin 2 → Nat :=
  let v340 : Index := Scalar.indexCast v337
  let c0_183 : Index := 0#32
  ![v340.toNat, 0]

def k0_chk35 (v337 : BitVec 32) : Prop :=
  (∀ a, (k0_off57 v337) a + S1x256.size a ≤ S2064x256.size a)
theorem k0_off57_inb : ∀ (v337 : BitVec 32) (k0_hw35 : k0_chk35 v337), ∀ a, (k0_off57 v337) a + S1x256.size a ≤ S2064x256.size a := fun v337 k0_hw35 => k0_hw35

def k0_off58 (v339 : BitVec 32) : Fin 2 → Nat :=
  let v345 : Index := Scalar.indexCast v339
  let c0_185 : Index := 0#32
  ![v345.toNat, 0]

def k0_chk36 (v339 : BitVec 32) : Prop :=
  (∀ a, (k0_off58 v339) a + S1x256.size a ≤ S2064x256.size a)
theorem k0_off58_inb : ∀ (v339 : BitVec 32) (k0_hw36 : k0_chk36 v339), ∀ a, (k0_off58 v339) a + S1x256.size a ≤ S2064x256.size a := fun v339 k0_hw36 => k0_hw36

def k0_off59 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v350 : Index := Scalar.indexCast v321
  let c2_188 : Index := 2#32
  ![v350.toNat, 2]
def k0_off60 (v351 : BitVec 32) : Fin 2 → Nat :=
  let v354 : Index := Scalar.indexCast v351
  let c0_190 : Index := 0#32
  ![v354.toNat, 0]

def k0_chk37 (v351 : BitVec 32) : Prop :=
  (∀ a, (k0_off60 v351) a + S1x256.size a ≤ S2064x256.size a)
theorem k0_off60_inb : ∀ (v351 : BitVec 32) (k0_hw37 : k0_chk37 v351), ∀ a, (k0_off60 v351) a + S1x256.size a ≤ S2064x256.size a := fun v351 k0_hw37 => k0_hw37

def k0_off61 (v353 : BitVec 32) : Fin 2 → Nat :=
  let v359 : Index := Scalar.indexCast v353
  let c0_192 : Index := 0#32
  ![v359.toNat, 0]

def k0_chk38 (v353 : BitVec 32) : Prop :=
  (∀ a, (k0_off61 v353) a + S1x256.size a ≤ S2064x256.size a)
theorem k0_off61_inb : ∀ (v353 : BitVec 32) (k0_hw38 : k0_chk38 v353), ∀ a, (k0_off61 v353) a + S1x256.size a ≤ S2064x256.size a := fun v353 k0_hw38 => k0_hw38

def k0_off62 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v364 : Index := Scalar.indexCast v321
  let c3_195 : Index := 3#32
  ![v364.toNat, 3]
def k0_off63 (v365 : BitVec 32) : Fin 2 → Nat :=
  let v368 : Index := Scalar.indexCast v365
  let c0_197 : Index := 0#32
  ![v368.toNat, 0]

def k0_chk39 (v365 : BitVec 32) : Prop :=
  (∀ a, (k0_off63 v365) a + S1x256.size a ≤ S2064x256.size a)
theorem k0_off63_inb : ∀ (v365 : BitVec 32) (k0_hw39 : k0_chk39 v365), ∀ a, (k0_off63 v365) a + S1x256.size a ≤ S2064x256.size a := fun v365 k0_hw39 => k0_hw39

def k0_off64 (v367 : BitVec 32) : Fin 2 → Nat :=
  let v373 : Index := Scalar.indexCast v367
  let c0_199 : Index := 0#32
  ![v373.toNat, 0]

def k0_chk40 (v367 : BitVec 32) : Prop :=
  (∀ a, (k0_off64 v367) a + S1x256.size a ≤ S2064x256.size a)
theorem k0_off64_inb : ∀ (v367 : BitVec 32) (k0_hw40 : k0_chk40 v367), ∀ a, (k0_off64 v367) a + S1x256.size a ≤ S2064x256.size a := fun v367 k0_hw40 => k0_hw40

def k0_off65 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v378 : Index := Scalar.indexCast v321
  let c4_202 : Index := 4#32
  ![v378.toNat, 4]
def k0_off66 (v379 : BitVec 32) : Fin 2 → Nat :=
  let v382 : Index := Scalar.indexCast v379
  let c0_204 : Index := 0#32
  ![v382.toNat, 0]

def k0_chk41 (v379 : BitVec 32) : Prop :=
  (∀ a, (k0_off66 v379) a + S1x256.size a ≤ S2064x256.size a)
theorem k0_off66_inb : ∀ (v379 : BitVec 32) (k0_hw41 : k0_chk41 v379), ∀ a, (k0_off66 v379) a + S1x256.size a ≤ S2064x256.size a := fun v379 k0_hw41 => k0_hw41

def k0_off67 (v381 : BitVec 32) : Fin 2 → Nat :=
  let v387 : Index := Scalar.indexCast v381
  let c0_206 : Index := 0#32
  ![v387.toNat, 0]

def k0_chk42 (v381 : BitVec 32) : Prop :=
  (∀ a, (k0_off67 v381) a + S1x256.size a ≤ S2064x256.size a)
theorem k0_off67_inb : ∀ (v381 : BitVec 32) (k0_hw42 : k0_chk42 v381), ∀ a, (k0_off67 v381) a + S1x256.size a ≤ S2064x256.size a := fun v381 k0_hw42 => k0_hw42

def k0_off68 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v392 : Index := Scalar.indexCast v321
  let c5_209 : Index := 5#32
  ![v392.toNat, 5]
def k0_off69 (v393 : BitVec 32) : Fin 2 → Nat :=
  let v396 : Index := Scalar.indexCast v393
  let c0_211 : Index := 0#32
  ![v396.toNat, 0]

def k0_chk43 (v393 : BitVec 32) : Prop :=
  (∀ a, (k0_off69 v393) a + S1x256.size a ≤ S2064x256.size a)
theorem k0_off69_inb : ∀ (v393 : BitVec 32) (k0_hw43 : k0_chk43 v393), ∀ a, (k0_off69 v393) a + S1x256.size a ≤ S2064x256.size a := fun v393 k0_hw43 => k0_hw43

def k0_off70 (v395 : BitVec 32) : Fin 2 → Nat :=
  let v401 : Index := Scalar.indexCast v395
  let c0_213 : Index := 0#32
  ![v401.toNat, 0]

def k0_chk44 (v395 : BitVec 32) : Prop :=
  (∀ a, (k0_off70 v395) a + S1x256.size a ≤ S2064x256.size a)
theorem k0_off70_inb : ∀ (v395 : BitVec 32) (k0_hw44 : k0_chk44 v395), ∀ a, (k0_off70 v395) a + S1x256.size a ≤ S2064x256.size a := fun v395 k0_hw44 => k0_hw44

def k0_off71 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v406 : Index := Scalar.indexCast v321
  let c6_216 : Index := 6#32
  ![v406.toNat, 6]
def k0_off72 (v407 : BitVec 32) : Fin 2 → Nat :=
  let v410 : Index := Scalar.indexCast v407
  let c0_218 : Index := 0#32
  ![v410.toNat, 0]

def k0_chk45 (v407 : BitVec 32) : Prop :=
  (∀ a, (k0_off72 v407) a + S1x256.size a ≤ S2064x256.size a)
theorem k0_off72_inb : ∀ (v407 : BitVec 32) (k0_hw45 : k0_chk45 v407), ∀ a, (k0_off72 v407) a + S1x256.size a ≤ S2064x256.size a := fun v407 k0_hw45 => k0_hw45

def k0_off73 (v409 : BitVec 32) : Fin 2 → Nat :=
  let v415 : Index := Scalar.indexCast v409
  let c0_220 : Index := 0#32
  ![v415.toNat, 0]

def k0_chk46 (v409 : BitVec 32) : Prop :=
  (∀ a, (k0_off73 v409) a + S1x256.size a ≤ S2064x256.size a)
theorem k0_off73_inb : ∀ (v409 : BitVec 32) (k0_hw46 : k0_chk46 v409), ∀ a, (k0_off73 v409) a + S1x256.size a ≤ S2064x256.size a := fun v409 k0_hw46 => k0_hw46

def k0_off74 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v420 : Index := Scalar.indexCast v321
  let c7_223 : Index := 7#32
  ![v420.toNat, 7]
def k0_off75 (v421 : BitVec 32) : Fin 2 → Nat :=
  let v424 : Index := Scalar.indexCast v421
  let c0_225 : Index := 0#32
  ![v424.toNat, 0]

def k0_chk47 (v421 : BitVec 32) : Prop :=
  (∀ a, (k0_off75 v421) a + S1x256.size a ≤ S2064x256.size a)
theorem k0_off75_inb : ∀ (v421 : BitVec 32) (k0_hw47 : k0_chk47 v421), ∀ a, (k0_off75 v421) a + S1x256.size a ≤ S2064x256.size a := fun v421 k0_hw47 => k0_hw47

def k0_off76 (v423 : BitVec 32) : Fin 2 → Nat :=
  let v429 : Index := Scalar.indexCast v423
  let c0_227 : Index := 0#32
  ![v429.toNat, 0]

def k0_chk48 (v423 : BitVec 32) : Prop :=
  (∀ a, (k0_off76 v423) a + S1x256.size a ≤ S2064x256.size a)
theorem k0_off76_inb : ∀ (v423 : BitVec 32) (k0_hw48 : k0_chk48 v423), ∀ a, (k0_off76 v423) a + S1x256.size a ≤ S2064x256.size a := fun v423 k0_hw48 => k0_hw48

def k0_off77 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v434 : Index := Scalar.indexCast v321
  let c8_230 : Index := 8#32
  ![v434.toNat, 8]
def k0_off78 (v435 : BitVec 32) : Fin 2 → Nat :=
  let v438 : Index := Scalar.indexCast v435
  let c0_232 : Index := 0#32
  ![v438.toNat, 0]

def k0_chk49 (v435 : BitVec 32) : Prop :=
  (∀ a, (k0_off78 v435) a + S1x256.size a ≤ S2064x256.size a)
theorem k0_off78_inb : ∀ (v435 : BitVec 32) (k0_hw49 : k0_chk49 v435), ∀ a, (k0_off78 v435) a + S1x256.size a ≤ S2064x256.size a := fun v435 k0_hw49 => k0_hw49

def k0_off79 (v437 : BitVec 32) : Fin 2 → Nat :=
  let v443 : Index := Scalar.indexCast v437
  let c0_234 : Index := 0#32
  ![v443.toNat, 0]

def k0_chk50 (v437 : BitVec 32) : Prop :=
  (∀ a, (k0_off79 v437) a + S1x256.size a ≤ S2064x256.size a)
theorem k0_off79_inb : ∀ (v437 : BitVec 32) (k0_hw50 : k0_chk50 v437), ∀ a, (k0_off79 v437) a + S1x256.size a ≤ S2064x256.size a := fun v437 k0_hw50 => k0_hw50

def k0_off80 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v448 : Index := Scalar.indexCast v321
  let c9_237 : Index := 9#32
  ![v448.toNat, 9]
def k0_off81 (v449 : BitVec 32) : Fin 2 → Nat :=
  let v452 : Index := Scalar.indexCast v449
  let c0_239 : Index := 0#32
  ![v452.toNat, 0]

def k0_chk51 (v449 : BitVec 32) : Prop :=
  (∀ a, (k0_off81 v449) a + S1x256.size a ≤ S2064x256.size a)
theorem k0_off81_inb : ∀ (v449 : BitVec 32) (k0_hw51 : k0_chk51 v449), ∀ a, (k0_off81 v449) a + S1x256.size a ≤ S2064x256.size a := fun v449 k0_hw51 => k0_hw51

def k0_off82 (v451 : BitVec 32) : Fin 2 → Nat :=
  let v457 : Index := Scalar.indexCast v451
  let c0_241 : Index := 0#32
  ![v457.toNat, 0]

def k0_chk52 (v451 : BitVec 32) : Prop :=
  (∀ a, (k0_off82 v451) a + S1x256.size a ≤ S2064x256.size a)
theorem k0_off82_inb : ∀ (v451 : BitVec 32) (k0_hw52 : k0_chk52 v451), ∀ a, (k0_off82 v451) a + S1x256.size a ≤ S2064x256.size a := fun v451 k0_hw52 => k0_hw52

def k0_off83 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v462 : Index := Scalar.indexCast v321
  let c10_244 : Index := 10#32
  ![v462.toNat, 10]
def k0_off84 (v463 : BitVec 32) : Fin 2 → Nat :=
  let v466 : Index := Scalar.indexCast v463
  let c0_246 : Index := 0#32
  ![v466.toNat, 0]

def k0_chk53 (v463 : BitVec 32) : Prop :=
  (∀ a, (k0_off84 v463) a + S1x256.size a ≤ S2064x256.size a)
theorem k0_off84_inb : ∀ (v463 : BitVec 32) (k0_hw53 : k0_chk53 v463), ∀ a, (k0_off84 v463) a + S1x256.size a ≤ S2064x256.size a := fun v463 k0_hw53 => k0_hw53

def k0_off85 (v465 : BitVec 32) : Fin 2 → Nat :=
  let v471 : Index := Scalar.indexCast v465
  let c0_248 : Index := 0#32
  ![v471.toNat, 0]

def k0_chk54 (v465 : BitVec 32) : Prop :=
  (∀ a, (k0_off85 v465) a + S1x256.size a ≤ S2064x256.size a)
theorem k0_off85_inb : ∀ (v465 : BitVec 32) (k0_hw54 : k0_chk54 v465), ∀ a, (k0_off85 v465) a + S1x256.size a ≤ S2064x256.size a := fun v465 k0_hw54 => k0_hw54

def k0_off86 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v476 : Index := Scalar.indexCast v321
  let c11_251 : Index := 11#32
  ![v476.toNat, 11]
def k0_off87 (v477 : BitVec 32) : Fin 2 → Nat :=
  let v480 : Index := Scalar.indexCast v477
  let c0_253 : Index := 0#32
  ![v480.toNat, 0]

def k0_chk55 (v477 : BitVec 32) : Prop :=
  (∀ a, (k0_off87 v477) a + S1x256.size a ≤ S2064x256.size a)
theorem k0_off87_inb : ∀ (v477 : BitVec 32) (k0_hw55 : k0_chk55 v477), ∀ a, (k0_off87 v477) a + S1x256.size a ≤ S2064x256.size a := fun v477 k0_hw55 => k0_hw55

def k0_off88 (v479 : BitVec 32) : Fin 2 → Nat :=
  let v485 : Index := Scalar.indexCast v479
  let c0_255 : Index := 0#32
  ![v485.toNat, 0]

def k0_chk56 (v479 : BitVec 32) : Prop :=
  (∀ a, (k0_off88 v479) a + S1x256.size a ≤ S2064x256.size a)
theorem k0_off88_inb : ∀ (v479 : BitVec 32) (k0_hw56 : k0_chk56 v479), ∀ a, (k0_off88 v479) a + S1x256.size a ≤ S2064x256.size a := fun v479 k0_hw56 => k0_hw56

def k0_off89 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v490 : Index := Scalar.indexCast v321
  let c12_258 : Index := 12#32
  ![v490.toNat, 12]
def k0_off90 (v491 : BitVec 32) : Fin 2 → Nat :=
  let v494 : Index := Scalar.indexCast v491
  let c0_260 : Index := 0#32
  ![v494.toNat, 0]

def k0_chk57 (v491 : BitVec 32) : Prop :=
  (∀ a, (k0_off90 v491) a + S1x256.size a ≤ S2064x256.size a)
theorem k0_off90_inb : ∀ (v491 : BitVec 32) (k0_hw57 : k0_chk57 v491), ∀ a, (k0_off90 v491) a + S1x256.size a ≤ S2064x256.size a := fun v491 k0_hw57 => k0_hw57

def k0_off91 (v493 : BitVec 32) : Fin 2 → Nat :=
  let v499 : Index := Scalar.indexCast v493
  let c0_262 : Index := 0#32
  ![v499.toNat, 0]

def k0_chk58 (v493 : BitVec 32) : Prop :=
  (∀ a, (k0_off91 v493) a + S1x256.size a ≤ S2064x256.size a)
theorem k0_off91_inb : ∀ (v493 : BitVec 32) (k0_hw58 : k0_chk58 v493), ∀ a, (k0_off91 v493) a + S1x256.size a ≤ S2064x256.size a := fun v493 k0_hw58 => k0_hw58

def k0_off92 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v504 : Index := Scalar.indexCast v321
  let c13_265 : Index := 13#32
  ![v504.toNat, 13]
def k0_off93 (v505 : BitVec 32) : Fin 2 → Nat :=
  let v508 : Index := Scalar.indexCast v505
  let c0_267 : Index := 0#32
  ![v508.toNat, 0]

def k0_chk59 (v505 : BitVec 32) : Prop :=
  (∀ a, (k0_off93 v505) a + S1x256.size a ≤ S2064x256.size a)
theorem k0_off93_inb : ∀ (v505 : BitVec 32) (k0_hw59 : k0_chk59 v505), ∀ a, (k0_off93 v505) a + S1x256.size a ≤ S2064x256.size a := fun v505 k0_hw59 => k0_hw59

def k0_off94 (v507 : BitVec 32) : Fin 2 → Nat :=
  let v513 : Index := Scalar.indexCast v507
  let c0_269 : Index := 0#32
  ![v513.toNat, 0]

def k0_chk60 (v507 : BitVec 32) : Prop :=
  (∀ a, (k0_off94 v507) a + S1x256.size a ≤ S2064x256.size a)
theorem k0_off94_inb : ∀ (v507 : BitVec 32) (k0_hw60 : k0_chk60 v507), ∀ a, (k0_off94 v507) a + S1x256.size a ≤ S2064x256.size a := fun v507 k0_hw60 => k0_hw60

def k0_off95 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v518 : Index := Scalar.indexCast v321
  let c14_272 : Index := 14#32
  ![v518.toNat, 14]
def k0_off96 (v519 : BitVec 32) : Fin 2 → Nat :=
  let v522 : Index := Scalar.indexCast v519
  let c0_274 : Index := 0#32
  ![v522.toNat, 0]

def k0_chk61 (v519 : BitVec 32) : Prop :=
  (∀ a, (k0_off96 v519) a + S1x256.size a ≤ S2064x256.size a)
theorem k0_off96_inb : ∀ (v519 : BitVec 32) (k0_hw61 : k0_chk61 v519), ∀ a, (k0_off96 v519) a + S1x256.size a ≤ S2064x256.size a := fun v519 k0_hw61 => k0_hw61

def k0_off97 (v521 : BitVec 32) : Fin 2 → Nat :=
  let v527 : Index := Scalar.indexCast v521
  let c0_276 : Index := 0#32
  ![v527.toNat, 0]

def k0_chk62 (v521 : BitVec 32) : Prop :=
  (∀ a, (k0_off97 v521) a + S1x256.size a ≤ S2064x256.size a)
theorem k0_off97_inb : ∀ (v521 : BitVec 32) (k0_hw62 : k0_chk62 v521), ∀ a, (k0_off97 v521) a + S1x256.size a ≤ S2064x256.size a := fun v521 k0_hw62 => k0_hw62

def k0_off98 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v532 : Index := Scalar.indexCast v321
  let c15_279 : Index := 15#32
  ![v532.toNat, 15]
def k0_off99 (v533 : BitVec 32) : Fin 2 → Nat :=
  let v536 : Index := Scalar.indexCast v533
  let c0_281 : Index := 0#32
  ![v536.toNat, 0]

def k0_chk63 (v533 : BitVec 32) : Prop :=
  (∀ a, (k0_off99 v533) a + S1x256.size a ≤ S2064x256.size a)
theorem k0_off99_inb : ∀ (v533 : BitVec 32) (k0_hw63 : k0_chk63 v533), ∀ a, (k0_off99 v533) a + S1x256.size a ≤ S2064x256.size a := fun v533 k0_hw63 => k0_hw63

def k0_off100 (v535 : BitVec 32) : Fin 2 → Nat :=
  let v541 : Index := Scalar.indexCast v535
  let c0_283 : Index := 0#32
  ![v541.toNat, 0]

def k0_chk64 (v535 : BitVec 32) : Prop :=
  (∀ a, (k0_off100 v535) a + S1x256.size a ≤ S2064x256.size a)
theorem k0_off100_inb : ∀ (v535 : BitVec 32) (k0_hw64 : k0_chk64 v535), ∀ a, (k0_off100 v535) a + S1x256.size a ≤ S2064x256.size a := fun v535 k0_hw64 => k0_hw64

def k0_off101 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let c16_i32_288 : BitVec 32 := 16#32
  let v549 : BitVec 32 := Scalar.muli v321 c16_i32_288
  let v550 : Index := Scalar.indexCast v549
  let c0_289 : Index := 0#32
  ![v550.toNat, 0]
def k0_off102 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let c16_i32_297 : BitVec 32 := 16#32
  let v569 : BitVec 32 := Scalar.muli v321 c16_i32_297
  let v570 : Index := Scalar.indexCast v569
  let c0_298 : Index := 0#32
  ![v570.toNat, 0]
def k0_off103 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let c16_i32_304 : BitVec 32 := 16#32
  let v582 : BitVec 32 := Scalar.muli v321 c16_i32_304
  let v583 : Index := Scalar.indexCast v582
  let c0_305 : Index := 0#32
  ![v583.toNat, 0]
def k0_off104 (k0_t1 : Fin k0_t1_loop.trips) : Fin 3 → Nat :=
  let c0_306 : Index := 0#32
  let c0_i32 : BitVec 32 := 0#32
  let c1_i32 : BitVec 32 := 1#32
  let arg19 : BitVec 32 := Scf.iv c0_i32 c1_i32 k0_t1
  let c16_i32_172 : BitVec 32 := 16#32
  let v320 : BitVec 32 := Scalar.muli arg19 c16_i32_172
  let c1_i32_173 : BitVec 32 := 1#32
  let v321 : BitVec 32 := Scalar.addi v320 c1_i32_173
  let v588 : Index := Scalar.indexCast v321
  let c0_307 : Index := 0#32
  ![0, v588.toNat, 0]
def k0_off105 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v592 : Index := Scalar.indexCast v591
  let c0_309 : Index := 0#32
  ![v592.toNat, 0]
def k0_off106 (v593 : BitVec 32) : Fin 2 → Nat :=
  let v596 : Index := Scalar.indexCast v593
  let c0_311 : Index := 0#32
  ![v596.toNat, 0]

def k0_chk65 (v593 : BitVec 32) : Prop :=
  (∀ a, (k0_off106 v593) a + S1x256.size a ≤ S2064x256.size a)
theorem k0_off106_inb : ∀ (v593 : BitVec 32) (k0_hw65 : k0_chk65 v593), ∀ a, (k0_off106 v593) a + S1x256.size a ≤ S2064x256.size a := fun v593 k0_hw65 => k0_hw65

def k0_off107 (v595 : BitVec 32) : Fin 2 → Nat :=
  let v601 : Index := Scalar.indexCast v595
  let c0_313 : Index := 0#32
  ![v601.toNat, 0]

def k0_chk66 (v595 : BitVec 32) : Prop :=
  (∀ a, (k0_off107 v595) a + S1x256.size a ≤ S2064x256.size a)
theorem k0_off107_inb : ∀ (v595 : BitVec 32) (k0_hw66 : k0_chk66 v595), ∀ a, (k0_off107 v595) a + S1x256.size a ≤ S2064x256.size a := fun v595 k0_hw66 => k0_hw66

def k0_off108 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v606 : Index := Scalar.indexCast v591
  let c1_316 : Index := 1#32
  ![v606.toNat, 1]
def k0_off109 (v607 : BitVec 32) : Fin 2 → Nat :=
  let v610 : Index := Scalar.indexCast v607
  let c0_318 : Index := 0#32
  ![v610.toNat, 0]

def k0_chk67 (v607 : BitVec 32) : Prop :=
  (∀ a, (k0_off109 v607) a + S1x256.size a ≤ S2064x256.size a)
theorem k0_off109_inb : ∀ (v607 : BitVec 32) (k0_hw67 : k0_chk67 v607), ∀ a, (k0_off109 v607) a + S1x256.size a ≤ S2064x256.size a := fun v607 k0_hw67 => k0_hw67

def k0_off110 (v609 : BitVec 32) : Fin 2 → Nat :=
  let v615 : Index := Scalar.indexCast v609
  let c0_320 : Index := 0#32
  ![v615.toNat, 0]

def k0_chk68 (v609 : BitVec 32) : Prop :=
  (∀ a, (k0_off110 v609) a + S1x256.size a ≤ S2064x256.size a)
theorem k0_off110_inb : ∀ (v609 : BitVec 32) (k0_hw68 : k0_chk68 v609), ∀ a, (k0_off110 v609) a + S1x256.size a ≤ S2064x256.size a := fun v609 k0_hw68 => k0_hw68

def k0_off111 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v620 : Index := Scalar.indexCast v591
  let c2_323 : Index := 2#32
  ![v620.toNat, 2]
def k0_off112 (v621 : BitVec 32) : Fin 2 → Nat :=
  let v624 : Index := Scalar.indexCast v621
  let c0_325 : Index := 0#32
  ![v624.toNat, 0]

def k0_chk69 (v621 : BitVec 32) : Prop :=
  (∀ a, (k0_off112 v621) a + S1x256.size a ≤ S2064x256.size a)
theorem k0_off112_inb : ∀ (v621 : BitVec 32) (k0_hw69 : k0_chk69 v621), ∀ a, (k0_off112 v621) a + S1x256.size a ≤ S2064x256.size a := fun v621 k0_hw69 => k0_hw69

def k0_off113 (v623 : BitVec 32) : Fin 2 → Nat :=
  let v629 : Index := Scalar.indexCast v623
  let c0_327 : Index := 0#32
  ![v629.toNat, 0]

def k0_chk70 (v623 : BitVec 32) : Prop :=
  (∀ a, (k0_off113 v623) a + S1x256.size a ≤ S2064x256.size a)
theorem k0_off113_inb : ∀ (v623 : BitVec 32) (k0_hw70 : k0_chk70 v623), ∀ a, (k0_off113 v623) a + S1x256.size a ≤ S2064x256.size a := fun v623 k0_hw70 => k0_hw70

def k0_off114 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v634 : Index := Scalar.indexCast v591
  let c3_330 : Index := 3#32
  ![v634.toNat, 3]
def k0_off115 (v635 : BitVec 32) : Fin 2 → Nat :=
  let v638 : Index := Scalar.indexCast v635
  let c0_332 : Index := 0#32
  ![v638.toNat, 0]

def k0_chk71 (v635 : BitVec 32) : Prop :=
  (∀ a, (k0_off115 v635) a + S1x256.size a ≤ S2064x256.size a)
theorem k0_off115_inb : ∀ (v635 : BitVec 32) (k0_hw71 : k0_chk71 v635), ∀ a, (k0_off115 v635) a + S1x256.size a ≤ S2064x256.size a := fun v635 k0_hw71 => k0_hw71

def k0_off116 (v637 : BitVec 32) : Fin 2 → Nat :=
  let v643 : Index := Scalar.indexCast v637
  let c0_334 : Index := 0#32
  ![v643.toNat, 0]

def k0_chk72 (v637 : BitVec 32) : Prop :=
  (∀ a, (k0_off116 v637) a + S1x256.size a ≤ S2064x256.size a)
theorem k0_off116_inb : ∀ (v637 : BitVec 32) (k0_hw72 : k0_chk72 v637), ∀ a, (k0_off116 v637) a + S1x256.size a ≤ S2064x256.size a := fun v637 k0_hw72 => k0_hw72

def k0_off117 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v648 : Index := Scalar.indexCast v591
  let c4_337 : Index := 4#32
  ![v648.toNat, 4]
def k0_off118 (v649 : BitVec 32) : Fin 2 → Nat :=
  let v652 : Index := Scalar.indexCast v649
  let c0_339 : Index := 0#32
  ![v652.toNat, 0]

def k0_chk73 (v649 : BitVec 32) : Prop :=
  (∀ a, (k0_off118 v649) a + S1x256.size a ≤ S2064x256.size a)
theorem k0_off118_inb : ∀ (v649 : BitVec 32) (k0_hw73 : k0_chk73 v649), ∀ a, (k0_off118 v649) a + S1x256.size a ≤ S2064x256.size a := fun v649 k0_hw73 => k0_hw73

def k0_off119 (v651 : BitVec 32) : Fin 2 → Nat :=
  let v657 : Index := Scalar.indexCast v651
  let c0_341 : Index := 0#32
  ![v657.toNat, 0]

def k0_chk74 (v651 : BitVec 32) : Prop :=
  (∀ a, (k0_off119 v651) a + S1x256.size a ≤ S2064x256.size a)
theorem k0_off119_inb : ∀ (v651 : BitVec 32) (k0_hw74 : k0_chk74 v651), ∀ a, (k0_off119 v651) a + S1x256.size a ≤ S2064x256.size a := fun v651 k0_hw74 => k0_hw74

def k0_off120 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v662 : Index := Scalar.indexCast v591
  let c5_344 : Index := 5#32
  ![v662.toNat, 5]
def k0_off121 (v663 : BitVec 32) : Fin 2 → Nat :=
  let v666 : Index := Scalar.indexCast v663
  let c0_346 : Index := 0#32
  ![v666.toNat, 0]

def k0_chk75 (v663 : BitVec 32) : Prop :=
  (∀ a, (k0_off121 v663) a + S1x256.size a ≤ S2064x256.size a)
theorem k0_off121_inb : ∀ (v663 : BitVec 32) (k0_hw75 : k0_chk75 v663), ∀ a, (k0_off121 v663) a + S1x256.size a ≤ S2064x256.size a := fun v663 k0_hw75 => k0_hw75

def k0_off122 (v665 : BitVec 32) : Fin 2 → Nat :=
  let v671 : Index := Scalar.indexCast v665
  let c0_348 : Index := 0#32
  ![v671.toNat, 0]

def k0_chk76 (v665 : BitVec 32) : Prop :=
  (∀ a, (k0_off122 v665) a + S1x256.size a ≤ S2064x256.size a)
theorem k0_off122_inb : ∀ (v665 : BitVec 32) (k0_hw76 : k0_chk76 v665), ∀ a, (k0_off122 v665) a + S1x256.size a ≤ S2064x256.size a := fun v665 k0_hw76 => k0_hw76

def k0_off123 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v676 : Index := Scalar.indexCast v591
  let c6_351 : Index := 6#32
  ![v676.toNat, 6]
def k0_off124 (v677 : BitVec 32) : Fin 2 → Nat :=
  let v680 : Index := Scalar.indexCast v677
  let c0_353 : Index := 0#32
  ![v680.toNat, 0]

def k0_chk77 (v677 : BitVec 32) : Prop :=
  (∀ a, (k0_off124 v677) a + S1x256.size a ≤ S2064x256.size a)
theorem k0_off124_inb : ∀ (v677 : BitVec 32) (k0_hw77 : k0_chk77 v677), ∀ a, (k0_off124 v677) a + S1x256.size a ≤ S2064x256.size a := fun v677 k0_hw77 => k0_hw77

def k0_off125 (v679 : BitVec 32) : Fin 2 → Nat :=
  let v685 : Index := Scalar.indexCast v679
  let c0_355 : Index := 0#32
  ![v685.toNat, 0]

def k0_chk78 (v679 : BitVec 32) : Prop :=
  (∀ a, (k0_off125 v679) a + S1x256.size a ≤ S2064x256.size a)
theorem k0_off125_inb : ∀ (v679 : BitVec 32) (k0_hw78 : k0_chk78 v679), ∀ a, (k0_off125 v679) a + S1x256.size a ≤ S2064x256.size a := fun v679 k0_hw78 => k0_hw78

def k0_off126 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v690 : Index := Scalar.indexCast v591
  let c7_358 : Index := 7#32
  ![v690.toNat, 7]
def k0_off127 (v691 : BitVec 32) : Fin 2 → Nat :=
  let v694 : Index := Scalar.indexCast v691
  let c0_360 : Index := 0#32
  ![v694.toNat, 0]

def k0_chk79 (v691 : BitVec 32) : Prop :=
  (∀ a, (k0_off127 v691) a + S1x256.size a ≤ S2064x256.size a)
theorem k0_off127_inb : ∀ (v691 : BitVec 32) (k0_hw79 : k0_chk79 v691), ∀ a, (k0_off127 v691) a + S1x256.size a ≤ S2064x256.size a := fun v691 k0_hw79 => k0_hw79

def k0_off128 (v693 : BitVec 32) : Fin 2 → Nat :=
  let v699 : Index := Scalar.indexCast v693
  let c0_362 : Index := 0#32
  ![v699.toNat, 0]

def k0_chk80 (v693 : BitVec 32) : Prop :=
  (∀ a, (k0_off128 v693) a + S1x256.size a ≤ S2064x256.size a)
theorem k0_off128_inb : ∀ (v693 : BitVec 32) (k0_hw80 : k0_chk80 v693), ∀ a, (k0_off128 v693) a + S1x256.size a ≤ S2064x256.size a := fun v693 k0_hw80 => k0_hw80

def k0_off129 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v704 : Index := Scalar.indexCast v591
  let c8_365 : Index := 8#32
  ![v704.toNat, 8]
def k0_off130 (v705 : BitVec 32) : Fin 2 → Nat :=
  let v708 : Index := Scalar.indexCast v705
  let c0_367 : Index := 0#32
  ![v708.toNat, 0]

def k0_chk81 (v705 : BitVec 32) : Prop :=
  (∀ a, (k0_off130 v705) a + S1x256.size a ≤ S2064x256.size a)
theorem k0_off130_inb : ∀ (v705 : BitVec 32) (k0_hw81 : k0_chk81 v705), ∀ a, (k0_off130 v705) a + S1x256.size a ≤ S2064x256.size a := fun v705 k0_hw81 => k0_hw81

def k0_off131 (v707 : BitVec 32) : Fin 2 → Nat :=
  let v713 : Index := Scalar.indexCast v707
  let c0_369 : Index := 0#32
  ![v713.toNat, 0]

def k0_chk82 (v707 : BitVec 32) : Prop :=
  (∀ a, (k0_off131 v707) a + S1x256.size a ≤ S2064x256.size a)
theorem k0_off131_inb : ∀ (v707 : BitVec 32) (k0_hw82 : k0_chk82 v707), ∀ a, (k0_off131 v707) a + S1x256.size a ≤ S2064x256.size a := fun v707 k0_hw82 => k0_hw82

def k0_off132 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v718 : Index := Scalar.indexCast v591
  let c9_372 : Index := 9#32
  ![v718.toNat, 9]
def k0_off133 (v719 : BitVec 32) : Fin 2 → Nat :=
  let v722 : Index := Scalar.indexCast v719
  let c0_374 : Index := 0#32
  ![v722.toNat, 0]

def k0_chk83 (v719 : BitVec 32) : Prop :=
  (∀ a, (k0_off133 v719) a + S1x256.size a ≤ S2064x256.size a)
theorem k0_off133_inb : ∀ (v719 : BitVec 32) (k0_hw83 : k0_chk83 v719), ∀ a, (k0_off133 v719) a + S1x256.size a ≤ S2064x256.size a := fun v719 k0_hw83 => k0_hw83

def k0_off134 (v721 : BitVec 32) : Fin 2 → Nat :=
  let v727 : Index := Scalar.indexCast v721
  let c0_376 : Index := 0#32
  ![v727.toNat, 0]

def k0_chk84 (v721 : BitVec 32) : Prop :=
  (∀ a, (k0_off134 v721) a + S1x256.size a ≤ S2064x256.size a)
theorem k0_off134_inb : ∀ (v721 : BitVec 32) (k0_hw84 : k0_chk84 v721), ∀ a, (k0_off134 v721) a + S1x256.size a ≤ S2064x256.size a := fun v721 k0_hw84 => k0_hw84

def k0_off135 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v732 : Index := Scalar.indexCast v591
  let c10_379 : Index := 10#32
  ![v732.toNat, 10]
def k0_off136 (v733 : BitVec 32) : Fin 2 → Nat :=
  let v736 : Index := Scalar.indexCast v733
  let c0_381 : Index := 0#32
  ![v736.toNat, 0]

def k0_chk85 (v733 : BitVec 32) : Prop :=
  (∀ a, (k0_off136 v733) a + S1x256.size a ≤ S2064x256.size a)
theorem k0_off136_inb : ∀ (v733 : BitVec 32) (k0_hw85 : k0_chk85 v733), ∀ a, (k0_off136 v733) a + S1x256.size a ≤ S2064x256.size a := fun v733 k0_hw85 => k0_hw85

def k0_off137 (v735 : BitVec 32) : Fin 2 → Nat :=
  let v741 : Index := Scalar.indexCast v735
  let c0_383 : Index := 0#32
  ![v741.toNat, 0]

def k0_chk86 (v735 : BitVec 32) : Prop :=
  (∀ a, (k0_off137 v735) a + S1x256.size a ≤ S2064x256.size a)
theorem k0_off137_inb : ∀ (v735 : BitVec 32) (k0_hw86 : k0_chk86 v735), ∀ a, (k0_off137 v735) a + S1x256.size a ≤ S2064x256.size a := fun v735 k0_hw86 => k0_hw86

def k0_off138 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v746 : Index := Scalar.indexCast v591
  let c11_386 : Index := 11#32
  ![v746.toNat, 11]
def k0_off139 (v747 : BitVec 32) : Fin 2 → Nat :=
  let v750 : Index := Scalar.indexCast v747
  let c0_388 : Index := 0#32
  ![v750.toNat, 0]

def k0_chk87 (v747 : BitVec 32) : Prop :=
  (∀ a, (k0_off139 v747) a + S1x256.size a ≤ S2064x256.size a)
theorem k0_off139_inb : ∀ (v747 : BitVec 32) (k0_hw87 : k0_chk87 v747), ∀ a, (k0_off139 v747) a + S1x256.size a ≤ S2064x256.size a := fun v747 k0_hw87 => k0_hw87

def k0_off140 (v749 : BitVec 32) : Fin 2 → Nat :=
  let v755 : Index := Scalar.indexCast v749
  let c0_390 : Index := 0#32
  ![v755.toNat, 0]

def k0_chk88 (v749 : BitVec 32) : Prop :=
  (∀ a, (k0_off140 v749) a + S1x256.size a ≤ S2064x256.size a)
theorem k0_off140_inb : ∀ (v749 : BitVec 32) (k0_hw88 : k0_chk88 v749), ∀ a, (k0_off140 v749) a + S1x256.size a ≤ S2064x256.size a := fun v749 k0_hw88 => k0_hw88

def k0_off141 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v760 : Index := Scalar.indexCast v591
  let c12_393 : Index := 12#32
  ![v760.toNat, 12]
def k0_off142 (v761 : BitVec 32) : Fin 2 → Nat :=
  let v764 : Index := Scalar.indexCast v761
  let c0_395 : Index := 0#32
  ![v764.toNat, 0]

def k0_chk89 (v761 : BitVec 32) : Prop :=
  (∀ a, (k0_off142 v761) a + S1x256.size a ≤ S2064x256.size a)
theorem k0_off142_inb : ∀ (v761 : BitVec 32) (k0_hw89 : k0_chk89 v761), ∀ a, (k0_off142 v761) a + S1x256.size a ≤ S2064x256.size a := fun v761 k0_hw89 => k0_hw89

def k0_off143 (v763 : BitVec 32) : Fin 2 → Nat :=
  let v769 : Index := Scalar.indexCast v763
  let c0_397 : Index := 0#32
  ![v769.toNat, 0]

def k0_chk90 (v763 : BitVec 32) : Prop :=
  (∀ a, (k0_off143 v763) a + S1x256.size a ≤ S2064x256.size a)
theorem k0_off143_inb : ∀ (v763 : BitVec 32) (k0_hw90 : k0_chk90 v763), ∀ a, (k0_off143 v763) a + S1x256.size a ≤ S2064x256.size a := fun v763 k0_hw90 => k0_hw90

def k0_off144 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v774 : Index := Scalar.indexCast v591
  let c13_400 : Index := 13#32
  ![v774.toNat, 13]
def k0_off145 (v775 : BitVec 32) : Fin 2 → Nat :=
  let v778 : Index := Scalar.indexCast v775
  let c0_402 : Index := 0#32
  ![v778.toNat, 0]

def k0_chk91 (v775 : BitVec 32) : Prop :=
  (∀ a, (k0_off145 v775) a + S1x256.size a ≤ S2064x256.size a)
theorem k0_off145_inb : ∀ (v775 : BitVec 32) (k0_hw91 : k0_chk91 v775), ∀ a, (k0_off145 v775) a + S1x256.size a ≤ S2064x256.size a := fun v775 k0_hw91 => k0_hw91

def k0_off146 (v777 : BitVec 32) : Fin 2 → Nat :=
  let v783 : Index := Scalar.indexCast v777
  let c0_404 : Index := 0#32
  ![v783.toNat, 0]

def k0_chk92 (v777 : BitVec 32) : Prop :=
  (∀ a, (k0_off146 v777) a + S1x256.size a ≤ S2064x256.size a)
theorem k0_off146_inb : ∀ (v777 : BitVec 32) (k0_hw92 : k0_chk92 v777), ∀ a, (k0_off146 v777) a + S1x256.size a ≤ S2064x256.size a := fun v777 k0_hw92 => k0_hw92

def k0_off147 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v788 : Index := Scalar.indexCast v591
  let c14_407 : Index := 14#32
  ![v788.toNat, 14]
def k0_off148 (v789 : BitVec 32) : Fin 2 → Nat :=
  let v792 : Index := Scalar.indexCast v789
  let c0_409 : Index := 0#32
  ![v792.toNat, 0]

def k0_chk93 (v789 : BitVec 32) : Prop :=
  (∀ a, (k0_off148 v789) a + S1x256.size a ≤ S2064x256.size a)
theorem k0_off148_inb : ∀ (v789 : BitVec 32) (k0_hw93 : k0_chk93 v789), ∀ a, (k0_off148 v789) a + S1x256.size a ≤ S2064x256.size a := fun v789 k0_hw93 => k0_hw93

def k0_off149 (v791 : BitVec 32) : Fin 2 → Nat :=
  let v797 : Index := Scalar.indexCast v791
  let c0_411 : Index := 0#32
  ![v797.toNat, 0]

def k0_chk94 (v791 : BitVec 32) : Prop :=
  (∀ a, (k0_off149 v791) a + S1x256.size a ≤ S2064x256.size a)
theorem k0_off149_inb : ∀ (v791 : BitVec 32) (k0_hw94 : k0_chk94 v791), ∀ a, (k0_off149 v791) a + S1x256.size a ≤ S2064x256.size a := fun v791 k0_hw94 => k0_hw94

def k0_off150 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v802 : Index := Scalar.indexCast v591
  let c15_414 : Index := 15#32
  ![v802.toNat, 15]
def k0_off151 (v803 : BitVec 32) : Fin 2 → Nat :=
  let v806 : Index := Scalar.indexCast v803
  let c0_416 : Index := 0#32
  ![v806.toNat, 0]

def k0_chk95 (v803 : BitVec 32) : Prop :=
  (∀ a, (k0_off151 v803) a + S1x256.size a ≤ S2064x256.size a)
theorem k0_off151_inb : ∀ (v803 : BitVec 32) (k0_hw95 : k0_chk95 v803), ∀ a, (k0_off151 v803) a + S1x256.size a ≤ S2064x256.size a := fun v803 k0_hw95 => k0_hw95

def k0_off152 (v805 : BitVec 32) : Fin 2 → Nat :=
  let v811 : Index := Scalar.indexCast v805
  let c0_418 : Index := 0#32
  ![v811.toNat, 0]

def k0_chk96 (v805 : BitVec 32) : Prop :=
  (∀ a, (k0_off152 v805) a + S1x256.size a ≤ S2064x256.size a)
theorem k0_off152_inb : ∀ (v805 : BitVec 32) (k0_hw96 : k0_chk96 v805), ∀ a, (k0_off152 v805) a + S1x256.size a ≤ S2064x256.size a := fun v805 k0_hw96 => k0_hw96

def k0_off153 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let c16_i32_423 : BitVec 32 := 16#32
  let v819 : BitVec 32 := Scalar.muli v591 c16_i32_423
  let v820 : Index := Scalar.indexCast v819
  let c0_424 : Index := 0#32
  ![v820.toNat, 0]
def k0_off154 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let c16_i32_432 : BitVec 32 := 16#32
  let v839 : BitVec 32 := Scalar.muli v591 c16_i32_432
  let v840 : Index := Scalar.indexCast v839
  let c0_433 : Index := 0#32
  ![v840.toNat, 0]
def k0_off155 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let c16_i32_439 : BitVec 32 := 16#32
  let v852 : BitVec 32 := Scalar.muli v591 c16_i32_439
  let v853 : Index := Scalar.indexCast v852
  let c0_440 : Index := 0#32
  ![v853.toNat, 0]
def k0_off156 (k0_t1 : Fin k0_t1_loop.trips) : Fin 3 → Nat :=
  let c0_441 : Index := 0#32
  let c0_i32 : BitVec 32 := 0#32
  let c1_i32 : BitVec 32 := 1#32
  let arg19 : BitVec 32 := Scf.iv c0_i32 c1_i32 k0_t1
  let c16_i32_308 : BitVec 32 := 16#32
  let v590 : BitVec 32 := Scalar.muli arg19 c16_i32_308
  let c2_i32 : BitVec 32 := 2#32
  let v591 : BitVec 32 := Scalar.addi v590 c2_i32
  let v858 : Index := Scalar.indexCast v591
  let c0_442 : Index := 0#32
  ![0, v858.toNat, 0]
def k0_off157 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v862 : Index := Scalar.indexCast v861
  let c0_444 : Index := 0#32
  ![v862.toNat, 0]
def k0_off158 (v863 : BitVec 32) : Fin 2 → Nat :=
  let v866 : Index := Scalar.indexCast v863
  let c0_446 : Index := 0#32
  ![v866.toNat, 0]

def k0_chk97 (v863 : BitVec 32) : Prop :=
  (∀ a, (k0_off158 v863) a + S1x256.size a ≤ S2064x256.size a)
theorem k0_off158_inb : ∀ (v863 : BitVec 32) (k0_hw97 : k0_chk97 v863), ∀ a, (k0_off158 v863) a + S1x256.size a ≤ S2064x256.size a := fun v863 k0_hw97 => k0_hw97

def k0_off159 (v865 : BitVec 32) : Fin 2 → Nat :=
  let v871 : Index := Scalar.indexCast v865
  let c0_448 : Index := 0#32
  ![v871.toNat, 0]

def k0_chk98 (v865 : BitVec 32) : Prop :=
  (∀ a, (k0_off159 v865) a + S1x256.size a ≤ S2064x256.size a)
theorem k0_off159_inb : ∀ (v865 : BitVec 32) (k0_hw98 : k0_chk98 v865), ∀ a, (k0_off159 v865) a + S1x256.size a ≤ S2064x256.size a := fun v865 k0_hw98 => k0_hw98

def k0_off160 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v876 : Index := Scalar.indexCast v861
  let c1_451 : Index := 1#32
  ![v876.toNat, 1]
def k0_off161 (v877 : BitVec 32) : Fin 2 → Nat :=
  let v880 : Index := Scalar.indexCast v877
  let c0_453 : Index := 0#32
  ![v880.toNat, 0]

def k0_chk99 (v877 : BitVec 32) : Prop :=
  (∀ a, (k0_off161 v877) a + S1x256.size a ≤ S2064x256.size a)
theorem k0_off161_inb : ∀ (v877 : BitVec 32) (k0_hw99 : k0_chk99 v877), ∀ a, (k0_off161 v877) a + S1x256.size a ≤ S2064x256.size a := fun v877 k0_hw99 => k0_hw99

def k0_off162 (v879 : BitVec 32) : Fin 2 → Nat :=
  let v885 : Index := Scalar.indexCast v879
  let c0_455 : Index := 0#32
  ![v885.toNat, 0]

def k0_chk100 (v879 : BitVec 32) : Prop :=
  (∀ a, (k0_off162 v879) a + S1x256.size a ≤ S2064x256.size a)
theorem k0_off162_inb : ∀ (v879 : BitVec 32) (k0_hw100 : k0_chk100 v879), ∀ a, (k0_off162 v879) a + S1x256.size a ≤ S2064x256.size a := fun v879 k0_hw100 => k0_hw100

def k0_off163 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v890 : Index := Scalar.indexCast v861
  let c2_458 : Index := 2#32
  ![v890.toNat, 2]
def k0_off164 (v891 : BitVec 32) : Fin 2 → Nat :=
  let v894 : Index := Scalar.indexCast v891
  let c0_460 : Index := 0#32
  ![v894.toNat, 0]

def k0_chk101 (v891 : BitVec 32) : Prop :=
  (∀ a, (k0_off164 v891) a + S1x256.size a ≤ S2064x256.size a)
theorem k0_off164_inb : ∀ (v891 : BitVec 32) (k0_hw101 : k0_chk101 v891), ∀ a, (k0_off164 v891) a + S1x256.size a ≤ S2064x256.size a := fun v891 k0_hw101 => k0_hw101

def k0_off165 (v893 : BitVec 32) : Fin 2 → Nat :=
  let v899 : Index := Scalar.indexCast v893
  let c0_462 : Index := 0#32
  ![v899.toNat, 0]

def k0_chk102 (v893 : BitVec 32) : Prop :=
  (∀ a, (k0_off165 v893) a + S1x256.size a ≤ S2064x256.size a)
theorem k0_off165_inb : ∀ (v893 : BitVec 32) (k0_hw102 : k0_chk102 v893), ∀ a, (k0_off165 v893) a + S1x256.size a ≤ S2064x256.size a := fun v893 k0_hw102 => k0_hw102

def k0_off166 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v904 : Index := Scalar.indexCast v861
  let c3_465 : Index := 3#32
  ![v904.toNat, 3]
def k0_off167 (v905 : BitVec 32) : Fin 2 → Nat :=
  let v908 : Index := Scalar.indexCast v905
  let c0_467 : Index := 0#32
  ![v908.toNat, 0]

def k0_chk103 (v905 : BitVec 32) : Prop :=
  (∀ a, (k0_off167 v905) a + S1x256.size a ≤ S2064x256.size a)
theorem k0_off167_inb : ∀ (v905 : BitVec 32) (k0_hw103 : k0_chk103 v905), ∀ a, (k0_off167 v905) a + S1x256.size a ≤ S2064x256.size a := fun v905 k0_hw103 => k0_hw103

def k0_off168 (v907 : BitVec 32) : Fin 2 → Nat :=
  let v913 : Index := Scalar.indexCast v907
  let c0_469 : Index := 0#32
  ![v913.toNat, 0]

def k0_chk104 (v907 : BitVec 32) : Prop :=
  (∀ a, (k0_off168 v907) a + S1x256.size a ≤ S2064x256.size a)
theorem k0_off168_inb : ∀ (v907 : BitVec 32) (k0_hw104 : k0_chk104 v907), ∀ a, (k0_off168 v907) a + S1x256.size a ≤ S2064x256.size a := fun v907 k0_hw104 => k0_hw104

def k0_off169 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v918 : Index := Scalar.indexCast v861
  let c4_472 : Index := 4#32
  ![v918.toNat, 4]
def k0_off170 (v919 : BitVec 32) : Fin 2 → Nat :=
  let v922 : Index := Scalar.indexCast v919
  let c0_474 : Index := 0#32
  ![v922.toNat, 0]

def k0_chk105 (v919 : BitVec 32) : Prop :=
  (∀ a, (k0_off170 v919) a + S1x256.size a ≤ S2064x256.size a)
theorem k0_off170_inb : ∀ (v919 : BitVec 32) (k0_hw105 : k0_chk105 v919), ∀ a, (k0_off170 v919) a + S1x256.size a ≤ S2064x256.size a := fun v919 k0_hw105 => k0_hw105

def k0_off171 (v921 : BitVec 32) : Fin 2 → Nat :=
  let v927 : Index := Scalar.indexCast v921
  let c0_476 : Index := 0#32
  ![v927.toNat, 0]

def k0_chk106 (v921 : BitVec 32) : Prop :=
  (∀ a, (k0_off171 v921) a + S1x256.size a ≤ S2064x256.size a)
theorem k0_off171_inb : ∀ (v921 : BitVec 32) (k0_hw106 : k0_chk106 v921), ∀ a, (k0_off171 v921) a + S1x256.size a ≤ S2064x256.size a := fun v921 k0_hw106 => k0_hw106

def k0_off172 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v932 : Index := Scalar.indexCast v861
  let c5_479 : Index := 5#32
  ![v932.toNat, 5]
def k0_off173 (v933 : BitVec 32) : Fin 2 → Nat :=
  let v936 : Index := Scalar.indexCast v933
  let c0_481 : Index := 0#32
  ![v936.toNat, 0]

def k0_chk107 (v933 : BitVec 32) : Prop :=
  (∀ a, (k0_off173 v933) a + S1x256.size a ≤ S2064x256.size a)
theorem k0_off173_inb : ∀ (v933 : BitVec 32) (k0_hw107 : k0_chk107 v933), ∀ a, (k0_off173 v933) a + S1x256.size a ≤ S2064x256.size a := fun v933 k0_hw107 => k0_hw107

def k0_off174 (v935 : BitVec 32) : Fin 2 → Nat :=
  let v941 : Index := Scalar.indexCast v935
  let c0_483 : Index := 0#32
  ![v941.toNat, 0]

def k0_chk108 (v935 : BitVec 32) : Prop :=
  (∀ a, (k0_off174 v935) a + S1x256.size a ≤ S2064x256.size a)
theorem k0_off174_inb : ∀ (v935 : BitVec 32) (k0_hw108 : k0_chk108 v935), ∀ a, (k0_off174 v935) a + S1x256.size a ≤ S2064x256.size a := fun v935 k0_hw108 => k0_hw108

def k0_off175 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v946 : Index := Scalar.indexCast v861
  let c6_486 : Index := 6#32
  ![v946.toNat, 6]
def k0_off176 (v947 : BitVec 32) : Fin 2 → Nat :=
  let v950 : Index := Scalar.indexCast v947
  let c0_488 : Index := 0#32
  ![v950.toNat, 0]

def k0_chk109 (v947 : BitVec 32) : Prop :=
  (∀ a, (k0_off176 v947) a + S1x256.size a ≤ S2064x256.size a)
theorem k0_off176_inb : ∀ (v947 : BitVec 32) (k0_hw109 : k0_chk109 v947), ∀ a, (k0_off176 v947) a + S1x256.size a ≤ S2064x256.size a := fun v947 k0_hw109 => k0_hw109

def k0_off177 (v949 : BitVec 32) : Fin 2 → Nat :=
  let v955 : Index := Scalar.indexCast v949
  let c0_490 : Index := 0#32
  ![v955.toNat, 0]

def k0_chk110 (v949 : BitVec 32) : Prop :=
  (∀ a, (k0_off177 v949) a + S1x256.size a ≤ S2064x256.size a)
theorem k0_off177_inb : ∀ (v949 : BitVec 32) (k0_hw110 : k0_chk110 v949), ∀ a, (k0_off177 v949) a + S1x256.size a ≤ S2064x256.size a := fun v949 k0_hw110 => k0_hw110

def k0_off178 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v960 : Index := Scalar.indexCast v861
  let c7_493 : Index := 7#32
  ![v960.toNat, 7]
def k0_off179 (v961 : BitVec 32) : Fin 2 → Nat :=
  let v964 : Index := Scalar.indexCast v961
  let c0_495 : Index := 0#32
  ![v964.toNat, 0]

def k0_chk111 (v961 : BitVec 32) : Prop :=
  (∀ a, (k0_off179 v961) a + S1x256.size a ≤ S2064x256.size a)
theorem k0_off179_inb : ∀ (v961 : BitVec 32) (k0_hw111 : k0_chk111 v961), ∀ a, (k0_off179 v961) a + S1x256.size a ≤ S2064x256.size a := fun v961 k0_hw111 => k0_hw111

def k0_off180 (v963 : BitVec 32) : Fin 2 → Nat :=
  let v969 : Index := Scalar.indexCast v963
  let c0_497 : Index := 0#32
  ![v969.toNat, 0]

def k0_chk112 (v963 : BitVec 32) : Prop :=
  (∀ a, (k0_off180 v963) a + S1x256.size a ≤ S2064x256.size a)
theorem k0_off180_inb : ∀ (v963 : BitVec 32) (k0_hw112 : k0_chk112 v963), ∀ a, (k0_off180 v963) a + S1x256.size a ≤ S2064x256.size a := fun v963 k0_hw112 => k0_hw112

def k0_off181 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v974 : Index := Scalar.indexCast v861
  let c8_500 : Index := 8#32
  ![v974.toNat, 8]
def k0_off182 (v975 : BitVec 32) : Fin 2 → Nat :=
  let v978 : Index := Scalar.indexCast v975
  let c0_502 : Index := 0#32
  ![v978.toNat, 0]

def k0_chk113 (v975 : BitVec 32) : Prop :=
  (∀ a, (k0_off182 v975) a + S1x256.size a ≤ S2064x256.size a)
theorem k0_off182_inb : ∀ (v975 : BitVec 32) (k0_hw113 : k0_chk113 v975), ∀ a, (k0_off182 v975) a + S1x256.size a ≤ S2064x256.size a := fun v975 k0_hw113 => k0_hw113

def k0_off183 (v977 : BitVec 32) : Fin 2 → Nat :=
  let v983 : Index := Scalar.indexCast v977
  let c0_504 : Index := 0#32
  ![v983.toNat, 0]

def k0_chk114 (v977 : BitVec 32) : Prop :=
  (∀ a, (k0_off183 v977) a + S1x256.size a ≤ S2064x256.size a)
theorem k0_off183_inb : ∀ (v977 : BitVec 32) (k0_hw114 : k0_chk114 v977), ∀ a, (k0_off183 v977) a + S1x256.size a ≤ S2064x256.size a := fun v977 k0_hw114 => k0_hw114

def k0_off184 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v988 : Index := Scalar.indexCast v861
  let c9_507 : Index := 9#32
  ![v988.toNat, 9]
def k0_off185 (v989 : BitVec 32) : Fin 2 → Nat :=
  let v992 : Index := Scalar.indexCast v989
  let c0_509 : Index := 0#32
  ![v992.toNat, 0]

def k0_chk115 (v989 : BitVec 32) : Prop :=
  (∀ a, (k0_off185 v989) a + S1x256.size a ≤ S2064x256.size a)
theorem k0_off185_inb : ∀ (v989 : BitVec 32) (k0_hw115 : k0_chk115 v989), ∀ a, (k0_off185 v989) a + S1x256.size a ≤ S2064x256.size a := fun v989 k0_hw115 => k0_hw115

def k0_off186 (v991 : BitVec 32) : Fin 2 → Nat :=
  let v997 : Index := Scalar.indexCast v991
  let c0_511 : Index := 0#32
  ![v997.toNat, 0]

def k0_chk116 (v991 : BitVec 32) : Prop :=
  (∀ a, (k0_off186 v991) a + S1x256.size a ≤ S2064x256.size a)
theorem k0_off186_inb : ∀ (v991 : BitVec 32) (k0_hw116 : k0_chk116 v991), ∀ a, (k0_off186 v991) a + S1x256.size a ≤ S2064x256.size a := fun v991 k0_hw116 => k0_hw116

def k0_off187 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1002 : Index := Scalar.indexCast v861
  let c10_514 : Index := 10#32
  ![v1002.toNat, 10]
def k0_off188 (v1003 : BitVec 32) : Fin 2 → Nat :=
  let v1006 : Index := Scalar.indexCast v1003
  let c0_516 : Index := 0#32
  ![v1006.toNat, 0]

def k0_chk117 (v1003 : BitVec 32) : Prop :=
  (∀ a, (k0_off188 v1003) a + S1x256.size a ≤ S2064x256.size a)
theorem k0_off188_inb : ∀ (v1003 : BitVec 32) (k0_hw117 : k0_chk117 v1003), ∀ a, (k0_off188 v1003) a + S1x256.size a ≤ S2064x256.size a := fun v1003 k0_hw117 => k0_hw117

def k0_off189 (v1005 : BitVec 32) : Fin 2 → Nat :=
  let v1011 : Index := Scalar.indexCast v1005
  let c0_518 : Index := 0#32
  ![v1011.toNat, 0]

def k0_chk118 (v1005 : BitVec 32) : Prop :=
  (∀ a, (k0_off189 v1005) a + S1x256.size a ≤ S2064x256.size a)
theorem k0_off189_inb : ∀ (v1005 : BitVec 32) (k0_hw118 : k0_chk118 v1005), ∀ a, (k0_off189 v1005) a + S1x256.size a ≤ S2064x256.size a := fun v1005 k0_hw118 => k0_hw118

def k0_off190 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1016 : Index := Scalar.indexCast v861
  let c11_521 : Index := 11#32
  ![v1016.toNat, 11]
def k0_off191 (v1017 : BitVec 32) : Fin 2 → Nat :=
  let v1020 : Index := Scalar.indexCast v1017
  let c0_523 : Index := 0#32
  ![v1020.toNat, 0]

def k0_chk119 (v1017 : BitVec 32) : Prop :=
  (∀ a, (k0_off191 v1017) a + S1x256.size a ≤ S2064x256.size a)
theorem k0_off191_inb : ∀ (v1017 : BitVec 32) (k0_hw119 : k0_chk119 v1017), ∀ a, (k0_off191 v1017) a + S1x256.size a ≤ S2064x256.size a := fun v1017 k0_hw119 => k0_hw119

def k0_off192 (v1019 : BitVec 32) : Fin 2 → Nat :=
  let v1025 : Index := Scalar.indexCast v1019
  let c0_525 : Index := 0#32
  ![v1025.toNat, 0]

def k0_chk120 (v1019 : BitVec 32) : Prop :=
  (∀ a, (k0_off192 v1019) a + S1x256.size a ≤ S2064x256.size a)
theorem k0_off192_inb : ∀ (v1019 : BitVec 32) (k0_hw120 : k0_chk120 v1019), ∀ a, (k0_off192 v1019) a + S1x256.size a ≤ S2064x256.size a := fun v1019 k0_hw120 => k0_hw120

def k0_off193 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1030 : Index := Scalar.indexCast v861
  let c12_528 : Index := 12#32
  ![v1030.toNat, 12]
def k0_off194 (v1031 : BitVec 32) : Fin 2 → Nat :=
  let v1034 : Index := Scalar.indexCast v1031
  let c0_530 : Index := 0#32
  ![v1034.toNat, 0]

def k0_chk121 (v1031 : BitVec 32) : Prop :=
  (∀ a, (k0_off194 v1031) a + S1x256.size a ≤ S2064x256.size a)
theorem k0_off194_inb : ∀ (v1031 : BitVec 32) (k0_hw121 : k0_chk121 v1031), ∀ a, (k0_off194 v1031) a + S1x256.size a ≤ S2064x256.size a := fun v1031 k0_hw121 => k0_hw121

def k0_off195 (v1033 : BitVec 32) : Fin 2 → Nat :=
  let v1039 : Index := Scalar.indexCast v1033
  let c0_532 : Index := 0#32
  ![v1039.toNat, 0]

def k0_chk122 (v1033 : BitVec 32) : Prop :=
  (∀ a, (k0_off195 v1033) a + S1x256.size a ≤ S2064x256.size a)
theorem k0_off195_inb : ∀ (v1033 : BitVec 32) (k0_hw122 : k0_chk122 v1033), ∀ a, (k0_off195 v1033) a + S1x256.size a ≤ S2064x256.size a := fun v1033 k0_hw122 => k0_hw122

def k0_off196 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1044 : Index := Scalar.indexCast v861
  let c13_535 : Index := 13#32
  ![v1044.toNat, 13]
def k0_off197 (v1045 : BitVec 32) : Fin 2 → Nat :=
  let v1048 : Index := Scalar.indexCast v1045
  let c0_537 : Index := 0#32
  ![v1048.toNat, 0]

def k0_chk123 (v1045 : BitVec 32) : Prop :=
  (∀ a, (k0_off197 v1045) a + S1x256.size a ≤ S2064x256.size a)
theorem k0_off197_inb : ∀ (v1045 : BitVec 32) (k0_hw123 : k0_chk123 v1045), ∀ a, (k0_off197 v1045) a + S1x256.size a ≤ S2064x256.size a := fun v1045 k0_hw123 => k0_hw123

def k0_off198 (v1047 : BitVec 32) : Fin 2 → Nat :=
  let v1053 : Index := Scalar.indexCast v1047
  let c0_539 : Index := 0#32
  ![v1053.toNat, 0]

def k0_chk124 (v1047 : BitVec 32) : Prop :=
  (∀ a, (k0_off198 v1047) a + S1x256.size a ≤ S2064x256.size a)
theorem k0_off198_inb : ∀ (v1047 : BitVec 32) (k0_hw124 : k0_chk124 v1047), ∀ a, (k0_off198 v1047) a + S1x256.size a ≤ S2064x256.size a := fun v1047 k0_hw124 => k0_hw124

def k0_off199 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1058 : Index := Scalar.indexCast v861
  let c14_542 : Index := 14#32
  ![v1058.toNat, 14]
def k0_off200 (v1059 : BitVec 32) : Fin 2 → Nat :=
  let v1062 : Index := Scalar.indexCast v1059
  let c0_544 : Index := 0#32
  ![v1062.toNat, 0]

def k0_chk125 (v1059 : BitVec 32) : Prop :=
  (∀ a, (k0_off200 v1059) a + S1x256.size a ≤ S2064x256.size a)
theorem k0_off200_inb : ∀ (v1059 : BitVec 32) (k0_hw125 : k0_chk125 v1059), ∀ a, (k0_off200 v1059) a + S1x256.size a ≤ S2064x256.size a := fun v1059 k0_hw125 => k0_hw125

def k0_off201 (v1061 : BitVec 32) : Fin 2 → Nat :=
  let v1067 : Index := Scalar.indexCast v1061
  let c0_546 : Index := 0#32
  ![v1067.toNat, 0]

def k0_chk126 (v1061 : BitVec 32) : Prop :=
  (∀ a, (k0_off201 v1061) a + S1x256.size a ≤ S2064x256.size a)
theorem k0_off201_inb : ∀ (v1061 : BitVec 32) (k0_hw126 : k0_chk126 v1061), ∀ a, (k0_off201 v1061) a + S1x256.size a ≤ S2064x256.size a := fun v1061 k0_hw126 => k0_hw126

def k0_off202 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1072 : Index := Scalar.indexCast v861
  let c15_549 : Index := 15#32
  ![v1072.toNat, 15]
def k0_off203 (v1073 : BitVec 32) : Fin 2 → Nat :=
  let v1076 : Index := Scalar.indexCast v1073
  let c0_551 : Index := 0#32
  ![v1076.toNat, 0]

def k0_chk127 (v1073 : BitVec 32) : Prop :=
  (∀ a, (k0_off203 v1073) a + S1x256.size a ≤ S2064x256.size a)
theorem k0_off203_inb : ∀ (v1073 : BitVec 32) (k0_hw127 : k0_chk127 v1073), ∀ a, (k0_off203 v1073) a + S1x256.size a ≤ S2064x256.size a := fun v1073 k0_hw127 => k0_hw127

def k0_off204 (v1075 : BitVec 32) : Fin 2 → Nat :=
  let v1081 : Index := Scalar.indexCast v1075
  let c0_553 : Index := 0#32
  ![v1081.toNat, 0]

def k0_chk128 (v1075 : BitVec 32) : Prop :=
  (∀ a, (k0_off204 v1075) a + S1x256.size a ≤ S2064x256.size a)
theorem k0_off204_inb : ∀ (v1075 : BitVec 32) (k0_hw128 : k0_chk128 v1075), ∀ a, (k0_off204 v1075) a + S1x256.size a ≤ S2064x256.size a := fun v1075 k0_hw128 => k0_hw128

def k0_off205 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let c16_i32_558 : BitVec 32 := 16#32
  let v1089 : BitVec 32 := Scalar.muli v861 c16_i32_558
  let v1090 : Index := Scalar.indexCast v1089
  let c0_559 : Index := 0#32
  ![v1090.toNat, 0]
def k0_off206 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let c16_i32_567 : BitVec 32 := 16#32
  let v1109 : BitVec 32 := Scalar.muli v861 c16_i32_567
  let v1110 : Index := Scalar.indexCast v1109
  let c0_568 : Index := 0#32
  ![v1110.toNat, 0]
def k0_off207 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let c16_i32_574 : BitVec 32 := 16#32
  let v1122 : BitVec 32 := Scalar.muli v861 c16_i32_574
  let v1123 : Index := Scalar.indexCast v1122
  let c0_575 : Index := 0#32
  ![v1123.toNat, 0]
def k0_off208 (k0_t1 : Fin k0_t1_loop.trips) : Fin 3 → Nat :=
  let c0_576 : Index := 0#32
  let c0_i32 : BitVec 32 := 0#32
  let c1_i32 : BitVec 32 := 1#32
  let arg19 : BitVec 32 := Scf.iv c0_i32 c1_i32 k0_t1
  let c16_i32_443 : BitVec 32 := 16#32
  let v860 : BitVec 32 := Scalar.muli arg19 c16_i32_443
  let c3_i32 : BitVec 32 := 3#32
  let v861 : BitVec 32 := Scalar.addi v860 c3_i32
  let v1128 : Index := Scalar.indexCast v861
  let c0_577 : Index := 0#32
  ![0, v1128.toNat, 0]
def k0_off209 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1132 : Index := Scalar.indexCast v1131
  let c0_579 : Index := 0#32
  ![v1132.toNat, 0]
def k0_off210 (v1133 : BitVec 32) : Fin 2 → Nat :=
  let v1136 : Index := Scalar.indexCast v1133
  let c0_581 : Index := 0#32
  ![v1136.toNat, 0]

def k0_chk129 (v1133 : BitVec 32) : Prop :=
  (∀ a, (k0_off210 v1133) a + S1x256.size a ≤ S2064x256.size a)
theorem k0_off210_inb : ∀ (v1133 : BitVec 32) (k0_hw129 : k0_chk129 v1133), ∀ a, (k0_off210 v1133) a + S1x256.size a ≤ S2064x256.size a := fun v1133 k0_hw129 => k0_hw129

def k0_off211 (v1135 : BitVec 32) : Fin 2 → Nat :=
  let v1141 : Index := Scalar.indexCast v1135
  let c0_583 : Index := 0#32
  ![v1141.toNat, 0]

def k0_chk130 (v1135 : BitVec 32) : Prop :=
  (∀ a, (k0_off211 v1135) a + S1x256.size a ≤ S2064x256.size a)
theorem k0_off211_inb : ∀ (v1135 : BitVec 32) (k0_hw130 : k0_chk130 v1135), ∀ a, (k0_off211 v1135) a + S1x256.size a ≤ S2064x256.size a := fun v1135 k0_hw130 => k0_hw130

def k0_off212 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1146 : Index := Scalar.indexCast v1131
  let c1_586 : Index := 1#32
  ![v1146.toNat, 1]
def k0_off213 (v1147 : BitVec 32) : Fin 2 → Nat :=
  let v1150 : Index := Scalar.indexCast v1147
  let c0_588 : Index := 0#32
  ![v1150.toNat, 0]

def k0_chk131 (v1147 : BitVec 32) : Prop :=
  (∀ a, (k0_off213 v1147) a + S1x256.size a ≤ S2064x256.size a)
theorem k0_off213_inb : ∀ (v1147 : BitVec 32) (k0_hw131 : k0_chk131 v1147), ∀ a, (k0_off213 v1147) a + S1x256.size a ≤ S2064x256.size a := fun v1147 k0_hw131 => k0_hw131

def k0_off214 (v1149 : BitVec 32) : Fin 2 → Nat :=
  let v1155 : Index := Scalar.indexCast v1149
  let c0_590 : Index := 0#32
  ![v1155.toNat, 0]

def k0_chk132 (v1149 : BitVec 32) : Prop :=
  (∀ a, (k0_off214 v1149) a + S1x256.size a ≤ S2064x256.size a)
theorem k0_off214_inb : ∀ (v1149 : BitVec 32) (k0_hw132 : k0_chk132 v1149), ∀ a, (k0_off214 v1149) a + S1x256.size a ≤ S2064x256.size a := fun v1149 k0_hw132 => k0_hw132

def k0_off215 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1160 : Index := Scalar.indexCast v1131
  let c2_593 : Index := 2#32
  ![v1160.toNat, 2]
def k0_off216 (v1161 : BitVec 32) : Fin 2 → Nat :=
  let v1164 : Index := Scalar.indexCast v1161
  let c0_595 : Index := 0#32
  ![v1164.toNat, 0]

def k0_chk133 (v1161 : BitVec 32) : Prop :=
  (∀ a, (k0_off216 v1161) a + S1x256.size a ≤ S2064x256.size a)
theorem k0_off216_inb : ∀ (v1161 : BitVec 32) (k0_hw133 : k0_chk133 v1161), ∀ a, (k0_off216 v1161) a + S1x256.size a ≤ S2064x256.size a := fun v1161 k0_hw133 => k0_hw133

def k0_off217 (v1163 : BitVec 32) : Fin 2 → Nat :=
  let v1169 : Index := Scalar.indexCast v1163
  let c0_597 : Index := 0#32
  ![v1169.toNat, 0]

def k0_chk134 (v1163 : BitVec 32) : Prop :=
  (∀ a, (k0_off217 v1163) a + S1x256.size a ≤ S2064x256.size a)
theorem k0_off217_inb : ∀ (v1163 : BitVec 32) (k0_hw134 : k0_chk134 v1163), ∀ a, (k0_off217 v1163) a + S1x256.size a ≤ S2064x256.size a := fun v1163 k0_hw134 => k0_hw134

def k0_off218 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1174 : Index := Scalar.indexCast v1131
  let c3_600 : Index := 3#32
  ![v1174.toNat, 3]
def k0_off219 (v1175 : BitVec 32) : Fin 2 → Nat :=
  let v1178 : Index := Scalar.indexCast v1175
  let c0_602 : Index := 0#32
  ![v1178.toNat, 0]

def k0_chk135 (v1175 : BitVec 32) : Prop :=
  (∀ a, (k0_off219 v1175) a + S1x256.size a ≤ S2064x256.size a)
theorem k0_off219_inb : ∀ (v1175 : BitVec 32) (k0_hw135 : k0_chk135 v1175), ∀ a, (k0_off219 v1175) a + S1x256.size a ≤ S2064x256.size a := fun v1175 k0_hw135 => k0_hw135

def k0_off220 (v1177 : BitVec 32) : Fin 2 → Nat :=
  let v1183 : Index := Scalar.indexCast v1177
  let c0_604 : Index := 0#32
  ![v1183.toNat, 0]

def k0_chk136 (v1177 : BitVec 32) : Prop :=
  (∀ a, (k0_off220 v1177) a + S1x256.size a ≤ S2064x256.size a)
theorem k0_off220_inb : ∀ (v1177 : BitVec 32) (k0_hw136 : k0_chk136 v1177), ∀ a, (k0_off220 v1177) a + S1x256.size a ≤ S2064x256.size a := fun v1177 k0_hw136 => k0_hw136

def k0_off221 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1188 : Index := Scalar.indexCast v1131
  let c4_607 : Index := 4#32
  ![v1188.toNat, 4]
def k0_off222 (v1189 : BitVec 32) : Fin 2 → Nat :=
  let v1192 : Index := Scalar.indexCast v1189
  let c0_609 : Index := 0#32
  ![v1192.toNat, 0]

def k0_chk137 (v1189 : BitVec 32) : Prop :=
  (∀ a, (k0_off222 v1189) a + S1x256.size a ≤ S2064x256.size a)
theorem k0_off222_inb : ∀ (v1189 : BitVec 32) (k0_hw137 : k0_chk137 v1189), ∀ a, (k0_off222 v1189) a + S1x256.size a ≤ S2064x256.size a := fun v1189 k0_hw137 => k0_hw137

def k0_off223 (v1191 : BitVec 32) : Fin 2 → Nat :=
  let v1197 : Index := Scalar.indexCast v1191
  let c0_611 : Index := 0#32
  ![v1197.toNat, 0]

def k0_chk138 (v1191 : BitVec 32) : Prop :=
  (∀ a, (k0_off223 v1191) a + S1x256.size a ≤ S2064x256.size a)
theorem k0_off223_inb : ∀ (v1191 : BitVec 32) (k0_hw138 : k0_chk138 v1191), ∀ a, (k0_off223 v1191) a + S1x256.size a ≤ S2064x256.size a := fun v1191 k0_hw138 => k0_hw138

def k0_off224 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1202 : Index := Scalar.indexCast v1131
  let c5_614 : Index := 5#32
  ![v1202.toNat, 5]
def k0_off225 (v1203 : BitVec 32) : Fin 2 → Nat :=
  let v1206 : Index := Scalar.indexCast v1203
  let c0_616 : Index := 0#32
  ![v1206.toNat, 0]

def k0_chk139 (v1203 : BitVec 32) : Prop :=
  (∀ a, (k0_off225 v1203) a + S1x256.size a ≤ S2064x256.size a)
theorem k0_off225_inb : ∀ (v1203 : BitVec 32) (k0_hw139 : k0_chk139 v1203), ∀ a, (k0_off225 v1203) a + S1x256.size a ≤ S2064x256.size a := fun v1203 k0_hw139 => k0_hw139

def k0_off226 (v1205 : BitVec 32) : Fin 2 → Nat :=
  let v1211 : Index := Scalar.indexCast v1205
  let c0_618 : Index := 0#32
  ![v1211.toNat, 0]

def k0_chk140 (v1205 : BitVec 32) : Prop :=
  (∀ a, (k0_off226 v1205) a + S1x256.size a ≤ S2064x256.size a)
theorem k0_off226_inb : ∀ (v1205 : BitVec 32) (k0_hw140 : k0_chk140 v1205), ∀ a, (k0_off226 v1205) a + S1x256.size a ≤ S2064x256.size a := fun v1205 k0_hw140 => k0_hw140

def k0_off227 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1216 : Index := Scalar.indexCast v1131
  let c6_621 : Index := 6#32
  ![v1216.toNat, 6]
def k0_off228 (v1217 : BitVec 32) : Fin 2 → Nat :=
  let v1220 : Index := Scalar.indexCast v1217
  let c0_623 : Index := 0#32
  ![v1220.toNat, 0]

def k0_chk141 (v1217 : BitVec 32) : Prop :=
  (∀ a, (k0_off228 v1217) a + S1x256.size a ≤ S2064x256.size a)
theorem k0_off228_inb : ∀ (v1217 : BitVec 32) (k0_hw141 : k0_chk141 v1217), ∀ a, (k0_off228 v1217) a + S1x256.size a ≤ S2064x256.size a := fun v1217 k0_hw141 => k0_hw141

def k0_off229 (v1219 : BitVec 32) : Fin 2 → Nat :=
  let v1225 : Index := Scalar.indexCast v1219
  let c0_625 : Index := 0#32
  ![v1225.toNat, 0]

def k0_chk142 (v1219 : BitVec 32) : Prop :=
  (∀ a, (k0_off229 v1219) a + S1x256.size a ≤ S2064x256.size a)
theorem k0_off229_inb : ∀ (v1219 : BitVec 32) (k0_hw142 : k0_chk142 v1219), ∀ a, (k0_off229 v1219) a + S1x256.size a ≤ S2064x256.size a := fun v1219 k0_hw142 => k0_hw142

def k0_off230 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1230 : Index := Scalar.indexCast v1131
  let c7_628 : Index := 7#32
  ![v1230.toNat, 7]
def k0_off231 (v1231 : BitVec 32) : Fin 2 → Nat :=
  let v1234 : Index := Scalar.indexCast v1231
  let c0_630 : Index := 0#32
  ![v1234.toNat, 0]

def k0_chk143 (v1231 : BitVec 32) : Prop :=
  (∀ a, (k0_off231 v1231) a + S1x256.size a ≤ S2064x256.size a)
theorem k0_off231_inb : ∀ (v1231 : BitVec 32) (k0_hw143 : k0_chk143 v1231), ∀ a, (k0_off231 v1231) a + S1x256.size a ≤ S2064x256.size a := fun v1231 k0_hw143 => k0_hw143

def k0_off232 (v1233 : BitVec 32) : Fin 2 → Nat :=
  let v1239 : Index := Scalar.indexCast v1233
  let c0_632 : Index := 0#32
  ![v1239.toNat, 0]

def k0_chk144 (v1233 : BitVec 32) : Prop :=
  (∀ a, (k0_off232 v1233) a + S1x256.size a ≤ S2064x256.size a)
theorem k0_off232_inb : ∀ (v1233 : BitVec 32) (k0_hw144 : k0_chk144 v1233), ∀ a, (k0_off232 v1233) a + S1x256.size a ≤ S2064x256.size a := fun v1233 k0_hw144 => k0_hw144

def k0_off233 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1244 : Index := Scalar.indexCast v1131
  let c8_635 : Index := 8#32
  ![v1244.toNat, 8]
def k0_off234 (v1245 : BitVec 32) : Fin 2 → Nat :=
  let v1248 : Index := Scalar.indexCast v1245
  let c0_637 : Index := 0#32
  ![v1248.toNat, 0]

def k0_chk145 (v1245 : BitVec 32) : Prop :=
  (∀ a, (k0_off234 v1245) a + S1x256.size a ≤ S2064x256.size a)
theorem k0_off234_inb : ∀ (v1245 : BitVec 32) (k0_hw145 : k0_chk145 v1245), ∀ a, (k0_off234 v1245) a + S1x256.size a ≤ S2064x256.size a := fun v1245 k0_hw145 => k0_hw145

def k0_off235 (v1247 : BitVec 32) : Fin 2 → Nat :=
  let v1253 : Index := Scalar.indexCast v1247
  let c0_639 : Index := 0#32
  ![v1253.toNat, 0]

def k0_chk146 (v1247 : BitVec 32) : Prop :=
  (∀ a, (k0_off235 v1247) a + S1x256.size a ≤ S2064x256.size a)
theorem k0_off235_inb : ∀ (v1247 : BitVec 32) (k0_hw146 : k0_chk146 v1247), ∀ a, (k0_off235 v1247) a + S1x256.size a ≤ S2064x256.size a := fun v1247 k0_hw146 => k0_hw146

def k0_off236 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1258 : Index := Scalar.indexCast v1131
  let c9_642 : Index := 9#32
  ![v1258.toNat, 9]
def k0_off237 (v1259 : BitVec 32) : Fin 2 → Nat :=
  let v1262 : Index := Scalar.indexCast v1259
  let c0_644 : Index := 0#32
  ![v1262.toNat, 0]

def k0_chk147 (v1259 : BitVec 32) : Prop :=
  (∀ a, (k0_off237 v1259) a + S1x256.size a ≤ S2064x256.size a)
theorem k0_off237_inb : ∀ (v1259 : BitVec 32) (k0_hw147 : k0_chk147 v1259), ∀ a, (k0_off237 v1259) a + S1x256.size a ≤ S2064x256.size a := fun v1259 k0_hw147 => k0_hw147

def k0_off238 (v1261 : BitVec 32) : Fin 2 → Nat :=
  let v1267 : Index := Scalar.indexCast v1261
  let c0_646 : Index := 0#32
  ![v1267.toNat, 0]

def k0_chk148 (v1261 : BitVec 32) : Prop :=
  (∀ a, (k0_off238 v1261) a + S1x256.size a ≤ S2064x256.size a)
theorem k0_off238_inb : ∀ (v1261 : BitVec 32) (k0_hw148 : k0_chk148 v1261), ∀ a, (k0_off238 v1261) a + S1x256.size a ≤ S2064x256.size a := fun v1261 k0_hw148 => k0_hw148

def k0_off239 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1272 : Index := Scalar.indexCast v1131
  let c10_649 : Index := 10#32
  ![v1272.toNat, 10]
def k0_off240 (v1273 : BitVec 32) : Fin 2 → Nat :=
  let v1276 : Index := Scalar.indexCast v1273
  let c0_651 : Index := 0#32
  ![v1276.toNat, 0]

def k0_chk149 (v1273 : BitVec 32) : Prop :=
  (∀ a, (k0_off240 v1273) a + S1x256.size a ≤ S2064x256.size a)
theorem k0_off240_inb : ∀ (v1273 : BitVec 32) (k0_hw149 : k0_chk149 v1273), ∀ a, (k0_off240 v1273) a + S1x256.size a ≤ S2064x256.size a := fun v1273 k0_hw149 => k0_hw149

def k0_off241 (v1275 : BitVec 32) : Fin 2 → Nat :=
  let v1281 : Index := Scalar.indexCast v1275
  let c0_653 : Index := 0#32
  ![v1281.toNat, 0]

def k0_chk150 (v1275 : BitVec 32) : Prop :=
  (∀ a, (k0_off241 v1275) a + S1x256.size a ≤ S2064x256.size a)
theorem k0_off241_inb : ∀ (v1275 : BitVec 32) (k0_hw150 : k0_chk150 v1275), ∀ a, (k0_off241 v1275) a + S1x256.size a ≤ S2064x256.size a := fun v1275 k0_hw150 => k0_hw150

def k0_off242 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1286 : Index := Scalar.indexCast v1131
  let c11_656 : Index := 11#32
  ![v1286.toNat, 11]
def k0_off243 (v1287 : BitVec 32) : Fin 2 → Nat :=
  let v1290 : Index := Scalar.indexCast v1287
  let c0_658 : Index := 0#32
  ![v1290.toNat, 0]

def k0_chk151 (v1287 : BitVec 32) : Prop :=
  (∀ a, (k0_off243 v1287) a + S1x256.size a ≤ S2064x256.size a)
theorem k0_off243_inb : ∀ (v1287 : BitVec 32) (k0_hw151 : k0_chk151 v1287), ∀ a, (k0_off243 v1287) a + S1x256.size a ≤ S2064x256.size a := fun v1287 k0_hw151 => k0_hw151

def k0_off244 (v1289 : BitVec 32) : Fin 2 → Nat :=
  let v1295 : Index := Scalar.indexCast v1289
  let c0_660 : Index := 0#32
  ![v1295.toNat, 0]

def k0_chk152 (v1289 : BitVec 32) : Prop :=
  (∀ a, (k0_off244 v1289) a + S1x256.size a ≤ S2064x256.size a)
theorem k0_off244_inb : ∀ (v1289 : BitVec 32) (k0_hw152 : k0_chk152 v1289), ∀ a, (k0_off244 v1289) a + S1x256.size a ≤ S2064x256.size a := fun v1289 k0_hw152 => k0_hw152

def k0_off245 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1300 : Index := Scalar.indexCast v1131
  let c12_663 : Index := 12#32
  ![v1300.toNat, 12]
def k0_off246 (v1301 : BitVec 32) : Fin 2 → Nat :=
  let v1304 : Index := Scalar.indexCast v1301
  let c0_665 : Index := 0#32
  ![v1304.toNat, 0]

def k0_chk153 (v1301 : BitVec 32) : Prop :=
  (∀ a, (k0_off246 v1301) a + S1x256.size a ≤ S2064x256.size a)
theorem k0_off246_inb : ∀ (v1301 : BitVec 32) (k0_hw153 : k0_chk153 v1301), ∀ a, (k0_off246 v1301) a + S1x256.size a ≤ S2064x256.size a := fun v1301 k0_hw153 => k0_hw153

def k0_off247 (v1303 : BitVec 32) : Fin 2 → Nat :=
  let v1309 : Index := Scalar.indexCast v1303
  let c0_667 : Index := 0#32
  ![v1309.toNat, 0]

def k0_chk154 (v1303 : BitVec 32) : Prop :=
  (∀ a, (k0_off247 v1303) a + S1x256.size a ≤ S2064x256.size a)
theorem k0_off247_inb : ∀ (v1303 : BitVec 32) (k0_hw154 : k0_chk154 v1303), ∀ a, (k0_off247 v1303) a + S1x256.size a ≤ S2064x256.size a := fun v1303 k0_hw154 => k0_hw154

def k0_off248 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1314 : Index := Scalar.indexCast v1131
  let c13_670 : Index := 13#32
  ![v1314.toNat, 13]
def k0_off249 (v1315 : BitVec 32) : Fin 2 → Nat :=
  let v1318 : Index := Scalar.indexCast v1315
  let c0_672 : Index := 0#32
  ![v1318.toNat, 0]

def k0_chk155 (v1315 : BitVec 32) : Prop :=
  (∀ a, (k0_off249 v1315) a + S1x256.size a ≤ S2064x256.size a)
theorem k0_off249_inb : ∀ (v1315 : BitVec 32) (k0_hw155 : k0_chk155 v1315), ∀ a, (k0_off249 v1315) a + S1x256.size a ≤ S2064x256.size a := fun v1315 k0_hw155 => k0_hw155

def k0_off250 (v1317 : BitVec 32) : Fin 2 → Nat :=
  let v1323 : Index := Scalar.indexCast v1317
  let c0_674 : Index := 0#32
  ![v1323.toNat, 0]

def k0_chk156 (v1317 : BitVec 32) : Prop :=
  (∀ a, (k0_off250 v1317) a + S1x256.size a ≤ S2064x256.size a)
theorem k0_off250_inb : ∀ (v1317 : BitVec 32) (k0_hw156 : k0_chk156 v1317), ∀ a, (k0_off250 v1317) a + S1x256.size a ≤ S2064x256.size a := fun v1317 k0_hw156 => k0_hw156

def k0_off251 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1328 : Index := Scalar.indexCast v1131
  let c14_677 : Index := 14#32
  ![v1328.toNat, 14]
def k0_off252 (v1329 : BitVec 32) : Fin 2 → Nat :=
  let v1332 : Index := Scalar.indexCast v1329
  let c0_679 : Index := 0#32
  ![v1332.toNat, 0]

def k0_chk157 (v1329 : BitVec 32) : Prop :=
  (∀ a, (k0_off252 v1329) a + S1x256.size a ≤ S2064x256.size a)
theorem k0_off252_inb : ∀ (v1329 : BitVec 32) (k0_hw157 : k0_chk157 v1329), ∀ a, (k0_off252 v1329) a + S1x256.size a ≤ S2064x256.size a := fun v1329 k0_hw157 => k0_hw157

def k0_off253 (v1331 : BitVec 32) : Fin 2 → Nat :=
  let v1337 : Index := Scalar.indexCast v1331
  let c0_681 : Index := 0#32
  ![v1337.toNat, 0]

def k0_chk158 (v1331 : BitVec 32) : Prop :=
  (∀ a, (k0_off253 v1331) a + S1x256.size a ≤ S2064x256.size a)
theorem k0_off253_inb : ∀ (v1331 : BitVec 32) (k0_hw158 : k0_chk158 v1331), ∀ a, (k0_off253 v1331) a + S1x256.size a ≤ S2064x256.size a := fun v1331 k0_hw158 => k0_hw158

def k0_off254 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1342 : Index := Scalar.indexCast v1131
  let c15_684 : Index := 15#32
  ![v1342.toNat, 15]
def k0_off255 (v1343 : BitVec 32) : Fin 2 → Nat :=
  let v1346 : Index := Scalar.indexCast v1343
  let c0_686 : Index := 0#32
  ![v1346.toNat, 0]

def k0_chk159 (v1343 : BitVec 32) : Prop :=
  (∀ a, (k0_off255 v1343) a + S1x256.size a ≤ S2064x256.size a)
theorem k0_off255_inb : ∀ (v1343 : BitVec 32) (k0_hw159 : k0_chk159 v1343), ∀ a, (k0_off255 v1343) a + S1x256.size a ≤ S2064x256.size a := fun v1343 k0_hw159 => k0_hw159

def k0_off256 (v1345 : BitVec 32) : Fin 2 → Nat :=
  let v1351 : Index := Scalar.indexCast v1345
  let c0_688 : Index := 0#32
  ![v1351.toNat, 0]

def k0_chk160 (v1345 : BitVec 32) : Prop :=
  (∀ a, (k0_off256 v1345) a + S1x256.size a ≤ S2064x256.size a)
theorem k0_off256_inb : ∀ (v1345 : BitVec 32) (k0_hw160 : k0_chk160 v1345), ∀ a, (k0_off256 v1345) a + S1x256.size a ≤ S2064x256.size a := fun v1345 k0_hw160 => k0_hw160

def k0_off257 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let c16_i32_693 : BitVec 32 := 16#32
  let v1359 : BitVec 32 := Scalar.muli v1131 c16_i32_693
  let v1360 : Index := Scalar.indexCast v1359
  let c0_694 : Index := 0#32
  ![v1360.toNat, 0]
def k0_off258 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let c16_i32_702 : BitVec 32 := 16#32
  let v1379 : BitVec 32 := Scalar.muli v1131 c16_i32_702
  let v1380 : Index := Scalar.indexCast v1379
  let c0_703 : Index := 0#32
  ![v1380.toNat, 0]
def k0_off259 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let c16_i32_709 : BitVec 32 := 16#32
  let v1392 : BitVec 32 := Scalar.muli v1131 c16_i32_709
  let v1393 : Index := Scalar.indexCast v1392
  let c0_710 : Index := 0#32
  ![v1393.toNat, 0]
def k0_off260 (k0_t1 : Fin k0_t1_loop.trips) : Fin 3 → Nat :=
  let c0_711 : Index := 0#32
  let c0_i32 : BitVec 32 := 0#32
  let c1_i32 : BitVec 32 := 1#32
  let arg19 : BitVec 32 := Scf.iv c0_i32 c1_i32 k0_t1
  let c16_i32_578 : BitVec 32 := 16#32
  let v1130 : BitVec 32 := Scalar.muli arg19 c16_i32_578
  let c4_i32 : BitVec 32 := 4#32
  let v1131 : BitVec 32 := Scalar.addi v1130 c4_i32
  let v1398 : Index := Scalar.indexCast v1131
  let c0_712 : Index := 0#32
  ![0, v1398.toNat, 0]
def k0_off261 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1402 : Index := Scalar.indexCast v1401
  let c0_714 : Index := 0#32
  ![v1402.toNat, 0]
def k0_off262 (v1403 : BitVec 32) : Fin 2 → Nat :=
  let v1406 : Index := Scalar.indexCast v1403
  let c0_716 : Index := 0#32
  ![v1406.toNat, 0]

def k0_chk161 (v1403 : BitVec 32) : Prop :=
  (∀ a, (k0_off262 v1403) a + S1x256.size a ≤ S2064x256.size a)
theorem k0_off262_inb : ∀ (v1403 : BitVec 32) (k0_hw161 : k0_chk161 v1403), ∀ a, (k0_off262 v1403) a + S1x256.size a ≤ S2064x256.size a := fun v1403 k0_hw161 => k0_hw161

def k0_off263 (v1405 : BitVec 32) : Fin 2 → Nat :=
  let v1411 : Index := Scalar.indexCast v1405
  let c0_718 : Index := 0#32
  ![v1411.toNat, 0]

def k0_chk162 (v1405 : BitVec 32) : Prop :=
  (∀ a, (k0_off263 v1405) a + S1x256.size a ≤ S2064x256.size a)
theorem k0_off263_inb : ∀ (v1405 : BitVec 32) (k0_hw162 : k0_chk162 v1405), ∀ a, (k0_off263 v1405) a + S1x256.size a ≤ S2064x256.size a := fun v1405 k0_hw162 => k0_hw162

def k0_off264 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1416 : Index := Scalar.indexCast v1401
  let c1_721 : Index := 1#32
  ![v1416.toNat, 1]
def k0_off265 (v1417 : BitVec 32) : Fin 2 → Nat :=
  let v1420 : Index := Scalar.indexCast v1417
  let c0_723 : Index := 0#32
  ![v1420.toNat, 0]

def k0_chk163 (v1417 : BitVec 32) : Prop :=
  (∀ a, (k0_off265 v1417) a + S1x256.size a ≤ S2064x256.size a)
theorem k0_off265_inb : ∀ (v1417 : BitVec 32) (k0_hw163 : k0_chk163 v1417), ∀ a, (k0_off265 v1417) a + S1x256.size a ≤ S2064x256.size a := fun v1417 k0_hw163 => k0_hw163

def k0_off266 (v1419 : BitVec 32) : Fin 2 → Nat :=
  let v1425 : Index := Scalar.indexCast v1419
  let c0_725 : Index := 0#32
  ![v1425.toNat, 0]

def k0_chk164 (v1419 : BitVec 32) : Prop :=
  (∀ a, (k0_off266 v1419) a + S1x256.size a ≤ S2064x256.size a)
theorem k0_off266_inb : ∀ (v1419 : BitVec 32) (k0_hw164 : k0_chk164 v1419), ∀ a, (k0_off266 v1419) a + S1x256.size a ≤ S2064x256.size a := fun v1419 k0_hw164 => k0_hw164

def k0_off267 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1430 : Index := Scalar.indexCast v1401
  let c2_728 : Index := 2#32
  ![v1430.toNat, 2]
def k0_off268 (v1431 : BitVec 32) : Fin 2 → Nat :=
  let v1434 : Index := Scalar.indexCast v1431
  let c0_730 : Index := 0#32
  ![v1434.toNat, 0]

def k0_chk165 (v1431 : BitVec 32) : Prop :=
  (∀ a, (k0_off268 v1431) a + S1x256.size a ≤ S2064x256.size a)
theorem k0_off268_inb : ∀ (v1431 : BitVec 32) (k0_hw165 : k0_chk165 v1431), ∀ a, (k0_off268 v1431) a + S1x256.size a ≤ S2064x256.size a := fun v1431 k0_hw165 => k0_hw165

def k0_off269 (v1433 : BitVec 32) : Fin 2 → Nat :=
  let v1439 : Index := Scalar.indexCast v1433
  let c0_732 : Index := 0#32
  ![v1439.toNat, 0]

def k0_chk166 (v1433 : BitVec 32) : Prop :=
  (∀ a, (k0_off269 v1433) a + S1x256.size a ≤ S2064x256.size a)
theorem k0_off269_inb : ∀ (v1433 : BitVec 32) (k0_hw166 : k0_chk166 v1433), ∀ a, (k0_off269 v1433) a + S1x256.size a ≤ S2064x256.size a := fun v1433 k0_hw166 => k0_hw166

def k0_off270 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1444 : Index := Scalar.indexCast v1401
  let c3_735 : Index := 3#32
  ![v1444.toNat, 3]
def k0_off271 (v1445 : BitVec 32) : Fin 2 → Nat :=
  let v1448 : Index := Scalar.indexCast v1445
  let c0_737 : Index := 0#32
  ![v1448.toNat, 0]

def k0_chk167 (v1445 : BitVec 32) : Prop :=
  (∀ a, (k0_off271 v1445) a + S1x256.size a ≤ S2064x256.size a)
theorem k0_off271_inb : ∀ (v1445 : BitVec 32) (k0_hw167 : k0_chk167 v1445), ∀ a, (k0_off271 v1445) a + S1x256.size a ≤ S2064x256.size a := fun v1445 k0_hw167 => k0_hw167

def k0_off272 (v1447 : BitVec 32) : Fin 2 → Nat :=
  let v1453 : Index := Scalar.indexCast v1447
  let c0_739 : Index := 0#32
  ![v1453.toNat, 0]

def k0_chk168 (v1447 : BitVec 32) : Prop :=
  (∀ a, (k0_off272 v1447) a + S1x256.size a ≤ S2064x256.size a)
theorem k0_off272_inb : ∀ (v1447 : BitVec 32) (k0_hw168 : k0_chk168 v1447), ∀ a, (k0_off272 v1447) a + S1x256.size a ≤ S2064x256.size a := fun v1447 k0_hw168 => k0_hw168

def k0_off273 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1458 : Index := Scalar.indexCast v1401
  let c4_742 : Index := 4#32
  ![v1458.toNat, 4]
def k0_off274 (v1459 : BitVec 32) : Fin 2 → Nat :=
  let v1462 : Index := Scalar.indexCast v1459
  let c0_744 : Index := 0#32
  ![v1462.toNat, 0]

def k0_chk169 (v1459 : BitVec 32) : Prop :=
  (∀ a, (k0_off274 v1459) a + S1x256.size a ≤ S2064x256.size a)
theorem k0_off274_inb : ∀ (v1459 : BitVec 32) (k0_hw169 : k0_chk169 v1459), ∀ a, (k0_off274 v1459) a + S1x256.size a ≤ S2064x256.size a := fun v1459 k0_hw169 => k0_hw169

def k0_off275 (v1461 : BitVec 32) : Fin 2 → Nat :=
  let v1467 : Index := Scalar.indexCast v1461
  let c0_746 : Index := 0#32
  ![v1467.toNat, 0]

def k0_chk170 (v1461 : BitVec 32) : Prop :=
  (∀ a, (k0_off275 v1461) a + S1x256.size a ≤ S2064x256.size a)
theorem k0_off275_inb : ∀ (v1461 : BitVec 32) (k0_hw170 : k0_chk170 v1461), ∀ a, (k0_off275 v1461) a + S1x256.size a ≤ S2064x256.size a := fun v1461 k0_hw170 => k0_hw170

def k0_off276 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1472 : Index := Scalar.indexCast v1401
  let c5_749 : Index := 5#32
  ![v1472.toNat, 5]
def k0_off277 (v1473 : BitVec 32) : Fin 2 → Nat :=
  let v1476 : Index := Scalar.indexCast v1473
  let c0_751 : Index := 0#32
  ![v1476.toNat, 0]

def k0_chk171 (v1473 : BitVec 32) : Prop :=
  (∀ a, (k0_off277 v1473) a + S1x256.size a ≤ S2064x256.size a)
theorem k0_off277_inb : ∀ (v1473 : BitVec 32) (k0_hw171 : k0_chk171 v1473), ∀ a, (k0_off277 v1473) a + S1x256.size a ≤ S2064x256.size a := fun v1473 k0_hw171 => k0_hw171

def k0_off278 (v1475 : BitVec 32) : Fin 2 → Nat :=
  let v1481 : Index := Scalar.indexCast v1475
  let c0_753 : Index := 0#32
  ![v1481.toNat, 0]

def k0_chk172 (v1475 : BitVec 32) : Prop :=
  (∀ a, (k0_off278 v1475) a + S1x256.size a ≤ S2064x256.size a)
theorem k0_off278_inb : ∀ (v1475 : BitVec 32) (k0_hw172 : k0_chk172 v1475), ∀ a, (k0_off278 v1475) a + S1x256.size a ≤ S2064x256.size a := fun v1475 k0_hw172 => k0_hw172

def k0_off279 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1486 : Index := Scalar.indexCast v1401
  let c6_756 : Index := 6#32
  ![v1486.toNat, 6]
def k0_off280 (v1487 : BitVec 32) : Fin 2 → Nat :=
  let v1490 : Index := Scalar.indexCast v1487
  let c0_758 : Index := 0#32
  ![v1490.toNat, 0]

def k0_chk173 (v1487 : BitVec 32) : Prop :=
  (∀ a, (k0_off280 v1487) a + S1x256.size a ≤ S2064x256.size a)
theorem k0_off280_inb : ∀ (v1487 : BitVec 32) (k0_hw173 : k0_chk173 v1487), ∀ a, (k0_off280 v1487) a + S1x256.size a ≤ S2064x256.size a := fun v1487 k0_hw173 => k0_hw173

def k0_off281 (v1489 : BitVec 32) : Fin 2 → Nat :=
  let v1495 : Index := Scalar.indexCast v1489
  let c0_760 : Index := 0#32
  ![v1495.toNat, 0]

def k0_chk174 (v1489 : BitVec 32) : Prop :=
  (∀ a, (k0_off281 v1489) a + S1x256.size a ≤ S2064x256.size a)
theorem k0_off281_inb : ∀ (v1489 : BitVec 32) (k0_hw174 : k0_chk174 v1489), ∀ a, (k0_off281 v1489) a + S1x256.size a ≤ S2064x256.size a := fun v1489 k0_hw174 => k0_hw174

def k0_off282 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1500 : Index := Scalar.indexCast v1401
  let c7_763 : Index := 7#32
  ![v1500.toNat, 7]
def k0_off283 (v1501 : BitVec 32) : Fin 2 → Nat :=
  let v1504 : Index := Scalar.indexCast v1501
  let c0_765 : Index := 0#32
  ![v1504.toNat, 0]

def k0_chk175 (v1501 : BitVec 32) : Prop :=
  (∀ a, (k0_off283 v1501) a + S1x256.size a ≤ S2064x256.size a)
theorem k0_off283_inb : ∀ (v1501 : BitVec 32) (k0_hw175 : k0_chk175 v1501), ∀ a, (k0_off283 v1501) a + S1x256.size a ≤ S2064x256.size a := fun v1501 k0_hw175 => k0_hw175

def k0_off284 (v1503 : BitVec 32) : Fin 2 → Nat :=
  let v1509 : Index := Scalar.indexCast v1503
  let c0_767 : Index := 0#32
  ![v1509.toNat, 0]

def k0_chk176 (v1503 : BitVec 32) : Prop :=
  (∀ a, (k0_off284 v1503) a + S1x256.size a ≤ S2064x256.size a)
theorem k0_off284_inb : ∀ (v1503 : BitVec 32) (k0_hw176 : k0_chk176 v1503), ∀ a, (k0_off284 v1503) a + S1x256.size a ≤ S2064x256.size a := fun v1503 k0_hw176 => k0_hw176

def k0_off285 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1514 : Index := Scalar.indexCast v1401
  let c8_770 : Index := 8#32
  ![v1514.toNat, 8]
def k0_off286 (v1515 : BitVec 32) : Fin 2 → Nat :=
  let v1518 : Index := Scalar.indexCast v1515
  let c0_772 : Index := 0#32
  ![v1518.toNat, 0]

def k0_chk177 (v1515 : BitVec 32) : Prop :=
  (∀ a, (k0_off286 v1515) a + S1x256.size a ≤ S2064x256.size a)
theorem k0_off286_inb : ∀ (v1515 : BitVec 32) (k0_hw177 : k0_chk177 v1515), ∀ a, (k0_off286 v1515) a + S1x256.size a ≤ S2064x256.size a := fun v1515 k0_hw177 => k0_hw177

def k0_off287 (v1517 : BitVec 32) : Fin 2 → Nat :=
  let v1523 : Index := Scalar.indexCast v1517
  let c0_774 : Index := 0#32
  ![v1523.toNat, 0]

def k0_chk178 (v1517 : BitVec 32) : Prop :=
  (∀ a, (k0_off287 v1517) a + S1x256.size a ≤ S2064x256.size a)
theorem k0_off287_inb : ∀ (v1517 : BitVec 32) (k0_hw178 : k0_chk178 v1517), ∀ a, (k0_off287 v1517) a + S1x256.size a ≤ S2064x256.size a := fun v1517 k0_hw178 => k0_hw178

def k0_off288 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1528 : Index := Scalar.indexCast v1401
  let c9_777 : Index := 9#32
  ![v1528.toNat, 9]
def k0_off289 (v1529 : BitVec 32) : Fin 2 → Nat :=
  let v1532 : Index := Scalar.indexCast v1529
  let c0_779 : Index := 0#32
  ![v1532.toNat, 0]

def k0_chk179 (v1529 : BitVec 32) : Prop :=
  (∀ a, (k0_off289 v1529) a + S1x256.size a ≤ S2064x256.size a)
theorem k0_off289_inb : ∀ (v1529 : BitVec 32) (k0_hw179 : k0_chk179 v1529), ∀ a, (k0_off289 v1529) a + S1x256.size a ≤ S2064x256.size a := fun v1529 k0_hw179 => k0_hw179

def k0_off290 (v1531 : BitVec 32) : Fin 2 → Nat :=
  let v1537 : Index := Scalar.indexCast v1531
  let c0_781 : Index := 0#32
  ![v1537.toNat, 0]

def k0_chk180 (v1531 : BitVec 32) : Prop :=
  (∀ a, (k0_off290 v1531) a + S1x256.size a ≤ S2064x256.size a)
theorem k0_off290_inb : ∀ (v1531 : BitVec 32) (k0_hw180 : k0_chk180 v1531), ∀ a, (k0_off290 v1531) a + S1x256.size a ≤ S2064x256.size a := fun v1531 k0_hw180 => k0_hw180

def k0_off291 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1542 : Index := Scalar.indexCast v1401
  let c10_784 : Index := 10#32
  ![v1542.toNat, 10]
def k0_off292 (v1543 : BitVec 32) : Fin 2 → Nat :=
  let v1546 : Index := Scalar.indexCast v1543
  let c0_786 : Index := 0#32
  ![v1546.toNat, 0]

def k0_chk181 (v1543 : BitVec 32) : Prop :=
  (∀ a, (k0_off292 v1543) a + S1x256.size a ≤ S2064x256.size a)
theorem k0_off292_inb : ∀ (v1543 : BitVec 32) (k0_hw181 : k0_chk181 v1543), ∀ a, (k0_off292 v1543) a + S1x256.size a ≤ S2064x256.size a := fun v1543 k0_hw181 => k0_hw181

def k0_off293 (v1545 : BitVec 32) : Fin 2 → Nat :=
  let v1551 : Index := Scalar.indexCast v1545
  let c0_788 : Index := 0#32
  ![v1551.toNat, 0]

def k0_chk182 (v1545 : BitVec 32) : Prop :=
  (∀ a, (k0_off293 v1545) a + S1x256.size a ≤ S2064x256.size a)
theorem k0_off293_inb : ∀ (v1545 : BitVec 32) (k0_hw182 : k0_chk182 v1545), ∀ a, (k0_off293 v1545) a + S1x256.size a ≤ S2064x256.size a := fun v1545 k0_hw182 => k0_hw182

def k0_off294 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1556 : Index := Scalar.indexCast v1401
  let c11_791 : Index := 11#32
  ![v1556.toNat, 11]
def k0_off295 (v1557 : BitVec 32) : Fin 2 → Nat :=
  let v1560 : Index := Scalar.indexCast v1557
  let c0_793 : Index := 0#32
  ![v1560.toNat, 0]

def k0_chk183 (v1557 : BitVec 32) : Prop :=
  (∀ a, (k0_off295 v1557) a + S1x256.size a ≤ S2064x256.size a)
theorem k0_off295_inb : ∀ (v1557 : BitVec 32) (k0_hw183 : k0_chk183 v1557), ∀ a, (k0_off295 v1557) a + S1x256.size a ≤ S2064x256.size a := fun v1557 k0_hw183 => k0_hw183

def k0_off296 (v1559 : BitVec 32) : Fin 2 → Nat :=
  let v1565 : Index := Scalar.indexCast v1559
  let c0_795 : Index := 0#32
  ![v1565.toNat, 0]

def k0_chk184 (v1559 : BitVec 32) : Prop :=
  (∀ a, (k0_off296 v1559) a + S1x256.size a ≤ S2064x256.size a)
theorem k0_off296_inb : ∀ (v1559 : BitVec 32) (k0_hw184 : k0_chk184 v1559), ∀ a, (k0_off296 v1559) a + S1x256.size a ≤ S2064x256.size a := fun v1559 k0_hw184 => k0_hw184

def k0_off297 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1570 : Index := Scalar.indexCast v1401
  let c12_798 : Index := 12#32
  ![v1570.toNat, 12]
def k0_off298 (v1571 : BitVec 32) : Fin 2 → Nat :=
  let v1574 : Index := Scalar.indexCast v1571
  let c0_800 : Index := 0#32
  ![v1574.toNat, 0]

def k0_chk185 (v1571 : BitVec 32) : Prop :=
  (∀ a, (k0_off298 v1571) a + S1x256.size a ≤ S2064x256.size a)
theorem k0_off298_inb : ∀ (v1571 : BitVec 32) (k0_hw185 : k0_chk185 v1571), ∀ a, (k0_off298 v1571) a + S1x256.size a ≤ S2064x256.size a := fun v1571 k0_hw185 => k0_hw185

def k0_off299 (v1573 : BitVec 32) : Fin 2 → Nat :=
  let v1579 : Index := Scalar.indexCast v1573
  let c0_802 : Index := 0#32
  ![v1579.toNat, 0]

def k0_chk186 (v1573 : BitVec 32) : Prop :=
  (∀ a, (k0_off299 v1573) a + S1x256.size a ≤ S2064x256.size a)
theorem k0_off299_inb : ∀ (v1573 : BitVec 32) (k0_hw186 : k0_chk186 v1573), ∀ a, (k0_off299 v1573) a + S1x256.size a ≤ S2064x256.size a := fun v1573 k0_hw186 => k0_hw186

def k0_off300 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1584 : Index := Scalar.indexCast v1401
  let c13_805 : Index := 13#32
  ![v1584.toNat, 13]
def k0_off301 (v1585 : BitVec 32) : Fin 2 → Nat :=
  let v1588 : Index := Scalar.indexCast v1585
  let c0_807 : Index := 0#32
  ![v1588.toNat, 0]

def k0_chk187 (v1585 : BitVec 32) : Prop :=
  (∀ a, (k0_off301 v1585) a + S1x256.size a ≤ S2064x256.size a)
theorem k0_off301_inb : ∀ (v1585 : BitVec 32) (k0_hw187 : k0_chk187 v1585), ∀ a, (k0_off301 v1585) a + S1x256.size a ≤ S2064x256.size a := fun v1585 k0_hw187 => k0_hw187

def k0_off302 (v1587 : BitVec 32) : Fin 2 → Nat :=
  let v1593 : Index := Scalar.indexCast v1587
  let c0_809 : Index := 0#32
  ![v1593.toNat, 0]

def k0_chk188 (v1587 : BitVec 32) : Prop :=
  (∀ a, (k0_off302 v1587) a + S1x256.size a ≤ S2064x256.size a)
theorem k0_off302_inb : ∀ (v1587 : BitVec 32) (k0_hw188 : k0_chk188 v1587), ∀ a, (k0_off302 v1587) a + S1x256.size a ≤ S2064x256.size a := fun v1587 k0_hw188 => k0_hw188

def k0_off303 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1598 : Index := Scalar.indexCast v1401
  let c14_812 : Index := 14#32
  ![v1598.toNat, 14]
def k0_off304 (v1599 : BitVec 32) : Fin 2 → Nat :=
  let v1602 : Index := Scalar.indexCast v1599
  let c0_814 : Index := 0#32
  ![v1602.toNat, 0]

def k0_chk189 (v1599 : BitVec 32) : Prop :=
  (∀ a, (k0_off304 v1599) a + S1x256.size a ≤ S2064x256.size a)
theorem k0_off304_inb : ∀ (v1599 : BitVec 32) (k0_hw189 : k0_chk189 v1599), ∀ a, (k0_off304 v1599) a + S1x256.size a ≤ S2064x256.size a := fun v1599 k0_hw189 => k0_hw189

def k0_off305 (v1601 : BitVec 32) : Fin 2 → Nat :=
  let v1607 : Index := Scalar.indexCast v1601
  let c0_816 : Index := 0#32
  ![v1607.toNat, 0]

def k0_chk190 (v1601 : BitVec 32) : Prop :=
  (∀ a, (k0_off305 v1601) a + S1x256.size a ≤ S2064x256.size a)
theorem k0_off305_inb : ∀ (v1601 : BitVec 32) (k0_hw190 : k0_chk190 v1601), ∀ a, (k0_off305 v1601) a + S1x256.size a ≤ S2064x256.size a := fun v1601 k0_hw190 => k0_hw190

def k0_off306 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1612 : Index := Scalar.indexCast v1401
  let c15_819 : Index := 15#32
  ![v1612.toNat, 15]
def k0_off307 (v1613 : BitVec 32) : Fin 2 → Nat :=
  let v1616 : Index := Scalar.indexCast v1613
  let c0_821 : Index := 0#32
  ![v1616.toNat, 0]

def k0_chk191 (v1613 : BitVec 32) : Prop :=
  (∀ a, (k0_off307 v1613) a + S1x256.size a ≤ S2064x256.size a)
theorem k0_off307_inb : ∀ (v1613 : BitVec 32) (k0_hw191 : k0_chk191 v1613), ∀ a, (k0_off307 v1613) a + S1x256.size a ≤ S2064x256.size a := fun v1613 k0_hw191 => k0_hw191

def k0_off308 (v1615 : BitVec 32) : Fin 2 → Nat :=
  let v1621 : Index := Scalar.indexCast v1615
  let c0_823 : Index := 0#32
  ![v1621.toNat, 0]

def k0_chk192 (v1615 : BitVec 32) : Prop :=
  (∀ a, (k0_off308 v1615) a + S1x256.size a ≤ S2064x256.size a)
theorem k0_off308_inb : ∀ (v1615 : BitVec 32) (k0_hw192 : k0_chk192 v1615), ∀ a, (k0_off308 v1615) a + S1x256.size a ≤ S2064x256.size a := fun v1615 k0_hw192 => k0_hw192

def k0_off309 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let c16_i32_828 : BitVec 32 := 16#32
  let v1629 : BitVec 32 := Scalar.muli v1401 c16_i32_828
  let v1630 : Index := Scalar.indexCast v1629
  let c0_829 : Index := 0#32
  ![v1630.toNat, 0]
def k0_off310 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let c16_i32_837 : BitVec 32 := 16#32
  let v1649 : BitVec 32 := Scalar.muli v1401 c16_i32_837
  let v1650 : Index := Scalar.indexCast v1649
  let c0_838 : Index := 0#32
  ![v1650.toNat, 0]
def k0_off311 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let c16_i32_844 : BitVec 32 := 16#32
  let v1662 : BitVec 32 := Scalar.muli v1401 c16_i32_844
  let v1663 : Index := Scalar.indexCast v1662
  let c0_845 : Index := 0#32
  ![v1663.toNat, 0]
def k0_off312 (k0_t1 : Fin k0_t1_loop.trips) : Fin 3 → Nat :=
  let c0_846 : Index := 0#32
  let c0_i32 : BitVec 32 := 0#32
  let c1_i32 : BitVec 32 := 1#32
  let arg19 : BitVec 32 := Scf.iv c0_i32 c1_i32 k0_t1
  let c16_i32_713 : BitVec 32 := 16#32
  let v1400 : BitVec 32 := Scalar.muli arg19 c16_i32_713
  let c5_i32 : BitVec 32 := 5#32
  let v1401 : BitVec 32 := Scalar.addi v1400 c5_i32
  let v1668 : Index := Scalar.indexCast v1401
  let c0_847 : Index := 0#32
  ![0, v1668.toNat, 0]
def k0_off313 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1672 : Index := Scalar.indexCast v1671
  let c0_849 : Index := 0#32
  ![v1672.toNat, 0]
def k0_off314 (v1673 : BitVec 32) : Fin 2 → Nat :=
  let v1676 : Index := Scalar.indexCast v1673
  let c0_851 : Index := 0#32
  ![v1676.toNat, 0]

def k0_chk193 (v1673 : BitVec 32) : Prop :=
  (∀ a, (k0_off314 v1673) a + S1x256.size a ≤ S2064x256.size a)
theorem k0_off314_inb : ∀ (v1673 : BitVec 32) (k0_hw193 : k0_chk193 v1673), ∀ a, (k0_off314 v1673) a + S1x256.size a ≤ S2064x256.size a := fun v1673 k0_hw193 => k0_hw193

def k0_off315 (v1675 : BitVec 32) : Fin 2 → Nat :=
  let v1681 : Index := Scalar.indexCast v1675
  let c0_853 : Index := 0#32
  ![v1681.toNat, 0]

def k0_chk194 (v1675 : BitVec 32) : Prop :=
  (∀ a, (k0_off315 v1675) a + S1x256.size a ≤ S2064x256.size a)
theorem k0_off315_inb : ∀ (v1675 : BitVec 32) (k0_hw194 : k0_chk194 v1675), ∀ a, (k0_off315 v1675) a + S1x256.size a ≤ S2064x256.size a := fun v1675 k0_hw194 => k0_hw194

def k0_off316 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1686 : Index := Scalar.indexCast v1671
  let c1_856 : Index := 1#32
  ![v1686.toNat, 1]
def k0_off317 (v1687 : BitVec 32) : Fin 2 → Nat :=
  let v1690 : Index := Scalar.indexCast v1687
  let c0_858 : Index := 0#32
  ![v1690.toNat, 0]

def k0_chk195 (v1687 : BitVec 32) : Prop :=
  (∀ a, (k0_off317 v1687) a + S1x256.size a ≤ S2064x256.size a)
theorem k0_off317_inb : ∀ (v1687 : BitVec 32) (k0_hw195 : k0_chk195 v1687), ∀ a, (k0_off317 v1687) a + S1x256.size a ≤ S2064x256.size a := fun v1687 k0_hw195 => k0_hw195

def k0_off318 (v1689 : BitVec 32) : Fin 2 → Nat :=
  let v1695 : Index := Scalar.indexCast v1689
  let c0_860 : Index := 0#32
  ![v1695.toNat, 0]

def k0_chk196 (v1689 : BitVec 32) : Prop :=
  (∀ a, (k0_off318 v1689) a + S1x256.size a ≤ S2064x256.size a)
theorem k0_off318_inb : ∀ (v1689 : BitVec 32) (k0_hw196 : k0_chk196 v1689), ∀ a, (k0_off318 v1689) a + S1x256.size a ≤ S2064x256.size a := fun v1689 k0_hw196 => k0_hw196

def k0_off319 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1700 : Index := Scalar.indexCast v1671
  let c2_863 : Index := 2#32
  ![v1700.toNat, 2]
def k0_off320 (v1701 : BitVec 32) : Fin 2 → Nat :=
  let v1704 : Index := Scalar.indexCast v1701
  let c0_865 : Index := 0#32
  ![v1704.toNat, 0]

def k0_chk197 (v1701 : BitVec 32) : Prop :=
  (∀ a, (k0_off320 v1701) a + S1x256.size a ≤ S2064x256.size a)
theorem k0_off320_inb : ∀ (v1701 : BitVec 32) (k0_hw197 : k0_chk197 v1701), ∀ a, (k0_off320 v1701) a + S1x256.size a ≤ S2064x256.size a := fun v1701 k0_hw197 => k0_hw197

def k0_off321 (v1703 : BitVec 32) : Fin 2 → Nat :=
  let v1709 : Index := Scalar.indexCast v1703
  let c0_867 : Index := 0#32
  ![v1709.toNat, 0]

def k0_chk198 (v1703 : BitVec 32) : Prop :=
  (∀ a, (k0_off321 v1703) a + S1x256.size a ≤ S2064x256.size a)
theorem k0_off321_inb : ∀ (v1703 : BitVec 32) (k0_hw198 : k0_chk198 v1703), ∀ a, (k0_off321 v1703) a + S1x256.size a ≤ S2064x256.size a := fun v1703 k0_hw198 => k0_hw198

def k0_off322 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1714 : Index := Scalar.indexCast v1671
  let c3_870 : Index := 3#32
  ![v1714.toNat, 3]
def k0_off323 (v1715 : BitVec 32) : Fin 2 → Nat :=
  let v1718 : Index := Scalar.indexCast v1715
  let c0_872 : Index := 0#32
  ![v1718.toNat, 0]

def k0_chk199 (v1715 : BitVec 32) : Prop :=
  (∀ a, (k0_off323 v1715) a + S1x256.size a ≤ S2064x256.size a)
theorem k0_off323_inb : ∀ (v1715 : BitVec 32) (k0_hw199 : k0_chk199 v1715), ∀ a, (k0_off323 v1715) a + S1x256.size a ≤ S2064x256.size a := fun v1715 k0_hw199 => k0_hw199

def k0_off324 (v1717 : BitVec 32) : Fin 2 → Nat :=
  let v1723 : Index := Scalar.indexCast v1717
  let c0_874 : Index := 0#32
  ![v1723.toNat, 0]

def k0_chk200 (v1717 : BitVec 32) : Prop :=
  (∀ a, (k0_off324 v1717) a + S1x256.size a ≤ S2064x256.size a)
theorem k0_off324_inb : ∀ (v1717 : BitVec 32) (k0_hw200 : k0_chk200 v1717), ∀ a, (k0_off324 v1717) a + S1x256.size a ≤ S2064x256.size a := fun v1717 k0_hw200 => k0_hw200

def k0_off325 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1728 : Index := Scalar.indexCast v1671
  let c4_877 : Index := 4#32
  ![v1728.toNat, 4]
def k0_off326 (v1729 : BitVec 32) : Fin 2 → Nat :=
  let v1732 : Index := Scalar.indexCast v1729
  let c0_879 : Index := 0#32
  ![v1732.toNat, 0]

def k0_chk201 (v1729 : BitVec 32) : Prop :=
  (∀ a, (k0_off326 v1729) a + S1x256.size a ≤ S2064x256.size a)
theorem k0_off326_inb : ∀ (v1729 : BitVec 32) (k0_hw201 : k0_chk201 v1729), ∀ a, (k0_off326 v1729) a + S1x256.size a ≤ S2064x256.size a := fun v1729 k0_hw201 => k0_hw201

def k0_off327 (v1731 : BitVec 32) : Fin 2 → Nat :=
  let v1737 : Index := Scalar.indexCast v1731
  let c0_881 : Index := 0#32
  ![v1737.toNat, 0]

def k0_chk202 (v1731 : BitVec 32) : Prop :=
  (∀ a, (k0_off327 v1731) a + S1x256.size a ≤ S2064x256.size a)
theorem k0_off327_inb : ∀ (v1731 : BitVec 32) (k0_hw202 : k0_chk202 v1731), ∀ a, (k0_off327 v1731) a + S1x256.size a ≤ S2064x256.size a := fun v1731 k0_hw202 => k0_hw202

def k0_off328 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1742 : Index := Scalar.indexCast v1671
  let c5_884 : Index := 5#32
  ![v1742.toNat, 5]
def k0_off329 (v1743 : BitVec 32) : Fin 2 → Nat :=
  let v1746 : Index := Scalar.indexCast v1743
  let c0_886 : Index := 0#32
  ![v1746.toNat, 0]

def k0_chk203 (v1743 : BitVec 32) : Prop :=
  (∀ a, (k0_off329 v1743) a + S1x256.size a ≤ S2064x256.size a)
theorem k0_off329_inb : ∀ (v1743 : BitVec 32) (k0_hw203 : k0_chk203 v1743), ∀ a, (k0_off329 v1743) a + S1x256.size a ≤ S2064x256.size a := fun v1743 k0_hw203 => k0_hw203

def k0_off330 (v1745 : BitVec 32) : Fin 2 → Nat :=
  let v1751 : Index := Scalar.indexCast v1745
  let c0_888 : Index := 0#32
  ![v1751.toNat, 0]

def k0_chk204 (v1745 : BitVec 32) : Prop :=
  (∀ a, (k0_off330 v1745) a + S1x256.size a ≤ S2064x256.size a)
theorem k0_off330_inb : ∀ (v1745 : BitVec 32) (k0_hw204 : k0_chk204 v1745), ∀ a, (k0_off330 v1745) a + S1x256.size a ≤ S2064x256.size a := fun v1745 k0_hw204 => k0_hw204

def k0_off331 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1756 : Index := Scalar.indexCast v1671
  let c6_891 : Index := 6#32
  ![v1756.toNat, 6]
def k0_off332 (v1757 : BitVec 32) : Fin 2 → Nat :=
  let v1760 : Index := Scalar.indexCast v1757
  let c0_893 : Index := 0#32
  ![v1760.toNat, 0]

def k0_chk205 (v1757 : BitVec 32) : Prop :=
  (∀ a, (k0_off332 v1757) a + S1x256.size a ≤ S2064x256.size a)
theorem k0_off332_inb : ∀ (v1757 : BitVec 32) (k0_hw205 : k0_chk205 v1757), ∀ a, (k0_off332 v1757) a + S1x256.size a ≤ S2064x256.size a := fun v1757 k0_hw205 => k0_hw205

def k0_off333 (v1759 : BitVec 32) : Fin 2 → Nat :=
  let v1765 : Index := Scalar.indexCast v1759
  let c0_895 : Index := 0#32
  ![v1765.toNat, 0]

def k0_chk206 (v1759 : BitVec 32) : Prop :=
  (∀ a, (k0_off333 v1759) a + S1x256.size a ≤ S2064x256.size a)
theorem k0_off333_inb : ∀ (v1759 : BitVec 32) (k0_hw206 : k0_chk206 v1759), ∀ a, (k0_off333 v1759) a + S1x256.size a ≤ S2064x256.size a := fun v1759 k0_hw206 => k0_hw206

def k0_off334 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1770 : Index := Scalar.indexCast v1671
  let c7_898 : Index := 7#32
  ![v1770.toNat, 7]
def k0_off335 (v1771 : BitVec 32) : Fin 2 → Nat :=
  let v1774 : Index := Scalar.indexCast v1771
  let c0_900 : Index := 0#32
  ![v1774.toNat, 0]

def k0_chk207 (v1771 : BitVec 32) : Prop :=
  (∀ a, (k0_off335 v1771) a + S1x256.size a ≤ S2064x256.size a)
theorem k0_off335_inb : ∀ (v1771 : BitVec 32) (k0_hw207 : k0_chk207 v1771), ∀ a, (k0_off335 v1771) a + S1x256.size a ≤ S2064x256.size a := fun v1771 k0_hw207 => k0_hw207

def k0_off336 (v1773 : BitVec 32) : Fin 2 → Nat :=
  let v1779 : Index := Scalar.indexCast v1773
  let c0_902 : Index := 0#32
  ![v1779.toNat, 0]

def k0_chk208 (v1773 : BitVec 32) : Prop :=
  (∀ a, (k0_off336 v1773) a + S1x256.size a ≤ S2064x256.size a)
theorem k0_off336_inb : ∀ (v1773 : BitVec 32) (k0_hw208 : k0_chk208 v1773), ∀ a, (k0_off336 v1773) a + S1x256.size a ≤ S2064x256.size a := fun v1773 k0_hw208 => k0_hw208

def k0_off337 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1784 : Index := Scalar.indexCast v1671
  let c8_905 : Index := 8#32
  ![v1784.toNat, 8]
def k0_off338 (v1785 : BitVec 32) : Fin 2 → Nat :=
  let v1788 : Index := Scalar.indexCast v1785
  let c0_907 : Index := 0#32
  ![v1788.toNat, 0]

def k0_chk209 (v1785 : BitVec 32) : Prop :=
  (∀ a, (k0_off338 v1785) a + S1x256.size a ≤ S2064x256.size a)
theorem k0_off338_inb : ∀ (v1785 : BitVec 32) (k0_hw209 : k0_chk209 v1785), ∀ a, (k0_off338 v1785) a + S1x256.size a ≤ S2064x256.size a := fun v1785 k0_hw209 => k0_hw209

def k0_off339 (v1787 : BitVec 32) : Fin 2 → Nat :=
  let v1793 : Index := Scalar.indexCast v1787
  let c0_909 : Index := 0#32
  ![v1793.toNat, 0]

def k0_chk210 (v1787 : BitVec 32) : Prop :=
  (∀ a, (k0_off339 v1787) a + S1x256.size a ≤ S2064x256.size a)
theorem k0_off339_inb : ∀ (v1787 : BitVec 32) (k0_hw210 : k0_chk210 v1787), ∀ a, (k0_off339 v1787) a + S1x256.size a ≤ S2064x256.size a := fun v1787 k0_hw210 => k0_hw210

def k0_off340 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1798 : Index := Scalar.indexCast v1671
  let c9_912 : Index := 9#32
  ![v1798.toNat, 9]
def k0_off341 (v1799 : BitVec 32) : Fin 2 → Nat :=
  let v1802 : Index := Scalar.indexCast v1799
  let c0_914 : Index := 0#32
  ![v1802.toNat, 0]

def k0_chk211 (v1799 : BitVec 32) : Prop :=
  (∀ a, (k0_off341 v1799) a + S1x256.size a ≤ S2064x256.size a)
theorem k0_off341_inb : ∀ (v1799 : BitVec 32) (k0_hw211 : k0_chk211 v1799), ∀ a, (k0_off341 v1799) a + S1x256.size a ≤ S2064x256.size a := fun v1799 k0_hw211 => k0_hw211

def k0_off342 (v1801 : BitVec 32) : Fin 2 → Nat :=
  let v1807 : Index := Scalar.indexCast v1801
  let c0_916 : Index := 0#32
  ![v1807.toNat, 0]

def k0_chk212 (v1801 : BitVec 32) : Prop :=
  (∀ a, (k0_off342 v1801) a + S1x256.size a ≤ S2064x256.size a)
theorem k0_off342_inb : ∀ (v1801 : BitVec 32) (k0_hw212 : k0_chk212 v1801), ∀ a, (k0_off342 v1801) a + S1x256.size a ≤ S2064x256.size a := fun v1801 k0_hw212 => k0_hw212

def k0_off343 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1812 : Index := Scalar.indexCast v1671
  let c10_919 : Index := 10#32
  ![v1812.toNat, 10]
def k0_off344 (v1813 : BitVec 32) : Fin 2 → Nat :=
  let v1816 : Index := Scalar.indexCast v1813
  let c0_921 : Index := 0#32
  ![v1816.toNat, 0]

def k0_chk213 (v1813 : BitVec 32) : Prop :=
  (∀ a, (k0_off344 v1813) a + S1x256.size a ≤ S2064x256.size a)
theorem k0_off344_inb : ∀ (v1813 : BitVec 32) (k0_hw213 : k0_chk213 v1813), ∀ a, (k0_off344 v1813) a + S1x256.size a ≤ S2064x256.size a := fun v1813 k0_hw213 => k0_hw213

def k0_off345 (v1815 : BitVec 32) : Fin 2 → Nat :=
  let v1821 : Index := Scalar.indexCast v1815
  let c0_923 : Index := 0#32
  ![v1821.toNat, 0]

def k0_chk214 (v1815 : BitVec 32) : Prop :=
  (∀ a, (k0_off345 v1815) a + S1x256.size a ≤ S2064x256.size a)
theorem k0_off345_inb : ∀ (v1815 : BitVec 32) (k0_hw214 : k0_chk214 v1815), ∀ a, (k0_off345 v1815) a + S1x256.size a ≤ S2064x256.size a := fun v1815 k0_hw214 => k0_hw214

def k0_off346 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1826 : Index := Scalar.indexCast v1671
  let c11_926 : Index := 11#32
  ![v1826.toNat, 11]
def k0_off347 (v1827 : BitVec 32) : Fin 2 → Nat :=
  let v1830 : Index := Scalar.indexCast v1827
  let c0_928 : Index := 0#32
  ![v1830.toNat, 0]

def k0_chk215 (v1827 : BitVec 32) : Prop :=
  (∀ a, (k0_off347 v1827) a + S1x256.size a ≤ S2064x256.size a)
theorem k0_off347_inb : ∀ (v1827 : BitVec 32) (k0_hw215 : k0_chk215 v1827), ∀ a, (k0_off347 v1827) a + S1x256.size a ≤ S2064x256.size a := fun v1827 k0_hw215 => k0_hw215

def k0_off348 (v1829 : BitVec 32) : Fin 2 → Nat :=
  let v1835 : Index := Scalar.indexCast v1829
  let c0_930 : Index := 0#32
  ![v1835.toNat, 0]

def k0_chk216 (v1829 : BitVec 32) : Prop :=
  (∀ a, (k0_off348 v1829) a + S1x256.size a ≤ S2064x256.size a)
theorem k0_off348_inb : ∀ (v1829 : BitVec 32) (k0_hw216 : k0_chk216 v1829), ∀ a, (k0_off348 v1829) a + S1x256.size a ≤ S2064x256.size a := fun v1829 k0_hw216 => k0_hw216

def k0_off349 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1840 : Index := Scalar.indexCast v1671
  let c12_933 : Index := 12#32
  ![v1840.toNat, 12]
def k0_off350 (v1841 : BitVec 32) : Fin 2 → Nat :=
  let v1844 : Index := Scalar.indexCast v1841
  let c0_935 : Index := 0#32
  ![v1844.toNat, 0]

def k0_chk217 (v1841 : BitVec 32) : Prop :=
  (∀ a, (k0_off350 v1841) a + S1x256.size a ≤ S2064x256.size a)
theorem k0_off350_inb : ∀ (v1841 : BitVec 32) (k0_hw217 : k0_chk217 v1841), ∀ a, (k0_off350 v1841) a + S1x256.size a ≤ S2064x256.size a := fun v1841 k0_hw217 => k0_hw217

def k0_off351 (v1843 : BitVec 32) : Fin 2 → Nat :=
  let v1849 : Index := Scalar.indexCast v1843
  let c0_937 : Index := 0#32
  ![v1849.toNat, 0]

def k0_chk218 (v1843 : BitVec 32) : Prop :=
  (∀ a, (k0_off351 v1843) a + S1x256.size a ≤ S2064x256.size a)
theorem k0_off351_inb : ∀ (v1843 : BitVec 32) (k0_hw218 : k0_chk218 v1843), ∀ a, (k0_off351 v1843) a + S1x256.size a ≤ S2064x256.size a := fun v1843 k0_hw218 => k0_hw218

def k0_off352 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1854 : Index := Scalar.indexCast v1671
  let c13_940 : Index := 13#32
  ![v1854.toNat, 13]
def k0_off353 (v1855 : BitVec 32) : Fin 2 → Nat :=
  let v1858 : Index := Scalar.indexCast v1855
  let c0_942 : Index := 0#32
  ![v1858.toNat, 0]

def k0_chk219 (v1855 : BitVec 32) : Prop :=
  (∀ a, (k0_off353 v1855) a + S1x256.size a ≤ S2064x256.size a)
theorem k0_off353_inb : ∀ (v1855 : BitVec 32) (k0_hw219 : k0_chk219 v1855), ∀ a, (k0_off353 v1855) a + S1x256.size a ≤ S2064x256.size a := fun v1855 k0_hw219 => k0_hw219

def k0_off354 (v1857 : BitVec 32) : Fin 2 → Nat :=
  let v1863 : Index := Scalar.indexCast v1857
  let c0_944 : Index := 0#32
  ![v1863.toNat, 0]

def k0_chk220 (v1857 : BitVec 32) : Prop :=
  (∀ a, (k0_off354 v1857) a + S1x256.size a ≤ S2064x256.size a)
theorem k0_off354_inb : ∀ (v1857 : BitVec 32) (k0_hw220 : k0_chk220 v1857), ∀ a, (k0_off354 v1857) a + S1x256.size a ≤ S2064x256.size a := fun v1857 k0_hw220 => k0_hw220

def k0_off355 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1868 : Index := Scalar.indexCast v1671
  let c14_947 : Index := 14#32
  ![v1868.toNat, 14]
def k0_off356 (v1869 : BitVec 32) : Fin 2 → Nat :=
  let v1872 : Index := Scalar.indexCast v1869
  let c0_949 : Index := 0#32
  ![v1872.toNat, 0]

def k0_chk221 (v1869 : BitVec 32) : Prop :=
  (∀ a, (k0_off356 v1869) a + S1x256.size a ≤ S2064x256.size a)
theorem k0_off356_inb : ∀ (v1869 : BitVec 32) (k0_hw221 : k0_chk221 v1869), ∀ a, (k0_off356 v1869) a + S1x256.size a ≤ S2064x256.size a := fun v1869 k0_hw221 => k0_hw221

def k0_off357 (v1871 : BitVec 32) : Fin 2 → Nat :=
  let v1877 : Index := Scalar.indexCast v1871
  let c0_951 : Index := 0#32
  ![v1877.toNat, 0]

def k0_chk222 (v1871 : BitVec 32) : Prop :=
  (∀ a, (k0_off357 v1871) a + S1x256.size a ≤ S2064x256.size a)
theorem k0_off357_inb : ∀ (v1871 : BitVec 32) (k0_hw222 : k0_chk222 v1871), ∀ a, (k0_off357 v1871) a + S1x256.size a ≤ S2064x256.size a := fun v1871 k0_hw222 => k0_hw222

def k0_off358 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1882 : Index := Scalar.indexCast v1671
  let c15_954 : Index := 15#32
  ![v1882.toNat, 15]
def k0_off359 (v1883 : BitVec 32) : Fin 2 → Nat :=
  let v1886 : Index := Scalar.indexCast v1883
  let c0_956 : Index := 0#32
  ![v1886.toNat, 0]

def k0_chk223 (v1883 : BitVec 32) : Prop :=
  (∀ a, (k0_off359 v1883) a + S1x256.size a ≤ S2064x256.size a)
theorem k0_off359_inb : ∀ (v1883 : BitVec 32) (k0_hw223 : k0_chk223 v1883), ∀ a, (k0_off359 v1883) a + S1x256.size a ≤ S2064x256.size a := fun v1883 k0_hw223 => k0_hw223

def k0_off360 (v1885 : BitVec 32) : Fin 2 → Nat :=
  let v1891 : Index := Scalar.indexCast v1885
  let c0_958 : Index := 0#32
  ![v1891.toNat, 0]

def k0_chk224 (v1885 : BitVec 32) : Prop :=
  (∀ a, (k0_off360 v1885) a + S1x256.size a ≤ S2064x256.size a)
theorem k0_off360_inb : ∀ (v1885 : BitVec 32) (k0_hw224 : k0_chk224 v1885), ∀ a, (k0_off360 v1885) a + S1x256.size a ≤ S2064x256.size a := fun v1885 k0_hw224 => k0_hw224

def k0_off361 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let c16_i32_963 : BitVec 32 := 16#32
  let v1899 : BitVec 32 := Scalar.muli v1671 c16_i32_963
  let v1900 : Index := Scalar.indexCast v1899
  let c0_964 : Index := 0#32
  ![v1900.toNat, 0]
def k0_off362 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let c16_i32_972 : BitVec 32 := 16#32
  let v1919 : BitVec 32 := Scalar.muli v1671 c16_i32_972
  let v1920 : Index := Scalar.indexCast v1919
  let c0_973 : Index := 0#32
  ![v1920.toNat, 0]
def k0_off363 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let c16_i32_979 : BitVec 32 := 16#32
  let v1932 : BitVec 32 := Scalar.muli v1671 c16_i32_979
  let v1933 : Index := Scalar.indexCast v1932
  let c0_980 : Index := 0#32
  ![v1933.toNat, 0]
def k0_off364 (k0_t1 : Fin k0_t1_loop.trips) : Fin 3 → Nat :=
  let c0_981 : Index := 0#32
  let c0_i32 : BitVec 32 := 0#32
  let c1_i32 : BitVec 32 := 1#32
  let arg19 : BitVec 32 := Scf.iv c0_i32 c1_i32 k0_t1
  let c16_i32_848 : BitVec 32 := 16#32
  let v1670 : BitVec 32 := Scalar.muli arg19 c16_i32_848
  let c6_i32 : BitVec 32 := 6#32
  let v1671 : BitVec 32 := Scalar.addi v1670 c6_i32
  let v1938 : Index := Scalar.indexCast v1671
  let c0_982 : Index := 0#32
  ![0, v1938.toNat, 0]
def k0_off365 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v1942 : Index := Scalar.indexCast v1941
  let c0_984 : Index := 0#32
  ![v1942.toNat, 0]
def k0_off366 (v1943 : BitVec 32) : Fin 2 → Nat :=
  let v1946 : Index := Scalar.indexCast v1943
  let c0_986 : Index := 0#32
  ![v1946.toNat, 0]

def k0_chk225 (v1943 : BitVec 32) : Prop :=
  (∀ a, (k0_off366 v1943) a + S1x256.size a ≤ S2064x256.size a)
theorem k0_off366_inb : ∀ (v1943 : BitVec 32) (k0_hw225 : k0_chk225 v1943), ∀ a, (k0_off366 v1943) a + S1x256.size a ≤ S2064x256.size a := fun v1943 k0_hw225 => k0_hw225

def k0_off367 (v1945 : BitVec 32) : Fin 2 → Nat :=
  let v1951 : Index := Scalar.indexCast v1945
  let c0_988 : Index := 0#32
  ![v1951.toNat, 0]

def k0_chk226 (v1945 : BitVec 32) : Prop :=
  (∀ a, (k0_off367 v1945) a + S1x256.size a ≤ S2064x256.size a)
theorem k0_off367_inb : ∀ (v1945 : BitVec 32) (k0_hw226 : k0_chk226 v1945), ∀ a, (k0_off367 v1945) a + S1x256.size a ≤ S2064x256.size a := fun v1945 k0_hw226 => k0_hw226

def k0_off368 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v1956 : Index := Scalar.indexCast v1941
  let c1_991 : Index := 1#32
  ![v1956.toNat, 1]
def k0_off369 (v1957 : BitVec 32) : Fin 2 → Nat :=
  let v1960 : Index := Scalar.indexCast v1957
  let c0_993 : Index := 0#32
  ![v1960.toNat, 0]

def k0_chk227 (v1957 : BitVec 32) : Prop :=
  (∀ a, (k0_off369 v1957) a + S1x256.size a ≤ S2064x256.size a)
theorem k0_off369_inb : ∀ (v1957 : BitVec 32) (k0_hw227 : k0_chk227 v1957), ∀ a, (k0_off369 v1957) a + S1x256.size a ≤ S2064x256.size a := fun v1957 k0_hw227 => k0_hw227

def k0_off370 (v1959 : BitVec 32) : Fin 2 → Nat :=
  let v1965 : Index := Scalar.indexCast v1959
  let c0_995 : Index := 0#32
  ![v1965.toNat, 0]

def k0_chk228 (v1959 : BitVec 32) : Prop :=
  (∀ a, (k0_off370 v1959) a + S1x256.size a ≤ S2064x256.size a)
theorem k0_off370_inb : ∀ (v1959 : BitVec 32) (k0_hw228 : k0_chk228 v1959), ∀ a, (k0_off370 v1959) a + S1x256.size a ≤ S2064x256.size a := fun v1959 k0_hw228 => k0_hw228

def k0_off371 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v1970 : Index := Scalar.indexCast v1941
  let c2_998 : Index := 2#32
  ![v1970.toNat, 2]
def k0_off372 (v1971 : BitVec 32) : Fin 2 → Nat :=
  let v1974 : Index := Scalar.indexCast v1971
  let c0_1000 : Index := 0#32
  ![v1974.toNat, 0]

def k0_chk229 (v1971 : BitVec 32) : Prop :=
  (∀ a, (k0_off372 v1971) a + S1x256.size a ≤ S2064x256.size a)
theorem k0_off372_inb : ∀ (v1971 : BitVec 32) (k0_hw229 : k0_chk229 v1971), ∀ a, (k0_off372 v1971) a + S1x256.size a ≤ S2064x256.size a := fun v1971 k0_hw229 => k0_hw229

def k0_off373 (v1973 : BitVec 32) : Fin 2 → Nat :=
  let v1979 : Index := Scalar.indexCast v1973
  let c0_1002 : Index := 0#32
  ![v1979.toNat, 0]

def k0_chk230 (v1973 : BitVec 32) : Prop :=
  (∀ a, (k0_off373 v1973) a + S1x256.size a ≤ S2064x256.size a)
theorem k0_off373_inb : ∀ (v1973 : BitVec 32) (k0_hw230 : k0_chk230 v1973), ∀ a, (k0_off373 v1973) a + S1x256.size a ≤ S2064x256.size a := fun v1973 k0_hw230 => k0_hw230

def k0_off374 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v1984 : Index := Scalar.indexCast v1941
  let c3_1005 : Index := 3#32
  ![v1984.toNat, 3]
def k0_off375 (v1985 : BitVec 32) : Fin 2 → Nat :=
  let v1988 : Index := Scalar.indexCast v1985
  let c0_1007 : Index := 0#32
  ![v1988.toNat, 0]

def k0_chk231 (v1985 : BitVec 32) : Prop :=
  (∀ a, (k0_off375 v1985) a + S1x256.size a ≤ S2064x256.size a)
theorem k0_off375_inb : ∀ (v1985 : BitVec 32) (k0_hw231 : k0_chk231 v1985), ∀ a, (k0_off375 v1985) a + S1x256.size a ≤ S2064x256.size a := fun v1985 k0_hw231 => k0_hw231

def k0_off376 (v1987 : BitVec 32) : Fin 2 → Nat :=
  let v1993 : Index := Scalar.indexCast v1987
  let c0_1009 : Index := 0#32
  ![v1993.toNat, 0]

def k0_chk232 (v1987 : BitVec 32) : Prop :=
  (∀ a, (k0_off376 v1987) a + S1x256.size a ≤ S2064x256.size a)
theorem k0_off376_inb : ∀ (v1987 : BitVec 32) (k0_hw232 : k0_chk232 v1987), ∀ a, (k0_off376 v1987) a + S1x256.size a ≤ S2064x256.size a := fun v1987 k0_hw232 => k0_hw232

def k0_off377 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v1998 : Index := Scalar.indexCast v1941
  let c4_1012 : Index := 4#32
  ![v1998.toNat, 4]
def k0_off378 (v1999 : BitVec 32) : Fin 2 → Nat :=
  let v2002 : Index := Scalar.indexCast v1999
  let c0_1014 : Index := 0#32
  ![v2002.toNat, 0]

def k0_chk233 (v1999 : BitVec 32) : Prop :=
  (∀ a, (k0_off378 v1999) a + S1x256.size a ≤ S2064x256.size a)
theorem k0_off378_inb : ∀ (v1999 : BitVec 32) (k0_hw233 : k0_chk233 v1999), ∀ a, (k0_off378 v1999) a + S1x256.size a ≤ S2064x256.size a := fun v1999 k0_hw233 => k0_hw233

def k0_off379 (v2001 : BitVec 32) : Fin 2 → Nat :=
  let v2007 : Index := Scalar.indexCast v2001
  let c0_1016 : Index := 0#32
  ![v2007.toNat, 0]

def k0_chk234 (v2001 : BitVec 32) : Prop :=
  (∀ a, (k0_off379 v2001) a + S1x256.size a ≤ S2064x256.size a)
theorem k0_off379_inb : ∀ (v2001 : BitVec 32) (k0_hw234 : k0_chk234 v2001), ∀ a, (k0_off379 v2001) a + S1x256.size a ≤ S2064x256.size a := fun v2001 k0_hw234 => k0_hw234

def k0_off380 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2012 : Index := Scalar.indexCast v1941
  let c5_1019 : Index := 5#32
  ![v2012.toNat, 5]
def k0_off381 (v2013 : BitVec 32) : Fin 2 → Nat :=
  let v2016 : Index := Scalar.indexCast v2013
  let c0_1021 : Index := 0#32
  ![v2016.toNat, 0]

def k0_chk235 (v2013 : BitVec 32) : Prop :=
  (∀ a, (k0_off381 v2013) a + S1x256.size a ≤ S2064x256.size a)
theorem k0_off381_inb : ∀ (v2013 : BitVec 32) (k0_hw235 : k0_chk235 v2013), ∀ a, (k0_off381 v2013) a + S1x256.size a ≤ S2064x256.size a := fun v2013 k0_hw235 => k0_hw235

def k0_off382 (v2015 : BitVec 32) : Fin 2 → Nat :=
  let v2021 : Index := Scalar.indexCast v2015
  let c0_1023 : Index := 0#32
  ![v2021.toNat, 0]

def k0_chk236 (v2015 : BitVec 32) : Prop :=
  (∀ a, (k0_off382 v2015) a + S1x256.size a ≤ S2064x256.size a)
theorem k0_off382_inb : ∀ (v2015 : BitVec 32) (k0_hw236 : k0_chk236 v2015), ∀ a, (k0_off382 v2015) a + S1x256.size a ≤ S2064x256.size a := fun v2015 k0_hw236 => k0_hw236

def k0_off383 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2026 : Index := Scalar.indexCast v1941
  let c6_1026 : Index := 6#32
  ![v2026.toNat, 6]
def k0_off384 (v2027 : BitVec 32) : Fin 2 → Nat :=
  let v2030 : Index := Scalar.indexCast v2027
  let c0_1028 : Index := 0#32
  ![v2030.toNat, 0]

def k0_chk237 (v2027 : BitVec 32) : Prop :=
  (∀ a, (k0_off384 v2027) a + S1x256.size a ≤ S2064x256.size a)
theorem k0_off384_inb : ∀ (v2027 : BitVec 32) (k0_hw237 : k0_chk237 v2027), ∀ a, (k0_off384 v2027) a + S1x256.size a ≤ S2064x256.size a := fun v2027 k0_hw237 => k0_hw237

def k0_off385 (v2029 : BitVec 32) : Fin 2 → Nat :=
  let v2035 : Index := Scalar.indexCast v2029
  let c0_1030 : Index := 0#32
  ![v2035.toNat, 0]

def k0_chk238 (v2029 : BitVec 32) : Prop :=
  (∀ a, (k0_off385 v2029) a + S1x256.size a ≤ S2064x256.size a)
theorem k0_off385_inb : ∀ (v2029 : BitVec 32) (k0_hw238 : k0_chk238 v2029), ∀ a, (k0_off385 v2029) a + S1x256.size a ≤ S2064x256.size a := fun v2029 k0_hw238 => k0_hw238

def k0_off386 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2040 : Index := Scalar.indexCast v1941
  let c7_1033 : Index := 7#32
  ![v2040.toNat, 7]
def k0_off387 (v2041 : BitVec 32) : Fin 2 → Nat :=
  let v2044 : Index := Scalar.indexCast v2041
  let c0_1035 : Index := 0#32
  ![v2044.toNat, 0]

def k0_chk239 (v2041 : BitVec 32) : Prop :=
  (∀ a, (k0_off387 v2041) a + S1x256.size a ≤ S2064x256.size a)
theorem k0_off387_inb : ∀ (v2041 : BitVec 32) (k0_hw239 : k0_chk239 v2041), ∀ a, (k0_off387 v2041) a + S1x256.size a ≤ S2064x256.size a := fun v2041 k0_hw239 => k0_hw239

def k0_off388 (v2043 : BitVec 32) : Fin 2 → Nat :=
  let v2049 : Index := Scalar.indexCast v2043
  let c0_1037 : Index := 0#32
  ![v2049.toNat, 0]

def k0_chk240 (v2043 : BitVec 32) : Prop :=
  (∀ a, (k0_off388 v2043) a + S1x256.size a ≤ S2064x256.size a)
theorem k0_off388_inb : ∀ (v2043 : BitVec 32) (k0_hw240 : k0_chk240 v2043), ∀ a, (k0_off388 v2043) a + S1x256.size a ≤ S2064x256.size a := fun v2043 k0_hw240 => k0_hw240

def k0_off389 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2054 : Index := Scalar.indexCast v1941
  let c8_1040 : Index := 8#32
  ![v2054.toNat, 8]
def k0_off390 (v2055 : BitVec 32) : Fin 2 → Nat :=
  let v2058 : Index := Scalar.indexCast v2055
  let c0_1042 : Index := 0#32
  ![v2058.toNat, 0]

def k0_chk241 (v2055 : BitVec 32) : Prop :=
  (∀ a, (k0_off390 v2055) a + S1x256.size a ≤ S2064x256.size a)
theorem k0_off390_inb : ∀ (v2055 : BitVec 32) (k0_hw241 : k0_chk241 v2055), ∀ a, (k0_off390 v2055) a + S1x256.size a ≤ S2064x256.size a := fun v2055 k0_hw241 => k0_hw241

def k0_off391 (v2057 : BitVec 32) : Fin 2 → Nat :=
  let v2063 : Index := Scalar.indexCast v2057
  let c0_1044 : Index := 0#32
  ![v2063.toNat, 0]

def k0_chk242 (v2057 : BitVec 32) : Prop :=
  (∀ a, (k0_off391 v2057) a + S1x256.size a ≤ S2064x256.size a)
theorem k0_off391_inb : ∀ (v2057 : BitVec 32) (k0_hw242 : k0_chk242 v2057), ∀ a, (k0_off391 v2057) a + S1x256.size a ≤ S2064x256.size a := fun v2057 k0_hw242 => k0_hw242

def k0_off392 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2068 : Index := Scalar.indexCast v1941
  let c9_1047 : Index := 9#32
  ![v2068.toNat, 9]
def k0_off393 (v2069 : BitVec 32) : Fin 2 → Nat :=
  let v2072 : Index := Scalar.indexCast v2069
  let c0_1049 : Index := 0#32
  ![v2072.toNat, 0]

def k0_chk243 (v2069 : BitVec 32) : Prop :=
  (∀ a, (k0_off393 v2069) a + S1x256.size a ≤ S2064x256.size a)
theorem k0_off393_inb : ∀ (v2069 : BitVec 32) (k0_hw243 : k0_chk243 v2069), ∀ a, (k0_off393 v2069) a + S1x256.size a ≤ S2064x256.size a := fun v2069 k0_hw243 => k0_hw243

def k0_off394 (v2071 : BitVec 32) : Fin 2 → Nat :=
  let v2077 : Index := Scalar.indexCast v2071
  let c0_1051 : Index := 0#32
  ![v2077.toNat, 0]

def k0_chk244 (v2071 : BitVec 32) : Prop :=
  (∀ a, (k0_off394 v2071) a + S1x256.size a ≤ S2064x256.size a)
theorem k0_off394_inb : ∀ (v2071 : BitVec 32) (k0_hw244 : k0_chk244 v2071), ∀ a, (k0_off394 v2071) a + S1x256.size a ≤ S2064x256.size a := fun v2071 k0_hw244 => k0_hw244

def k0_off395 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2082 : Index := Scalar.indexCast v1941
  let c10_1054 : Index := 10#32
  ![v2082.toNat, 10]
def k0_off396 (v2083 : BitVec 32) : Fin 2 → Nat :=
  let v2086 : Index := Scalar.indexCast v2083
  let c0_1056 : Index := 0#32
  ![v2086.toNat, 0]

def k0_chk245 (v2083 : BitVec 32) : Prop :=
  (∀ a, (k0_off396 v2083) a + S1x256.size a ≤ S2064x256.size a)
theorem k0_off396_inb : ∀ (v2083 : BitVec 32) (k0_hw245 : k0_chk245 v2083), ∀ a, (k0_off396 v2083) a + S1x256.size a ≤ S2064x256.size a := fun v2083 k0_hw245 => k0_hw245

def k0_off397 (v2085 : BitVec 32) : Fin 2 → Nat :=
  let v2091 : Index := Scalar.indexCast v2085
  let c0_1058 : Index := 0#32
  ![v2091.toNat, 0]

def k0_chk246 (v2085 : BitVec 32) : Prop :=
  (∀ a, (k0_off397 v2085) a + S1x256.size a ≤ S2064x256.size a)
theorem k0_off397_inb : ∀ (v2085 : BitVec 32) (k0_hw246 : k0_chk246 v2085), ∀ a, (k0_off397 v2085) a + S1x256.size a ≤ S2064x256.size a := fun v2085 k0_hw246 => k0_hw246

def k0_off398 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2096 : Index := Scalar.indexCast v1941
  let c11_1061 : Index := 11#32
  ![v2096.toNat, 11]
def k0_off399 (v2097 : BitVec 32) : Fin 2 → Nat :=
  let v2100 : Index := Scalar.indexCast v2097
  let c0_1063 : Index := 0#32
  ![v2100.toNat, 0]

def k0_chk247 (v2097 : BitVec 32) : Prop :=
  (∀ a, (k0_off399 v2097) a + S1x256.size a ≤ S2064x256.size a)
theorem k0_off399_inb : ∀ (v2097 : BitVec 32) (k0_hw247 : k0_chk247 v2097), ∀ a, (k0_off399 v2097) a + S1x256.size a ≤ S2064x256.size a := fun v2097 k0_hw247 => k0_hw247

def k0_off400 (v2099 : BitVec 32) : Fin 2 → Nat :=
  let v2105 : Index := Scalar.indexCast v2099
  let c0_1065 : Index := 0#32
  ![v2105.toNat, 0]

def k0_chk248 (v2099 : BitVec 32) : Prop :=
  (∀ a, (k0_off400 v2099) a + S1x256.size a ≤ S2064x256.size a)
theorem k0_off400_inb : ∀ (v2099 : BitVec 32) (k0_hw248 : k0_chk248 v2099), ∀ a, (k0_off400 v2099) a + S1x256.size a ≤ S2064x256.size a := fun v2099 k0_hw248 => k0_hw248

def k0_off401 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2110 : Index := Scalar.indexCast v1941
  let c12_1068 : Index := 12#32
  ![v2110.toNat, 12]
def k0_off402 (v2111 : BitVec 32) : Fin 2 → Nat :=
  let v2114 : Index := Scalar.indexCast v2111
  let c0_1070 : Index := 0#32
  ![v2114.toNat, 0]

def k0_chk249 (v2111 : BitVec 32) : Prop :=
  (∀ a, (k0_off402 v2111) a + S1x256.size a ≤ S2064x256.size a)
theorem k0_off402_inb : ∀ (v2111 : BitVec 32) (k0_hw249 : k0_chk249 v2111), ∀ a, (k0_off402 v2111) a + S1x256.size a ≤ S2064x256.size a := fun v2111 k0_hw249 => k0_hw249

def k0_off403 (v2113 : BitVec 32) : Fin 2 → Nat :=
  let v2119 : Index := Scalar.indexCast v2113
  let c0_1072 : Index := 0#32
  ![v2119.toNat, 0]

def k0_chk250 (v2113 : BitVec 32) : Prop :=
  (∀ a, (k0_off403 v2113) a + S1x256.size a ≤ S2064x256.size a)
theorem k0_off403_inb : ∀ (v2113 : BitVec 32) (k0_hw250 : k0_chk250 v2113), ∀ a, (k0_off403 v2113) a + S1x256.size a ≤ S2064x256.size a := fun v2113 k0_hw250 => k0_hw250

def k0_off404 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2124 : Index := Scalar.indexCast v1941
  let c13_1075 : Index := 13#32
  ![v2124.toNat, 13]
def k0_off405 (v2125 : BitVec 32) : Fin 2 → Nat :=
  let v2128 : Index := Scalar.indexCast v2125
  let c0_1077 : Index := 0#32
  ![v2128.toNat, 0]

def k0_chk251 (v2125 : BitVec 32) : Prop :=
  (∀ a, (k0_off405 v2125) a + S1x256.size a ≤ S2064x256.size a)
theorem k0_off405_inb : ∀ (v2125 : BitVec 32) (k0_hw251 : k0_chk251 v2125), ∀ a, (k0_off405 v2125) a + S1x256.size a ≤ S2064x256.size a := fun v2125 k0_hw251 => k0_hw251

def k0_off406 (v2127 : BitVec 32) : Fin 2 → Nat :=
  let v2133 : Index := Scalar.indexCast v2127
  let c0_1079 : Index := 0#32
  ![v2133.toNat, 0]

def k0_chk252 (v2127 : BitVec 32) : Prop :=
  (∀ a, (k0_off406 v2127) a + S1x256.size a ≤ S2064x256.size a)
theorem k0_off406_inb : ∀ (v2127 : BitVec 32) (k0_hw252 : k0_chk252 v2127), ∀ a, (k0_off406 v2127) a + S1x256.size a ≤ S2064x256.size a := fun v2127 k0_hw252 => k0_hw252

def k0_off407 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2138 : Index := Scalar.indexCast v1941
  let c14_1082 : Index := 14#32
  ![v2138.toNat, 14]
def k0_off408 (v2139 : BitVec 32) : Fin 2 → Nat :=
  let v2142 : Index := Scalar.indexCast v2139
  let c0_1084 : Index := 0#32
  ![v2142.toNat, 0]

def k0_chk253 (v2139 : BitVec 32) : Prop :=
  (∀ a, (k0_off408 v2139) a + S1x256.size a ≤ S2064x256.size a)
theorem k0_off408_inb : ∀ (v2139 : BitVec 32) (k0_hw253 : k0_chk253 v2139), ∀ a, (k0_off408 v2139) a + S1x256.size a ≤ S2064x256.size a := fun v2139 k0_hw253 => k0_hw253

def k0_off409 (v2141 : BitVec 32) : Fin 2 → Nat :=
  let v2147 : Index := Scalar.indexCast v2141
  let c0_1086 : Index := 0#32
  ![v2147.toNat, 0]

def k0_chk254 (v2141 : BitVec 32) : Prop :=
  (∀ a, (k0_off409 v2141) a + S1x256.size a ≤ S2064x256.size a)
theorem k0_off409_inb : ∀ (v2141 : BitVec 32) (k0_hw254 : k0_chk254 v2141), ∀ a, (k0_off409 v2141) a + S1x256.size a ≤ S2064x256.size a := fun v2141 k0_hw254 => k0_hw254

def k0_off410 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2152 : Index := Scalar.indexCast v1941
  let c15_1089 : Index := 15#32
  ![v2152.toNat, 15]
def k0_off411 (v2153 : BitVec 32) : Fin 2 → Nat :=
  let v2156 : Index := Scalar.indexCast v2153
  let c0_1091 : Index := 0#32
  ![v2156.toNat, 0]

def k0_chk255 (v2153 : BitVec 32) : Prop :=
  (∀ a, (k0_off411 v2153) a + S1x256.size a ≤ S2064x256.size a)
theorem k0_off411_inb : ∀ (v2153 : BitVec 32) (k0_hw255 : k0_chk255 v2153), ∀ a, (k0_off411 v2153) a + S1x256.size a ≤ S2064x256.size a := fun v2153 k0_hw255 => k0_hw255

def k0_off412 (v2155 : BitVec 32) : Fin 2 → Nat :=
  let v2161 : Index := Scalar.indexCast v2155
  let c0_1093 : Index := 0#32
  ![v2161.toNat, 0]

def k0_chk256 (v2155 : BitVec 32) : Prop :=
  (∀ a, (k0_off412 v2155) a + S1x256.size a ≤ S2064x256.size a)
theorem k0_off412_inb : ∀ (v2155 : BitVec 32) (k0_hw256 : k0_chk256 v2155), ∀ a, (k0_off412 v2155) a + S1x256.size a ≤ S2064x256.size a := fun v2155 k0_hw256 => k0_hw256

def k0_off413 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let c16_i32_1098 : BitVec 32 := 16#32
  let v2169 : BitVec 32 := Scalar.muli v1941 c16_i32_1098
  let v2170 : Index := Scalar.indexCast v2169
  let c0_1099 : Index := 0#32
  ![v2170.toNat, 0]
def k0_off414 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let c16_i32_1107 : BitVec 32 := 16#32
  let v2189 : BitVec 32 := Scalar.muli v1941 c16_i32_1107
  let v2190 : Index := Scalar.indexCast v2189
  let c0_1108 : Index := 0#32
  ![v2190.toNat, 0]
def k0_off415 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let c16_i32_1114 : BitVec 32 := 16#32
  let v2202 : BitVec 32 := Scalar.muli v1941 c16_i32_1114
  let v2203 : Index := Scalar.indexCast v2202
  let c0_1115 : Index := 0#32
  ![v2203.toNat, 0]
def k0_off416 (k0_t1 : Fin k0_t1_loop.trips) : Fin 3 → Nat :=
  let c0_1116 : Index := 0#32
  let c0_i32 : BitVec 32 := 0#32
  let c1_i32 : BitVec 32 := 1#32
  let arg19 : BitVec 32 := Scf.iv c0_i32 c1_i32 k0_t1
  let c16_i32_983 : BitVec 32 := 16#32
  let v1940 : BitVec 32 := Scalar.muli arg19 c16_i32_983
  let c7_i32 : BitVec 32 := 7#32
  let v1941 : BitVec 32 := Scalar.addi v1940 c7_i32
  let v2208 : Index := Scalar.indexCast v1941
  let c0_1117 : Index := 0#32
  ![0, v2208.toNat, 0]
def k0_off417 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2212 : Index := Scalar.indexCast v2211
  let c0_1120 : Index := 0#32
  ![v2212.toNat, 0]
def k0_off418 (v2213 : BitVec 32) : Fin 2 → Nat :=
  let v2216 : Index := Scalar.indexCast v2213
  let c0_1122 : Index := 0#32
  ![v2216.toNat, 0]

def k0_chk257 (v2213 : BitVec 32) : Prop :=
  (∀ a, (k0_off418 v2213) a + S1x256.size a ≤ S2064x256.size a)
theorem k0_off418_inb : ∀ (v2213 : BitVec 32) (k0_hw257 : k0_chk257 v2213), ∀ a, (k0_off418 v2213) a + S1x256.size a ≤ S2064x256.size a := fun v2213 k0_hw257 => k0_hw257

def k0_off419 (v2215 : BitVec 32) : Fin 2 → Nat :=
  let v2221 : Index := Scalar.indexCast v2215
  let c0_1124 : Index := 0#32
  ![v2221.toNat, 0]

def k0_chk258 (v2215 : BitVec 32) : Prop :=
  (∀ a, (k0_off419 v2215) a + S1x256.size a ≤ S2064x256.size a)
theorem k0_off419_inb : ∀ (v2215 : BitVec 32) (k0_hw258 : k0_chk258 v2215), ∀ a, (k0_off419 v2215) a + S1x256.size a ≤ S2064x256.size a := fun v2215 k0_hw258 => k0_hw258

def k0_off420 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2226 : Index := Scalar.indexCast v2211
  let c1_1127 : Index := 1#32
  ![v2226.toNat, 1]
def k0_off421 (v2227 : BitVec 32) : Fin 2 → Nat :=
  let v2230 : Index := Scalar.indexCast v2227
  let c0_1129 : Index := 0#32
  ![v2230.toNat, 0]

def k0_chk259 (v2227 : BitVec 32) : Prop :=
  (∀ a, (k0_off421 v2227) a + S1x256.size a ≤ S2064x256.size a)
theorem k0_off421_inb : ∀ (v2227 : BitVec 32) (k0_hw259 : k0_chk259 v2227), ∀ a, (k0_off421 v2227) a + S1x256.size a ≤ S2064x256.size a := fun v2227 k0_hw259 => k0_hw259

def k0_off422 (v2229 : BitVec 32) : Fin 2 → Nat :=
  let v2235 : Index := Scalar.indexCast v2229
  let c0_1131 : Index := 0#32
  ![v2235.toNat, 0]

def k0_chk260 (v2229 : BitVec 32) : Prop :=
  (∀ a, (k0_off422 v2229) a + S1x256.size a ≤ S2064x256.size a)
theorem k0_off422_inb : ∀ (v2229 : BitVec 32) (k0_hw260 : k0_chk260 v2229), ∀ a, (k0_off422 v2229) a + S1x256.size a ≤ S2064x256.size a := fun v2229 k0_hw260 => k0_hw260

def k0_off423 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2240 : Index := Scalar.indexCast v2211
  let c2_1134 : Index := 2#32
  ![v2240.toNat, 2]
def k0_off424 (v2241 : BitVec 32) : Fin 2 → Nat :=
  let v2244 : Index := Scalar.indexCast v2241
  let c0_1136 : Index := 0#32
  ![v2244.toNat, 0]

def k0_chk261 (v2241 : BitVec 32) : Prop :=
  (∀ a, (k0_off424 v2241) a + S1x256.size a ≤ S2064x256.size a)
theorem k0_off424_inb : ∀ (v2241 : BitVec 32) (k0_hw261 : k0_chk261 v2241), ∀ a, (k0_off424 v2241) a + S1x256.size a ≤ S2064x256.size a := fun v2241 k0_hw261 => k0_hw261

def k0_off425 (v2243 : BitVec 32) : Fin 2 → Nat :=
  let v2249 : Index := Scalar.indexCast v2243
  let c0_1138 : Index := 0#32
  ![v2249.toNat, 0]

def k0_chk262 (v2243 : BitVec 32) : Prop :=
  (∀ a, (k0_off425 v2243) a + S1x256.size a ≤ S2064x256.size a)
theorem k0_off425_inb : ∀ (v2243 : BitVec 32) (k0_hw262 : k0_chk262 v2243), ∀ a, (k0_off425 v2243) a + S1x256.size a ≤ S2064x256.size a := fun v2243 k0_hw262 => k0_hw262

def k0_off426 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2254 : Index := Scalar.indexCast v2211
  let c3_1141 : Index := 3#32
  ![v2254.toNat, 3]
def k0_off427 (v2255 : BitVec 32) : Fin 2 → Nat :=
  let v2258 : Index := Scalar.indexCast v2255
  let c0_1143 : Index := 0#32
  ![v2258.toNat, 0]

def k0_chk263 (v2255 : BitVec 32) : Prop :=
  (∀ a, (k0_off427 v2255) a + S1x256.size a ≤ S2064x256.size a)
theorem k0_off427_inb : ∀ (v2255 : BitVec 32) (k0_hw263 : k0_chk263 v2255), ∀ a, (k0_off427 v2255) a + S1x256.size a ≤ S2064x256.size a := fun v2255 k0_hw263 => k0_hw263

def k0_off428 (v2257 : BitVec 32) : Fin 2 → Nat :=
  let v2263 : Index := Scalar.indexCast v2257
  let c0_1145 : Index := 0#32
  ![v2263.toNat, 0]

def k0_chk264 (v2257 : BitVec 32) : Prop :=
  (∀ a, (k0_off428 v2257) a + S1x256.size a ≤ S2064x256.size a)
theorem k0_off428_inb : ∀ (v2257 : BitVec 32) (k0_hw264 : k0_chk264 v2257), ∀ a, (k0_off428 v2257) a + S1x256.size a ≤ S2064x256.size a := fun v2257 k0_hw264 => k0_hw264

def k0_off429 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2268 : Index := Scalar.indexCast v2211
  let c4_1148 : Index := 4#32
  ![v2268.toNat, 4]
def k0_off430 (v2269 : BitVec 32) : Fin 2 → Nat :=
  let v2272 : Index := Scalar.indexCast v2269
  let c0_1150 : Index := 0#32
  ![v2272.toNat, 0]

def k0_chk265 (v2269 : BitVec 32) : Prop :=
  (∀ a, (k0_off430 v2269) a + S1x256.size a ≤ S2064x256.size a)
theorem k0_off430_inb : ∀ (v2269 : BitVec 32) (k0_hw265 : k0_chk265 v2269), ∀ a, (k0_off430 v2269) a + S1x256.size a ≤ S2064x256.size a := fun v2269 k0_hw265 => k0_hw265

def k0_off431 (v2271 : BitVec 32) : Fin 2 → Nat :=
  let v2277 : Index := Scalar.indexCast v2271
  let c0_1152 : Index := 0#32
  ![v2277.toNat, 0]

def k0_chk266 (v2271 : BitVec 32) : Prop :=
  (∀ a, (k0_off431 v2271) a + S1x256.size a ≤ S2064x256.size a)
theorem k0_off431_inb : ∀ (v2271 : BitVec 32) (k0_hw266 : k0_chk266 v2271), ∀ a, (k0_off431 v2271) a + S1x256.size a ≤ S2064x256.size a := fun v2271 k0_hw266 => k0_hw266

def k0_off432 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2282 : Index := Scalar.indexCast v2211
  let c5_1155 : Index := 5#32
  ![v2282.toNat, 5]
def k0_off433 (v2283 : BitVec 32) : Fin 2 → Nat :=
  let v2286 : Index := Scalar.indexCast v2283
  let c0_1157 : Index := 0#32
  ![v2286.toNat, 0]

def k0_chk267 (v2283 : BitVec 32) : Prop :=
  (∀ a, (k0_off433 v2283) a + S1x256.size a ≤ S2064x256.size a)
theorem k0_off433_inb : ∀ (v2283 : BitVec 32) (k0_hw267 : k0_chk267 v2283), ∀ a, (k0_off433 v2283) a + S1x256.size a ≤ S2064x256.size a := fun v2283 k0_hw267 => k0_hw267

def k0_off434 (v2285 : BitVec 32) : Fin 2 → Nat :=
  let v2291 : Index := Scalar.indexCast v2285
  let c0_1159 : Index := 0#32
  ![v2291.toNat, 0]

def k0_chk268 (v2285 : BitVec 32) : Prop :=
  (∀ a, (k0_off434 v2285) a + S1x256.size a ≤ S2064x256.size a)
theorem k0_off434_inb : ∀ (v2285 : BitVec 32) (k0_hw268 : k0_chk268 v2285), ∀ a, (k0_off434 v2285) a + S1x256.size a ≤ S2064x256.size a := fun v2285 k0_hw268 => k0_hw268

def k0_off435 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2296 : Index := Scalar.indexCast v2211
  let c6_1162 : Index := 6#32
  ![v2296.toNat, 6]
def k0_off436 (v2297 : BitVec 32) : Fin 2 → Nat :=
  let v2300 : Index := Scalar.indexCast v2297
  let c0_1164 : Index := 0#32
  ![v2300.toNat, 0]

def k0_chk269 (v2297 : BitVec 32) : Prop :=
  (∀ a, (k0_off436 v2297) a + S1x256.size a ≤ S2064x256.size a)
theorem k0_off436_inb : ∀ (v2297 : BitVec 32) (k0_hw269 : k0_chk269 v2297), ∀ a, (k0_off436 v2297) a + S1x256.size a ≤ S2064x256.size a := fun v2297 k0_hw269 => k0_hw269

def k0_off437 (v2299 : BitVec 32) : Fin 2 → Nat :=
  let v2305 : Index := Scalar.indexCast v2299
  let c0_1166 : Index := 0#32
  ![v2305.toNat, 0]

def k0_chk270 (v2299 : BitVec 32) : Prop :=
  (∀ a, (k0_off437 v2299) a + S1x256.size a ≤ S2064x256.size a)
theorem k0_off437_inb : ∀ (v2299 : BitVec 32) (k0_hw270 : k0_chk270 v2299), ∀ a, (k0_off437 v2299) a + S1x256.size a ≤ S2064x256.size a := fun v2299 k0_hw270 => k0_hw270

def k0_off438 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2310 : Index := Scalar.indexCast v2211
  let c7_1169 : Index := 7#32
  ![v2310.toNat, 7]
def k0_off439 (v2311 : BitVec 32) : Fin 2 → Nat :=
  let v2314 : Index := Scalar.indexCast v2311
  let c0_1171 : Index := 0#32
  ![v2314.toNat, 0]

def k0_chk271 (v2311 : BitVec 32) : Prop :=
  (∀ a, (k0_off439 v2311) a + S1x256.size a ≤ S2064x256.size a)
theorem k0_off439_inb : ∀ (v2311 : BitVec 32) (k0_hw271 : k0_chk271 v2311), ∀ a, (k0_off439 v2311) a + S1x256.size a ≤ S2064x256.size a := fun v2311 k0_hw271 => k0_hw271

def k0_off440 (v2313 : BitVec 32) : Fin 2 → Nat :=
  let v2319 : Index := Scalar.indexCast v2313
  let c0_1173 : Index := 0#32
  ![v2319.toNat, 0]

def k0_chk272 (v2313 : BitVec 32) : Prop :=
  (∀ a, (k0_off440 v2313) a + S1x256.size a ≤ S2064x256.size a)
theorem k0_off440_inb : ∀ (v2313 : BitVec 32) (k0_hw272 : k0_chk272 v2313), ∀ a, (k0_off440 v2313) a + S1x256.size a ≤ S2064x256.size a := fun v2313 k0_hw272 => k0_hw272

def k0_off441 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2324 : Index := Scalar.indexCast v2211
  let c8_1176 : Index := 8#32
  ![v2324.toNat, 8]
def k0_off442 (v2325 : BitVec 32) : Fin 2 → Nat :=
  let v2328 : Index := Scalar.indexCast v2325
  let c0_1178 : Index := 0#32
  ![v2328.toNat, 0]

def k0_chk273 (v2325 : BitVec 32) : Prop :=
  (∀ a, (k0_off442 v2325) a + S1x256.size a ≤ S2064x256.size a)
theorem k0_off442_inb : ∀ (v2325 : BitVec 32) (k0_hw273 : k0_chk273 v2325), ∀ a, (k0_off442 v2325) a + S1x256.size a ≤ S2064x256.size a := fun v2325 k0_hw273 => k0_hw273

def k0_off443 (v2327 : BitVec 32) : Fin 2 → Nat :=
  let v2333 : Index := Scalar.indexCast v2327
  let c0_1180 : Index := 0#32
  ![v2333.toNat, 0]

def k0_chk274 (v2327 : BitVec 32) : Prop :=
  (∀ a, (k0_off443 v2327) a + S1x256.size a ≤ S2064x256.size a)
theorem k0_off443_inb : ∀ (v2327 : BitVec 32) (k0_hw274 : k0_chk274 v2327), ∀ a, (k0_off443 v2327) a + S1x256.size a ≤ S2064x256.size a := fun v2327 k0_hw274 => k0_hw274

def k0_off444 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2338 : Index := Scalar.indexCast v2211
  let c9_1183 : Index := 9#32
  ![v2338.toNat, 9]
def k0_off445 (v2339 : BitVec 32) : Fin 2 → Nat :=
  let v2342 : Index := Scalar.indexCast v2339
  let c0_1185 : Index := 0#32
  ![v2342.toNat, 0]

def k0_chk275 (v2339 : BitVec 32) : Prop :=
  (∀ a, (k0_off445 v2339) a + S1x256.size a ≤ S2064x256.size a)
theorem k0_off445_inb : ∀ (v2339 : BitVec 32) (k0_hw275 : k0_chk275 v2339), ∀ a, (k0_off445 v2339) a + S1x256.size a ≤ S2064x256.size a := fun v2339 k0_hw275 => k0_hw275

def k0_off446 (v2341 : BitVec 32) : Fin 2 → Nat :=
  let v2347 : Index := Scalar.indexCast v2341
  let c0_1187 : Index := 0#32
  ![v2347.toNat, 0]

def k0_chk276 (v2341 : BitVec 32) : Prop :=
  (∀ a, (k0_off446 v2341) a + S1x256.size a ≤ S2064x256.size a)
theorem k0_off446_inb : ∀ (v2341 : BitVec 32) (k0_hw276 : k0_chk276 v2341), ∀ a, (k0_off446 v2341) a + S1x256.size a ≤ S2064x256.size a := fun v2341 k0_hw276 => k0_hw276

def k0_off447 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2352 : Index := Scalar.indexCast v2211
  let c10_1190 : Index := 10#32
  ![v2352.toNat, 10]
def k0_off448 (v2353 : BitVec 32) : Fin 2 → Nat :=
  let v2356 : Index := Scalar.indexCast v2353
  let c0_1192 : Index := 0#32
  ![v2356.toNat, 0]

def k0_chk277 (v2353 : BitVec 32) : Prop :=
  (∀ a, (k0_off448 v2353) a + S1x256.size a ≤ S2064x256.size a)
theorem k0_off448_inb : ∀ (v2353 : BitVec 32) (k0_hw277 : k0_chk277 v2353), ∀ a, (k0_off448 v2353) a + S1x256.size a ≤ S2064x256.size a := fun v2353 k0_hw277 => k0_hw277

def k0_off449 (v2355 : BitVec 32) : Fin 2 → Nat :=
  let v2361 : Index := Scalar.indexCast v2355
  let c0_1194 : Index := 0#32
  ![v2361.toNat, 0]

def k0_chk278 (v2355 : BitVec 32) : Prop :=
  (∀ a, (k0_off449 v2355) a + S1x256.size a ≤ S2064x256.size a)
theorem k0_off449_inb : ∀ (v2355 : BitVec 32) (k0_hw278 : k0_chk278 v2355), ∀ a, (k0_off449 v2355) a + S1x256.size a ≤ S2064x256.size a := fun v2355 k0_hw278 => k0_hw278

def k0_off450 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2366 : Index := Scalar.indexCast v2211
  let c11_1197 : Index := 11#32
  ![v2366.toNat, 11]
def k0_off451 (v2367 : BitVec 32) : Fin 2 → Nat :=
  let v2370 : Index := Scalar.indexCast v2367
  let c0_1199 : Index := 0#32
  ![v2370.toNat, 0]

def k0_chk279 (v2367 : BitVec 32) : Prop :=
  (∀ a, (k0_off451 v2367) a + S1x256.size a ≤ S2064x256.size a)
theorem k0_off451_inb : ∀ (v2367 : BitVec 32) (k0_hw279 : k0_chk279 v2367), ∀ a, (k0_off451 v2367) a + S1x256.size a ≤ S2064x256.size a := fun v2367 k0_hw279 => k0_hw279

def k0_off452 (v2369 : BitVec 32) : Fin 2 → Nat :=
  let v2375 : Index := Scalar.indexCast v2369
  let c0_1201 : Index := 0#32
  ![v2375.toNat, 0]

def k0_chk280 (v2369 : BitVec 32) : Prop :=
  (∀ a, (k0_off452 v2369) a + S1x256.size a ≤ S2064x256.size a)
theorem k0_off452_inb : ∀ (v2369 : BitVec 32) (k0_hw280 : k0_chk280 v2369), ∀ a, (k0_off452 v2369) a + S1x256.size a ≤ S2064x256.size a := fun v2369 k0_hw280 => k0_hw280

def k0_off453 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2380 : Index := Scalar.indexCast v2211
  let c12_1204 : Index := 12#32
  ![v2380.toNat, 12]
def k0_off454 (v2381 : BitVec 32) : Fin 2 → Nat :=
  let v2384 : Index := Scalar.indexCast v2381
  let c0_1206 : Index := 0#32
  ![v2384.toNat, 0]

def k0_chk281 (v2381 : BitVec 32) : Prop :=
  (∀ a, (k0_off454 v2381) a + S1x256.size a ≤ S2064x256.size a)
theorem k0_off454_inb : ∀ (v2381 : BitVec 32) (k0_hw281 : k0_chk281 v2381), ∀ a, (k0_off454 v2381) a + S1x256.size a ≤ S2064x256.size a := fun v2381 k0_hw281 => k0_hw281

def k0_off455 (v2383 : BitVec 32) : Fin 2 → Nat :=
  let v2389 : Index := Scalar.indexCast v2383
  let c0_1208 : Index := 0#32
  ![v2389.toNat, 0]

def k0_chk282 (v2383 : BitVec 32) : Prop :=
  (∀ a, (k0_off455 v2383) a + S1x256.size a ≤ S2064x256.size a)
theorem k0_off455_inb : ∀ (v2383 : BitVec 32) (k0_hw282 : k0_chk282 v2383), ∀ a, (k0_off455 v2383) a + S1x256.size a ≤ S2064x256.size a := fun v2383 k0_hw282 => k0_hw282

def k0_off456 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2394 : Index := Scalar.indexCast v2211
  let c13_1211 : Index := 13#32
  ![v2394.toNat, 13]
def k0_off457 (v2395 : BitVec 32) : Fin 2 → Nat :=
  let v2398 : Index := Scalar.indexCast v2395
  let c0_1213 : Index := 0#32
  ![v2398.toNat, 0]

def k0_chk283 (v2395 : BitVec 32) : Prop :=
  (∀ a, (k0_off457 v2395) a + S1x256.size a ≤ S2064x256.size a)
theorem k0_off457_inb : ∀ (v2395 : BitVec 32) (k0_hw283 : k0_chk283 v2395), ∀ a, (k0_off457 v2395) a + S1x256.size a ≤ S2064x256.size a := fun v2395 k0_hw283 => k0_hw283

def k0_off458 (v2397 : BitVec 32) : Fin 2 → Nat :=
  let v2403 : Index := Scalar.indexCast v2397
  let c0_1215 : Index := 0#32
  ![v2403.toNat, 0]

def k0_chk284 (v2397 : BitVec 32) : Prop :=
  (∀ a, (k0_off458 v2397) a + S1x256.size a ≤ S2064x256.size a)
theorem k0_off458_inb : ∀ (v2397 : BitVec 32) (k0_hw284 : k0_chk284 v2397), ∀ a, (k0_off458 v2397) a + S1x256.size a ≤ S2064x256.size a := fun v2397 k0_hw284 => k0_hw284

def k0_off459 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2408 : Index := Scalar.indexCast v2211
  let c14_1218 : Index := 14#32
  ![v2408.toNat, 14]
def k0_off460 (v2409 : BitVec 32) : Fin 2 → Nat :=
  let v2412 : Index := Scalar.indexCast v2409
  let c0_1220 : Index := 0#32
  ![v2412.toNat, 0]

def k0_chk285 (v2409 : BitVec 32) : Prop :=
  (∀ a, (k0_off460 v2409) a + S1x256.size a ≤ S2064x256.size a)
theorem k0_off460_inb : ∀ (v2409 : BitVec 32) (k0_hw285 : k0_chk285 v2409), ∀ a, (k0_off460 v2409) a + S1x256.size a ≤ S2064x256.size a := fun v2409 k0_hw285 => k0_hw285

def k0_off461 (v2411 : BitVec 32) : Fin 2 → Nat :=
  let v2417 : Index := Scalar.indexCast v2411
  let c0_1222 : Index := 0#32
  ![v2417.toNat, 0]

def k0_chk286 (v2411 : BitVec 32) : Prop :=
  (∀ a, (k0_off461 v2411) a + S1x256.size a ≤ S2064x256.size a)
theorem k0_off461_inb : ∀ (v2411 : BitVec 32) (k0_hw286 : k0_chk286 v2411), ∀ a, (k0_off461 v2411) a + S1x256.size a ≤ S2064x256.size a := fun v2411 k0_hw286 => k0_hw286

def k0_off462 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2422 : Index := Scalar.indexCast v2211
  let c15_1225 : Index := 15#32
  ![v2422.toNat, 15]
def k0_off463 (v2423 : BitVec 32) : Fin 2 → Nat :=
  let v2426 : Index := Scalar.indexCast v2423
  let c0_1227 : Index := 0#32
  ![v2426.toNat, 0]

def k0_chk287 (v2423 : BitVec 32) : Prop :=
  (∀ a, (k0_off463 v2423) a + S1x256.size a ≤ S2064x256.size a)
theorem k0_off463_inb : ∀ (v2423 : BitVec 32) (k0_hw287 : k0_chk287 v2423), ∀ a, (k0_off463 v2423) a + S1x256.size a ≤ S2064x256.size a := fun v2423 k0_hw287 => k0_hw287

def k0_off464 (v2425 : BitVec 32) : Fin 2 → Nat :=
  let v2431 : Index := Scalar.indexCast v2425
  let c0_1229 : Index := 0#32
  ![v2431.toNat, 0]

def k0_chk288 (v2425 : BitVec 32) : Prop :=
  (∀ a, (k0_off464 v2425) a + S1x256.size a ≤ S2064x256.size a)
theorem k0_off464_inb : ∀ (v2425 : BitVec 32) (k0_hw288 : k0_chk288 v2425), ∀ a, (k0_off464 v2425) a + S1x256.size a ≤ S2064x256.size a := fun v2425 k0_hw288 => k0_hw288

def k0_off465 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let c16_i32_1234 : BitVec 32 := 16#32
  let v2439 : BitVec 32 := Scalar.muli v2211 c16_i32_1234
  let v2440 : Index := Scalar.indexCast v2439
  let c0_1235 : Index := 0#32
  ![v2440.toNat, 0]
def k0_off466 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let c16_i32_1243 : BitVec 32 := 16#32
  let v2459 : BitVec 32 := Scalar.muli v2211 c16_i32_1243
  let v2460 : Index := Scalar.indexCast v2459
  let c0_1244 : Index := 0#32
  ![v2460.toNat, 0]
def k0_off467 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let c16_i32_1250 : BitVec 32 := 16#32
  let v2472 : BitVec 32 := Scalar.muli v2211 c16_i32_1250
  let v2473 : Index := Scalar.indexCast v2472
  let c0_1251 : Index := 0#32
  ![v2473.toNat, 0]
def k0_off468 (k0_t1 : Fin k0_t1_loop.trips) : Fin 3 → Nat :=
  let c0_1252 : Index := 0#32
  let c0_i32 : BitVec 32 := 0#32
  let c1_i32 : BitVec 32 := 1#32
  let arg19 : BitVec 32 := Scf.iv c0_i32 c1_i32 k0_t1
  let c16_i32_1118 : BitVec 32 := 16#32
  let v2210 : BitVec 32 := Scalar.muli arg19 c16_i32_1118
  let c8_i32_1119 : BitVec 32 := 8#32
  let v2211 : BitVec 32 := Scalar.addi v2210 c8_i32_1119
  let v2478 : Index := Scalar.indexCast v2211
  let c0_1253 : Index := 0#32
  ![0, v2478.toNat, 0]
def k0_off469 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2482 : Index := Scalar.indexCast v2481
  let c0_1255 : Index := 0#32
  ![v2482.toNat, 0]
def k0_off470 (v2483 : BitVec 32) : Fin 2 → Nat :=
  let v2486 : Index := Scalar.indexCast v2483
  let c0_1257 : Index := 0#32
  ![v2486.toNat, 0]

def k0_chk289 (v2483 : BitVec 32) : Prop :=
  (∀ a, (k0_off470 v2483) a + S1x256.size a ≤ S2064x256.size a)
theorem k0_off470_inb : ∀ (v2483 : BitVec 32) (k0_hw289 : k0_chk289 v2483), ∀ a, (k0_off470 v2483) a + S1x256.size a ≤ S2064x256.size a := fun v2483 k0_hw289 => k0_hw289

def k0_off471 (v2485 : BitVec 32) : Fin 2 → Nat :=
  let v2491 : Index := Scalar.indexCast v2485
  let c0_1259 : Index := 0#32
  ![v2491.toNat, 0]

def k0_chk290 (v2485 : BitVec 32) : Prop :=
  (∀ a, (k0_off471 v2485) a + S1x256.size a ≤ S2064x256.size a)
theorem k0_off471_inb : ∀ (v2485 : BitVec 32) (k0_hw290 : k0_chk290 v2485), ∀ a, (k0_off471 v2485) a + S1x256.size a ≤ S2064x256.size a := fun v2485 k0_hw290 => k0_hw290

def k0_off472 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2496 : Index := Scalar.indexCast v2481
  let c1_1262 : Index := 1#32
  ![v2496.toNat, 1]
def k0_off473 (v2497 : BitVec 32) : Fin 2 → Nat :=
  let v2500 : Index := Scalar.indexCast v2497
  let c0_1264 : Index := 0#32
  ![v2500.toNat, 0]

def k0_chk291 (v2497 : BitVec 32) : Prop :=
  (∀ a, (k0_off473 v2497) a + S1x256.size a ≤ S2064x256.size a)
theorem k0_off473_inb : ∀ (v2497 : BitVec 32) (k0_hw291 : k0_chk291 v2497), ∀ a, (k0_off473 v2497) a + S1x256.size a ≤ S2064x256.size a := fun v2497 k0_hw291 => k0_hw291

def k0_off474 (v2499 : BitVec 32) : Fin 2 → Nat :=
  let v2505 : Index := Scalar.indexCast v2499
  let c0_1266 : Index := 0#32
  ![v2505.toNat, 0]

def k0_chk292 (v2499 : BitVec 32) : Prop :=
  (∀ a, (k0_off474 v2499) a + S1x256.size a ≤ S2064x256.size a)
theorem k0_off474_inb : ∀ (v2499 : BitVec 32) (k0_hw292 : k0_chk292 v2499), ∀ a, (k0_off474 v2499) a + S1x256.size a ≤ S2064x256.size a := fun v2499 k0_hw292 => k0_hw292

def k0_off475 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2510 : Index := Scalar.indexCast v2481
  let c2_1269 : Index := 2#32
  ![v2510.toNat, 2]
def k0_off476 (v2511 : BitVec 32) : Fin 2 → Nat :=
  let v2514 : Index := Scalar.indexCast v2511
  let c0_1271 : Index := 0#32
  ![v2514.toNat, 0]

def k0_chk293 (v2511 : BitVec 32) : Prop :=
  (∀ a, (k0_off476 v2511) a + S1x256.size a ≤ S2064x256.size a)
theorem k0_off476_inb : ∀ (v2511 : BitVec 32) (k0_hw293 : k0_chk293 v2511), ∀ a, (k0_off476 v2511) a + S1x256.size a ≤ S2064x256.size a := fun v2511 k0_hw293 => k0_hw293

def k0_off477 (v2513 : BitVec 32) : Fin 2 → Nat :=
  let v2519 : Index := Scalar.indexCast v2513
  let c0_1273 : Index := 0#32
  ![v2519.toNat, 0]

def k0_chk294 (v2513 : BitVec 32) : Prop :=
  (∀ a, (k0_off477 v2513) a + S1x256.size a ≤ S2064x256.size a)
theorem k0_off477_inb : ∀ (v2513 : BitVec 32) (k0_hw294 : k0_chk294 v2513), ∀ a, (k0_off477 v2513) a + S1x256.size a ≤ S2064x256.size a := fun v2513 k0_hw294 => k0_hw294

def k0_off478 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2524 : Index := Scalar.indexCast v2481
  let c3_1276 : Index := 3#32
  ![v2524.toNat, 3]
def k0_off479 (v2525 : BitVec 32) : Fin 2 → Nat :=
  let v2528 : Index := Scalar.indexCast v2525
  let c0_1278 : Index := 0#32
  ![v2528.toNat, 0]

def k0_chk295 (v2525 : BitVec 32) : Prop :=
  (∀ a, (k0_off479 v2525) a + S1x256.size a ≤ S2064x256.size a)
theorem k0_off479_inb : ∀ (v2525 : BitVec 32) (k0_hw295 : k0_chk295 v2525), ∀ a, (k0_off479 v2525) a + S1x256.size a ≤ S2064x256.size a := fun v2525 k0_hw295 => k0_hw295

def k0_off480 (v2527 : BitVec 32) : Fin 2 → Nat :=
  let v2533 : Index := Scalar.indexCast v2527
  let c0_1280 : Index := 0#32
  ![v2533.toNat, 0]

def k0_chk296 (v2527 : BitVec 32) : Prop :=
  (∀ a, (k0_off480 v2527) a + S1x256.size a ≤ S2064x256.size a)
theorem k0_off480_inb : ∀ (v2527 : BitVec 32) (k0_hw296 : k0_chk296 v2527), ∀ a, (k0_off480 v2527) a + S1x256.size a ≤ S2064x256.size a := fun v2527 k0_hw296 => k0_hw296

def k0_off481 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2538 : Index := Scalar.indexCast v2481
  let c4_1283 : Index := 4#32
  ![v2538.toNat, 4]
def k0_off482 (v2539 : BitVec 32) : Fin 2 → Nat :=
  let v2542 : Index := Scalar.indexCast v2539
  let c0_1285 : Index := 0#32
  ![v2542.toNat, 0]

def k0_chk297 (v2539 : BitVec 32) : Prop :=
  (∀ a, (k0_off482 v2539) a + S1x256.size a ≤ S2064x256.size a)
theorem k0_off482_inb : ∀ (v2539 : BitVec 32) (k0_hw297 : k0_chk297 v2539), ∀ a, (k0_off482 v2539) a + S1x256.size a ≤ S2064x256.size a := fun v2539 k0_hw297 => k0_hw297

def k0_off483 (v2541 : BitVec 32) : Fin 2 → Nat :=
  let v2547 : Index := Scalar.indexCast v2541
  let c0_1287 : Index := 0#32
  ![v2547.toNat, 0]

def k0_chk298 (v2541 : BitVec 32) : Prop :=
  (∀ a, (k0_off483 v2541) a + S1x256.size a ≤ S2064x256.size a)
theorem k0_off483_inb : ∀ (v2541 : BitVec 32) (k0_hw298 : k0_chk298 v2541), ∀ a, (k0_off483 v2541) a + S1x256.size a ≤ S2064x256.size a := fun v2541 k0_hw298 => k0_hw298

def k0_off484 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2552 : Index := Scalar.indexCast v2481
  let c5_1290 : Index := 5#32
  ![v2552.toNat, 5]
def k0_off485 (v2553 : BitVec 32) : Fin 2 → Nat :=
  let v2556 : Index := Scalar.indexCast v2553
  let c0_1292 : Index := 0#32
  ![v2556.toNat, 0]

def k0_chk299 (v2553 : BitVec 32) : Prop :=
  (∀ a, (k0_off485 v2553) a + S1x256.size a ≤ S2064x256.size a)
theorem k0_off485_inb : ∀ (v2553 : BitVec 32) (k0_hw299 : k0_chk299 v2553), ∀ a, (k0_off485 v2553) a + S1x256.size a ≤ S2064x256.size a := fun v2553 k0_hw299 => k0_hw299

def k0_off486 (v2555 : BitVec 32) : Fin 2 → Nat :=
  let v2561 : Index := Scalar.indexCast v2555
  let c0_1294 : Index := 0#32
  ![v2561.toNat, 0]

def k0_chk300 (v2555 : BitVec 32) : Prop :=
  (∀ a, (k0_off486 v2555) a + S1x256.size a ≤ S2064x256.size a)
theorem k0_off486_inb : ∀ (v2555 : BitVec 32) (k0_hw300 : k0_chk300 v2555), ∀ a, (k0_off486 v2555) a + S1x256.size a ≤ S2064x256.size a := fun v2555 k0_hw300 => k0_hw300

def k0_off487 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2566 : Index := Scalar.indexCast v2481
  let c6_1297 : Index := 6#32
  ![v2566.toNat, 6]
def k0_off488 (v2567 : BitVec 32) : Fin 2 → Nat :=
  let v2570 : Index := Scalar.indexCast v2567
  let c0_1299 : Index := 0#32
  ![v2570.toNat, 0]

def k0_chk301 (v2567 : BitVec 32) : Prop :=
  (∀ a, (k0_off488 v2567) a + S1x256.size a ≤ S2064x256.size a)
theorem k0_off488_inb : ∀ (v2567 : BitVec 32) (k0_hw301 : k0_chk301 v2567), ∀ a, (k0_off488 v2567) a + S1x256.size a ≤ S2064x256.size a := fun v2567 k0_hw301 => k0_hw301

def k0_off489 (v2569 : BitVec 32) : Fin 2 → Nat :=
  let v2575 : Index := Scalar.indexCast v2569
  let c0_1301 : Index := 0#32
  ![v2575.toNat, 0]

def k0_chk302 (v2569 : BitVec 32) : Prop :=
  (∀ a, (k0_off489 v2569) a + S1x256.size a ≤ S2064x256.size a)
theorem k0_off489_inb : ∀ (v2569 : BitVec 32) (k0_hw302 : k0_chk302 v2569), ∀ a, (k0_off489 v2569) a + S1x256.size a ≤ S2064x256.size a := fun v2569 k0_hw302 => k0_hw302

def k0_off490 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2580 : Index := Scalar.indexCast v2481
  let c7_1304 : Index := 7#32
  ![v2580.toNat, 7]
def k0_off491 (v2581 : BitVec 32) : Fin 2 → Nat :=
  let v2584 : Index := Scalar.indexCast v2581
  let c0_1306 : Index := 0#32
  ![v2584.toNat, 0]

def k0_chk303 (v2581 : BitVec 32) : Prop :=
  (∀ a, (k0_off491 v2581) a + S1x256.size a ≤ S2064x256.size a)
theorem k0_off491_inb : ∀ (v2581 : BitVec 32) (k0_hw303 : k0_chk303 v2581), ∀ a, (k0_off491 v2581) a + S1x256.size a ≤ S2064x256.size a := fun v2581 k0_hw303 => k0_hw303

def k0_off492 (v2583 : BitVec 32) : Fin 2 → Nat :=
  let v2589 : Index := Scalar.indexCast v2583
  let c0_1308 : Index := 0#32
  ![v2589.toNat, 0]

def k0_chk304 (v2583 : BitVec 32) : Prop :=
  (∀ a, (k0_off492 v2583) a + S1x256.size a ≤ S2064x256.size a)
theorem k0_off492_inb : ∀ (v2583 : BitVec 32) (k0_hw304 : k0_chk304 v2583), ∀ a, (k0_off492 v2583) a + S1x256.size a ≤ S2064x256.size a := fun v2583 k0_hw304 => k0_hw304

def k0_off493 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2594 : Index := Scalar.indexCast v2481
  let c8_1311 : Index := 8#32
  ![v2594.toNat, 8]
def k0_off494 (v2595 : BitVec 32) : Fin 2 → Nat :=
  let v2598 : Index := Scalar.indexCast v2595
  let c0_1313 : Index := 0#32
  ![v2598.toNat, 0]

def k0_chk305 (v2595 : BitVec 32) : Prop :=
  (∀ a, (k0_off494 v2595) a + S1x256.size a ≤ S2064x256.size a)
theorem k0_off494_inb : ∀ (v2595 : BitVec 32) (k0_hw305 : k0_chk305 v2595), ∀ a, (k0_off494 v2595) a + S1x256.size a ≤ S2064x256.size a := fun v2595 k0_hw305 => k0_hw305

def k0_off495 (v2597 : BitVec 32) : Fin 2 → Nat :=
  let v2603 : Index := Scalar.indexCast v2597
  let c0_1315 : Index := 0#32
  ![v2603.toNat, 0]

def k0_chk306 (v2597 : BitVec 32) : Prop :=
  (∀ a, (k0_off495 v2597) a + S1x256.size a ≤ S2064x256.size a)
theorem k0_off495_inb : ∀ (v2597 : BitVec 32) (k0_hw306 : k0_chk306 v2597), ∀ a, (k0_off495 v2597) a + S1x256.size a ≤ S2064x256.size a := fun v2597 k0_hw306 => k0_hw306

def k0_off496 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2608 : Index := Scalar.indexCast v2481
  let c9_1318 : Index := 9#32
  ![v2608.toNat, 9]
def k0_off497 (v2609 : BitVec 32) : Fin 2 → Nat :=
  let v2612 : Index := Scalar.indexCast v2609
  let c0_1320 : Index := 0#32
  ![v2612.toNat, 0]

def k0_chk307 (v2609 : BitVec 32) : Prop :=
  (∀ a, (k0_off497 v2609) a + S1x256.size a ≤ S2064x256.size a)
theorem k0_off497_inb : ∀ (v2609 : BitVec 32) (k0_hw307 : k0_chk307 v2609), ∀ a, (k0_off497 v2609) a + S1x256.size a ≤ S2064x256.size a := fun v2609 k0_hw307 => k0_hw307

def k0_off498 (v2611 : BitVec 32) : Fin 2 → Nat :=
  let v2617 : Index := Scalar.indexCast v2611
  let c0_1322 : Index := 0#32
  ![v2617.toNat, 0]

def k0_chk308 (v2611 : BitVec 32) : Prop :=
  (∀ a, (k0_off498 v2611) a + S1x256.size a ≤ S2064x256.size a)
theorem k0_off498_inb : ∀ (v2611 : BitVec 32) (k0_hw308 : k0_chk308 v2611), ∀ a, (k0_off498 v2611) a + S1x256.size a ≤ S2064x256.size a := fun v2611 k0_hw308 => k0_hw308

def k0_off499 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2622 : Index := Scalar.indexCast v2481
  let c10_1325 : Index := 10#32
  ![v2622.toNat, 10]
def k0_off500 (v2623 : BitVec 32) : Fin 2 → Nat :=
  let v2626 : Index := Scalar.indexCast v2623
  let c0_1327 : Index := 0#32
  ![v2626.toNat, 0]

def k0_chk309 (v2623 : BitVec 32) : Prop :=
  (∀ a, (k0_off500 v2623) a + S1x256.size a ≤ S2064x256.size a)
theorem k0_off500_inb : ∀ (v2623 : BitVec 32) (k0_hw309 : k0_chk309 v2623), ∀ a, (k0_off500 v2623) a + S1x256.size a ≤ S2064x256.size a := fun v2623 k0_hw309 => k0_hw309

def k0_off501 (v2625 : BitVec 32) : Fin 2 → Nat :=
  let v2631 : Index := Scalar.indexCast v2625
  let c0_1329 : Index := 0#32
  ![v2631.toNat, 0]

def k0_chk310 (v2625 : BitVec 32) : Prop :=
  (∀ a, (k0_off501 v2625) a + S1x256.size a ≤ S2064x256.size a)
theorem k0_off501_inb : ∀ (v2625 : BitVec 32) (k0_hw310 : k0_chk310 v2625), ∀ a, (k0_off501 v2625) a + S1x256.size a ≤ S2064x256.size a := fun v2625 k0_hw310 => k0_hw310

def k0_off502 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2636 : Index := Scalar.indexCast v2481
  let c11_1332 : Index := 11#32
  ![v2636.toNat, 11]
def k0_off503 (v2637 : BitVec 32) : Fin 2 → Nat :=
  let v2640 : Index := Scalar.indexCast v2637
  let c0_1334 : Index := 0#32
  ![v2640.toNat, 0]

def k0_chk311 (v2637 : BitVec 32) : Prop :=
  (∀ a, (k0_off503 v2637) a + S1x256.size a ≤ S2064x256.size a)
theorem k0_off503_inb : ∀ (v2637 : BitVec 32) (k0_hw311 : k0_chk311 v2637), ∀ a, (k0_off503 v2637) a + S1x256.size a ≤ S2064x256.size a := fun v2637 k0_hw311 => k0_hw311

def k0_off504 (v2639 : BitVec 32) : Fin 2 → Nat :=
  let v2645 : Index := Scalar.indexCast v2639
  let c0_1336 : Index := 0#32
  ![v2645.toNat, 0]

def k0_chk312 (v2639 : BitVec 32) : Prop :=
  (∀ a, (k0_off504 v2639) a + S1x256.size a ≤ S2064x256.size a)
theorem k0_off504_inb : ∀ (v2639 : BitVec 32) (k0_hw312 : k0_chk312 v2639), ∀ a, (k0_off504 v2639) a + S1x256.size a ≤ S2064x256.size a := fun v2639 k0_hw312 => k0_hw312

def k0_off505 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2650 : Index := Scalar.indexCast v2481
  let c12_1339 : Index := 12#32
  ![v2650.toNat, 12]
def k0_off506 (v2651 : BitVec 32) : Fin 2 → Nat :=
  let v2654 : Index := Scalar.indexCast v2651
  let c0_1341 : Index := 0#32
  ![v2654.toNat, 0]

def k0_chk313 (v2651 : BitVec 32) : Prop :=
  (∀ a, (k0_off506 v2651) a + S1x256.size a ≤ S2064x256.size a)
theorem k0_off506_inb : ∀ (v2651 : BitVec 32) (k0_hw313 : k0_chk313 v2651), ∀ a, (k0_off506 v2651) a + S1x256.size a ≤ S2064x256.size a := fun v2651 k0_hw313 => k0_hw313

def k0_off507 (v2653 : BitVec 32) : Fin 2 → Nat :=
  let v2659 : Index := Scalar.indexCast v2653
  let c0_1343 : Index := 0#32
  ![v2659.toNat, 0]

def k0_chk314 (v2653 : BitVec 32) : Prop :=
  (∀ a, (k0_off507 v2653) a + S1x256.size a ≤ S2064x256.size a)
theorem k0_off507_inb : ∀ (v2653 : BitVec 32) (k0_hw314 : k0_chk314 v2653), ∀ a, (k0_off507 v2653) a + S1x256.size a ≤ S2064x256.size a := fun v2653 k0_hw314 => k0_hw314

def k0_off508 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2664 : Index := Scalar.indexCast v2481
  let c13_1346 : Index := 13#32
  ![v2664.toNat, 13]
def k0_off509 (v2665 : BitVec 32) : Fin 2 → Nat :=
  let v2668 : Index := Scalar.indexCast v2665
  let c0_1348 : Index := 0#32
  ![v2668.toNat, 0]

def k0_chk315 (v2665 : BitVec 32) : Prop :=
  (∀ a, (k0_off509 v2665) a + S1x256.size a ≤ S2064x256.size a)
theorem k0_off509_inb : ∀ (v2665 : BitVec 32) (k0_hw315 : k0_chk315 v2665), ∀ a, (k0_off509 v2665) a + S1x256.size a ≤ S2064x256.size a := fun v2665 k0_hw315 => k0_hw315

def k0_off510 (v2667 : BitVec 32) : Fin 2 → Nat :=
  let v2673 : Index := Scalar.indexCast v2667
  let c0_1350 : Index := 0#32
  ![v2673.toNat, 0]

def k0_chk316 (v2667 : BitVec 32) : Prop :=
  (∀ a, (k0_off510 v2667) a + S1x256.size a ≤ S2064x256.size a)
theorem k0_off510_inb : ∀ (v2667 : BitVec 32) (k0_hw316 : k0_chk316 v2667), ∀ a, (k0_off510 v2667) a + S1x256.size a ≤ S2064x256.size a := fun v2667 k0_hw316 => k0_hw316

def k0_off511 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2678 : Index := Scalar.indexCast v2481
  let c14_1353 : Index := 14#32
  ![v2678.toNat, 14]
def k0_off512 (v2679 : BitVec 32) : Fin 2 → Nat :=
  let v2682 : Index := Scalar.indexCast v2679
  let c0_1355 : Index := 0#32
  ![v2682.toNat, 0]

def k0_chk317 (v2679 : BitVec 32) : Prop :=
  (∀ a, (k0_off512 v2679) a + S1x256.size a ≤ S2064x256.size a)
theorem k0_off512_inb : ∀ (v2679 : BitVec 32) (k0_hw317 : k0_chk317 v2679), ∀ a, (k0_off512 v2679) a + S1x256.size a ≤ S2064x256.size a := fun v2679 k0_hw317 => k0_hw317

def k0_off513 (v2681 : BitVec 32) : Fin 2 → Nat :=
  let v2687 : Index := Scalar.indexCast v2681
  let c0_1357 : Index := 0#32
  ![v2687.toNat, 0]

def k0_chk318 (v2681 : BitVec 32) : Prop :=
  (∀ a, (k0_off513 v2681) a + S1x256.size a ≤ S2064x256.size a)
theorem k0_off513_inb : ∀ (v2681 : BitVec 32) (k0_hw318 : k0_chk318 v2681), ∀ a, (k0_off513 v2681) a + S1x256.size a ≤ S2064x256.size a := fun v2681 k0_hw318 => k0_hw318

def k0_off514 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2692 : Index := Scalar.indexCast v2481
  let c15_1360 : Index := 15#32
  ![v2692.toNat, 15]
def k0_off515 (v2693 : BitVec 32) : Fin 2 → Nat :=
  let v2696 : Index := Scalar.indexCast v2693
  let c0_1362 : Index := 0#32
  ![v2696.toNat, 0]

def k0_chk319 (v2693 : BitVec 32) : Prop :=
  (∀ a, (k0_off515 v2693) a + S1x256.size a ≤ S2064x256.size a)
theorem k0_off515_inb : ∀ (v2693 : BitVec 32) (k0_hw319 : k0_chk319 v2693), ∀ a, (k0_off515 v2693) a + S1x256.size a ≤ S2064x256.size a := fun v2693 k0_hw319 => k0_hw319

def k0_off516 (v2695 : BitVec 32) : Fin 2 → Nat :=
  let v2701 : Index := Scalar.indexCast v2695
  let c0_1364 : Index := 0#32
  ![v2701.toNat, 0]

def k0_chk320 (v2695 : BitVec 32) : Prop :=
  (∀ a, (k0_off516 v2695) a + S1x256.size a ≤ S2064x256.size a)
theorem k0_off516_inb : ∀ (v2695 : BitVec 32) (k0_hw320 : k0_chk320 v2695), ∀ a, (k0_off516 v2695) a + S1x256.size a ≤ S2064x256.size a := fun v2695 k0_hw320 => k0_hw320

def k0_off517 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let c16_i32_1369 : BitVec 32 := 16#32
  let v2709 : BitVec 32 := Scalar.muli v2481 c16_i32_1369
  let v2710 : Index := Scalar.indexCast v2709
  let c0_1370 : Index := 0#32
  ![v2710.toNat, 0]
def k0_off518 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let c16_i32_1378 : BitVec 32 := 16#32
  let v2729 : BitVec 32 := Scalar.muli v2481 c16_i32_1378
  let v2730 : Index := Scalar.indexCast v2729
  let c0_1379 : Index := 0#32
  ![v2730.toNat, 0]
def k0_off519 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let c16_i32_1385 : BitVec 32 := 16#32
  let v2742 : BitVec 32 := Scalar.muli v2481 c16_i32_1385
  let v2743 : Index := Scalar.indexCast v2742
  let c0_1386 : Index := 0#32
  ![v2743.toNat, 0]
def k0_off520 (k0_t1 : Fin k0_t1_loop.trips) : Fin 3 → Nat :=
  let c0_1387 : Index := 0#32
  let c0_i32 : BitVec 32 := 0#32
  let c1_i32 : BitVec 32 := 1#32
  let arg19 : BitVec 32 := Scf.iv c0_i32 c1_i32 k0_t1
  let c16_i32_1254 : BitVec 32 := 16#32
  let v2480 : BitVec 32 := Scalar.muli arg19 c16_i32_1254
  let c9_i32 : BitVec 32 := 9#32
  let v2481 : BitVec 32 := Scalar.addi v2480 c9_i32
  let v2748 : Index := Scalar.indexCast v2481
  let c0_1388 : Index := 0#32
  ![0, v2748.toNat, 0]
def k0_off521 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2752 : Index := Scalar.indexCast v2751
  let c0_1390 : Index := 0#32
  ![v2752.toNat, 0]
def k0_off522 (v2753 : BitVec 32) : Fin 2 → Nat :=
  let v2756 : Index := Scalar.indexCast v2753
  let c0_1392 : Index := 0#32
  ![v2756.toNat, 0]

def k0_chk321 (v2753 : BitVec 32) : Prop :=
  (∀ a, (k0_off522 v2753) a + S1x256.size a ≤ S2064x256.size a)
theorem k0_off522_inb : ∀ (v2753 : BitVec 32) (k0_hw321 : k0_chk321 v2753), ∀ a, (k0_off522 v2753) a + S1x256.size a ≤ S2064x256.size a := fun v2753 k0_hw321 => k0_hw321

def k0_off523 (v2755 : BitVec 32) : Fin 2 → Nat :=
  let v2761 : Index := Scalar.indexCast v2755
  let c0_1394 : Index := 0#32
  ![v2761.toNat, 0]

def k0_chk322 (v2755 : BitVec 32) : Prop :=
  (∀ a, (k0_off523 v2755) a + S1x256.size a ≤ S2064x256.size a)
theorem k0_off523_inb : ∀ (v2755 : BitVec 32) (k0_hw322 : k0_chk322 v2755), ∀ a, (k0_off523 v2755) a + S1x256.size a ≤ S2064x256.size a := fun v2755 k0_hw322 => k0_hw322

def k0_off524 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2766 : Index := Scalar.indexCast v2751
  let c1_1397 : Index := 1#32
  ![v2766.toNat, 1]
def k0_off525 (v2767 : BitVec 32) : Fin 2 → Nat :=
  let v2770 : Index := Scalar.indexCast v2767
  let c0_1399 : Index := 0#32
  ![v2770.toNat, 0]

def k0_chk323 (v2767 : BitVec 32) : Prop :=
  (∀ a, (k0_off525 v2767) a + S1x256.size a ≤ S2064x256.size a)
theorem k0_off525_inb : ∀ (v2767 : BitVec 32) (k0_hw323 : k0_chk323 v2767), ∀ a, (k0_off525 v2767) a + S1x256.size a ≤ S2064x256.size a := fun v2767 k0_hw323 => k0_hw323

def k0_off526 (v2769 : BitVec 32) : Fin 2 → Nat :=
  let v2775 : Index := Scalar.indexCast v2769
  let c0_1401 : Index := 0#32
  ![v2775.toNat, 0]

def k0_chk324 (v2769 : BitVec 32) : Prop :=
  (∀ a, (k0_off526 v2769) a + S1x256.size a ≤ S2064x256.size a)
theorem k0_off526_inb : ∀ (v2769 : BitVec 32) (k0_hw324 : k0_chk324 v2769), ∀ a, (k0_off526 v2769) a + S1x256.size a ≤ S2064x256.size a := fun v2769 k0_hw324 => k0_hw324

def k0_off527 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2780 : Index := Scalar.indexCast v2751
  let c2_1404 : Index := 2#32
  ![v2780.toNat, 2]
def k0_off528 (v2781 : BitVec 32) : Fin 2 → Nat :=
  let v2784 : Index := Scalar.indexCast v2781
  let c0_1406 : Index := 0#32
  ![v2784.toNat, 0]

def k0_chk325 (v2781 : BitVec 32) : Prop :=
  (∀ a, (k0_off528 v2781) a + S1x256.size a ≤ S2064x256.size a)
theorem k0_off528_inb : ∀ (v2781 : BitVec 32) (k0_hw325 : k0_chk325 v2781), ∀ a, (k0_off528 v2781) a + S1x256.size a ≤ S2064x256.size a := fun v2781 k0_hw325 => k0_hw325

def k0_off529 (v2783 : BitVec 32) : Fin 2 → Nat :=
  let v2789 : Index := Scalar.indexCast v2783
  let c0_1408 : Index := 0#32
  ![v2789.toNat, 0]

def k0_chk326 (v2783 : BitVec 32) : Prop :=
  (∀ a, (k0_off529 v2783) a + S1x256.size a ≤ S2064x256.size a)
theorem k0_off529_inb : ∀ (v2783 : BitVec 32) (k0_hw326 : k0_chk326 v2783), ∀ a, (k0_off529 v2783) a + S1x256.size a ≤ S2064x256.size a := fun v2783 k0_hw326 => k0_hw326

def k0_off530 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2794 : Index := Scalar.indexCast v2751
  let c3_1411 : Index := 3#32
  ![v2794.toNat, 3]
def k0_off531 (v2795 : BitVec 32) : Fin 2 → Nat :=
  let v2798 : Index := Scalar.indexCast v2795
  let c0_1413 : Index := 0#32
  ![v2798.toNat, 0]

def k0_chk327 (v2795 : BitVec 32) : Prop :=
  (∀ a, (k0_off531 v2795) a + S1x256.size a ≤ S2064x256.size a)
theorem k0_off531_inb : ∀ (v2795 : BitVec 32) (k0_hw327 : k0_chk327 v2795), ∀ a, (k0_off531 v2795) a + S1x256.size a ≤ S2064x256.size a := fun v2795 k0_hw327 => k0_hw327

def k0_off532 (v2797 : BitVec 32) : Fin 2 → Nat :=
  let v2803 : Index := Scalar.indexCast v2797
  let c0_1415 : Index := 0#32
  ![v2803.toNat, 0]

def k0_chk328 (v2797 : BitVec 32) : Prop :=
  (∀ a, (k0_off532 v2797) a + S1x256.size a ≤ S2064x256.size a)
theorem k0_off532_inb : ∀ (v2797 : BitVec 32) (k0_hw328 : k0_chk328 v2797), ∀ a, (k0_off532 v2797) a + S1x256.size a ≤ S2064x256.size a := fun v2797 k0_hw328 => k0_hw328

def k0_off533 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2808 : Index := Scalar.indexCast v2751
  let c4_1418 : Index := 4#32
  ![v2808.toNat, 4]
def k0_off534 (v2809 : BitVec 32) : Fin 2 → Nat :=
  let v2812 : Index := Scalar.indexCast v2809
  let c0_1420 : Index := 0#32
  ![v2812.toNat, 0]

def k0_chk329 (v2809 : BitVec 32) : Prop :=
  (∀ a, (k0_off534 v2809) a + S1x256.size a ≤ S2064x256.size a)
theorem k0_off534_inb : ∀ (v2809 : BitVec 32) (k0_hw329 : k0_chk329 v2809), ∀ a, (k0_off534 v2809) a + S1x256.size a ≤ S2064x256.size a := fun v2809 k0_hw329 => k0_hw329

def k0_off535 (v2811 : BitVec 32) : Fin 2 → Nat :=
  let v2817 : Index := Scalar.indexCast v2811
  let c0_1422 : Index := 0#32
  ![v2817.toNat, 0]

def k0_chk330 (v2811 : BitVec 32) : Prop :=
  (∀ a, (k0_off535 v2811) a + S1x256.size a ≤ S2064x256.size a)
theorem k0_off535_inb : ∀ (v2811 : BitVec 32) (k0_hw330 : k0_chk330 v2811), ∀ a, (k0_off535 v2811) a + S1x256.size a ≤ S2064x256.size a := fun v2811 k0_hw330 => k0_hw330

def k0_off536 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2822 : Index := Scalar.indexCast v2751
  let c5_1425 : Index := 5#32
  ![v2822.toNat, 5]
def k0_off537 (v2823 : BitVec 32) : Fin 2 → Nat :=
  let v2826 : Index := Scalar.indexCast v2823
  let c0_1427 : Index := 0#32
  ![v2826.toNat, 0]

def k0_chk331 (v2823 : BitVec 32) : Prop :=
  (∀ a, (k0_off537 v2823) a + S1x256.size a ≤ S2064x256.size a)
theorem k0_off537_inb : ∀ (v2823 : BitVec 32) (k0_hw331 : k0_chk331 v2823), ∀ a, (k0_off537 v2823) a + S1x256.size a ≤ S2064x256.size a := fun v2823 k0_hw331 => k0_hw331

def k0_off538 (v2825 : BitVec 32) : Fin 2 → Nat :=
  let v2831 : Index := Scalar.indexCast v2825
  let c0_1429 : Index := 0#32
  ![v2831.toNat, 0]

def k0_chk332 (v2825 : BitVec 32) : Prop :=
  (∀ a, (k0_off538 v2825) a + S1x256.size a ≤ S2064x256.size a)
theorem k0_off538_inb : ∀ (v2825 : BitVec 32) (k0_hw332 : k0_chk332 v2825), ∀ a, (k0_off538 v2825) a + S1x256.size a ≤ S2064x256.size a := fun v2825 k0_hw332 => k0_hw332

def k0_off539 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2836 : Index := Scalar.indexCast v2751
  let c6_1432 : Index := 6#32
  ![v2836.toNat, 6]
def k0_off540 (v2837 : BitVec 32) : Fin 2 → Nat :=
  let v2840 : Index := Scalar.indexCast v2837
  let c0_1434 : Index := 0#32
  ![v2840.toNat, 0]

def k0_chk333 (v2837 : BitVec 32) : Prop :=
  (∀ a, (k0_off540 v2837) a + S1x256.size a ≤ S2064x256.size a)
theorem k0_off540_inb : ∀ (v2837 : BitVec 32) (k0_hw333 : k0_chk333 v2837), ∀ a, (k0_off540 v2837) a + S1x256.size a ≤ S2064x256.size a := fun v2837 k0_hw333 => k0_hw333

def k0_off541 (v2839 : BitVec 32) : Fin 2 → Nat :=
  let v2845 : Index := Scalar.indexCast v2839
  let c0_1436 : Index := 0#32
  ![v2845.toNat, 0]

def k0_chk334 (v2839 : BitVec 32) : Prop :=
  (∀ a, (k0_off541 v2839) a + S1x256.size a ≤ S2064x256.size a)
theorem k0_off541_inb : ∀ (v2839 : BitVec 32) (k0_hw334 : k0_chk334 v2839), ∀ a, (k0_off541 v2839) a + S1x256.size a ≤ S2064x256.size a := fun v2839 k0_hw334 => k0_hw334

def k0_off542 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2850 : Index := Scalar.indexCast v2751
  let c7_1439 : Index := 7#32
  ![v2850.toNat, 7]
def k0_off543 (v2851 : BitVec 32) : Fin 2 → Nat :=
  let v2854 : Index := Scalar.indexCast v2851
  let c0_1441 : Index := 0#32
  ![v2854.toNat, 0]

def k0_chk335 (v2851 : BitVec 32) : Prop :=
  (∀ a, (k0_off543 v2851) a + S1x256.size a ≤ S2064x256.size a)
theorem k0_off543_inb : ∀ (v2851 : BitVec 32) (k0_hw335 : k0_chk335 v2851), ∀ a, (k0_off543 v2851) a + S1x256.size a ≤ S2064x256.size a := fun v2851 k0_hw335 => k0_hw335

def k0_off544 (v2853 : BitVec 32) : Fin 2 → Nat :=
  let v2859 : Index := Scalar.indexCast v2853
  let c0_1443 : Index := 0#32
  ![v2859.toNat, 0]

def k0_chk336 (v2853 : BitVec 32) : Prop :=
  (∀ a, (k0_off544 v2853) a + S1x256.size a ≤ S2064x256.size a)
theorem k0_off544_inb : ∀ (v2853 : BitVec 32) (k0_hw336 : k0_chk336 v2853), ∀ a, (k0_off544 v2853) a + S1x256.size a ≤ S2064x256.size a := fun v2853 k0_hw336 => k0_hw336

def k0_off545 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2864 : Index := Scalar.indexCast v2751
  let c8_1446 : Index := 8#32
  ![v2864.toNat, 8]
def k0_off546 (v2865 : BitVec 32) : Fin 2 → Nat :=
  let v2868 : Index := Scalar.indexCast v2865
  let c0_1448 : Index := 0#32
  ![v2868.toNat, 0]

def k0_chk337 (v2865 : BitVec 32) : Prop :=
  (∀ a, (k0_off546 v2865) a + S1x256.size a ≤ S2064x256.size a)
theorem k0_off546_inb : ∀ (v2865 : BitVec 32) (k0_hw337 : k0_chk337 v2865), ∀ a, (k0_off546 v2865) a + S1x256.size a ≤ S2064x256.size a := fun v2865 k0_hw337 => k0_hw337

def k0_off547 (v2867 : BitVec 32) : Fin 2 → Nat :=
  let v2873 : Index := Scalar.indexCast v2867
  let c0_1450 : Index := 0#32
  ![v2873.toNat, 0]

def k0_chk338 (v2867 : BitVec 32) : Prop :=
  (∀ a, (k0_off547 v2867) a + S1x256.size a ≤ S2064x256.size a)
theorem k0_off547_inb : ∀ (v2867 : BitVec 32) (k0_hw338 : k0_chk338 v2867), ∀ a, (k0_off547 v2867) a + S1x256.size a ≤ S2064x256.size a := fun v2867 k0_hw338 => k0_hw338

def k0_off548 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2878 : Index := Scalar.indexCast v2751
  let c9_1453 : Index := 9#32
  ![v2878.toNat, 9]
def k0_off549 (v2879 : BitVec 32) : Fin 2 → Nat :=
  let v2882 : Index := Scalar.indexCast v2879
  let c0_1455 : Index := 0#32
  ![v2882.toNat, 0]

def k0_chk339 (v2879 : BitVec 32) : Prop :=
  (∀ a, (k0_off549 v2879) a + S1x256.size a ≤ S2064x256.size a)
theorem k0_off549_inb : ∀ (v2879 : BitVec 32) (k0_hw339 : k0_chk339 v2879), ∀ a, (k0_off549 v2879) a + S1x256.size a ≤ S2064x256.size a := fun v2879 k0_hw339 => k0_hw339

def k0_off550 (v2881 : BitVec 32) : Fin 2 → Nat :=
  let v2887 : Index := Scalar.indexCast v2881
  let c0_1457 : Index := 0#32
  ![v2887.toNat, 0]

def k0_chk340 (v2881 : BitVec 32) : Prop :=
  (∀ a, (k0_off550 v2881) a + S1x256.size a ≤ S2064x256.size a)
theorem k0_off550_inb : ∀ (v2881 : BitVec 32) (k0_hw340 : k0_chk340 v2881), ∀ a, (k0_off550 v2881) a + S1x256.size a ≤ S2064x256.size a := fun v2881 k0_hw340 => k0_hw340

def k0_off551 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2892 : Index := Scalar.indexCast v2751
  let c10_1460 : Index := 10#32
  ![v2892.toNat, 10]
def k0_off552 (v2893 : BitVec 32) : Fin 2 → Nat :=
  let v2896 : Index := Scalar.indexCast v2893
  let c0_1462 : Index := 0#32
  ![v2896.toNat, 0]

def k0_chk341 (v2893 : BitVec 32) : Prop :=
  (∀ a, (k0_off552 v2893) a + S1x256.size a ≤ S2064x256.size a)
theorem k0_off552_inb : ∀ (v2893 : BitVec 32) (k0_hw341 : k0_chk341 v2893), ∀ a, (k0_off552 v2893) a + S1x256.size a ≤ S2064x256.size a := fun v2893 k0_hw341 => k0_hw341

def k0_off553 (v2895 : BitVec 32) : Fin 2 → Nat :=
  let v2901 : Index := Scalar.indexCast v2895
  let c0_1464 : Index := 0#32
  ![v2901.toNat, 0]

def k0_chk342 (v2895 : BitVec 32) : Prop :=
  (∀ a, (k0_off553 v2895) a + S1x256.size a ≤ S2064x256.size a)
theorem k0_off553_inb : ∀ (v2895 : BitVec 32) (k0_hw342 : k0_chk342 v2895), ∀ a, (k0_off553 v2895) a + S1x256.size a ≤ S2064x256.size a := fun v2895 k0_hw342 => k0_hw342

def k0_off554 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2906 : Index := Scalar.indexCast v2751
  let c11_1467 : Index := 11#32
  ![v2906.toNat, 11]
def k0_off555 (v2907 : BitVec 32) : Fin 2 → Nat :=
  let v2910 : Index := Scalar.indexCast v2907
  let c0_1469 : Index := 0#32
  ![v2910.toNat, 0]

def k0_chk343 (v2907 : BitVec 32) : Prop :=
  (∀ a, (k0_off555 v2907) a + S1x256.size a ≤ S2064x256.size a)
theorem k0_off555_inb : ∀ (v2907 : BitVec 32) (k0_hw343 : k0_chk343 v2907), ∀ a, (k0_off555 v2907) a + S1x256.size a ≤ S2064x256.size a := fun v2907 k0_hw343 => k0_hw343

def k0_off556 (v2909 : BitVec 32) : Fin 2 → Nat :=
  let v2915 : Index := Scalar.indexCast v2909
  let c0_1471 : Index := 0#32
  ![v2915.toNat, 0]

def k0_chk344 (v2909 : BitVec 32) : Prop :=
  (∀ a, (k0_off556 v2909) a + S1x256.size a ≤ S2064x256.size a)
theorem k0_off556_inb : ∀ (v2909 : BitVec 32) (k0_hw344 : k0_chk344 v2909), ∀ a, (k0_off556 v2909) a + S1x256.size a ≤ S2064x256.size a := fun v2909 k0_hw344 => k0_hw344

def k0_off557 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2920 : Index := Scalar.indexCast v2751
  let c12_1474 : Index := 12#32
  ![v2920.toNat, 12]
def k0_off558 (v2921 : BitVec 32) : Fin 2 → Nat :=
  let v2924 : Index := Scalar.indexCast v2921
  let c0_1476 : Index := 0#32
  ![v2924.toNat, 0]

def k0_chk345 (v2921 : BitVec 32) : Prop :=
  (∀ a, (k0_off558 v2921) a + S1x256.size a ≤ S2064x256.size a)
theorem k0_off558_inb : ∀ (v2921 : BitVec 32) (k0_hw345 : k0_chk345 v2921), ∀ a, (k0_off558 v2921) a + S1x256.size a ≤ S2064x256.size a := fun v2921 k0_hw345 => k0_hw345

def k0_off559 (v2923 : BitVec 32) : Fin 2 → Nat :=
  let v2929 : Index := Scalar.indexCast v2923
  let c0_1478 : Index := 0#32
  ![v2929.toNat, 0]

def k0_chk346 (v2923 : BitVec 32) : Prop :=
  (∀ a, (k0_off559 v2923) a + S1x256.size a ≤ S2064x256.size a)
theorem k0_off559_inb : ∀ (v2923 : BitVec 32) (k0_hw346 : k0_chk346 v2923), ∀ a, (k0_off559 v2923) a + S1x256.size a ≤ S2064x256.size a := fun v2923 k0_hw346 => k0_hw346

def k0_off560 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2934 : Index := Scalar.indexCast v2751
  let c13_1481 : Index := 13#32
  ![v2934.toNat, 13]
def k0_off561 (v2935 : BitVec 32) : Fin 2 → Nat :=
  let v2938 : Index := Scalar.indexCast v2935
  let c0_1483 : Index := 0#32
  ![v2938.toNat, 0]

def k0_chk347 (v2935 : BitVec 32) : Prop :=
  (∀ a, (k0_off561 v2935) a + S1x256.size a ≤ S2064x256.size a)
theorem k0_off561_inb : ∀ (v2935 : BitVec 32) (k0_hw347 : k0_chk347 v2935), ∀ a, (k0_off561 v2935) a + S1x256.size a ≤ S2064x256.size a := fun v2935 k0_hw347 => k0_hw347

def k0_off562 (v2937 : BitVec 32) : Fin 2 → Nat :=
  let v2943 : Index := Scalar.indexCast v2937
  let c0_1485 : Index := 0#32
  ![v2943.toNat, 0]

def k0_chk348 (v2937 : BitVec 32) : Prop :=
  (∀ a, (k0_off562 v2937) a + S1x256.size a ≤ S2064x256.size a)
theorem k0_off562_inb : ∀ (v2937 : BitVec 32) (k0_hw348 : k0_chk348 v2937), ∀ a, (k0_off562 v2937) a + S1x256.size a ≤ S2064x256.size a := fun v2937 k0_hw348 => k0_hw348

def k0_off563 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2948 : Index := Scalar.indexCast v2751
  let c14_1488 : Index := 14#32
  ![v2948.toNat, 14]
def k0_off564 (v2949 : BitVec 32) : Fin 2 → Nat :=
  let v2952 : Index := Scalar.indexCast v2949
  let c0_1490 : Index := 0#32
  ![v2952.toNat, 0]

def k0_chk349 (v2949 : BitVec 32) : Prop :=
  (∀ a, (k0_off564 v2949) a + S1x256.size a ≤ S2064x256.size a)
theorem k0_off564_inb : ∀ (v2949 : BitVec 32) (k0_hw349 : k0_chk349 v2949), ∀ a, (k0_off564 v2949) a + S1x256.size a ≤ S2064x256.size a := fun v2949 k0_hw349 => k0_hw349

def k0_off565 (v2951 : BitVec 32) : Fin 2 → Nat :=
  let v2957 : Index := Scalar.indexCast v2951
  let c0_1492 : Index := 0#32
  ![v2957.toNat, 0]

def k0_chk350 (v2951 : BitVec 32) : Prop :=
  (∀ a, (k0_off565 v2951) a + S1x256.size a ≤ S2064x256.size a)
theorem k0_off565_inb : ∀ (v2951 : BitVec 32) (k0_hw350 : k0_chk350 v2951), ∀ a, (k0_off565 v2951) a + S1x256.size a ≤ S2064x256.size a := fun v2951 k0_hw350 => k0_hw350

def k0_off566 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v2962 : Index := Scalar.indexCast v2751
  let c15_1495 : Index := 15#32
  ![v2962.toNat, 15]
def k0_off567 (v2963 : BitVec 32) : Fin 2 → Nat :=
  let v2966 : Index := Scalar.indexCast v2963
  let c0_1497 : Index := 0#32
  ![v2966.toNat, 0]

def k0_chk351 (v2963 : BitVec 32) : Prop :=
  (∀ a, (k0_off567 v2963) a + S1x256.size a ≤ S2064x256.size a)
theorem k0_off567_inb : ∀ (v2963 : BitVec 32) (k0_hw351 : k0_chk351 v2963), ∀ a, (k0_off567 v2963) a + S1x256.size a ≤ S2064x256.size a := fun v2963 k0_hw351 => k0_hw351

def k0_off568 (v2965 : BitVec 32) : Fin 2 → Nat :=
  let v2971 : Index := Scalar.indexCast v2965
  let c0_1499 : Index := 0#32
  ![v2971.toNat, 0]

def k0_chk352 (v2965 : BitVec 32) : Prop :=
  (∀ a, (k0_off568 v2965) a + S1x256.size a ≤ S2064x256.size a)
theorem k0_off568_inb : ∀ (v2965 : BitVec 32) (k0_hw352 : k0_chk352 v2965), ∀ a, (k0_off568 v2965) a + S1x256.size a ≤ S2064x256.size a := fun v2965 k0_hw352 => k0_hw352

def k0_off569 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let c16_i32_1504 : BitVec 32 := 16#32
  let v2979 : BitVec 32 := Scalar.muli v2751 c16_i32_1504
  let v2980 : Index := Scalar.indexCast v2979
  let c0_1505 : Index := 0#32
  ![v2980.toNat, 0]
def k0_off570 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let c16_i32_1513 : BitVec 32 := 16#32
  let v2999 : BitVec 32 := Scalar.muli v2751 c16_i32_1513
  let v3000 : Index := Scalar.indexCast v2999
  let c0_1514 : Index := 0#32
  ![v3000.toNat, 0]
def k0_off571 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let c16_i32_1520 : BitVec 32 := 16#32
  let v3012 : BitVec 32 := Scalar.muli v2751 c16_i32_1520
  let v3013 : Index := Scalar.indexCast v3012
  let c0_1521 : Index := 0#32
  ![v3013.toNat, 0]
def k0_off572 (k0_t1 : Fin k0_t1_loop.trips) : Fin 3 → Nat :=
  let c0_1522 : Index := 0#32
  let c0_i32 : BitVec 32 := 0#32
  let c1_i32 : BitVec 32 := 1#32
  let arg19 : BitVec 32 := Scf.iv c0_i32 c1_i32 k0_t1
  let c16_i32_1389 : BitVec 32 := 16#32
  let v2750 : BitVec 32 := Scalar.muli arg19 c16_i32_1389
  let c10_i32 : BitVec 32 := 10#32
  let v2751 : BitVec 32 := Scalar.addi v2750 c10_i32
  let v3018 : Index := Scalar.indexCast v2751
  let c0_1523 : Index := 0#32
  ![0, v3018.toNat, 0]
def k0_off573 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3022 : Index := Scalar.indexCast v3021
  let c0_1525 : Index := 0#32
  ![v3022.toNat, 0]
def k0_off574 (v3023 : BitVec 32) : Fin 2 → Nat :=
  let v3026 : Index := Scalar.indexCast v3023
  let c0_1527 : Index := 0#32
  ![v3026.toNat, 0]

def k0_chk353 (v3023 : BitVec 32) : Prop :=
  (∀ a, (k0_off574 v3023) a + S1x256.size a ≤ S2064x256.size a)
theorem k0_off574_inb : ∀ (v3023 : BitVec 32) (k0_hw353 : k0_chk353 v3023), ∀ a, (k0_off574 v3023) a + S1x256.size a ≤ S2064x256.size a := fun v3023 k0_hw353 => k0_hw353

def k0_off575 (v3025 : BitVec 32) : Fin 2 → Nat :=
  let v3031 : Index := Scalar.indexCast v3025
  let c0_1529 : Index := 0#32
  ![v3031.toNat, 0]

def k0_chk354 (v3025 : BitVec 32) : Prop :=
  (∀ a, (k0_off575 v3025) a + S1x256.size a ≤ S2064x256.size a)
theorem k0_off575_inb : ∀ (v3025 : BitVec 32) (k0_hw354 : k0_chk354 v3025), ∀ a, (k0_off575 v3025) a + S1x256.size a ≤ S2064x256.size a := fun v3025 k0_hw354 => k0_hw354

def k0_off576 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3036 : Index := Scalar.indexCast v3021
  let c1_1532 : Index := 1#32
  ![v3036.toNat, 1]
def k0_off577 (v3037 : BitVec 32) : Fin 2 → Nat :=
  let v3040 : Index := Scalar.indexCast v3037
  let c0_1534 : Index := 0#32
  ![v3040.toNat, 0]

def k0_chk355 (v3037 : BitVec 32) : Prop :=
  (∀ a, (k0_off577 v3037) a + S1x256.size a ≤ S2064x256.size a)
theorem k0_off577_inb : ∀ (v3037 : BitVec 32) (k0_hw355 : k0_chk355 v3037), ∀ a, (k0_off577 v3037) a + S1x256.size a ≤ S2064x256.size a := fun v3037 k0_hw355 => k0_hw355

def k0_off578 (v3039 : BitVec 32) : Fin 2 → Nat :=
  let v3045 : Index := Scalar.indexCast v3039
  let c0_1536 : Index := 0#32
  ![v3045.toNat, 0]

def k0_chk356 (v3039 : BitVec 32) : Prop :=
  (∀ a, (k0_off578 v3039) a + S1x256.size a ≤ S2064x256.size a)
theorem k0_off578_inb : ∀ (v3039 : BitVec 32) (k0_hw356 : k0_chk356 v3039), ∀ a, (k0_off578 v3039) a + S1x256.size a ≤ S2064x256.size a := fun v3039 k0_hw356 => k0_hw356

def k0_off579 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3050 : Index := Scalar.indexCast v3021
  let c2_1539 : Index := 2#32
  ![v3050.toNat, 2]
def k0_off580 (v3051 : BitVec 32) : Fin 2 → Nat :=
  let v3054 : Index := Scalar.indexCast v3051
  let c0_1541 : Index := 0#32
  ![v3054.toNat, 0]

def k0_chk357 (v3051 : BitVec 32) : Prop :=
  (∀ a, (k0_off580 v3051) a + S1x256.size a ≤ S2064x256.size a)
theorem k0_off580_inb : ∀ (v3051 : BitVec 32) (k0_hw357 : k0_chk357 v3051), ∀ a, (k0_off580 v3051) a + S1x256.size a ≤ S2064x256.size a := fun v3051 k0_hw357 => k0_hw357

def k0_off581 (v3053 : BitVec 32) : Fin 2 → Nat :=
  let v3059 : Index := Scalar.indexCast v3053
  let c0_1543 : Index := 0#32
  ![v3059.toNat, 0]

def k0_chk358 (v3053 : BitVec 32) : Prop :=
  (∀ a, (k0_off581 v3053) a + S1x256.size a ≤ S2064x256.size a)
theorem k0_off581_inb : ∀ (v3053 : BitVec 32) (k0_hw358 : k0_chk358 v3053), ∀ a, (k0_off581 v3053) a + S1x256.size a ≤ S2064x256.size a := fun v3053 k0_hw358 => k0_hw358

def k0_off582 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3064 : Index := Scalar.indexCast v3021
  let c3_1546 : Index := 3#32
  ![v3064.toNat, 3]
def k0_off583 (v3065 : BitVec 32) : Fin 2 → Nat :=
  let v3068 : Index := Scalar.indexCast v3065
  let c0_1548 : Index := 0#32
  ![v3068.toNat, 0]

def k0_chk359 (v3065 : BitVec 32) : Prop :=
  (∀ a, (k0_off583 v3065) a + S1x256.size a ≤ S2064x256.size a)
theorem k0_off583_inb : ∀ (v3065 : BitVec 32) (k0_hw359 : k0_chk359 v3065), ∀ a, (k0_off583 v3065) a + S1x256.size a ≤ S2064x256.size a := fun v3065 k0_hw359 => k0_hw359

def k0_off584 (v3067 : BitVec 32) : Fin 2 → Nat :=
  let v3073 : Index := Scalar.indexCast v3067
  let c0_1550 : Index := 0#32
  ![v3073.toNat, 0]

def k0_chk360 (v3067 : BitVec 32) : Prop :=
  (∀ a, (k0_off584 v3067) a + S1x256.size a ≤ S2064x256.size a)
theorem k0_off584_inb : ∀ (v3067 : BitVec 32) (k0_hw360 : k0_chk360 v3067), ∀ a, (k0_off584 v3067) a + S1x256.size a ≤ S2064x256.size a := fun v3067 k0_hw360 => k0_hw360

def k0_off585 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3078 : Index := Scalar.indexCast v3021
  let c4_1553 : Index := 4#32
  ![v3078.toNat, 4]
def k0_off586 (v3079 : BitVec 32) : Fin 2 → Nat :=
  let v3082 : Index := Scalar.indexCast v3079
  let c0_1555 : Index := 0#32
  ![v3082.toNat, 0]

def k0_chk361 (v3079 : BitVec 32) : Prop :=
  (∀ a, (k0_off586 v3079) a + S1x256.size a ≤ S2064x256.size a)
theorem k0_off586_inb : ∀ (v3079 : BitVec 32) (k0_hw361 : k0_chk361 v3079), ∀ a, (k0_off586 v3079) a + S1x256.size a ≤ S2064x256.size a := fun v3079 k0_hw361 => k0_hw361

def k0_off587 (v3081 : BitVec 32) : Fin 2 → Nat :=
  let v3087 : Index := Scalar.indexCast v3081
  let c0_1557 : Index := 0#32
  ![v3087.toNat, 0]

def k0_chk362 (v3081 : BitVec 32) : Prop :=
  (∀ a, (k0_off587 v3081) a + S1x256.size a ≤ S2064x256.size a)
theorem k0_off587_inb : ∀ (v3081 : BitVec 32) (k0_hw362 : k0_chk362 v3081), ∀ a, (k0_off587 v3081) a + S1x256.size a ≤ S2064x256.size a := fun v3081 k0_hw362 => k0_hw362

def k0_off588 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3092 : Index := Scalar.indexCast v3021
  let c5_1560 : Index := 5#32
  ![v3092.toNat, 5]
def k0_off589 (v3093 : BitVec 32) : Fin 2 → Nat :=
  let v3096 : Index := Scalar.indexCast v3093
  let c0_1562 : Index := 0#32
  ![v3096.toNat, 0]

def k0_chk363 (v3093 : BitVec 32) : Prop :=
  (∀ a, (k0_off589 v3093) a + S1x256.size a ≤ S2064x256.size a)
theorem k0_off589_inb : ∀ (v3093 : BitVec 32) (k0_hw363 : k0_chk363 v3093), ∀ a, (k0_off589 v3093) a + S1x256.size a ≤ S2064x256.size a := fun v3093 k0_hw363 => k0_hw363

def k0_off590 (v3095 : BitVec 32) : Fin 2 → Nat :=
  let v3101 : Index := Scalar.indexCast v3095
  let c0_1564 : Index := 0#32
  ![v3101.toNat, 0]

def k0_chk364 (v3095 : BitVec 32) : Prop :=
  (∀ a, (k0_off590 v3095) a + S1x256.size a ≤ S2064x256.size a)
theorem k0_off590_inb : ∀ (v3095 : BitVec 32) (k0_hw364 : k0_chk364 v3095), ∀ a, (k0_off590 v3095) a + S1x256.size a ≤ S2064x256.size a := fun v3095 k0_hw364 => k0_hw364

def k0_off591 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3106 : Index := Scalar.indexCast v3021
  let c6_1567 : Index := 6#32
  ![v3106.toNat, 6]
def k0_off592 (v3107 : BitVec 32) : Fin 2 → Nat :=
  let v3110 : Index := Scalar.indexCast v3107
  let c0_1569 : Index := 0#32
  ![v3110.toNat, 0]

def k0_chk365 (v3107 : BitVec 32) : Prop :=
  (∀ a, (k0_off592 v3107) a + S1x256.size a ≤ S2064x256.size a)
theorem k0_off592_inb : ∀ (v3107 : BitVec 32) (k0_hw365 : k0_chk365 v3107), ∀ a, (k0_off592 v3107) a + S1x256.size a ≤ S2064x256.size a := fun v3107 k0_hw365 => k0_hw365

def k0_off593 (v3109 : BitVec 32) : Fin 2 → Nat :=
  let v3115 : Index := Scalar.indexCast v3109
  let c0_1571 : Index := 0#32
  ![v3115.toNat, 0]

def k0_chk366 (v3109 : BitVec 32) : Prop :=
  (∀ a, (k0_off593 v3109) a + S1x256.size a ≤ S2064x256.size a)
theorem k0_off593_inb : ∀ (v3109 : BitVec 32) (k0_hw366 : k0_chk366 v3109), ∀ a, (k0_off593 v3109) a + S1x256.size a ≤ S2064x256.size a := fun v3109 k0_hw366 => k0_hw366

def k0_off594 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3120 : Index := Scalar.indexCast v3021
  let c7_1574 : Index := 7#32
  ![v3120.toNat, 7]
def k0_off595 (v3121 : BitVec 32) : Fin 2 → Nat :=
  let v3124 : Index := Scalar.indexCast v3121
  let c0_1576 : Index := 0#32
  ![v3124.toNat, 0]

def k0_chk367 (v3121 : BitVec 32) : Prop :=
  (∀ a, (k0_off595 v3121) a + S1x256.size a ≤ S2064x256.size a)
theorem k0_off595_inb : ∀ (v3121 : BitVec 32) (k0_hw367 : k0_chk367 v3121), ∀ a, (k0_off595 v3121) a + S1x256.size a ≤ S2064x256.size a := fun v3121 k0_hw367 => k0_hw367

def k0_off596 (v3123 : BitVec 32) : Fin 2 → Nat :=
  let v3129 : Index := Scalar.indexCast v3123
  let c0_1578 : Index := 0#32
  ![v3129.toNat, 0]

def k0_chk368 (v3123 : BitVec 32) : Prop :=
  (∀ a, (k0_off596 v3123) a + S1x256.size a ≤ S2064x256.size a)
theorem k0_off596_inb : ∀ (v3123 : BitVec 32) (k0_hw368 : k0_chk368 v3123), ∀ a, (k0_off596 v3123) a + S1x256.size a ≤ S2064x256.size a := fun v3123 k0_hw368 => k0_hw368

def k0_off597 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3134 : Index := Scalar.indexCast v3021
  let c8_1581 : Index := 8#32
  ![v3134.toNat, 8]
def k0_off598 (v3135 : BitVec 32) : Fin 2 → Nat :=
  let v3138 : Index := Scalar.indexCast v3135
  let c0_1583 : Index := 0#32
  ![v3138.toNat, 0]

def k0_chk369 (v3135 : BitVec 32) : Prop :=
  (∀ a, (k0_off598 v3135) a + S1x256.size a ≤ S2064x256.size a)
theorem k0_off598_inb : ∀ (v3135 : BitVec 32) (k0_hw369 : k0_chk369 v3135), ∀ a, (k0_off598 v3135) a + S1x256.size a ≤ S2064x256.size a := fun v3135 k0_hw369 => k0_hw369

def k0_off599 (v3137 : BitVec 32) : Fin 2 → Nat :=
  let v3143 : Index := Scalar.indexCast v3137
  let c0_1585 : Index := 0#32
  ![v3143.toNat, 0]

def k0_chk370 (v3137 : BitVec 32) : Prop :=
  (∀ a, (k0_off599 v3137) a + S1x256.size a ≤ S2064x256.size a)
theorem k0_off599_inb : ∀ (v3137 : BitVec 32) (k0_hw370 : k0_chk370 v3137), ∀ a, (k0_off599 v3137) a + S1x256.size a ≤ S2064x256.size a := fun v3137 k0_hw370 => k0_hw370

def k0_off600 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3148 : Index := Scalar.indexCast v3021
  let c9_1588 : Index := 9#32
  ![v3148.toNat, 9]
def k0_off601 (v3149 : BitVec 32) : Fin 2 → Nat :=
  let v3152 : Index := Scalar.indexCast v3149
  let c0_1590 : Index := 0#32
  ![v3152.toNat, 0]

def k0_chk371 (v3149 : BitVec 32) : Prop :=
  (∀ a, (k0_off601 v3149) a + S1x256.size a ≤ S2064x256.size a)
theorem k0_off601_inb : ∀ (v3149 : BitVec 32) (k0_hw371 : k0_chk371 v3149), ∀ a, (k0_off601 v3149) a + S1x256.size a ≤ S2064x256.size a := fun v3149 k0_hw371 => k0_hw371

def k0_off602 (v3151 : BitVec 32) : Fin 2 → Nat :=
  let v3157 : Index := Scalar.indexCast v3151
  let c0_1592 : Index := 0#32
  ![v3157.toNat, 0]

def k0_chk372 (v3151 : BitVec 32) : Prop :=
  (∀ a, (k0_off602 v3151) a + S1x256.size a ≤ S2064x256.size a)
theorem k0_off602_inb : ∀ (v3151 : BitVec 32) (k0_hw372 : k0_chk372 v3151), ∀ a, (k0_off602 v3151) a + S1x256.size a ≤ S2064x256.size a := fun v3151 k0_hw372 => k0_hw372

def k0_off603 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3162 : Index := Scalar.indexCast v3021
  let c10_1595 : Index := 10#32
  ![v3162.toNat, 10]
def k0_off604 (v3163 : BitVec 32) : Fin 2 → Nat :=
  let v3166 : Index := Scalar.indexCast v3163
  let c0_1597 : Index := 0#32
  ![v3166.toNat, 0]

def k0_chk373 (v3163 : BitVec 32) : Prop :=
  (∀ a, (k0_off604 v3163) a + S1x256.size a ≤ S2064x256.size a)
theorem k0_off604_inb : ∀ (v3163 : BitVec 32) (k0_hw373 : k0_chk373 v3163), ∀ a, (k0_off604 v3163) a + S1x256.size a ≤ S2064x256.size a := fun v3163 k0_hw373 => k0_hw373

def k0_off605 (v3165 : BitVec 32) : Fin 2 → Nat :=
  let v3171 : Index := Scalar.indexCast v3165
  let c0_1599 : Index := 0#32
  ![v3171.toNat, 0]

def k0_chk374 (v3165 : BitVec 32) : Prop :=
  (∀ a, (k0_off605 v3165) a + S1x256.size a ≤ S2064x256.size a)
theorem k0_off605_inb : ∀ (v3165 : BitVec 32) (k0_hw374 : k0_chk374 v3165), ∀ a, (k0_off605 v3165) a + S1x256.size a ≤ S2064x256.size a := fun v3165 k0_hw374 => k0_hw374

def k0_off606 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3176 : Index := Scalar.indexCast v3021
  let c11_1602 : Index := 11#32
  ![v3176.toNat, 11]
def k0_off607 (v3177 : BitVec 32) : Fin 2 → Nat :=
  let v3180 : Index := Scalar.indexCast v3177
  let c0_1604 : Index := 0#32
  ![v3180.toNat, 0]

def k0_chk375 (v3177 : BitVec 32) : Prop :=
  (∀ a, (k0_off607 v3177) a + S1x256.size a ≤ S2064x256.size a)
theorem k0_off607_inb : ∀ (v3177 : BitVec 32) (k0_hw375 : k0_chk375 v3177), ∀ a, (k0_off607 v3177) a + S1x256.size a ≤ S2064x256.size a := fun v3177 k0_hw375 => k0_hw375

def k0_off608 (v3179 : BitVec 32) : Fin 2 → Nat :=
  let v3185 : Index := Scalar.indexCast v3179
  let c0_1606 : Index := 0#32
  ![v3185.toNat, 0]

def k0_chk376 (v3179 : BitVec 32) : Prop :=
  (∀ a, (k0_off608 v3179) a + S1x256.size a ≤ S2064x256.size a)
theorem k0_off608_inb : ∀ (v3179 : BitVec 32) (k0_hw376 : k0_chk376 v3179), ∀ a, (k0_off608 v3179) a + S1x256.size a ≤ S2064x256.size a := fun v3179 k0_hw376 => k0_hw376

def k0_off609 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3190 : Index := Scalar.indexCast v3021
  let c12_1609 : Index := 12#32
  ![v3190.toNat, 12]
def k0_off610 (v3191 : BitVec 32) : Fin 2 → Nat :=
  let v3194 : Index := Scalar.indexCast v3191
  let c0_1611 : Index := 0#32
  ![v3194.toNat, 0]

def k0_chk377 (v3191 : BitVec 32) : Prop :=
  (∀ a, (k0_off610 v3191) a + S1x256.size a ≤ S2064x256.size a)
theorem k0_off610_inb : ∀ (v3191 : BitVec 32) (k0_hw377 : k0_chk377 v3191), ∀ a, (k0_off610 v3191) a + S1x256.size a ≤ S2064x256.size a := fun v3191 k0_hw377 => k0_hw377

def k0_off611 (v3193 : BitVec 32) : Fin 2 → Nat :=
  let v3199 : Index := Scalar.indexCast v3193
  let c0_1613 : Index := 0#32
  ![v3199.toNat, 0]

def k0_chk378 (v3193 : BitVec 32) : Prop :=
  (∀ a, (k0_off611 v3193) a + S1x256.size a ≤ S2064x256.size a)
theorem k0_off611_inb : ∀ (v3193 : BitVec 32) (k0_hw378 : k0_chk378 v3193), ∀ a, (k0_off611 v3193) a + S1x256.size a ≤ S2064x256.size a := fun v3193 k0_hw378 => k0_hw378

def k0_off612 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3204 : Index := Scalar.indexCast v3021
  let c13_1616 : Index := 13#32
  ![v3204.toNat, 13]
def k0_off613 (v3205 : BitVec 32) : Fin 2 → Nat :=
  let v3208 : Index := Scalar.indexCast v3205
  let c0_1618 : Index := 0#32
  ![v3208.toNat, 0]

def k0_chk379 (v3205 : BitVec 32) : Prop :=
  (∀ a, (k0_off613 v3205) a + S1x256.size a ≤ S2064x256.size a)
theorem k0_off613_inb : ∀ (v3205 : BitVec 32) (k0_hw379 : k0_chk379 v3205), ∀ a, (k0_off613 v3205) a + S1x256.size a ≤ S2064x256.size a := fun v3205 k0_hw379 => k0_hw379

def k0_off614 (v3207 : BitVec 32) : Fin 2 → Nat :=
  let v3213 : Index := Scalar.indexCast v3207
  let c0_1620 : Index := 0#32
  ![v3213.toNat, 0]

def k0_chk380 (v3207 : BitVec 32) : Prop :=
  (∀ a, (k0_off614 v3207) a + S1x256.size a ≤ S2064x256.size a)
theorem k0_off614_inb : ∀ (v3207 : BitVec 32) (k0_hw380 : k0_chk380 v3207), ∀ a, (k0_off614 v3207) a + S1x256.size a ≤ S2064x256.size a := fun v3207 k0_hw380 => k0_hw380

def k0_off615 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3218 : Index := Scalar.indexCast v3021
  let c14_1623 : Index := 14#32
  ![v3218.toNat, 14]
def k0_off616 (v3219 : BitVec 32) : Fin 2 → Nat :=
  let v3222 : Index := Scalar.indexCast v3219
  let c0_1625 : Index := 0#32
  ![v3222.toNat, 0]

def k0_chk381 (v3219 : BitVec 32) : Prop :=
  (∀ a, (k0_off616 v3219) a + S1x256.size a ≤ S2064x256.size a)
theorem k0_off616_inb : ∀ (v3219 : BitVec 32) (k0_hw381 : k0_chk381 v3219), ∀ a, (k0_off616 v3219) a + S1x256.size a ≤ S2064x256.size a := fun v3219 k0_hw381 => k0_hw381

def k0_off617 (v3221 : BitVec 32) : Fin 2 → Nat :=
  let v3227 : Index := Scalar.indexCast v3221
  let c0_1627 : Index := 0#32
  ![v3227.toNat, 0]

def k0_chk382 (v3221 : BitVec 32) : Prop :=
  (∀ a, (k0_off617 v3221) a + S1x256.size a ≤ S2064x256.size a)
theorem k0_off617_inb : ∀ (v3221 : BitVec 32) (k0_hw382 : k0_chk382 v3221), ∀ a, (k0_off617 v3221) a + S1x256.size a ≤ S2064x256.size a := fun v3221 k0_hw382 => k0_hw382

def k0_off618 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3232 : Index := Scalar.indexCast v3021
  let c15_1630 : Index := 15#32
  ![v3232.toNat, 15]
def k0_off619 (v3233 : BitVec 32) : Fin 2 → Nat :=
  let v3236 : Index := Scalar.indexCast v3233
  let c0_1632 : Index := 0#32
  ![v3236.toNat, 0]

def k0_chk383 (v3233 : BitVec 32) : Prop :=
  (∀ a, (k0_off619 v3233) a + S1x256.size a ≤ S2064x256.size a)
theorem k0_off619_inb : ∀ (v3233 : BitVec 32) (k0_hw383 : k0_chk383 v3233), ∀ a, (k0_off619 v3233) a + S1x256.size a ≤ S2064x256.size a := fun v3233 k0_hw383 => k0_hw383

def k0_off620 (v3235 : BitVec 32) : Fin 2 → Nat :=
  let v3241 : Index := Scalar.indexCast v3235
  let c0_1634 : Index := 0#32
  ![v3241.toNat, 0]

def k0_chk384 (v3235 : BitVec 32) : Prop :=
  (∀ a, (k0_off620 v3235) a + S1x256.size a ≤ S2064x256.size a)
theorem k0_off620_inb : ∀ (v3235 : BitVec 32) (k0_hw384 : k0_chk384 v3235), ∀ a, (k0_off620 v3235) a + S1x256.size a ≤ S2064x256.size a := fun v3235 k0_hw384 => k0_hw384

def k0_off621 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let c16_i32_1639 : BitVec 32 := 16#32
  let v3249 : BitVec 32 := Scalar.muli v3021 c16_i32_1639
  let v3250 : Index := Scalar.indexCast v3249
  let c0_1640 : Index := 0#32
  ![v3250.toNat, 0]
def k0_off622 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let c16_i32_1648 : BitVec 32 := 16#32
  let v3269 : BitVec 32 := Scalar.muli v3021 c16_i32_1648
  let v3270 : Index := Scalar.indexCast v3269
  let c0_1649 : Index := 0#32
  ![v3270.toNat, 0]
def k0_off623 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let c16_i32_1655 : BitVec 32 := 16#32
  let v3282 : BitVec 32 := Scalar.muli v3021 c16_i32_1655
  let v3283 : Index := Scalar.indexCast v3282
  let c0_1656 : Index := 0#32
  ![v3283.toNat, 0]
def k0_off624 (k0_t1 : Fin k0_t1_loop.trips) : Fin 3 → Nat :=
  let c0_1657 : Index := 0#32
  let c0_i32 : BitVec 32 := 0#32
  let c1_i32 : BitVec 32 := 1#32
  let arg19 : BitVec 32 := Scf.iv c0_i32 c1_i32 k0_t1
  let c16_i32_1524 : BitVec 32 := 16#32
  let v3020 : BitVec 32 := Scalar.muli arg19 c16_i32_1524
  let c11_i32 : BitVec 32 := 11#32
  let v3021 : BitVec 32 := Scalar.addi v3020 c11_i32
  let v3288 : Index := Scalar.indexCast v3021
  let c0_1658 : Index := 0#32
  ![0, v3288.toNat, 0]
def k0_off625 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3292 : Index := Scalar.indexCast v3291
  let c0_1660 : Index := 0#32
  ![v3292.toNat, 0]
def k0_off626 (v3293 : BitVec 32) : Fin 2 → Nat :=
  let v3296 : Index := Scalar.indexCast v3293
  let c0_1662 : Index := 0#32
  ![v3296.toNat, 0]

def k0_chk385 (v3293 : BitVec 32) : Prop :=
  (∀ a, (k0_off626 v3293) a + S1x256.size a ≤ S2064x256.size a)
theorem k0_off626_inb : ∀ (v3293 : BitVec 32) (k0_hw385 : k0_chk385 v3293), ∀ a, (k0_off626 v3293) a + S1x256.size a ≤ S2064x256.size a := fun v3293 k0_hw385 => k0_hw385

def k0_off627 (v3295 : BitVec 32) : Fin 2 → Nat :=
  let v3301 : Index := Scalar.indexCast v3295
  let c0_1664 : Index := 0#32
  ![v3301.toNat, 0]

def k0_chk386 (v3295 : BitVec 32) : Prop :=
  (∀ a, (k0_off627 v3295) a + S1x256.size a ≤ S2064x256.size a)
theorem k0_off627_inb : ∀ (v3295 : BitVec 32) (k0_hw386 : k0_chk386 v3295), ∀ a, (k0_off627 v3295) a + S1x256.size a ≤ S2064x256.size a := fun v3295 k0_hw386 => k0_hw386

def k0_off628 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3306 : Index := Scalar.indexCast v3291
  let c1_1667 : Index := 1#32
  ![v3306.toNat, 1]
def k0_off629 (v3307 : BitVec 32) : Fin 2 → Nat :=
  let v3310 : Index := Scalar.indexCast v3307
  let c0_1669 : Index := 0#32
  ![v3310.toNat, 0]

def k0_chk387 (v3307 : BitVec 32) : Prop :=
  (∀ a, (k0_off629 v3307) a + S1x256.size a ≤ S2064x256.size a)
theorem k0_off629_inb : ∀ (v3307 : BitVec 32) (k0_hw387 : k0_chk387 v3307), ∀ a, (k0_off629 v3307) a + S1x256.size a ≤ S2064x256.size a := fun v3307 k0_hw387 => k0_hw387

def k0_off630 (v3309 : BitVec 32) : Fin 2 → Nat :=
  let v3315 : Index := Scalar.indexCast v3309
  let c0_1671 : Index := 0#32
  ![v3315.toNat, 0]

def k0_chk388 (v3309 : BitVec 32) : Prop :=
  (∀ a, (k0_off630 v3309) a + S1x256.size a ≤ S2064x256.size a)
theorem k0_off630_inb : ∀ (v3309 : BitVec 32) (k0_hw388 : k0_chk388 v3309), ∀ a, (k0_off630 v3309) a + S1x256.size a ≤ S2064x256.size a := fun v3309 k0_hw388 => k0_hw388

def k0_off631 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3320 : Index := Scalar.indexCast v3291
  let c2_1674 : Index := 2#32
  ![v3320.toNat, 2]
def k0_off632 (v3321 : BitVec 32) : Fin 2 → Nat :=
  let v3324 : Index := Scalar.indexCast v3321
  let c0_1676 : Index := 0#32
  ![v3324.toNat, 0]

def k0_chk389 (v3321 : BitVec 32) : Prop :=
  (∀ a, (k0_off632 v3321) a + S1x256.size a ≤ S2064x256.size a)
theorem k0_off632_inb : ∀ (v3321 : BitVec 32) (k0_hw389 : k0_chk389 v3321), ∀ a, (k0_off632 v3321) a + S1x256.size a ≤ S2064x256.size a := fun v3321 k0_hw389 => k0_hw389

def k0_off633 (v3323 : BitVec 32) : Fin 2 → Nat :=
  let v3329 : Index := Scalar.indexCast v3323
  let c0_1678 : Index := 0#32
  ![v3329.toNat, 0]

def k0_chk390 (v3323 : BitVec 32) : Prop :=
  (∀ a, (k0_off633 v3323) a + S1x256.size a ≤ S2064x256.size a)
theorem k0_off633_inb : ∀ (v3323 : BitVec 32) (k0_hw390 : k0_chk390 v3323), ∀ a, (k0_off633 v3323) a + S1x256.size a ≤ S2064x256.size a := fun v3323 k0_hw390 => k0_hw390

def k0_off634 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3334 : Index := Scalar.indexCast v3291
  let c3_1681 : Index := 3#32
  ![v3334.toNat, 3]
def k0_off635 (v3335 : BitVec 32) : Fin 2 → Nat :=
  let v3338 : Index := Scalar.indexCast v3335
  let c0_1683 : Index := 0#32
  ![v3338.toNat, 0]

def k0_chk391 (v3335 : BitVec 32) : Prop :=
  (∀ a, (k0_off635 v3335) a + S1x256.size a ≤ S2064x256.size a)
theorem k0_off635_inb : ∀ (v3335 : BitVec 32) (k0_hw391 : k0_chk391 v3335), ∀ a, (k0_off635 v3335) a + S1x256.size a ≤ S2064x256.size a := fun v3335 k0_hw391 => k0_hw391

def k0_off636 (v3337 : BitVec 32) : Fin 2 → Nat :=
  let v3343 : Index := Scalar.indexCast v3337
  let c0_1685 : Index := 0#32
  ![v3343.toNat, 0]

def k0_chk392 (v3337 : BitVec 32) : Prop :=
  (∀ a, (k0_off636 v3337) a + S1x256.size a ≤ S2064x256.size a)
theorem k0_off636_inb : ∀ (v3337 : BitVec 32) (k0_hw392 : k0_chk392 v3337), ∀ a, (k0_off636 v3337) a + S1x256.size a ≤ S2064x256.size a := fun v3337 k0_hw392 => k0_hw392

def k0_off637 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3348 : Index := Scalar.indexCast v3291
  let c4_1688 : Index := 4#32
  ![v3348.toNat, 4]
def k0_off638 (v3349 : BitVec 32) : Fin 2 → Nat :=
  let v3352 : Index := Scalar.indexCast v3349
  let c0_1690 : Index := 0#32
  ![v3352.toNat, 0]

def k0_chk393 (v3349 : BitVec 32) : Prop :=
  (∀ a, (k0_off638 v3349) a + S1x256.size a ≤ S2064x256.size a)
theorem k0_off638_inb : ∀ (v3349 : BitVec 32) (k0_hw393 : k0_chk393 v3349), ∀ a, (k0_off638 v3349) a + S1x256.size a ≤ S2064x256.size a := fun v3349 k0_hw393 => k0_hw393

def k0_off639 (v3351 : BitVec 32) : Fin 2 → Nat :=
  let v3357 : Index := Scalar.indexCast v3351
  let c0_1692 : Index := 0#32
  ![v3357.toNat, 0]

def k0_chk394 (v3351 : BitVec 32) : Prop :=
  (∀ a, (k0_off639 v3351) a + S1x256.size a ≤ S2064x256.size a)
theorem k0_off639_inb : ∀ (v3351 : BitVec 32) (k0_hw394 : k0_chk394 v3351), ∀ a, (k0_off639 v3351) a + S1x256.size a ≤ S2064x256.size a := fun v3351 k0_hw394 => k0_hw394

def k0_off640 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3362 : Index := Scalar.indexCast v3291
  let c5_1695 : Index := 5#32
  ![v3362.toNat, 5]
def k0_off641 (v3363 : BitVec 32) : Fin 2 → Nat :=
  let v3366 : Index := Scalar.indexCast v3363
  let c0_1697 : Index := 0#32
  ![v3366.toNat, 0]

def k0_chk395 (v3363 : BitVec 32) : Prop :=
  (∀ a, (k0_off641 v3363) a + S1x256.size a ≤ S2064x256.size a)
theorem k0_off641_inb : ∀ (v3363 : BitVec 32) (k0_hw395 : k0_chk395 v3363), ∀ a, (k0_off641 v3363) a + S1x256.size a ≤ S2064x256.size a := fun v3363 k0_hw395 => k0_hw395

def k0_off642 (v3365 : BitVec 32) : Fin 2 → Nat :=
  let v3371 : Index := Scalar.indexCast v3365
  let c0_1699 : Index := 0#32
  ![v3371.toNat, 0]

def k0_chk396 (v3365 : BitVec 32) : Prop :=
  (∀ a, (k0_off642 v3365) a + S1x256.size a ≤ S2064x256.size a)
theorem k0_off642_inb : ∀ (v3365 : BitVec 32) (k0_hw396 : k0_chk396 v3365), ∀ a, (k0_off642 v3365) a + S1x256.size a ≤ S2064x256.size a := fun v3365 k0_hw396 => k0_hw396

def k0_off643 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3376 : Index := Scalar.indexCast v3291
  let c6_1702 : Index := 6#32
  ![v3376.toNat, 6]
def k0_off644 (v3377 : BitVec 32) : Fin 2 → Nat :=
  let v3380 : Index := Scalar.indexCast v3377
  let c0_1704 : Index := 0#32
  ![v3380.toNat, 0]

def k0_chk397 (v3377 : BitVec 32) : Prop :=
  (∀ a, (k0_off644 v3377) a + S1x256.size a ≤ S2064x256.size a)
theorem k0_off644_inb : ∀ (v3377 : BitVec 32) (k0_hw397 : k0_chk397 v3377), ∀ a, (k0_off644 v3377) a + S1x256.size a ≤ S2064x256.size a := fun v3377 k0_hw397 => k0_hw397

def k0_off645 (v3379 : BitVec 32) : Fin 2 → Nat :=
  let v3385 : Index := Scalar.indexCast v3379
  let c0_1706 : Index := 0#32
  ![v3385.toNat, 0]

def k0_chk398 (v3379 : BitVec 32) : Prop :=
  (∀ a, (k0_off645 v3379) a + S1x256.size a ≤ S2064x256.size a)
theorem k0_off645_inb : ∀ (v3379 : BitVec 32) (k0_hw398 : k0_chk398 v3379), ∀ a, (k0_off645 v3379) a + S1x256.size a ≤ S2064x256.size a := fun v3379 k0_hw398 => k0_hw398

def k0_off646 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3390 : Index := Scalar.indexCast v3291
  let c7_1709 : Index := 7#32
  ![v3390.toNat, 7]
def k0_off647 (v3391 : BitVec 32) : Fin 2 → Nat :=
  let v3394 : Index := Scalar.indexCast v3391
  let c0_1711 : Index := 0#32
  ![v3394.toNat, 0]

def k0_chk399 (v3391 : BitVec 32) : Prop :=
  (∀ a, (k0_off647 v3391) a + S1x256.size a ≤ S2064x256.size a)
theorem k0_off647_inb : ∀ (v3391 : BitVec 32) (k0_hw399 : k0_chk399 v3391), ∀ a, (k0_off647 v3391) a + S1x256.size a ≤ S2064x256.size a := fun v3391 k0_hw399 => k0_hw399

def k0_off648 (v3393 : BitVec 32) : Fin 2 → Nat :=
  let v3399 : Index := Scalar.indexCast v3393
  let c0_1713 : Index := 0#32
  ![v3399.toNat, 0]

def k0_chk400 (v3393 : BitVec 32) : Prop :=
  (∀ a, (k0_off648 v3393) a + S1x256.size a ≤ S2064x256.size a)
theorem k0_off648_inb : ∀ (v3393 : BitVec 32) (k0_hw400 : k0_chk400 v3393), ∀ a, (k0_off648 v3393) a + S1x256.size a ≤ S2064x256.size a := fun v3393 k0_hw400 => k0_hw400

def k0_off649 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3404 : Index := Scalar.indexCast v3291
  let c8_1716 : Index := 8#32
  ![v3404.toNat, 8]
def k0_off650 (v3405 : BitVec 32) : Fin 2 → Nat :=
  let v3408 : Index := Scalar.indexCast v3405
  let c0_1718 : Index := 0#32
  ![v3408.toNat, 0]

def k0_chk401 (v3405 : BitVec 32) : Prop :=
  (∀ a, (k0_off650 v3405) a + S1x256.size a ≤ S2064x256.size a)
theorem k0_off650_inb : ∀ (v3405 : BitVec 32) (k0_hw401 : k0_chk401 v3405), ∀ a, (k0_off650 v3405) a + S1x256.size a ≤ S2064x256.size a := fun v3405 k0_hw401 => k0_hw401

def k0_off651 (v3407 : BitVec 32) : Fin 2 → Nat :=
  let v3413 : Index := Scalar.indexCast v3407
  let c0_1720 : Index := 0#32
  ![v3413.toNat, 0]

def k0_chk402 (v3407 : BitVec 32) : Prop :=
  (∀ a, (k0_off651 v3407) a + S1x256.size a ≤ S2064x256.size a)
theorem k0_off651_inb : ∀ (v3407 : BitVec 32) (k0_hw402 : k0_chk402 v3407), ∀ a, (k0_off651 v3407) a + S1x256.size a ≤ S2064x256.size a := fun v3407 k0_hw402 => k0_hw402

def k0_off652 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3418 : Index := Scalar.indexCast v3291
  let c9_1723 : Index := 9#32
  ![v3418.toNat, 9]
def k0_off653 (v3419 : BitVec 32) : Fin 2 → Nat :=
  let v3422 : Index := Scalar.indexCast v3419
  let c0_1725 : Index := 0#32
  ![v3422.toNat, 0]

def k0_chk403 (v3419 : BitVec 32) : Prop :=
  (∀ a, (k0_off653 v3419) a + S1x256.size a ≤ S2064x256.size a)
theorem k0_off653_inb : ∀ (v3419 : BitVec 32) (k0_hw403 : k0_chk403 v3419), ∀ a, (k0_off653 v3419) a + S1x256.size a ≤ S2064x256.size a := fun v3419 k0_hw403 => k0_hw403

def k0_off654 (v3421 : BitVec 32) : Fin 2 → Nat :=
  let v3427 : Index := Scalar.indexCast v3421
  let c0_1727 : Index := 0#32
  ![v3427.toNat, 0]

def k0_chk404 (v3421 : BitVec 32) : Prop :=
  (∀ a, (k0_off654 v3421) a + S1x256.size a ≤ S2064x256.size a)
theorem k0_off654_inb : ∀ (v3421 : BitVec 32) (k0_hw404 : k0_chk404 v3421), ∀ a, (k0_off654 v3421) a + S1x256.size a ≤ S2064x256.size a := fun v3421 k0_hw404 => k0_hw404

def k0_off655 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3432 : Index := Scalar.indexCast v3291
  let c10_1730 : Index := 10#32
  ![v3432.toNat, 10]
def k0_off656 (v3433 : BitVec 32) : Fin 2 → Nat :=
  let v3436 : Index := Scalar.indexCast v3433
  let c0_1732 : Index := 0#32
  ![v3436.toNat, 0]

def k0_chk405 (v3433 : BitVec 32) : Prop :=
  (∀ a, (k0_off656 v3433) a + S1x256.size a ≤ S2064x256.size a)
theorem k0_off656_inb : ∀ (v3433 : BitVec 32) (k0_hw405 : k0_chk405 v3433), ∀ a, (k0_off656 v3433) a + S1x256.size a ≤ S2064x256.size a := fun v3433 k0_hw405 => k0_hw405

def k0_off657 (v3435 : BitVec 32) : Fin 2 → Nat :=
  let v3441 : Index := Scalar.indexCast v3435
  let c0_1734 : Index := 0#32
  ![v3441.toNat, 0]

def k0_chk406 (v3435 : BitVec 32) : Prop :=
  (∀ a, (k0_off657 v3435) a + S1x256.size a ≤ S2064x256.size a)
theorem k0_off657_inb : ∀ (v3435 : BitVec 32) (k0_hw406 : k0_chk406 v3435), ∀ a, (k0_off657 v3435) a + S1x256.size a ≤ S2064x256.size a := fun v3435 k0_hw406 => k0_hw406

def k0_off658 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3446 : Index := Scalar.indexCast v3291
  let c11_1737 : Index := 11#32
  ![v3446.toNat, 11]
def k0_off659 (v3447 : BitVec 32) : Fin 2 → Nat :=
  let v3450 : Index := Scalar.indexCast v3447
  let c0_1739 : Index := 0#32
  ![v3450.toNat, 0]

def k0_chk407 (v3447 : BitVec 32) : Prop :=
  (∀ a, (k0_off659 v3447) a + S1x256.size a ≤ S2064x256.size a)
theorem k0_off659_inb : ∀ (v3447 : BitVec 32) (k0_hw407 : k0_chk407 v3447), ∀ a, (k0_off659 v3447) a + S1x256.size a ≤ S2064x256.size a := fun v3447 k0_hw407 => k0_hw407

def k0_off660 (v3449 : BitVec 32) : Fin 2 → Nat :=
  let v3455 : Index := Scalar.indexCast v3449
  let c0_1741 : Index := 0#32
  ![v3455.toNat, 0]

def k0_chk408 (v3449 : BitVec 32) : Prop :=
  (∀ a, (k0_off660 v3449) a + S1x256.size a ≤ S2064x256.size a)
theorem k0_off660_inb : ∀ (v3449 : BitVec 32) (k0_hw408 : k0_chk408 v3449), ∀ a, (k0_off660 v3449) a + S1x256.size a ≤ S2064x256.size a := fun v3449 k0_hw408 => k0_hw408

def k0_off661 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3460 : Index := Scalar.indexCast v3291
  let c12_1744 : Index := 12#32
  ![v3460.toNat, 12]
def k0_off662 (v3461 : BitVec 32) : Fin 2 → Nat :=
  let v3464 : Index := Scalar.indexCast v3461
  let c0_1746 : Index := 0#32
  ![v3464.toNat, 0]

def k0_chk409 (v3461 : BitVec 32) : Prop :=
  (∀ a, (k0_off662 v3461) a + S1x256.size a ≤ S2064x256.size a)
theorem k0_off662_inb : ∀ (v3461 : BitVec 32) (k0_hw409 : k0_chk409 v3461), ∀ a, (k0_off662 v3461) a + S1x256.size a ≤ S2064x256.size a := fun v3461 k0_hw409 => k0_hw409

def k0_off663 (v3463 : BitVec 32) : Fin 2 → Nat :=
  let v3469 : Index := Scalar.indexCast v3463
  let c0_1748 : Index := 0#32
  ![v3469.toNat, 0]

def k0_chk410 (v3463 : BitVec 32) : Prop :=
  (∀ a, (k0_off663 v3463) a + S1x256.size a ≤ S2064x256.size a)
theorem k0_off663_inb : ∀ (v3463 : BitVec 32) (k0_hw410 : k0_chk410 v3463), ∀ a, (k0_off663 v3463) a + S1x256.size a ≤ S2064x256.size a := fun v3463 k0_hw410 => k0_hw410

def k0_off664 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3474 : Index := Scalar.indexCast v3291
  let c13_1751 : Index := 13#32
  ![v3474.toNat, 13]
def k0_off665 (v3475 : BitVec 32) : Fin 2 → Nat :=
  let v3478 : Index := Scalar.indexCast v3475
  let c0_1753 : Index := 0#32
  ![v3478.toNat, 0]

def k0_chk411 (v3475 : BitVec 32) : Prop :=
  (∀ a, (k0_off665 v3475) a + S1x256.size a ≤ S2064x256.size a)
theorem k0_off665_inb : ∀ (v3475 : BitVec 32) (k0_hw411 : k0_chk411 v3475), ∀ a, (k0_off665 v3475) a + S1x256.size a ≤ S2064x256.size a := fun v3475 k0_hw411 => k0_hw411

def k0_off666 (v3477 : BitVec 32) : Fin 2 → Nat :=
  let v3483 : Index := Scalar.indexCast v3477
  let c0_1755 : Index := 0#32
  ![v3483.toNat, 0]

def k0_chk412 (v3477 : BitVec 32) : Prop :=
  (∀ a, (k0_off666 v3477) a + S1x256.size a ≤ S2064x256.size a)
theorem k0_off666_inb : ∀ (v3477 : BitVec 32) (k0_hw412 : k0_chk412 v3477), ∀ a, (k0_off666 v3477) a + S1x256.size a ≤ S2064x256.size a := fun v3477 k0_hw412 => k0_hw412

def k0_off667 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3488 : Index := Scalar.indexCast v3291
  let c14_1758 : Index := 14#32
  ![v3488.toNat, 14]
def k0_off668 (v3489 : BitVec 32) : Fin 2 → Nat :=
  let v3492 : Index := Scalar.indexCast v3489
  let c0_1760 : Index := 0#32
  ![v3492.toNat, 0]

def k0_chk413 (v3489 : BitVec 32) : Prop :=
  (∀ a, (k0_off668 v3489) a + S1x256.size a ≤ S2064x256.size a)
theorem k0_off668_inb : ∀ (v3489 : BitVec 32) (k0_hw413 : k0_chk413 v3489), ∀ a, (k0_off668 v3489) a + S1x256.size a ≤ S2064x256.size a := fun v3489 k0_hw413 => k0_hw413

def k0_off669 (v3491 : BitVec 32) : Fin 2 → Nat :=
  let v3497 : Index := Scalar.indexCast v3491
  let c0_1762 : Index := 0#32
  ![v3497.toNat, 0]

def k0_chk414 (v3491 : BitVec 32) : Prop :=
  (∀ a, (k0_off669 v3491) a + S1x256.size a ≤ S2064x256.size a)
theorem k0_off669_inb : ∀ (v3491 : BitVec 32) (k0_hw414 : k0_chk414 v3491), ∀ a, (k0_off669 v3491) a + S1x256.size a ≤ S2064x256.size a := fun v3491 k0_hw414 => k0_hw414

def k0_off670 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3502 : Index := Scalar.indexCast v3291
  let c15_1765 : Index := 15#32
  ![v3502.toNat, 15]
def k0_off671 (v3503 : BitVec 32) : Fin 2 → Nat :=
  let v3506 : Index := Scalar.indexCast v3503
  let c0_1767 : Index := 0#32
  ![v3506.toNat, 0]

def k0_chk415 (v3503 : BitVec 32) : Prop :=
  (∀ a, (k0_off671 v3503) a + S1x256.size a ≤ S2064x256.size a)
theorem k0_off671_inb : ∀ (v3503 : BitVec 32) (k0_hw415 : k0_chk415 v3503), ∀ a, (k0_off671 v3503) a + S1x256.size a ≤ S2064x256.size a := fun v3503 k0_hw415 => k0_hw415

def k0_off672 (v3505 : BitVec 32) : Fin 2 → Nat :=
  let v3511 : Index := Scalar.indexCast v3505
  let c0_1769 : Index := 0#32
  ![v3511.toNat, 0]

def k0_chk416 (v3505 : BitVec 32) : Prop :=
  (∀ a, (k0_off672 v3505) a + S1x256.size a ≤ S2064x256.size a)
theorem k0_off672_inb : ∀ (v3505 : BitVec 32) (k0_hw416 : k0_chk416 v3505), ∀ a, (k0_off672 v3505) a + S1x256.size a ≤ S2064x256.size a := fun v3505 k0_hw416 => k0_hw416

def k0_off673 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let c16_i32_1774 : BitVec 32 := 16#32
  let v3519 : BitVec 32 := Scalar.muli v3291 c16_i32_1774
  let v3520 : Index := Scalar.indexCast v3519
  let c0_1775 : Index := 0#32
  ![v3520.toNat, 0]
def k0_off674 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let c16_i32_1783 : BitVec 32 := 16#32
  let v3539 : BitVec 32 := Scalar.muli v3291 c16_i32_1783
  let v3540 : Index := Scalar.indexCast v3539
  let c0_1784 : Index := 0#32
  ![v3540.toNat, 0]
def k0_off675 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let c16_i32_1790 : BitVec 32 := 16#32
  let v3552 : BitVec 32 := Scalar.muli v3291 c16_i32_1790
  let v3553 : Index := Scalar.indexCast v3552
  let c0_1791 : Index := 0#32
  ![v3553.toNat, 0]
def k0_off676 (k0_t1 : Fin k0_t1_loop.trips) : Fin 3 → Nat :=
  let c0_1792 : Index := 0#32
  let c0_i32 : BitVec 32 := 0#32
  let c1_i32 : BitVec 32 := 1#32
  let arg19 : BitVec 32 := Scf.iv c0_i32 c1_i32 k0_t1
  let c16_i32_1659 : BitVec 32 := 16#32
  let v3290 : BitVec 32 := Scalar.muli arg19 c16_i32_1659
  let c12_i32 : BitVec 32 := 12#32
  let v3291 : BitVec 32 := Scalar.addi v3290 c12_i32
  let v3558 : Index := Scalar.indexCast v3291
  let c0_1793 : Index := 0#32
  ![0, v3558.toNat, 0]
def k0_off677 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3562 : Index := Scalar.indexCast v3561
  let c0_1795 : Index := 0#32
  ![v3562.toNat, 0]
def k0_off678 (v3563 : BitVec 32) : Fin 2 → Nat :=
  let v3566 : Index := Scalar.indexCast v3563
  let c0_1797 : Index := 0#32
  ![v3566.toNat, 0]

def k0_chk417 (v3563 : BitVec 32) : Prop :=
  (∀ a, (k0_off678 v3563) a + S1x256.size a ≤ S2064x256.size a)
theorem k0_off678_inb : ∀ (v3563 : BitVec 32) (k0_hw417 : k0_chk417 v3563), ∀ a, (k0_off678 v3563) a + S1x256.size a ≤ S2064x256.size a := fun v3563 k0_hw417 => k0_hw417

def k0_off679 (v3565 : BitVec 32) : Fin 2 → Nat :=
  let v3571 : Index := Scalar.indexCast v3565
  let c0_1799 : Index := 0#32
  ![v3571.toNat, 0]

def k0_chk418 (v3565 : BitVec 32) : Prop :=
  (∀ a, (k0_off679 v3565) a + S1x256.size a ≤ S2064x256.size a)
theorem k0_off679_inb : ∀ (v3565 : BitVec 32) (k0_hw418 : k0_chk418 v3565), ∀ a, (k0_off679 v3565) a + S1x256.size a ≤ S2064x256.size a := fun v3565 k0_hw418 => k0_hw418

def k0_off680 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3576 : Index := Scalar.indexCast v3561
  let c1_1802 : Index := 1#32
  ![v3576.toNat, 1]
def k0_off681 (v3577 : BitVec 32) : Fin 2 → Nat :=
  let v3580 : Index := Scalar.indexCast v3577
  let c0_1804 : Index := 0#32
  ![v3580.toNat, 0]

def k0_chk419 (v3577 : BitVec 32) : Prop :=
  (∀ a, (k0_off681 v3577) a + S1x256.size a ≤ S2064x256.size a)
theorem k0_off681_inb : ∀ (v3577 : BitVec 32) (k0_hw419 : k0_chk419 v3577), ∀ a, (k0_off681 v3577) a + S1x256.size a ≤ S2064x256.size a := fun v3577 k0_hw419 => k0_hw419

def k0_off682 (v3579 : BitVec 32) : Fin 2 → Nat :=
  let v3585 : Index := Scalar.indexCast v3579
  let c0_1806 : Index := 0#32
  ![v3585.toNat, 0]

def k0_chk420 (v3579 : BitVec 32) : Prop :=
  (∀ a, (k0_off682 v3579) a + S1x256.size a ≤ S2064x256.size a)
theorem k0_off682_inb : ∀ (v3579 : BitVec 32) (k0_hw420 : k0_chk420 v3579), ∀ a, (k0_off682 v3579) a + S1x256.size a ≤ S2064x256.size a := fun v3579 k0_hw420 => k0_hw420

def k0_off683 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3590 : Index := Scalar.indexCast v3561
  let c2_1809 : Index := 2#32
  ![v3590.toNat, 2]
def k0_off684 (v3591 : BitVec 32) : Fin 2 → Nat :=
  let v3594 : Index := Scalar.indexCast v3591
  let c0_1811 : Index := 0#32
  ![v3594.toNat, 0]

def k0_chk421 (v3591 : BitVec 32) : Prop :=
  (∀ a, (k0_off684 v3591) a + S1x256.size a ≤ S2064x256.size a)
theorem k0_off684_inb : ∀ (v3591 : BitVec 32) (k0_hw421 : k0_chk421 v3591), ∀ a, (k0_off684 v3591) a + S1x256.size a ≤ S2064x256.size a := fun v3591 k0_hw421 => k0_hw421

def k0_off685 (v3593 : BitVec 32) : Fin 2 → Nat :=
  let v3599 : Index := Scalar.indexCast v3593
  let c0_1813 : Index := 0#32
  ![v3599.toNat, 0]

def k0_chk422 (v3593 : BitVec 32) : Prop :=
  (∀ a, (k0_off685 v3593) a + S1x256.size a ≤ S2064x256.size a)
theorem k0_off685_inb : ∀ (v3593 : BitVec 32) (k0_hw422 : k0_chk422 v3593), ∀ a, (k0_off685 v3593) a + S1x256.size a ≤ S2064x256.size a := fun v3593 k0_hw422 => k0_hw422

def k0_off686 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3604 : Index := Scalar.indexCast v3561
  let c3_1816 : Index := 3#32
  ![v3604.toNat, 3]
def k0_off687 (v3605 : BitVec 32) : Fin 2 → Nat :=
  let v3608 : Index := Scalar.indexCast v3605
  let c0_1818 : Index := 0#32
  ![v3608.toNat, 0]

def k0_chk423 (v3605 : BitVec 32) : Prop :=
  (∀ a, (k0_off687 v3605) a + S1x256.size a ≤ S2064x256.size a)
theorem k0_off687_inb : ∀ (v3605 : BitVec 32) (k0_hw423 : k0_chk423 v3605), ∀ a, (k0_off687 v3605) a + S1x256.size a ≤ S2064x256.size a := fun v3605 k0_hw423 => k0_hw423

def k0_off688 (v3607 : BitVec 32) : Fin 2 → Nat :=
  let v3613 : Index := Scalar.indexCast v3607
  let c0_1820 : Index := 0#32
  ![v3613.toNat, 0]

def k0_chk424 (v3607 : BitVec 32) : Prop :=
  (∀ a, (k0_off688 v3607) a + S1x256.size a ≤ S2064x256.size a)
theorem k0_off688_inb : ∀ (v3607 : BitVec 32) (k0_hw424 : k0_chk424 v3607), ∀ a, (k0_off688 v3607) a + S1x256.size a ≤ S2064x256.size a := fun v3607 k0_hw424 => k0_hw424

def k0_off689 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3618 : Index := Scalar.indexCast v3561
  let c4_1823 : Index := 4#32
  ![v3618.toNat, 4]
def k0_off690 (v3619 : BitVec 32) : Fin 2 → Nat :=
  let v3622 : Index := Scalar.indexCast v3619
  let c0_1825 : Index := 0#32
  ![v3622.toNat, 0]

def k0_chk425 (v3619 : BitVec 32) : Prop :=
  (∀ a, (k0_off690 v3619) a + S1x256.size a ≤ S2064x256.size a)
theorem k0_off690_inb : ∀ (v3619 : BitVec 32) (k0_hw425 : k0_chk425 v3619), ∀ a, (k0_off690 v3619) a + S1x256.size a ≤ S2064x256.size a := fun v3619 k0_hw425 => k0_hw425

def k0_off691 (v3621 : BitVec 32) : Fin 2 → Nat :=
  let v3627 : Index := Scalar.indexCast v3621
  let c0_1827 : Index := 0#32
  ![v3627.toNat, 0]

def k0_chk426 (v3621 : BitVec 32) : Prop :=
  (∀ a, (k0_off691 v3621) a + S1x256.size a ≤ S2064x256.size a)
theorem k0_off691_inb : ∀ (v3621 : BitVec 32) (k0_hw426 : k0_chk426 v3621), ∀ a, (k0_off691 v3621) a + S1x256.size a ≤ S2064x256.size a := fun v3621 k0_hw426 => k0_hw426

def k0_off692 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3632 : Index := Scalar.indexCast v3561
  let c5_1830 : Index := 5#32
  ![v3632.toNat, 5]
def k0_off693 (v3633 : BitVec 32) : Fin 2 → Nat :=
  let v3636 : Index := Scalar.indexCast v3633
  let c0_1832 : Index := 0#32
  ![v3636.toNat, 0]

def k0_chk427 (v3633 : BitVec 32) : Prop :=
  (∀ a, (k0_off693 v3633) a + S1x256.size a ≤ S2064x256.size a)
theorem k0_off693_inb : ∀ (v3633 : BitVec 32) (k0_hw427 : k0_chk427 v3633), ∀ a, (k0_off693 v3633) a + S1x256.size a ≤ S2064x256.size a := fun v3633 k0_hw427 => k0_hw427

def k0_off694 (v3635 : BitVec 32) : Fin 2 → Nat :=
  let v3641 : Index := Scalar.indexCast v3635
  let c0_1834 : Index := 0#32
  ![v3641.toNat, 0]

def k0_chk428 (v3635 : BitVec 32) : Prop :=
  (∀ a, (k0_off694 v3635) a + S1x256.size a ≤ S2064x256.size a)
theorem k0_off694_inb : ∀ (v3635 : BitVec 32) (k0_hw428 : k0_chk428 v3635), ∀ a, (k0_off694 v3635) a + S1x256.size a ≤ S2064x256.size a := fun v3635 k0_hw428 => k0_hw428

def k0_off695 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3646 : Index := Scalar.indexCast v3561
  let c6_1837 : Index := 6#32
  ![v3646.toNat, 6]
def k0_off696 (v3647 : BitVec 32) : Fin 2 → Nat :=
  let v3650 : Index := Scalar.indexCast v3647
  let c0_1839 : Index := 0#32
  ![v3650.toNat, 0]

def k0_chk429 (v3647 : BitVec 32) : Prop :=
  (∀ a, (k0_off696 v3647) a + S1x256.size a ≤ S2064x256.size a)
theorem k0_off696_inb : ∀ (v3647 : BitVec 32) (k0_hw429 : k0_chk429 v3647), ∀ a, (k0_off696 v3647) a + S1x256.size a ≤ S2064x256.size a := fun v3647 k0_hw429 => k0_hw429

def k0_off697 (v3649 : BitVec 32) : Fin 2 → Nat :=
  let v3655 : Index := Scalar.indexCast v3649
  let c0_1841 : Index := 0#32
  ![v3655.toNat, 0]

def k0_chk430 (v3649 : BitVec 32) : Prop :=
  (∀ a, (k0_off697 v3649) a + S1x256.size a ≤ S2064x256.size a)
theorem k0_off697_inb : ∀ (v3649 : BitVec 32) (k0_hw430 : k0_chk430 v3649), ∀ a, (k0_off697 v3649) a + S1x256.size a ≤ S2064x256.size a := fun v3649 k0_hw430 => k0_hw430

def k0_off698 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3660 : Index := Scalar.indexCast v3561
  let c7_1844 : Index := 7#32
  ![v3660.toNat, 7]
def k0_off699 (v3661 : BitVec 32) : Fin 2 → Nat :=
  let v3664 : Index := Scalar.indexCast v3661
  let c0_1846 : Index := 0#32
  ![v3664.toNat, 0]

def k0_chk431 (v3661 : BitVec 32) : Prop :=
  (∀ a, (k0_off699 v3661) a + S1x256.size a ≤ S2064x256.size a)
theorem k0_off699_inb : ∀ (v3661 : BitVec 32) (k0_hw431 : k0_chk431 v3661), ∀ a, (k0_off699 v3661) a + S1x256.size a ≤ S2064x256.size a := fun v3661 k0_hw431 => k0_hw431

def k0_off700 (v3663 : BitVec 32) : Fin 2 → Nat :=
  let v3669 : Index := Scalar.indexCast v3663
  let c0_1848 : Index := 0#32
  ![v3669.toNat, 0]

def k0_chk432 (v3663 : BitVec 32) : Prop :=
  (∀ a, (k0_off700 v3663) a + S1x256.size a ≤ S2064x256.size a)
theorem k0_off700_inb : ∀ (v3663 : BitVec 32) (k0_hw432 : k0_chk432 v3663), ∀ a, (k0_off700 v3663) a + S1x256.size a ≤ S2064x256.size a := fun v3663 k0_hw432 => k0_hw432

def k0_off701 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3674 : Index := Scalar.indexCast v3561
  let c8_1851 : Index := 8#32
  ![v3674.toNat, 8]
def k0_off702 (v3675 : BitVec 32) : Fin 2 → Nat :=
  let v3678 : Index := Scalar.indexCast v3675
  let c0_1853 : Index := 0#32
  ![v3678.toNat, 0]

def k0_chk433 (v3675 : BitVec 32) : Prop :=
  (∀ a, (k0_off702 v3675) a + S1x256.size a ≤ S2064x256.size a)
theorem k0_off702_inb : ∀ (v3675 : BitVec 32) (k0_hw433 : k0_chk433 v3675), ∀ a, (k0_off702 v3675) a + S1x256.size a ≤ S2064x256.size a := fun v3675 k0_hw433 => k0_hw433

def k0_off703 (v3677 : BitVec 32) : Fin 2 → Nat :=
  let v3683 : Index := Scalar.indexCast v3677
  let c0_1855 : Index := 0#32
  ![v3683.toNat, 0]

def k0_chk434 (v3677 : BitVec 32) : Prop :=
  (∀ a, (k0_off703 v3677) a + S1x256.size a ≤ S2064x256.size a)
theorem k0_off703_inb : ∀ (v3677 : BitVec 32) (k0_hw434 : k0_chk434 v3677), ∀ a, (k0_off703 v3677) a + S1x256.size a ≤ S2064x256.size a := fun v3677 k0_hw434 => k0_hw434

def k0_off704 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3688 : Index := Scalar.indexCast v3561
  let c9_1858 : Index := 9#32
  ![v3688.toNat, 9]
def k0_off705 (v3689 : BitVec 32) : Fin 2 → Nat :=
  let v3692 : Index := Scalar.indexCast v3689
  let c0_1860 : Index := 0#32
  ![v3692.toNat, 0]

def k0_chk435 (v3689 : BitVec 32) : Prop :=
  (∀ a, (k0_off705 v3689) a + S1x256.size a ≤ S2064x256.size a)
theorem k0_off705_inb : ∀ (v3689 : BitVec 32) (k0_hw435 : k0_chk435 v3689), ∀ a, (k0_off705 v3689) a + S1x256.size a ≤ S2064x256.size a := fun v3689 k0_hw435 => k0_hw435

def k0_off706 (v3691 : BitVec 32) : Fin 2 → Nat :=
  let v3697 : Index := Scalar.indexCast v3691
  let c0_1862 : Index := 0#32
  ![v3697.toNat, 0]

def k0_chk436 (v3691 : BitVec 32) : Prop :=
  (∀ a, (k0_off706 v3691) a + S1x256.size a ≤ S2064x256.size a)
theorem k0_off706_inb : ∀ (v3691 : BitVec 32) (k0_hw436 : k0_chk436 v3691), ∀ a, (k0_off706 v3691) a + S1x256.size a ≤ S2064x256.size a := fun v3691 k0_hw436 => k0_hw436

def k0_off707 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3702 : Index := Scalar.indexCast v3561
  let c10_1865 : Index := 10#32
  ![v3702.toNat, 10]
def k0_off708 (v3703 : BitVec 32) : Fin 2 → Nat :=
  let v3706 : Index := Scalar.indexCast v3703
  let c0_1867 : Index := 0#32
  ![v3706.toNat, 0]

def k0_chk437 (v3703 : BitVec 32) : Prop :=
  (∀ a, (k0_off708 v3703) a + S1x256.size a ≤ S2064x256.size a)
theorem k0_off708_inb : ∀ (v3703 : BitVec 32) (k0_hw437 : k0_chk437 v3703), ∀ a, (k0_off708 v3703) a + S1x256.size a ≤ S2064x256.size a := fun v3703 k0_hw437 => k0_hw437

def k0_off709 (v3705 : BitVec 32) : Fin 2 → Nat :=
  let v3711 : Index := Scalar.indexCast v3705
  let c0_1869 : Index := 0#32
  ![v3711.toNat, 0]

def k0_chk438 (v3705 : BitVec 32) : Prop :=
  (∀ a, (k0_off709 v3705) a + S1x256.size a ≤ S2064x256.size a)
theorem k0_off709_inb : ∀ (v3705 : BitVec 32) (k0_hw438 : k0_chk438 v3705), ∀ a, (k0_off709 v3705) a + S1x256.size a ≤ S2064x256.size a := fun v3705 k0_hw438 => k0_hw438

def k0_off710 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3716 : Index := Scalar.indexCast v3561
  let c11_1872 : Index := 11#32
  ![v3716.toNat, 11]
def k0_off711 (v3717 : BitVec 32) : Fin 2 → Nat :=
  let v3720 : Index := Scalar.indexCast v3717
  let c0_1874 : Index := 0#32
  ![v3720.toNat, 0]

def k0_chk439 (v3717 : BitVec 32) : Prop :=
  (∀ a, (k0_off711 v3717) a + S1x256.size a ≤ S2064x256.size a)
theorem k0_off711_inb : ∀ (v3717 : BitVec 32) (k0_hw439 : k0_chk439 v3717), ∀ a, (k0_off711 v3717) a + S1x256.size a ≤ S2064x256.size a := fun v3717 k0_hw439 => k0_hw439

def k0_off712 (v3719 : BitVec 32) : Fin 2 → Nat :=
  let v3725 : Index := Scalar.indexCast v3719
  let c0_1876 : Index := 0#32
  ![v3725.toNat, 0]

def k0_chk440 (v3719 : BitVec 32) : Prop :=
  (∀ a, (k0_off712 v3719) a + S1x256.size a ≤ S2064x256.size a)
theorem k0_off712_inb : ∀ (v3719 : BitVec 32) (k0_hw440 : k0_chk440 v3719), ∀ a, (k0_off712 v3719) a + S1x256.size a ≤ S2064x256.size a := fun v3719 k0_hw440 => k0_hw440

def k0_off713 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3730 : Index := Scalar.indexCast v3561
  let c12_1879 : Index := 12#32
  ![v3730.toNat, 12]
def k0_off714 (v3731 : BitVec 32) : Fin 2 → Nat :=
  let v3734 : Index := Scalar.indexCast v3731
  let c0_1881 : Index := 0#32
  ![v3734.toNat, 0]

def k0_chk441 (v3731 : BitVec 32) : Prop :=
  (∀ a, (k0_off714 v3731) a + S1x256.size a ≤ S2064x256.size a)
theorem k0_off714_inb : ∀ (v3731 : BitVec 32) (k0_hw441 : k0_chk441 v3731), ∀ a, (k0_off714 v3731) a + S1x256.size a ≤ S2064x256.size a := fun v3731 k0_hw441 => k0_hw441

def k0_off715 (v3733 : BitVec 32) : Fin 2 → Nat :=
  let v3739 : Index := Scalar.indexCast v3733
  let c0_1883 : Index := 0#32
  ![v3739.toNat, 0]

def k0_chk442 (v3733 : BitVec 32) : Prop :=
  (∀ a, (k0_off715 v3733) a + S1x256.size a ≤ S2064x256.size a)
theorem k0_off715_inb : ∀ (v3733 : BitVec 32) (k0_hw442 : k0_chk442 v3733), ∀ a, (k0_off715 v3733) a + S1x256.size a ≤ S2064x256.size a := fun v3733 k0_hw442 => k0_hw442

def k0_off716 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3744 : Index := Scalar.indexCast v3561
  let c13_1886 : Index := 13#32
  ![v3744.toNat, 13]
def k0_off717 (v3745 : BitVec 32) : Fin 2 → Nat :=
  let v3748 : Index := Scalar.indexCast v3745
  let c0_1888 : Index := 0#32
  ![v3748.toNat, 0]

def k0_chk443 (v3745 : BitVec 32) : Prop :=
  (∀ a, (k0_off717 v3745) a + S1x256.size a ≤ S2064x256.size a)
theorem k0_off717_inb : ∀ (v3745 : BitVec 32) (k0_hw443 : k0_chk443 v3745), ∀ a, (k0_off717 v3745) a + S1x256.size a ≤ S2064x256.size a := fun v3745 k0_hw443 => k0_hw443

def k0_off718 (v3747 : BitVec 32) : Fin 2 → Nat :=
  let v3753 : Index := Scalar.indexCast v3747
  let c0_1890 : Index := 0#32
  ![v3753.toNat, 0]

def k0_chk444 (v3747 : BitVec 32) : Prop :=
  (∀ a, (k0_off718 v3747) a + S1x256.size a ≤ S2064x256.size a)
theorem k0_off718_inb : ∀ (v3747 : BitVec 32) (k0_hw444 : k0_chk444 v3747), ∀ a, (k0_off718 v3747) a + S1x256.size a ≤ S2064x256.size a := fun v3747 k0_hw444 => k0_hw444

def k0_off719 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3758 : Index := Scalar.indexCast v3561
  let c14_1893 : Index := 14#32
  ![v3758.toNat, 14]
def k0_off720 (v3759 : BitVec 32) : Fin 2 → Nat :=
  let v3762 : Index := Scalar.indexCast v3759
  let c0_1895 : Index := 0#32
  ![v3762.toNat, 0]

def k0_chk445 (v3759 : BitVec 32) : Prop :=
  (∀ a, (k0_off720 v3759) a + S1x256.size a ≤ S2064x256.size a)
theorem k0_off720_inb : ∀ (v3759 : BitVec 32) (k0_hw445 : k0_chk445 v3759), ∀ a, (k0_off720 v3759) a + S1x256.size a ≤ S2064x256.size a := fun v3759 k0_hw445 => k0_hw445

def k0_off721 (v3761 : BitVec 32) : Fin 2 → Nat :=
  let v3767 : Index := Scalar.indexCast v3761
  let c0_1897 : Index := 0#32
  ![v3767.toNat, 0]

def k0_chk446 (v3761 : BitVec 32) : Prop :=
  (∀ a, (k0_off721 v3761) a + S1x256.size a ≤ S2064x256.size a)
theorem k0_off721_inb : ∀ (v3761 : BitVec 32) (k0_hw446 : k0_chk446 v3761), ∀ a, (k0_off721 v3761) a + S1x256.size a ≤ S2064x256.size a := fun v3761 k0_hw446 => k0_hw446

def k0_off722 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3772 : Index := Scalar.indexCast v3561
  let c15_1900 : Index := 15#32
  ![v3772.toNat, 15]
def k0_off723 (v3773 : BitVec 32) : Fin 2 → Nat :=
  let v3776 : Index := Scalar.indexCast v3773
  let c0_1902 : Index := 0#32
  ![v3776.toNat, 0]

def k0_chk447 (v3773 : BitVec 32) : Prop :=
  (∀ a, (k0_off723 v3773) a + S1x256.size a ≤ S2064x256.size a)
theorem k0_off723_inb : ∀ (v3773 : BitVec 32) (k0_hw447 : k0_chk447 v3773), ∀ a, (k0_off723 v3773) a + S1x256.size a ≤ S2064x256.size a := fun v3773 k0_hw447 => k0_hw447

def k0_off724 (v3775 : BitVec 32) : Fin 2 → Nat :=
  let v3781 : Index := Scalar.indexCast v3775
  let c0_1904 : Index := 0#32
  ![v3781.toNat, 0]

def k0_chk448 (v3775 : BitVec 32) : Prop :=
  (∀ a, (k0_off724 v3775) a + S1x256.size a ≤ S2064x256.size a)
theorem k0_off724_inb : ∀ (v3775 : BitVec 32) (k0_hw448 : k0_chk448 v3775), ∀ a, (k0_off724 v3775) a + S1x256.size a ≤ S2064x256.size a := fun v3775 k0_hw448 => k0_hw448

def k0_off725 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let c16_i32_1909 : BitVec 32 := 16#32
  let v3789 : BitVec 32 := Scalar.muli v3561 c16_i32_1909
  let v3790 : Index := Scalar.indexCast v3789
  let c0_1910 : Index := 0#32
  ![v3790.toNat, 0]
def k0_off726 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let c16_i32_1918 : BitVec 32 := 16#32
  let v3809 : BitVec 32 := Scalar.muli v3561 c16_i32_1918
  let v3810 : Index := Scalar.indexCast v3809
  let c0_1919 : Index := 0#32
  ![v3810.toNat, 0]
def k0_off727 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let c16_i32_1925 : BitVec 32 := 16#32
  let v3822 : BitVec 32 := Scalar.muli v3561 c16_i32_1925
  let v3823 : Index := Scalar.indexCast v3822
  let c0_1926 : Index := 0#32
  ![v3823.toNat, 0]
def k0_off728 (k0_t1 : Fin k0_t1_loop.trips) : Fin 3 → Nat :=
  let c0_1927 : Index := 0#32
  let c0_i32 : BitVec 32 := 0#32
  let c1_i32 : BitVec 32 := 1#32
  let arg19 : BitVec 32 := Scf.iv c0_i32 c1_i32 k0_t1
  let c16_i32_1794 : BitVec 32 := 16#32
  let v3560 : BitVec 32 := Scalar.muli arg19 c16_i32_1794
  let c13_i32 : BitVec 32 := 13#32
  let v3561 : BitVec 32 := Scalar.addi v3560 c13_i32
  let v3828 : Index := Scalar.indexCast v3561
  let c0_1928 : Index := 0#32
  ![0, v3828.toNat, 0]
def k0_off729 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3832 : Index := Scalar.indexCast v3831
  let c0_1930 : Index := 0#32
  ![v3832.toNat, 0]
def k0_off730 (v3833 : BitVec 32) : Fin 2 → Nat :=
  let v3836 : Index := Scalar.indexCast v3833
  let c0_1932 : Index := 0#32
  ![v3836.toNat, 0]

def k0_chk449 (v3833 : BitVec 32) : Prop :=
  (∀ a, (k0_off730 v3833) a + S1x256.size a ≤ S2064x256.size a)
theorem k0_off730_inb : ∀ (v3833 : BitVec 32) (k0_hw449 : k0_chk449 v3833), ∀ a, (k0_off730 v3833) a + S1x256.size a ≤ S2064x256.size a := fun v3833 k0_hw449 => k0_hw449

def k0_off731 (v3835 : BitVec 32) : Fin 2 → Nat :=
  let v3841 : Index := Scalar.indexCast v3835
  let c0_1934 : Index := 0#32
  ![v3841.toNat, 0]

def k0_chk450 (v3835 : BitVec 32) : Prop :=
  (∀ a, (k0_off731 v3835) a + S1x256.size a ≤ S2064x256.size a)
theorem k0_off731_inb : ∀ (v3835 : BitVec 32) (k0_hw450 : k0_chk450 v3835), ∀ a, (k0_off731 v3835) a + S1x256.size a ≤ S2064x256.size a := fun v3835 k0_hw450 => k0_hw450

def k0_off732 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3846 : Index := Scalar.indexCast v3831
  let c1_1937 : Index := 1#32
  ![v3846.toNat, 1]
def k0_off733 (v3847 : BitVec 32) : Fin 2 → Nat :=
  let v3850 : Index := Scalar.indexCast v3847
  let c0_1939 : Index := 0#32
  ![v3850.toNat, 0]

def k0_chk451 (v3847 : BitVec 32) : Prop :=
  (∀ a, (k0_off733 v3847) a + S1x256.size a ≤ S2064x256.size a)
theorem k0_off733_inb : ∀ (v3847 : BitVec 32) (k0_hw451 : k0_chk451 v3847), ∀ a, (k0_off733 v3847) a + S1x256.size a ≤ S2064x256.size a := fun v3847 k0_hw451 => k0_hw451

def k0_off734 (v3849 : BitVec 32) : Fin 2 → Nat :=
  let v3855 : Index := Scalar.indexCast v3849
  let c0_1941 : Index := 0#32
  ![v3855.toNat, 0]

def k0_chk452 (v3849 : BitVec 32) : Prop :=
  (∀ a, (k0_off734 v3849) a + S1x256.size a ≤ S2064x256.size a)
theorem k0_off734_inb : ∀ (v3849 : BitVec 32) (k0_hw452 : k0_chk452 v3849), ∀ a, (k0_off734 v3849) a + S1x256.size a ≤ S2064x256.size a := fun v3849 k0_hw452 => k0_hw452

def k0_off735 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3860 : Index := Scalar.indexCast v3831
  let c2_1944 : Index := 2#32
  ![v3860.toNat, 2]
def k0_off736 (v3861 : BitVec 32) : Fin 2 → Nat :=
  let v3864 : Index := Scalar.indexCast v3861
  let c0_1946 : Index := 0#32
  ![v3864.toNat, 0]

def k0_chk453 (v3861 : BitVec 32) : Prop :=
  (∀ a, (k0_off736 v3861) a + S1x256.size a ≤ S2064x256.size a)
theorem k0_off736_inb : ∀ (v3861 : BitVec 32) (k0_hw453 : k0_chk453 v3861), ∀ a, (k0_off736 v3861) a + S1x256.size a ≤ S2064x256.size a := fun v3861 k0_hw453 => k0_hw453

def k0_off737 (v3863 : BitVec 32) : Fin 2 → Nat :=
  let v3869 : Index := Scalar.indexCast v3863
  let c0_1948 : Index := 0#32
  ![v3869.toNat, 0]

def k0_chk454 (v3863 : BitVec 32) : Prop :=
  (∀ a, (k0_off737 v3863) a + S1x256.size a ≤ S2064x256.size a)
theorem k0_off737_inb : ∀ (v3863 : BitVec 32) (k0_hw454 : k0_chk454 v3863), ∀ a, (k0_off737 v3863) a + S1x256.size a ≤ S2064x256.size a := fun v3863 k0_hw454 => k0_hw454

def k0_off738 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3874 : Index := Scalar.indexCast v3831
  let c3_1951 : Index := 3#32
  ![v3874.toNat, 3]
def k0_off739 (v3875 : BitVec 32) : Fin 2 → Nat :=
  let v3878 : Index := Scalar.indexCast v3875
  let c0_1953 : Index := 0#32
  ![v3878.toNat, 0]

def k0_chk455 (v3875 : BitVec 32) : Prop :=
  (∀ a, (k0_off739 v3875) a + S1x256.size a ≤ S2064x256.size a)
theorem k0_off739_inb : ∀ (v3875 : BitVec 32) (k0_hw455 : k0_chk455 v3875), ∀ a, (k0_off739 v3875) a + S1x256.size a ≤ S2064x256.size a := fun v3875 k0_hw455 => k0_hw455

def k0_off740 (v3877 : BitVec 32) : Fin 2 → Nat :=
  let v3883 : Index := Scalar.indexCast v3877
  let c0_1955 : Index := 0#32
  ![v3883.toNat, 0]

def k0_chk456 (v3877 : BitVec 32) : Prop :=
  (∀ a, (k0_off740 v3877) a + S1x256.size a ≤ S2064x256.size a)
theorem k0_off740_inb : ∀ (v3877 : BitVec 32) (k0_hw456 : k0_chk456 v3877), ∀ a, (k0_off740 v3877) a + S1x256.size a ≤ S2064x256.size a := fun v3877 k0_hw456 => k0_hw456

def k0_off741 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3888 : Index := Scalar.indexCast v3831
  let c4_1958 : Index := 4#32
  ![v3888.toNat, 4]
def k0_off742 (v3889 : BitVec 32) : Fin 2 → Nat :=
  let v3892 : Index := Scalar.indexCast v3889
  let c0_1960 : Index := 0#32
  ![v3892.toNat, 0]

def k0_chk457 (v3889 : BitVec 32) : Prop :=
  (∀ a, (k0_off742 v3889) a + S1x256.size a ≤ S2064x256.size a)
theorem k0_off742_inb : ∀ (v3889 : BitVec 32) (k0_hw457 : k0_chk457 v3889), ∀ a, (k0_off742 v3889) a + S1x256.size a ≤ S2064x256.size a := fun v3889 k0_hw457 => k0_hw457

def k0_off743 (v3891 : BitVec 32) : Fin 2 → Nat :=
  let v3897 : Index := Scalar.indexCast v3891
  let c0_1962 : Index := 0#32
  ![v3897.toNat, 0]

def k0_chk458 (v3891 : BitVec 32) : Prop :=
  (∀ a, (k0_off743 v3891) a + S1x256.size a ≤ S2064x256.size a)
theorem k0_off743_inb : ∀ (v3891 : BitVec 32) (k0_hw458 : k0_chk458 v3891), ∀ a, (k0_off743 v3891) a + S1x256.size a ≤ S2064x256.size a := fun v3891 k0_hw458 => k0_hw458

def k0_off744 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3902 : Index := Scalar.indexCast v3831
  let c5_1965 : Index := 5#32
  ![v3902.toNat, 5]
def k0_off745 (v3903 : BitVec 32) : Fin 2 → Nat :=
  let v3906 : Index := Scalar.indexCast v3903
  let c0_1967 : Index := 0#32
  ![v3906.toNat, 0]

def k0_chk459 (v3903 : BitVec 32) : Prop :=
  (∀ a, (k0_off745 v3903) a + S1x256.size a ≤ S2064x256.size a)
theorem k0_off745_inb : ∀ (v3903 : BitVec 32) (k0_hw459 : k0_chk459 v3903), ∀ a, (k0_off745 v3903) a + S1x256.size a ≤ S2064x256.size a := fun v3903 k0_hw459 => k0_hw459

def k0_off746 (v3905 : BitVec 32) : Fin 2 → Nat :=
  let v3911 : Index := Scalar.indexCast v3905
  let c0_1969 : Index := 0#32
  ![v3911.toNat, 0]

def k0_chk460 (v3905 : BitVec 32) : Prop :=
  (∀ a, (k0_off746 v3905) a + S1x256.size a ≤ S2064x256.size a)
theorem k0_off746_inb : ∀ (v3905 : BitVec 32) (k0_hw460 : k0_chk460 v3905), ∀ a, (k0_off746 v3905) a + S1x256.size a ≤ S2064x256.size a := fun v3905 k0_hw460 => k0_hw460

def k0_off747 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3916 : Index := Scalar.indexCast v3831
  let c6_1972 : Index := 6#32
  ![v3916.toNat, 6]
def k0_off748 (v3917 : BitVec 32) : Fin 2 → Nat :=
  let v3920 : Index := Scalar.indexCast v3917
  let c0_1974 : Index := 0#32
  ![v3920.toNat, 0]

def k0_chk461 (v3917 : BitVec 32) : Prop :=
  (∀ a, (k0_off748 v3917) a + S1x256.size a ≤ S2064x256.size a)
theorem k0_off748_inb : ∀ (v3917 : BitVec 32) (k0_hw461 : k0_chk461 v3917), ∀ a, (k0_off748 v3917) a + S1x256.size a ≤ S2064x256.size a := fun v3917 k0_hw461 => k0_hw461

def k0_off749 (v3919 : BitVec 32) : Fin 2 → Nat :=
  let v3925 : Index := Scalar.indexCast v3919
  let c0_1976 : Index := 0#32
  ![v3925.toNat, 0]

def k0_chk462 (v3919 : BitVec 32) : Prop :=
  (∀ a, (k0_off749 v3919) a + S1x256.size a ≤ S2064x256.size a)
theorem k0_off749_inb : ∀ (v3919 : BitVec 32) (k0_hw462 : k0_chk462 v3919), ∀ a, (k0_off749 v3919) a + S1x256.size a ≤ S2064x256.size a := fun v3919 k0_hw462 => k0_hw462

def k0_off750 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3930 : Index := Scalar.indexCast v3831
  let c7_1979 : Index := 7#32
  ![v3930.toNat, 7]
def k0_off751 (v3931 : BitVec 32) : Fin 2 → Nat :=
  let v3934 : Index := Scalar.indexCast v3931
  let c0_1981 : Index := 0#32
  ![v3934.toNat, 0]

def k0_chk463 (v3931 : BitVec 32) : Prop :=
  (∀ a, (k0_off751 v3931) a + S1x256.size a ≤ S2064x256.size a)
theorem k0_off751_inb : ∀ (v3931 : BitVec 32) (k0_hw463 : k0_chk463 v3931), ∀ a, (k0_off751 v3931) a + S1x256.size a ≤ S2064x256.size a := fun v3931 k0_hw463 => k0_hw463

def k0_off752 (v3933 : BitVec 32) : Fin 2 → Nat :=
  let v3939 : Index := Scalar.indexCast v3933
  let c0_1983 : Index := 0#32
  ![v3939.toNat, 0]

def k0_chk464 (v3933 : BitVec 32) : Prop :=
  (∀ a, (k0_off752 v3933) a + S1x256.size a ≤ S2064x256.size a)
theorem k0_off752_inb : ∀ (v3933 : BitVec 32) (k0_hw464 : k0_chk464 v3933), ∀ a, (k0_off752 v3933) a + S1x256.size a ≤ S2064x256.size a := fun v3933 k0_hw464 => k0_hw464

def k0_off753 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3944 : Index := Scalar.indexCast v3831
  let c8_1986 : Index := 8#32
  ![v3944.toNat, 8]
def k0_off754 (v3945 : BitVec 32) : Fin 2 → Nat :=
  let v3948 : Index := Scalar.indexCast v3945
  let c0_1988 : Index := 0#32
  ![v3948.toNat, 0]

def k0_chk465 (v3945 : BitVec 32) : Prop :=
  (∀ a, (k0_off754 v3945) a + S1x256.size a ≤ S2064x256.size a)
theorem k0_off754_inb : ∀ (v3945 : BitVec 32) (k0_hw465 : k0_chk465 v3945), ∀ a, (k0_off754 v3945) a + S1x256.size a ≤ S2064x256.size a := fun v3945 k0_hw465 => k0_hw465

def k0_off755 (v3947 : BitVec 32) : Fin 2 → Nat :=
  let v3953 : Index := Scalar.indexCast v3947
  let c0_1990 : Index := 0#32
  ![v3953.toNat, 0]

def k0_chk466 (v3947 : BitVec 32) : Prop :=
  (∀ a, (k0_off755 v3947) a + S1x256.size a ≤ S2064x256.size a)
theorem k0_off755_inb : ∀ (v3947 : BitVec 32) (k0_hw466 : k0_chk466 v3947), ∀ a, (k0_off755 v3947) a + S1x256.size a ≤ S2064x256.size a := fun v3947 k0_hw466 => k0_hw466

def k0_off756 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3958 : Index := Scalar.indexCast v3831
  let c9_1993 : Index := 9#32
  ![v3958.toNat, 9]
def k0_off757 (v3959 : BitVec 32) : Fin 2 → Nat :=
  let v3962 : Index := Scalar.indexCast v3959
  let c0_1995 : Index := 0#32
  ![v3962.toNat, 0]

def k0_chk467 (v3959 : BitVec 32) : Prop :=
  (∀ a, (k0_off757 v3959) a + S1x256.size a ≤ S2064x256.size a)
theorem k0_off757_inb : ∀ (v3959 : BitVec 32) (k0_hw467 : k0_chk467 v3959), ∀ a, (k0_off757 v3959) a + S1x256.size a ≤ S2064x256.size a := fun v3959 k0_hw467 => k0_hw467

def k0_off758 (v3961 : BitVec 32) : Fin 2 → Nat :=
  let v3967 : Index := Scalar.indexCast v3961
  let c0_1997 : Index := 0#32
  ![v3967.toNat, 0]

def k0_chk468 (v3961 : BitVec 32) : Prop :=
  (∀ a, (k0_off758 v3961) a + S1x256.size a ≤ S2064x256.size a)
theorem k0_off758_inb : ∀ (v3961 : BitVec 32) (k0_hw468 : k0_chk468 v3961), ∀ a, (k0_off758 v3961) a + S1x256.size a ≤ S2064x256.size a := fun v3961 k0_hw468 => k0_hw468

def k0_off759 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3972 : Index := Scalar.indexCast v3831
  let c10_2000 : Index := 10#32
  ![v3972.toNat, 10]
def k0_off760 (v3973 : BitVec 32) : Fin 2 → Nat :=
  let v3976 : Index := Scalar.indexCast v3973
  let c0_2002 : Index := 0#32
  ![v3976.toNat, 0]

def k0_chk469 (v3973 : BitVec 32) : Prop :=
  (∀ a, (k0_off760 v3973) a + S1x256.size a ≤ S2064x256.size a)
theorem k0_off760_inb : ∀ (v3973 : BitVec 32) (k0_hw469 : k0_chk469 v3973), ∀ a, (k0_off760 v3973) a + S1x256.size a ≤ S2064x256.size a := fun v3973 k0_hw469 => k0_hw469

def k0_off761 (v3975 : BitVec 32) : Fin 2 → Nat :=
  let v3981 : Index := Scalar.indexCast v3975
  let c0_2004 : Index := 0#32
  ![v3981.toNat, 0]

def k0_chk470 (v3975 : BitVec 32) : Prop :=
  (∀ a, (k0_off761 v3975) a + S1x256.size a ≤ S2064x256.size a)
theorem k0_off761_inb : ∀ (v3975 : BitVec 32) (k0_hw470 : k0_chk470 v3975), ∀ a, (k0_off761 v3975) a + S1x256.size a ≤ S2064x256.size a := fun v3975 k0_hw470 => k0_hw470

def k0_off762 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v3986 : Index := Scalar.indexCast v3831
  let c11_2007 : Index := 11#32
  ![v3986.toNat, 11]
def k0_off763 (v3987 : BitVec 32) : Fin 2 → Nat :=
  let v3990 : Index := Scalar.indexCast v3987
  let c0_2009 : Index := 0#32
  ![v3990.toNat, 0]

def k0_chk471 (v3987 : BitVec 32) : Prop :=
  (∀ a, (k0_off763 v3987) a + S1x256.size a ≤ S2064x256.size a)
theorem k0_off763_inb : ∀ (v3987 : BitVec 32) (k0_hw471 : k0_chk471 v3987), ∀ a, (k0_off763 v3987) a + S1x256.size a ≤ S2064x256.size a := fun v3987 k0_hw471 => k0_hw471

def k0_off764 (v3989 : BitVec 32) : Fin 2 → Nat :=
  let v3995 : Index := Scalar.indexCast v3989
  let c0_2011 : Index := 0#32
  ![v3995.toNat, 0]

def k0_chk472 (v3989 : BitVec 32) : Prop :=
  (∀ a, (k0_off764 v3989) a + S1x256.size a ≤ S2064x256.size a)
theorem k0_off764_inb : ∀ (v3989 : BitVec 32) (k0_hw472 : k0_chk472 v3989), ∀ a, (k0_off764 v3989) a + S1x256.size a ≤ S2064x256.size a := fun v3989 k0_hw472 => k0_hw472

def k0_off765 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v4000 : Index := Scalar.indexCast v3831
  let c12_2014 : Index := 12#32
  ![v4000.toNat, 12]
def k0_off766 (v4001 : BitVec 32) : Fin 2 → Nat :=
  let v4004 : Index := Scalar.indexCast v4001
  let c0_2016 : Index := 0#32
  ![v4004.toNat, 0]

def k0_chk473 (v4001 : BitVec 32) : Prop :=
  (∀ a, (k0_off766 v4001) a + S1x256.size a ≤ S2064x256.size a)
theorem k0_off766_inb : ∀ (v4001 : BitVec 32) (k0_hw473 : k0_chk473 v4001), ∀ a, (k0_off766 v4001) a + S1x256.size a ≤ S2064x256.size a := fun v4001 k0_hw473 => k0_hw473

def k0_off767 (v4003 : BitVec 32) : Fin 2 → Nat :=
  let v4009 : Index := Scalar.indexCast v4003
  let c0_2018 : Index := 0#32
  ![v4009.toNat, 0]

def k0_chk474 (v4003 : BitVec 32) : Prop :=
  (∀ a, (k0_off767 v4003) a + S1x256.size a ≤ S2064x256.size a)
theorem k0_off767_inb : ∀ (v4003 : BitVec 32) (k0_hw474 : k0_chk474 v4003), ∀ a, (k0_off767 v4003) a + S1x256.size a ≤ S2064x256.size a := fun v4003 k0_hw474 => k0_hw474

def k0_off768 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v4014 : Index := Scalar.indexCast v3831
  let c13_2021 : Index := 13#32
  ![v4014.toNat, 13]
def k0_off769 (v4015 : BitVec 32) : Fin 2 → Nat :=
  let v4018 : Index := Scalar.indexCast v4015
  let c0_2023 : Index := 0#32
  ![v4018.toNat, 0]

def k0_chk475 (v4015 : BitVec 32) : Prop :=
  (∀ a, (k0_off769 v4015) a + S1x256.size a ≤ S2064x256.size a)
theorem k0_off769_inb : ∀ (v4015 : BitVec 32) (k0_hw475 : k0_chk475 v4015), ∀ a, (k0_off769 v4015) a + S1x256.size a ≤ S2064x256.size a := fun v4015 k0_hw475 => k0_hw475

def k0_off770 (v4017 : BitVec 32) : Fin 2 → Nat :=
  let v4023 : Index := Scalar.indexCast v4017
  let c0_2025 : Index := 0#32
  ![v4023.toNat, 0]

def k0_chk476 (v4017 : BitVec 32) : Prop :=
  (∀ a, (k0_off770 v4017) a + S1x256.size a ≤ S2064x256.size a)
theorem k0_off770_inb : ∀ (v4017 : BitVec 32) (k0_hw476 : k0_chk476 v4017), ∀ a, (k0_off770 v4017) a + S1x256.size a ≤ S2064x256.size a := fun v4017 k0_hw476 => k0_hw476

def k0_off771 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v4028 : Index := Scalar.indexCast v3831
  let c14_2028 : Index := 14#32
  ![v4028.toNat, 14]
def k0_off772 (v4029 : BitVec 32) : Fin 2 → Nat :=
  let v4032 : Index := Scalar.indexCast v4029
  let c0_2030 : Index := 0#32
  ![v4032.toNat, 0]

def k0_chk477 (v4029 : BitVec 32) : Prop :=
  (∀ a, (k0_off772 v4029) a + S1x256.size a ≤ S2064x256.size a)
theorem k0_off772_inb : ∀ (v4029 : BitVec 32) (k0_hw477 : k0_chk477 v4029), ∀ a, (k0_off772 v4029) a + S1x256.size a ≤ S2064x256.size a := fun v4029 k0_hw477 => k0_hw477

def k0_off773 (v4031 : BitVec 32) : Fin 2 → Nat :=
  let v4037 : Index := Scalar.indexCast v4031
  let c0_2032 : Index := 0#32
  ![v4037.toNat, 0]

def k0_chk478 (v4031 : BitVec 32) : Prop :=
  (∀ a, (k0_off773 v4031) a + S1x256.size a ≤ S2064x256.size a)
theorem k0_off773_inb : ∀ (v4031 : BitVec 32) (k0_hw478 : k0_chk478 v4031), ∀ a, (k0_off773 v4031) a + S1x256.size a ≤ S2064x256.size a := fun v4031 k0_hw478 => k0_hw478

def k0_off774 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v4042 : Index := Scalar.indexCast v3831
  let c15_2035 : Index := 15#32
  ![v4042.toNat, 15]
def k0_off775 (v4043 : BitVec 32) : Fin 2 → Nat :=
  let v4046 : Index := Scalar.indexCast v4043
  let c0_2037 : Index := 0#32
  ![v4046.toNat, 0]

def k0_chk479 (v4043 : BitVec 32) : Prop :=
  (∀ a, (k0_off775 v4043) a + S1x256.size a ≤ S2064x256.size a)
theorem k0_off775_inb : ∀ (v4043 : BitVec 32) (k0_hw479 : k0_chk479 v4043), ∀ a, (k0_off775 v4043) a + S1x256.size a ≤ S2064x256.size a := fun v4043 k0_hw479 => k0_hw479

def k0_off776 (v4045 : BitVec 32) : Fin 2 → Nat :=
  let v4051 : Index := Scalar.indexCast v4045
  let c0_2039 : Index := 0#32
  ![v4051.toNat, 0]

def k0_chk480 (v4045 : BitVec 32) : Prop :=
  (∀ a, (k0_off776 v4045) a + S1x256.size a ≤ S2064x256.size a)
theorem k0_off776_inb : ∀ (v4045 : BitVec 32) (k0_hw480 : k0_chk480 v4045), ∀ a, (k0_off776 v4045) a + S1x256.size a ≤ S2064x256.size a := fun v4045 k0_hw480 => k0_hw480

def k0_off777 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let c16_i32_2044 : BitVec 32 := 16#32
  let v4059 : BitVec 32 := Scalar.muli v3831 c16_i32_2044
  let v4060 : Index := Scalar.indexCast v4059
  let c0_2045 : Index := 0#32
  ![v4060.toNat, 0]
def k0_off778 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let c16_i32_2053 : BitVec 32 := 16#32
  let v4079 : BitVec 32 := Scalar.muli v3831 c16_i32_2053
  let v4080 : Index := Scalar.indexCast v4079
  let c0_2054 : Index := 0#32
  ![v4080.toNat, 0]
def k0_off779 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let c16_i32_2060 : BitVec 32 := 16#32
  let v4092 : BitVec 32 := Scalar.muli v3831 c16_i32_2060
  let v4093 : Index := Scalar.indexCast v4092
  let c0_2061 : Index := 0#32
  ![v4093.toNat, 0]
def k0_off780 (k0_t1 : Fin k0_t1_loop.trips) : Fin 3 → Nat :=
  let c0_2062 : Index := 0#32
  let c0_i32 : BitVec 32 := 0#32
  let c1_i32 : BitVec 32 := 1#32
  let arg19 : BitVec 32 := Scf.iv c0_i32 c1_i32 k0_t1
  let c16_i32_1929 : BitVec 32 := 16#32
  let v3830 : BitVec 32 := Scalar.muli arg19 c16_i32_1929
  let c14_i32 : BitVec 32 := 14#32
  let v3831 : BitVec 32 := Scalar.addi v3830 c14_i32
  let v4098 : Index := Scalar.indexCast v3831
  let c0_2063 : Index := 0#32
  ![0, v4098.toNat, 0]
def k0_off781 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4102 : Index := Scalar.indexCast v4101
  let c0_2065 : Index := 0#32
  ![v4102.toNat, 0]
def k0_off782 (v4103 : BitVec 32) : Fin 2 → Nat :=
  let v4106 : Index := Scalar.indexCast v4103
  let c0_2067 : Index := 0#32
  ![v4106.toNat, 0]

def k0_chk481 (v4103 : BitVec 32) : Prop :=
  (∀ a, (k0_off782 v4103) a + S1x256.size a ≤ S2064x256.size a)
theorem k0_off782_inb : ∀ (v4103 : BitVec 32) (k0_hw481 : k0_chk481 v4103), ∀ a, (k0_off782 v4103) a + S1x256.size a ≤ S2064x256.size a := fun v4103 k0_hw481 => k0_hw481

def k0_off783 (v4105 : BitVec 32) : Fin 2 → Nat :=
  let v4111 : Index := Scalar.indexCast v4105
  let c0_2069 : Index := 0#32
  ![v4111.toNat, 0]

def k0_chk482 (v4105 : BitVec 32) : Prop :=
  (∀ a, (k0_off783 v4105) a + S1x256.size a ≤ S2064x256.size a)
theorem k0_off783_inb : ∀ (v4105 : BitVec 32) (k0_hw482 : k0_chk482 v4105), ∀ a, (k0_off783 v4105) a + S1x256.size a ≤ S2064x256.size a := fun v4105 k0_hw482 => k0_hw482

def k0_off784 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4116 : Index := Scalar.indexCast v4101
  let c1_2072 : Index := 1#32
  ![v4116.toNat, 1]
def k0_off785 (v4117 : BitVec 32) : Fin 2 → Nat :=
  let v4120 : Index := Scalar.indexCast v4117
  let c0_2074 : Index := 0#32
  ![v4120.toNat, 0]

def k0_chk483 (v4117 : BitVec 32) : Prop :=
  (∀ a, (k0_off785 v4117) a + S1x256.size a ≤ S2064x256.size a)
theorem k0_off785_inb : ∀ (v4117 : BitVec 32) (k0_hw483 : k0_chk483 v4117), ∀ a, (k0_off785 v4117) a + S1x256.size a ≤ S2064x256.size a := fun v4117 k0_hw483 => k0_hw483

def k0_off786 (v4119 : BitVec 32) : Fin 2 → Nat :=
  let v4125 : Index := Scalar.indexCast v4119
  let c0_2076 : Index := 0#32
  ![v4125.toNat, 0]

def k0_chk484 (v4119 : BitVec 32) : Prop :=
  (∀ a, (k0_off786 v4119) a + S1x256.size a ≤ S2064x256.size a)
theorem k0_off786_inb : ∀ (v4119 : BitVec 32) (k0_hw484 : k0_chk484 v4119), ∀ a, (k0_off786 v4119) a + S1x256.size a ≤ S2064x256.size a := fun v4119 k0_hw484 => k0_hw484

def k0_off787 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4130 : Index := Scalar.indexCast v4101
  let c2_2079 : Index := 2#32
  ![v4130.toNat, 2]
def k0_off788 (v4131 : BitVec 32) : Fin 2 → Nat :=
  let v4134 : Index := Scalar.indexCast v4131
  let c0_2081 : Index := 0#32
  ![v4134.toNat, 0]

def k0_chk485 (v4131 : BitVec 32) : Prop :=
  (∀ a, (k0_off788 v4131) a + S1x256.size a ≤ S2064x256.size a)
theorem k0_off788_inb : ∀ (v4131 : BitVec 32) (k0_hw485 : k0_chk485 v4131), ∀ a, (k0_off788 v4131) a + S1x256.size a ≤ S2064x256.size a := fun v4131 k0_hw485 => k0_hw485

def k0_off789 (v4133 : BitVec 32) : Fin 2 → Nat :=
  let v4139 : Index := Scalar.indexCast v4133
  let c0_2083 : Index := 0#32
  ![v4139.toNat, 0]

def k0_chk486 (v4133 : BitVec 32) : Prop :=
  (∀ a, (k0_off789 v4133) a + S1x256.size a ≤ S2064x256.size a)
theorem k0_off789_inb : ∀ (v4133 : BitVec 32) (k0_hw486 : k0_chk486 v4133), ∀ a, (k0_off789 v4133) a + S1x256.size a ≤ S2064x256.size a := fun v4133 k0_hw486 => k0_hw486

def k0_off790 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4144 : Index := Scalar.indexCast v4101
  let c3_2086 : Index := 3#32
  ![v4144.toNat, 3]
def k0_off791 (v4145 : BitVec 32) : Fin 2 → Nat :=
  let v4148 : Index := Scalar.indexCast v4145
  let c0_2088 : Index := 0#32
  ![v4148.toNat, 0]

def k0_chk487 (v4145 : BitVec 32) : Prop :=
  (∀ a, (k0_off791 v4145) a + S1x256.size a ≤ S2064x256.size a)
theorem k0_off791_inb : ∀ (v4145 : BitVec 32) (k0_hw487 : k0_chk487 v4145), ∀ a, (k0_off791 v4145) a + S1x256.size a ≤ S2064x256.size a := fun v4145 k0_hw487 => k0_hw487

def k0_off792 (v4147 : BitVec 32) : Fin 2 → Nat :=
  let v4153 : Index := Scalar.indexCast v4147
  let c0_2090 : Index := 0#32
  ![v4153.toNat, 0]

def k0_chk488 (v4147 : BitVec 32) : Prop :=
  (∀ a, (k0_off792 v4147) a + S1x256.size a ≤ S2064x256.size a)
theorem k0_off792_inb : ∀ (v4147 : BitVec 32) (k0_hw488 : k0_chk488 v4147), ∀ a, (k0_off792 v4147) a + S1x256.size a ≤ S2064x256.size a := fun v4147 k0_hw488 => k0_hw488

def k0_off793 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4158 : Index := Scalar.indexCast v4101
  let c4_2093 : Index := 4#32
  ![v4158.toNat, 4]
def k0_off794 (v4159 : BitVec 32) : Fin 2 → Nat :=
  let v4162 : Index := Scalar.indexCast v4159
  let c0_2095 : Index := 0#32
  ![v4162.toNat, 0]

def k0_chk489 (v4159 : BitVec 32) : Prop :=
  (∀ a, (k0_off794 v4159) a + S1x256.size a ≤ S2064x256.size a)
theorem k0_off794_inb : ∀ (v4159 : BitVec 32) (k0_hw489 : k0_chk489 v4159), ∀ a, (k0_off794 v4159) a + S1x256.size a ≤ S2064x256.size a := fun v4159 k0_hw489 => k0_hw489

def k0_off795 (v4161 : BitVec 32) : Fin 2 → Nat :=
  let v4167 : Index := Scalar.indexCast v4161
  let c0_2097 : Index := 0#32
  ![v4167.toNat, 0]

def k0_chk490 (v4161 : BitVec 32) : Prop :=
  (∀ a, (k0_off795 v4161) a + S1x256.size a ≤ S2064x256.size a)
theorem k0_off795_inb : ∀ (v4161 : BitVec 32) (k0_hw490 : k0_chk490 v4161), ∀ a, (k0_off795 v4161) a + S1x256.size a ≤ S2064x256.size a := fun v4161 k0_hw490 => k0_hw490

def k0_off796 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4172 : Index := Scalar.indexCast v4101
  let c5_2100 : Index := 5#32
  ![v4172.toNat, 5]
def k0_off797 (v4173 : BitVec 32) : Fin 2 → Nat :=
  let v4176 : Index := Scalar.indexCast v4173
  let c0_2102 : Index := 0#32
  ![v4176.toNat, 0]

def k0_chk491 (v4173 : BitVec 32) : Prop :=
  (∀ a, (k0_off797 v4173) a + S1x256.size a ≤ S2064x256.size a)
theorem k0_off797_inb : ∀ (v4173 : BitVec 32) (k0_hw491 : k0_chk491 v4173), ∀ a, (k0_off797 v4173) a + S1x256.size a ≤ S2064x256.size a := fun v4173 k0_hw491 => k0_hw491

def k0_off798 (v4175 : BitVec 32) : Fin 2 → Nat :=
  let v4181 : Index := Scalar.indexCast v4175
  let c0_2104 : Index := 0#32
  ![v4181.toNat, 0]

def k0_chk492 (v4175 : BitVec 32) : Prop :=
  (∀ a, (k0_off798 v4175) a + S1x256.size a ≤ S2064x256.size a)
theorem k0_off798_inb : ∀ (v4175 : BitVec 32) (k0_hw492 : k0_chk492 v4175), ∀ a, (k0_off798 v4175) a + S1x256.size a ≤ S2064x256.size a := fun v4175 k0_hw492 => k0_hw492

def k0_off799 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4186 : Index := Scalar.indexCast v4101
  let c6_2107 : Index := 6#32
  ![v4186.toNat, 6]
def k0_off800 (v4187 : BitVec 32) : Fin 2 → Nat :=
  let v4190 : Index := Scalar.indexCast v4187
  let c0_2109 : Index := 0#32
  ![v4190.toNat, 0]

def k0_chk493 (v4187 : BitVec 32) : Prop :=
  (∀ a, (k0_off800 v4187) a + S1x256.size a ≤ S2064x256.size a)
theorem k0_off800_inb : ∀ (v4187 : BitVec 32) (k0_hw493 : k0_chk493 v4187), ∀ a, (k0_off800 v4187) a + S1x256.size a ≤ S2064x256.size a := fun v4187 k0_hw493 => k0_hw493

def k0_off801 (v4189 : BitVec 32) : Fin 2 → Nat :=
  let v4195 : Index := Scalar.indexCast v4189
  let c0_2111 : Index := 0#32
  ![v4195.toNat, 0]

def k0_chk494 (v4189 : BitVec 32) : Prop :=
  (∀ a, (k0_off801 v4189) a + S1x256.size a ≤ S2064x256.size a)
theorem k0_off801_inb : ∀ (v4189 : BitVec 32) (k0_hw494 : k0_chk494 v4189), ∀ a, (k0_off801 v4189) a + S1x256.size a ≤ S2064x256.size a := fun v4189 k0_hw494 => k0_hw494

def k0_off802 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4200 : Index := Scalar.indexCast v4101
  let c7_2114 : Index := 7#32
  ![v4200.toNat, 7]
def k0_off803 (v4201 : BitVec 32) : Fin 2 → Nat :=
  let v4204 : Index := Scalar.indexCast v4201
  let c0_2116 : Index := 0#32
  ![v4204.toNat, 0]

def k0_chk495 (v4201 : BitVec 32) : Prop :=
  (∀ a, (k0_off803 v4201) a + S1x256.size a ≤ S2064x256.size a)
theorem k0_off803_inb : ∀ (v4201 : BitVec 32) (k0_hw495 : k0_chk495 v4201), ∀ a, (k0_off803 v4201) a + S1x256.size a ≤ S2064x256.size a := fun v4201 k0_hw495 => k0_hw495

def k0_off804 (v4203 : BitVec 32) : Fin 2 → Nat :=
  let v4209 : Index := Scalar.indexCast v4203
  let c0_2118 : Index := 0#32
  ![v4209.toNat, 0]

def k0_chk496 (v4203 : BitVec 32) : Prop :=
  (∀ a, (k0_off804 v4203) a + S1x256.size a ≤ S2064x256.size a)
theorem k0_off804_inb : ∀ (v4203 : BitVec 32) (k0_hw496 : k0_chk496 v4203), ∀ a, (k0_off804 v4203) a + S1x256.size a ≤ S2064x256.size a := fun v4203 k0_hw496 => k0_hw496

def k0_off805 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4214 : Index := Scalar.indexCast v4101
  let c8_2121 : Index := 8#32
  ![v4214.toNat, 8]
def k0_off806 (v4215 : BitVec 32) : Fin 2 → Nat :=
  let v4218 : Index := Scalar.indexCast v4215
  let c0_2123 : Index := 0#32
  ![v4218.toNat, 0]

def k0_chk497 (v4215 : BitVec 32) : Prop :=
  (∀ a, (k0_off806 v4215) a + S1x256.size a ≤ S2064x256.size a)
theorem k0_off806_inb : ∀ (v4215 : BitVec 32) (k0_hw497 : k0_chk497 v4215), ∀ a, (k0_off806 v4215) a + S1x256.size a ≤ S2064x256.size a := fun v4215 k0_hw497 => k0_hw497

def k0_off807 (v4217 : BitVec 32) : Fin 2 → Nat :=
  let v4223 : Index := Scalar.indexCast v4217
  let c0_2125 : Index := 0#32
  ![v4223.toNat, 0]

def k0_chk498 (v4217 : BitVec 32) : Prop :=
  (∀ a, (k0_off807 v4217) a + S1x256.size a ≤ S2064x256.size a)
theorem k0_off807_inb : ∀ (v4217 : BitVec 32) (k0_hw498 : k0_chk498 v4217), ∀ a, (k0_off807 v4217) a + S1x256.size a ≤ S2064x256.size a := fun v4217 k0_hw498 => k0_hw498

def k0_off808 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4228 : Index := Scalar.indexCast v4101
  let c9_2128 : Index := 9#32
  ![v4228.toNat, 9]
def k0_off809 (v4229 : BitVec 32) : Fin 2 → Nat :=
  let v4232 : Index := Scalar.indexCast v4229
  let c0_2130 : Index := 0#32
  ![v4232.toNat, 0]

def k0_chk499 (v4229 : BitVec 32) : Prop :=
  (∀ a, (k0_off809 v4229) a + S1x256.size a ≤ S2064x256.size a)
theorem k0_off809_inb : ∀ (v4229 : BitVec 32) (k0_hw499 : k0_chk499 v4229), ∀ a, (k0_off809 v4229) a + S1x256.size a ≤ S2064x256.size a := fun v4229 k0_hw499 => k0_hw499

def k0_off810 (v4231 : BitVec 32) : Fin 2 → Nat :=
  let v4237 : Index := Scalar.indexCast v4231
  let c0_2132 : Index := 0#32
  ![v4237.toNat, 0]

def k0_chk500 (v4231 : BitVec 32) : Prop :=
  (∀ a, (k0_off810 v4231) a + S1x256.size a ≤ S2064x256.size a)
theorem k0_off810_inb : ∀ (v4231 : BitVec 32) (k0_hw500 : k0_chk500 v4231), ∀ a, (k0_off810 v4231) a + S1x256.size a ≤ S2064x256.size a := fun v4231 k0_hw500 => k0_hw500

def k0_off811 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4242 : Index := Scalar.indexCast v4101
  let c10_2135 : Index := 10#32
  ![v4242.toNat, 10]
def k0_off812 (v4243 : BitVec 32) : Fin 2 → Nat :=
  let v4246 : Index := Scalar.indexCast v4243
  let c0_2137 : Index := 0#32
  ![v4246.toNat, 0]

def k0_chk501 (v4243 : BitVec 32) : Prop :=
  (∀ a, (k0_off812 v4243) a + S1x256.size a ≤ S2064x256.size a)
theorem k0_off812_inb : ∀ (v4243 : BitVec 32) (k0_hw501 : k0_chk501 v4243), ∀ a, (k0_off812 v4243) a + S1x256.size a ≤ S2064x256.size a := fun v4243 k0_hw501 => k0_hw501

def k0_off813 (v4245 : BitVec 32) : Fin 2 → Nat :=
  let v4251 : Index := Scalar.indexCast v4245
  let c0_2139 : Index := 0#32
  ![v4251.toNat, 0]

def k0_chk502 (v4245 : BitVec 32) : Prop :=
  (∀ a, (k0_off813 v4245) a + S1x256.size a ≤ S2064x256.size a)
theorem k0_off813_inb : ∀ (v4245 : BitVec 32) (k0_hw502 : k0_chk502 v4245), ∀ a, (k0_off813 v4245) a + S1x256.size a ≤ S2064x256.size a := fun v4245 k0_hw502 => k0_hw502

def k0_off814 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4256 : Index := Scalar.indexCast v4101
  let c11_2142 : Index := 11#32
  ![v4256.toNat, 11]
def k0_off815 (v4257 : BitVec 32) : Fin 2 → Nat :=
  let v4260 : Index := Scalar.indexCast v4257
  let c0_2144 : Index := 0#32
  ![v4260.toNat, 0]

def k0_chk503 (v4257 : BitVec 32) : Prop :=
  (∀ a, (k0_off815 v4257) a + S1x256.size a ≤ S2064x256.size a)
theorem k0_off815_inb : ∀ (v4257 : BitVec 32) (k0_hw503 : k0_chk503 v4257), ∀ a, (k0_off815 v4257) a + S1x256.size a ≤ S2064x256.size a := fun v4257 k0_hw503 => k0_hw503

def k0_off816 (v4259 : BitVec 32) : Fin 2 → Nat :=
  let v4265 : Index := Scalar.indexCast v4259
  let c0_2146 : Index := 0#32
  ![v4265.toNat, 0]

def k0_chk504 (v4259 : BitVec 32) : Prop :=
  (∀ a, (k0_off816 v4259) a + S1x256.size a ≤ S2064x256.size a)
theorem k0_off816_inb : ∀ (v4259 : BitVec 32) (k0_hw504 : k0_chk504 v4259), ∀ a, (k0_off816 v4259) a + S1x256.size a ≤ S2064x256.size a := fun v4259 k0_hw504 => k0_hw504

def k0_off817 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4270 : Index := Scalar.indexCast v4101
  let c12_2149 : Index := 12#32
  ![v4270.toNat, 12]
def k0_off818 (v4271 : BitVec 32) : Fin 2 → Nat :=
  let v4274 : Index := Scalar.indexCast v4271
  let c0_2151 : Index := 0#32
  ![v4274.toNat, 0]

def k0_chk505 (v4271 : BitVec 32) : Prop :=
  (∀ a, (k0_off818 v4271) a + S1x256.size a ≤ S2064x256.size a)
theorem k0_off818_inb : ∀ (v4271 : BitVec 32) (k0_hw505 : k0_chk505 v4271), ∀ a, (k0_off818 v4271) a + S1x256.size a ≤ S2064x256.size a := fun v4271 k0_hw505 => k0_hw505

def k0_off819 (v4273 : BitVec 32) : Fin 2 → Nat :=
  let v4279 : Index := Scalar.indexCast v4273
  let c0_2153 : Index := 0#32
  ![v4279.toNat, 0]

def k0_chk506 (v4273 : BitVec 32) : Prop :=
  (∀ a, (k0_off819 v4273) a + S1x256.size a ≤ S2064x256.size a)
theorem k0_off819_inb : ∀ (v4273 : BitVec 32) (k0_hw506 : k0_chk506 v4273), ∀ a, (k0_off819 v4273) a + S1x256.size a ≤ S2064x256.size a := fun v4273 k0_hw506 => k0_hw506

def k0_off820 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4284 : Index := Scalar.indexCast v4101
  let c13_2156 : Index := 13#32
  ![v4284.toNat, 13]
def k0_off821 (v4285 : BitVec 32) : Fin 2 → Nat :=
  let v4288 : Index := Scalar.indexCast v4285
  let c0_2158 : Index := 0#32
  ![v4288.toNat, 0]

def k0_chk507 (v4285 : BitVec 32) : Prop :=
  (∀ a, (k0_off821 v4285) a + S1x256.size a ≤ S2064x256.size a)
theorem k0_off821_inb : ∀ (v4285 : BitVec 32) (k0_hw507 : k0_chk507 v4285), ∀ a, (k0_off821 v4285) a + S1x256.size a ≤ S2064x256.size a := fun v4285 k0_hw507 => k0_hw507

def k0_off822 (v4287 : BitVec 32) : Fin 2 → Nat :=
  let v4293 : Index := Scalar.indexCast v4287
  let c0_2160 : Index := 0#32
  ![v4293.toNat, 0]

def k0_chk508 (v4287 : BitVec 32) : Prop :=
  (∀ a, (k0_off822 v4287) a + S1x256.size a ≤ S2064x256.size a)
theorem k0_off822_inb : ∀ (v4287 : BitVec 32) (k0_hw508 : k0_chk508 v4287), ∀ a, (k0_off822 v4287) a + S1x256.size a ≤ S2064x256.size a := fun v4287 k0_hw508 => k0_hw508

def k0_off823 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4298 : Index := Scalar.indexCast v4101
  let c14_2163 : Index := 14#32
  ![v4298.toNat, 14]
def k0_off824 (v4299 : BitVec 32) : Fin 2 → Nat :=
  let v4302 : Index := Scalar.indexCast v4299
  let c0_2165 : Index := 0#32
  ![v4302.toNat, 0]

def k0_chk509 (v4299 : BitVec 32) : Prop :=
  (∀ a, (k0_off824 v4299) a + S1x256.size a ≤ S2064x256.size a)
theorem k0_off824_inb : ∀ (v4299 : BitVec 32) (k0_hw509 : k0_chk509 v4299), ∀ a, (k0_off824 v4299) a + S1x256.size a ≤ S2064x256.size a := fun v4299 k0_hw509 => k0_hw509

def k0_off825 (v4301 : BitVec 32) : Fin 2 → Nat :=
  let v4307 : Index := Scalar.indexCast v4301
  let c0_2167 : Index := 0#32
  ![v4307.toNat, 0]

def k0_chk510 (v4301 : BitVec 32) : Prop :=
  (∀ a, (k0_off825 v4301) a + S1x256.size a ≤ S2064x256.size a)
theorem k0_off825_inb : ∀ (v4301 : BitVec 32) (k0_hw510 : k0_chk510 v4301), ∀ a, (k0_off825 v4301) a + S1x256.size a ≤ S2064x256.size a := fun v4301 k0_hw510 => k0_hw510

def k0_off826 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4312 : Index := Scalar.indexCast v4101
  let c15_2170 : Index := 15#32
  ![v4312.toNat, 15]
def k0_off827 (v4313 : BitVec 32) : Fin 2 → Nat :=
  let v4316 : Index := Scalar.indexCast v4313
  let c0_2172 : Index := 0#32
  ![v4316.toNat, 0]

def k0_chk511 (v4313 : BitVec 32) : Prop :=
  (∀ a, (k0_off827 v4313) a + S1x256.size a ≤ S2064x256.size a)
theorem k0_off827_inb : ∀ (v4313 : BitVec 32) (k0_hw511 : k0_chk511 v4313), ∀ a, (k0_off827 v4313) a + S1x256.size a ≤ S2064x256.size a := fun v4313 k0_hw511 => k0_hw511

def k0_off828 (v4315 : BitVec 32) : Fin 2 → Nat :=
  let v4321 : Index := Scalar.indexCast v4315
  let c0_2174 : Index := 0#32
  ![v4321.toNat, 0]

def k0_chk512 (v4315 : BitVec 32) : Prop :=
  (∀ a, (k0_off828 v4315) a + S1x256.size a ≤ S2064x256.size a)
theorem k0_off828_inb : ∀ (v4315 : BitVec 32) (k0_hw512 : k0_chk512 v4315), ∀ a, (k0_off828 v4315) a + S1x256.size a ≤ S2064x256.size a := fun v4315 k0_hw512 => k0_hw512

def k0_off829 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let c16_i32_2179 : BitVec 32 := 16#32
  let v4329 : BitVec 32 := Scalar.muli v4101 c16_i32_2179
  let v4330 : Index := Scalar.indexCast v4329
  let c0_2180 : Index := 0#32
  ![v4330.toNat, 0]
def k0_off830 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let c16_i32_2188 : BitVec 32 := 16#32
  let v4349 : BitVec 32 := Scalar.muli v4101 c16_i32_2188
  let v4350 : Index := Scalar.indexCast v4349
  let c0_2189 : Index := 0#32
  ![v4350.toNat, 0]
def k0_off831 (k0_t1 : Fin k0_t1_loop.trips) : Fin 2 → Nat :=
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let c16_i32_2195 : BitVec 32 := 16#32
  let v4362 : BitVec 32 := Scalar.muli v4101 c16_i32_2195
  let v4363 : Index := Scalar.indexCast v4362
  let c0_2196 : Index := 0#32
  ![v4363.toNat, 0]
def k0_off832 (k0_t1 : Fin k0_t1_loop.trips) : Fin 3 → Nat :=
  let c0_2197 : Index := 0#32
  let c0_i32 : BitVec 32 := 0#32
  let c1_i32 : BitVec 32 := 1#32
  let arg19 : BitVec 32 := Scf.iv c0_i32 c1_i32 k0_t1
  let c16_i32_2064 : BitVec 32 := 16#32
  let v4100 : BitVec 32 := Scalar.muli arg19 c16_i32_2064
  let c15_i32 : BitVec 32 := 15#32
  let v4101 : BitVec 32 := Scalar.addi v4100 c15_i32
  let v4368 : Index := Scalar.indexCast v4101
  let c0_2198 : Index := 0#32
  ![0, v4368.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S128x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S128x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S128x16x512 : Shape := ⟨3, ![128, 16, 512]⟩
abbrev S128x16 : Shape := ⟨2, ![128, 16]⟩
abbrev S1280x512 : Shape := ⟨2, ![1280, 512]⟩
abbrev S1280 : Shape := ⟨1, ![1280]⟩
abbrev S1280x256 : Shape := ⟨2, ![1280, 256]⟩
abbrev S256x512 : Shape := ⟨2, ![256, 512]⟩
abbrev S256 : Shape := ⟨1, ![256]⟩
abbrev S256x256 : Shape := ⟨2, ![256, 256]⟩
abbrev S16 : Shape := ⟨1, ![16]⟩
abbrev S_ : Shape := ⟨0, ![]⟩
abbrev S128x16x256 : Shape := ⟨3, ![128, 16, 256]⟩
abbrev S1x16x512 : Shape := ⟨3, ![1, 16, 512]⟩
abbrev S16x512 : Shape := ⟨2, ![16, 512]⟩
abbrev S1x16 : Shape := ⟨2, ![1, 16]⟩
abbrev S16x1 : Shape := ⟨2, ![16, 1]⟩
abbrev S16x2 : Shape := ⟨2, ![16, 2]⟩
abbrev S16x256 : Shape := ⟨2, ![16, 256]⟩
abbrev S512x1280 : Shape := ⟨2, ![512, 1280]⟩
abbrev S16x1280 : Shape := ⟨2, ![16, 1280]⟩
abbrev S1x1280 : Shape := ⟨2, ![1, 1280]⟩
abbrev S256x1280 : Shape := ⟨2, ![256, 1280]⟩
abbrev S512x256 : Shape := ⟨2, ![512, 256]⟩
abbrev S1x256 : Shape := ⟨2, ![1, 256]⟩
abbrev S1x16x256 : Shape := ⟨3, ![1, 16, 256]⟩
abbrev S16x128x256 : Shape := ⟨3, ![16, 128, 256]⟩

abbrev nBuf : Space → Nat
  | .hbm => 173
  | .vmem => 0
  | .smem => 0
  | _ => 0

abbrev hbmTy0_0 (i : Nat) : BufTy := match i % 128 with
  | 0 => ⟨S128x16x512, .f32⟩
  | 1 => ⟨S128x16, .i32⟩
  | 2 => ⟨S128x16, .i32⟩
  | 3 => ⟨S1280x512, .f32⟩
  | 4 => ⟨S1280, .f32⟩
  | 5 => ⟨S1280x256, .f32⟩
  | 6 => ⟨S1280x256, .f32⟩
  | 7 => ⟨S256x512, .f32⟩
  | 8 => ⟨S256, .f32⟩
  | 9 => ⟨S256x256, .f32⟩
  | 10 => ⟨S256x256, .f32⟩
  | 11 => ⟨S16, .i32⟩
  | 12 => ⟨S_, .f32⟩
  | 13 => ⟨S128x16x256, .f32⟩
  | 14 => ⟨S_, .i32⟩
  | 15 => ⟨S_, .f32⟩
  | 16 => ⟨S128x16x256, .f32⟩
  | 17 => ⟨S_, .i32⟩
  | 18 => ⟨S128x16x512, .f32⟩
  | 19 => ⟨S128x16, .i32⟩
  | 20 => ⟨S128x16, .i32⟩
  | 21 => ⟨S16, .i32⟩
  | 22 => ⟨S1280x512, .f32⟩
  | 23 => ⟨S1280, .f32⟩
  | 24 => ⟨S1280x256, .f32⟩
  | 25 => ⟨S1280x256, .f32⟩
  | 26 => ⟨S256x512, .f32⟩
  | 27 => ⟨S256, .f32⟩
  | 28 => ⟨S256x256, .f32⟩
  | 29 => ⟨S256x256, .f32⟩
  | 30 => ⟨S_, .i32⟩
  | 31 => ⟨S128x16x256, .f32⟩
  | 32 => ⟨S_, .i32⟩
  | 33 => ⟨S128x16x256, .f32⟩
  | 34 => ⟨S_, .i32⟩
  | 35 => ⟨S_, .i1⟩
  | 36 => ⟨S_, .i32⟩
  | 37 => ⟨S_, .i32⟩
  | 38 => ⟨S1x16x512, .f32⟩
  | 39 => ⟨S16x512, .f32⟩
  | 40 => ⟨S_, .i32⟩
  | 41 => ⟨S1x16, .i32⟩
  | 42 => ⟨S16, .i32⟩
  | 43 => ⟨S_, .i32⟩
  | 44 => ⟨S1x16, .i32⟩
  | 45 => ⟨S16, .i32⟩
  | 46 => ⟨S_, .i32⟩
  | 47 => ⟨S_, .i32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S_, .i32⟩
  | 62 => ⟨S16, .i32⟩
  | 63 => ⟨S16, .i1⟩
  | 64 => ⟨S_, .i32⟩
  | 65 => ⟨S16, .i32⟩
  | 66 => ⟨S16, .i32⟩
  | 67 => ⟨S16, .i32⟩
  | 68 => ⟨S16x1, .i32⟩
  | 69 => ⟨S16x1, .i32⟩
  | 70 => ⟨S16x2, .i32⟩
  | 71 => ⟨S16x256, .f32⟩
  | 72 => ⟨S16, .i32⟩
  | 73 => ⟨S16, .i1⟩
  | 74 => ⟨S16x1, .i1⟩
  | 75 => ⟨S_, .f32⟩
  | 76 => ⟨S16x256, .f32⟩
  | 77 => ⟨S16x256, .i1⟩
  | 78 => ⟨S16x256, .f32⟩
  | 79 => ⟨S_, .i32⟩
  | 80 => ⟨S_, .i32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i1⟩
  | 90 => ⟨S_, .i32⟩
  | 91 => ⟨S16, .i32⟩
  | 92 => ⟨S16, .i32⟩
  | 93 => ⟨S16, .i32⟩
  | 94 => ⟨S_, .i32⟩
  | 95 => ⟨S16, .i32⟩
  | 96 => ⟨S16, .i1⟩
  | 97 => ⟨S_, .i32⟩
  | 98 => ⟨S16, .i32⟩
  | 99 => ⟨S16, .i32⟩
  | 100 => ⟨S16, .i32⟩
  | 101 => ⟨S16x1, .i32⟩
  | 102 => ⟨S16x1, .i32⟩
  | 103 => ⟨S16x2, .i32⟩
  | 104 => ⟨S16x256, .f32⟩
  | 105 => ⟨S16, .i32⟩
  | 106 => ⟨S16, .i1⟩
  | 107 => ⟨S16x1, .i1⟩
  | 108 => ⟨S_, .f32⟩
  | 109 => ⟨S16x256, .f32⟩
  | 110 => ⟨S16x256, .i1⟩
  | 111 => ⟨S16x256, .f32⟩
  | 112 => ⟨S512x1280, .f32⟩
  | 113 => ⟨S16x1280, .f32⟩
  | 114 => ⟨S1x1280, .f32⟩
  | 115 => ⟨S16x1280, .f32⟩
  | 116 => ⟨S16x1280, .f32⟩
  | 117 => ⟨S256x1280, .f32⟩
  | 118 => ⟨S16x1280, .f32⟩
  | 119 => ⟨S16x1280, .f32⟩
  | 120 => ⟨S256x1280, .f32⟩
  | 121 => ⟨S16x1280, .f32⟩
  | 122 => ⟨S16x1280, .f32⟩
  | 123 => ⟨S16x1280, .f32⟩
  | 124 => ⟨S16x1280, .f32⟩
  | 125 => ⟨S_, .f32⟩
  | 126 => ⟨S16x1280, .f32⟩
  | 127 => ⟨S16x1280, .f32⟩
  | _ => ⟨S128x16x512, .f32⟩

abbrev hbmTy0_1 (i : Nat) : BufTy := match i % 128 with
  | 0 => ⟨S_, .f32⟩
  | 1 => ⟨S16x1280, .f32⟩
  | 2 => ⟨S16x1280, .f32⟩
  | 3 => ⟨S16x256, .f32⟩
  | 4 => ⟨S16x256, .f32⟩
  | 5 => ⟨S16x256, .f32⟩
  | 6 => ⟨S16x256, .f32⟩
  | 7 => ⟨S16x256, .f32⟩
  | 8 => ⟨S512x256, .f32⟩
  | 9 => ⟨S16x256, .f32⟩
  | 10 => ⟨S1x256, .f32⟩
  | 11 => ⟨S16x256, .f32⟩
  | 12 => ⟨S16x256, .f32⟩
  | 13 => ⟨S16x256, .f32⟩
  | 14 => ⟨S256x256, .f32⟩
  | 15 => ⟨S16x256, .f32⟩
  | 16 => ⟨S16x256, .f32⟩
  | 17 => ⟨S16x256, .f32⟩
  | 18 => ⟨S256x256, .f32⟩
  | 19 => ⟨S16x256, .f32⟩
  | 20 => ⟨S16x256, .f32⟩
  | 21 => ⟨S16x256, .f32⟩
  | 22 => ⟨S16x256, .f32⟩
  | 23 => ⟨S16x256, .f32⟩
  | 24 => ⟨S16x256, .f32⟩
  | 25 => ⟨S16x256, .f32⟩
  | 26 => ⟨S16x256, .f32⟩
  | 27 => ⟨S1x16x256, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S128x16x256, .f32⟩
  | 36 => ⟨S_, .i32⟩
  | 37 => ⟨S_, .i32⟩
  | 38 => ⟨S1x16x256, .f32⟩
  | 39 => ⟨S_, .i32⟩
  | 40 => ⟨S_, .i32⟩
  | 41 => ⟨S128x16x256, .f32⟩
  | 42 => ⟨S_, .i32⟩
  | 43 => ⟨S_, .i32⟩
  | 44 => ⟨S16x128x256, .f32⟩
  | _ => ⟨S128x16x512, .f32⟩

abbrev hbmTy (i : Nat) : BufTy := match i / 128 with
  | 0 => hbmTy0_0 i
  | 1 => hbmTy0_1 i
  | _ => ⟨S128x16x512, .f32⟩

abbrev bufTy : (tb : Table) → Fin (tcTables nBuf tb) → BufTy
  | .hbm, ⟨i, _⟩ => hbmTy i
  | _, _ => ⟨S128x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_cst_0 : Ref sig .tc := ⟨.hbm, 15, rfl⟩
abbrev main_v2 : Ref sig .tc := ⟨.hbm, 16, rfl⟩
abbrev main_c_1 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v3_3 : Ref sig .tc := ⟨.hbm, 21, rfl⟩
abbrev main_v3_4 : Ref sig .tc := ⟨.hbm, 22, rfl⟩
abbrev main_v3_5 : Ref sig .tc := ⟨.hbm, 23, rfl⟩
abbrev main_v3_6 : Ref sig .tc := ⟨.hbm, 24, rfl⟩
abbrev main_v3_7 : Ref sig .tc := ⟨.hbm, 25, rfl⟩
abbrev main_v3_8 : Ref sig .tc := ⟨.hbm, 26, rfl⟩
abbrev main_v3_9 : Ref sig .tc := ⟨.hbm, 27, rfl⟩
abbrev main_v3_10 : Ref sig .tc := ⟨.hbm, 28, rfl⟩
abbrev main_v3_11 : Ref sig .tc := ⟨.hbm, 29, rfl⟩
abbrev main_v3_12 : Ref sig .tc := ⟨.hbm, 30, rfl⟩
abbrev main_v3_13 : Ref sig .tc := ⟨.hbm, 31, rfl⟩
abbrev main_v3_14 : Ref sig .tc := ⟨.hbm, 32, rfl⟩
abbrev main_v3_15 : Ref sig .tc := ⟨.hbm, 33, rfl⟩
abbrev main_while0c_c_17 : Ref sig .tc := ⟨.hbm, 34, rfl⟩
abbrev main_while0c_v5 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v5 : Ref sig .tc := ⟨.hbm, 39, rfl⟩
abbrev main_while0b_call1_c : Ref sig .tc := ⟨.hbm, 40, rfl⟩
abbrev main_while0b_call1_v0 : Ref sig .tc := ⟨.hbm, 41, rfl⟩
abbrev main_while0b_v6 : Ref sig .tc := ⟨.hbm, 42, rfl⟩
abbrev main_while0b_call2_c : Ref sig .tc := ⟨.hbm, 43, rfl⟩
abbrev main_while0b_call2_v0 : Ref sig .tc := ⟨.hbm, 44, rfl⟩
abbrev main_while0b_v7 : Ref sig .tc := ⟨.hbm, 45, rfl⟩
abbrev main_while0b_c_17 : Ref sig .tc := ⟨.hbm, 46, rfl⟩
abbrev main_while0b_c_18 : Ref sig .tc := ⟨.hbm, 47, rfl⟩
abbrev main_while0b_call3_v0 : Ref sig .tc := ⟨.hbm, 48, rfl⟩
abbrev main_while0b_call3_v1 : Ref sig .tc := ⟨.hbm, 49, rfl⟩
abbrev main_while0b_call3_v2 : Ref sig .tc := ⟨.hbm, 50, rfl⟩
abbrev main_while0b_call3_v3 : Ref sig .tc := ⟨.hbm, 51, rfl⟩
abbrev main_while0b_call3_v4 : Ref sig .tc := ⟨.hbm, 52, rfl⟩
abbrev main_while0b_v8 : Ref sig .tc := ⟨.hbm, 53, rfl⟩
abbrev main_while0b_c_19 : Ref sig .tc := ⟨.hbm, 54, rfl⟩
abbrev main_while0b_v9 : Ref sig .tc := ⟨.hbm, 55, rfl⟩
abbrev main_while0b_v10 : Ref sig .tc := ⟨.hbm, 56, rfl⟩
abbrev main_while0b_c_20 : Ref sig .tc := ⟨.hbm, 57, rfl⟩
abbrev main_while0b_v11 : Ref sig .tc := ⟨.hbm, 58, rfl⟩
abbrev main_while0b_v12 : Ref sig .tc := ⟨.hbm, 59, rfl⟩
abbrev main_while0b_v13 : Ref sig .tc := ⟨.hbm, 60, rfl⟩
abbrev main_while0b_c_21 : Ref sig .tc := ⟨.hbm, 61, rfl⟩
abbrev main_while0b_v14 : Ref sig .tc := ⟨.hbm, 62, rfl⟩
abbrev main_while0b_v15 : Ref sig .tc := ⟨.hbm, 63, rfl⟩
abbrev main_while0b_c_22 : Ref sig .tc := ⟨.hbm, 64, rfl⟩
abbrev main_while0b_v16 : Ref sig .tc := ⟨.hbm, 65, rfl⟩
abbrev main_while0b_v17 : Ref sig .tc := ⟨.hbm, 66, rfl⟩
abbrev main_while0b_v18 : Ref sig .tc := ⟨.hbm, 67, rfl⟩
abbrev main_while0b_v19 : Ref sig .tc := ⟨.hbm, 68, rfl⟩
abbrev main_while0b_v20 : Ref sig .tc := ⟨.hbm, 69, rfl⟩
abbrev main_while0b_v21 : Ref sig .tc := ⟨.hbm, 70, rfl⟩
abbrev main_while0b_v22 : Ref sig .tc := ⟨.hbm, 71, rfl⟩
abbrev main_while0b_v23 : Ref sig .tc := ⟨.hbm, 72, rfl⟩
abbrev main_while0b_v24 : Ref sig .tc := ⟨.hbm, 73, rfl⟩
abbrev main_while0b_v25 : Ref sig .tc := ⟨.hbm, 74, rfl⟩
abbrev main_while0b_cst_23 : Ref sig .tc := ⟨.hbm, 75, rfl⟩
abbrev main_while0b_v26 : Ref sig .tc := ⟨.hbm, 76, rfl⟩
abbrev main_while0b_call4_v0 : Ref sig .tc := ⟨.hbm, 77, rfl⟩
abbrev main_while0b_v27 : Ref sig .tc := ⟨.hbm, 78, rfl⟩
abbrev main_while0b_c_24 : Ref sig .tc := ⟨.hbm, 79, rfl⟩
abbrev main_while0b_c_25 : Ref sig .tc := ⟨.hbm, 80, rfl⟩
abbrev main_while0b_call5_v0 : Ref sig .tc := ⟨.hbm, 81, rfl⟩
abbrev main_while0b_call5_v1 : Ref sig .tc := ⟨.hbm, 82, rfl⟩
abbrev main_while0b_call5_v2 : Ref sig .tc := ⟨.hbm, 83, rfl⟩
abbrev main_while0b_call5_v3 : Ref sig .tc := ⟨.hbm, 84, rfl⟩
abbrev main_while0b_call5_v4 : Ref sig .tc := ⟨.hbm, 85, rfl⟩
abbrev main_while0b_v28 : Ref sig .tc := ⟨.hbm, 86, rfl⟩
abbrev main_while0b_c_26 : Ref sig .tc := ⟨.hbm, 87, rfl⟩
abbrev main_while0b_v29 : Ref sig .tc := ⟨.hbm, 88, rfl⟩
abbrev main_while0b_v30 : Ref sig .tc := ⟨.hbm, 89, rfl⟩
abbrev main_while0b_c_27 : Ref sig .tc := ⟨.hbm, 90, rfl⟩
abbrev main_while0b_v31 : Ref sig .tc := ⟨.hbm, 91, rfl⟩
abbrev main_while0b_v32 : Ref sig .tc := ⟨.hbm, 92, rfl⟩
abbrev main_while0b_v33 : Ref sig .tc := ⟨.hbm, 93, rfl⟩
abbrev main_while0b_c_28 : Ref sig .tc := ⟨.hbm, 94, rfl⟩
abbrev main_while0b_v34 : Ref sig .tc := ⟨.hbm, 95, rfl⟩
abbrev main_while0b_v35 : Ref sig .tc := ⟨.hbm, 96, rfl⟩
abbrev main_while0b_c_29 : Ref sig .tc := ⟨.hbm, 97, rfl⟩
abbrev main_while0b_v36 : Ref sig .tc := ⟨.hbm, 98, rfl⟩
abbrev main_while0b_v37 : Ref sig .tc := ⟨.hbm, 99, rfl⟩
abbrev main_while0b_v38 : Ref sig .tc := ⟨.hbm, 100, rfl⟩
abbrev main_while0b_v39 : Ref sig .tc := ⟨.hbm, 101, rfl⟩
abbrev main_while0b_v40 : Ref sig .tc := ⟨.hbm, 102, rfl⟩
abbrev main_while0b_v41 : Ref sig .tc := ⟨.hbm, 103, rfl⟩
abbrev main_while0b_v42 : Ref sig .tc := ⟨.hbm, 104, rfl⟩
abbrev main_while0b_v43 : Ref sig .tc := ⟨.hbm, 105, rfl⟩
abbrev main_while0b_v44 : Ref sig .tc := ⟨.hbm, 106, rfl⟩
abbrev main_while0b_v45 : Ref sig .tc := ⟨.hbm, 107, rfl⟩
abbrev main_while0b_cst_30 : Ref sig .tc := ⟨.hbm, 108, rfl⟩
abbrev main_while0b_v46 : Ref sig .tc := ⟨.hbm, 109, rfl⟩
abbrev main_while0b_call6_v0 : Ref sig .tc := ⟨.hbm, 110, rfl⟩
abbrev main_while0b_v47 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_v51 : Ref sig .tc := ⟨.hbm, 115, rfl⟩
abbrev main_while0b_v52 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_cst_31 : Ref sig .tc := ⟨.hbm, 125, rfl⟩
abbrev main_while0b_v61 : Ref sig .tc := ⟨.hbm, 126, rfl⟩
abbrev main_while0b_v62 : Ref sig .tc := ⟨.hbm, 127, rfl⟩
abbrev main_while0b_cst_32 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_v84 : Ref sig .tc := ⟨.hbm, 150, rfl⟩
abbrev main_while0b_v85 : Ref sig .tc := ⟨.hbm, 151, rfl⟩
abbrev main_while0b_v86 : Ref sig .tc := ⟨.hbm, 152, rfl⟩
abbrev main_while0b_v87 : Ref sig .tc := ⟨.hbm, 153, rfl⟩
abbrev main_while0b_v88 : Ref sig .tc := ⟨.hbm, 154, rfl⟩
abbrev main_while0b_v89 : Ref sig .tc := ⟨.hbm, 155, rfl⟩
abbrev main_while0b_c_33 : Ref sig .tc := ⟨.hbm, 156, rfl⟩
abbrev main_while0b_v90 : Ref sig .tc := ⟨.hbm, 157, rfl⟩
abbrev main_while0b_c_34 : Ref sig .tc := ⟨.hbm, 158, rfl⟩
abbrev main_while0b_v91 : Ref sig .tc := ⟨.hbm, 159, rfl⟩
abbrev main_while0b_v92 : Ref sig .tc := ⟨.hbm, 160, rfl⟩
abbrev main_while0b_c_35 : Ref sig .tc := ⟨.hbm, 161, rfl⟩
abbrev main_while0b_c_36 : Ref sig .tc := ⟨.hbm, 162, rfl⟩
abbrev main_while0b_v93 : Ref sig .tc := ⟨.hbm, 163, rfl⟩
abbrev main_while0b_c_37 : Ref sig .tc := ⟨.hbm, 164, rfl⟩
abbrev main_while0b_v94 : Ref sig .tc := ⟨.hbm, 165, rfl⟩
abbrev main_while0b_call7_v0 : Ref sig .tc := ⟨.hbm, 166, rfl⟩
abbrev main_while0b_call7_c : Ref sig .tc := ⟨.hbm, 167, rfl⟩
abbrev main_while0b_call7_c_0 : Ref sig .tc := ⟨.hbm, 168, rfl⟩
abbrev main_while0b_v95 : Ref sig .tc := ⟨.hbm, 169, rfl⟩
abbrev main_while0b_c_38 : Ref sig .tc := ⟨.hbm, 170, rfl⟩
abbrev main_while0b_v96 : Ref sig .tc := ⟨.hbm, 171, rfl⟩
abbrev main_v4 : Ref sig .tc := ⟨.hbm, 172, rfl⟩

abbrev nD : Nat := 1
abbrev τ : Topo := Topo.v7x

variable {F : FTy → Type} [FloatOps F]

abbrev main_while0_count : Scf.Loop 32 := ⟨0#32, 128#32, 1#32⟩
-- ==== Proof.Steps.lean ====
/- The loop body of the fused kernel as sixteen equal steps, each of sixteen equal row gathers and one cell update. -/
module

public import proofs.«01_k».proof.Proof.Gen.KernelIdeal.Skeleton

@[expose] public section

noncomputable section

namespace Cert.Proof.Tree

open Idealize.ShloMosaic Idealize.SL.Sem Cert.KernelIdeal Cert.KernelIdeal.Gen

variable {F : FTy → Type} [FloatOps F]

/-- The time index of step `u` of trip `k`, as the kernel computes it. -/
def tW (k : Fin k0_t1_loop.trips) (u : ℕ) : BitVec 32 :=
  Scalar.addi (Scalar.muli (Scf.iv 0#32 1#32 k) 16#32) (BitVec.ofNat 32 u)

/-- The trip count is eight. -/
theorem trips_eq : k0_t1_loop.trips = 8 := by decide

theorem trip_lt (k : Fin k0_t1_loop.trips) : k.val < 8 := lt_of_lt_of_eq k.isLt trips_eq

/-- The time index as a number. -/
theorem tW_toNat (k : Fin k0_t1_loop.trips) (u : ℕ) (hu : u < 16) : (tW k u).toNat = 16 * k.val + u := by
  have hk := trip_lt k
  simp only [tW, Scalar.addi, Scalar.muli, Scf.iv, IntOp.addi, IntOp.muli]
  simp [BitVec.toNat_add, BitVec.toNat_mul, BitVec.toNat_ofNat]
  omega

/-- Where the index words of batch row `b` lie at step `u` of trip `k`. -/
def offI (k : Fin k0_t1_loop.trips) (u b : ℕ) : Fin 2 → ℕ := ![(Scalar.indexCast (tW k u)).toNat, b]

/-- Where the block of sixteen rows of step `u` of trip `k` lies in an array of rows. -/
def offX (k : Fin k0_t1_loop.trips) (u : ℕ) : Fin 2 → ℕ := ![(Scalar.indexCast (Scalar.muli (tW k u) 16#32)).toNat, 0]

/-- Where the column of step `u` of trip `k` lies in the result. -/
def offO (k : Fin k0_t1_loop.trips) (u : ℕ) : Fin 3 → ℕ := ![0, (Scalar.indexCast (tW k u)).toNat, 0]

theorem offI_eq (k : Fin k0_t1_loop.trips) (u b : ℕ) (hu : u < 16) : offI k u b = ![16 * k.val + u, b] := by
  simp only [offI, Scalar.indexCast, tW_toNat k u hu]

theorem offX_eq (k : Fin k0_t1_loop.trips) (u : ℕ) (hu : u < 16) : offX k u = ![16 * (16 * k.val + u), 0] := by
  have hk := trip_lt k
  have h := tW_toNat k u hu
  have h2 : (Scalar.muli (tW k u) 16#32).toNat = 16 * (16 * k.val + u) := by
    simp only [Scalar.muli, IntOp.muli, BitVec.toNat_mul, h]
    simp
    omega
  simp only [offX, Scalar.indexCast, h2]

theorem offO_eq (k : Fin k0_t1_loop.trips) (u : ℕ) (hu : u < 16) : offO k u = ![0, 16 * k.val + u, 0] := by
  simp only [offO, Scalar.indexCast, tW_toNat k u hu]

theorem offI_inb (k : Fin k0_t1_loop.trips) {u b : ℕ} (hu : u < 16) (hb : b < 16) :
    ∀ a, offI k u b a + S1x1.size a ≤ S128x16.size a := by
  have hk := trip_lt k
  rw [offI_eq k u b hu]
  intro a
  fin_cases a <;> simp <;> omega

theorem offX_inb (k : Fin k0_t1_loop.trips) {u : ℕ} (hu : u < 16) (n N m : ℕ) (hN : 2048 ≤ N) (hn : n ≤ m) :
    ∀ a : Fin 2, offX k u a + (![16, n] : Fin 2 → ℕ) a ≤ (![N, m] : Fin 2 → ℕ) a := by
  have hk := trip_lt k
  rw [offX_eq k u hu]
  intro a
  fin_cases a <;> simp <;> omega

theorem offO_inb (k : Fin k0_t1_loop.trips) {u : ℕ} (hu : u < 16) :
    ∀ a, offO k u a + S16x1x256.size a ≤ S16x128x256.size a := by
  have hk := trip_lt k
  rw [offO_eq k u hu]
  intro a
  fin_cases a <;> simp <;> omega

theorem row_inb {u b c : ℕ} (hu : u < 16) (hb : b < 16) (hc : c + 256 ≤ 512) :
    ∀ a, (![16 * u + b, c] : Fin 2 → ℕ) a + S1x256.size a ≤ S256x512.size a := by
  intro a
  fin_cases a <;> simp <;> omega

theorem slab_inb {u c n : ℕ} (hu : u < 16) (hc : c + n ≤ 512) :
    ∀ a : Fin 2, (![16 * u, c] : Fin 2 → ℕ) a + (![16, n] : Fin 2 → ℕ) a ≤ S256x512.size a := by
  intro a
  fin_cases a <;> simp <;> omega

section Prog

variable (arg4 arg5 : Memref sig .tc .smem S128x16 .i32) (arg11 : Memref sig .tc .vmem S16x128x256 .f32)
  (arg12 : Memref sig .tc .vmem S2048x1280 .f32) (arg13 : Memref sig .tc .vmem S2048x256 .f32)
  (arg14 : Memref sig .tc .vmem S512x1280 .f32) (arg15 : Memref sig .tc .vmem S512x256 .f32)
  (arg17 : Memref sig .tc .vmem S2064x256 .f32) (arg18 : Memref sig .tc .vmem S256x512 .f32)

/-- One row gather of step `u` (batch row `b`): the two index words are read, and the two rows they name are copied
    side by side into row `16 u + b` of the pair buffer; then `K`. -/
def rowK (k : Fin k0_t1_loop.trips) (u b : ℕ) (hu : u < 16) (hb : b < 16)
    (K : Prog (TpuEff nD τ sig (Elt F) Λ₀ .tc) Unit) : Prog (TpuEff nD τ sig (Elt F) Λ₀ .tc) Unit :=
  smemLoad arg4 (Rect.unit (s := S128x16) (offI k u b) S1x1.size (offI_inb k hu hb)) numel1_S1x1 rfl >>= fun vl =>
  .op (.assume (k0_chk1 vl) (k0_chk1.dec vl)) fun hl =>
  smemLoad arg5 (Rect.unit (s := S128x16) (offI k u b) S1x1.size (offI_inb k hu hb)) numel1_S1x1 rfl >>= fun vr =>
  .op (.assume (k0_chk1 vr) (k0_chk1.dec vr)) fun hr =>
  .op (.load arg17 (Rect.unit (s := S2064x256) (k0_off2 vl) S1x256.size (k0_off2_inb vl hl.down)).toLoadRect (View.loadsAt_vmem h_S1x256)) fun xl =>
  .op (.load arg18 (Rect.unit (s := S256x512) ![16 * u + b, 0] S1x256.size (row_inb hu hb (by decide))).toLoadRect (View.loadsAt_vmem h_S1x256)) fun _ =>
  .op (.store arg18 (Rect.unit (s := S256x512) ![16 * u + b, 0] S1x256.size (row_inb hu hb (by decide))) (k0_pay8 xl) Finset.univ
    (View.stores_vmem_bits_univ h_S1x256 rfl) (.inl rfl)) fun _ =>
  .op (.load arg17 (Rect.unit (s := S2064x256) (k0_off2 vr) S1x256.size (k0_off2_inb vr hr.down)).toLoadRect (View.loadsAt_vmem h_S1x256)) fun xr =>
  .op (.load arg18 (Rect.unit (s := S256x512) ![16 * u + b, 256] S1x256.size (row_inb hu hb (by decide))).toLoadRect (View.loadsAt_vmem h_S1x256)) fun _ =>
  .op (.store arg18 (Rect.unit (s := S256x512) ![16 * u + b, 256] S1x256.size (row_inb hu hb (by decide))) (k0_pay8 xr) Finset.univ
    (View.stores_vmem_bits_univ h_S1x256 rfl) (.inl rfl)) fun _ => K

/-- The row gathers of step `u` for the `n` batch rows from `b` on; then `K`. -/
def rowsK (k : Fin k0_t1_loop.trips) (u : ℕ) (hu : u < 16) : (n b : ℕ) → (b + n ≤ 16) →
    Prog (TpuEff nD τ sig (Elt F) Λ₀ .tc) Unit → Prog (TpuEff nD τ sig (Elt F) Λ₀ .tc) Unit
  | 0, _, _, K => K
  | n + 1, b, h, K => rowK arg4 arg5 arg17 arg18 k u b hu (by omega) (rowsK k u hu n (b + 1) (by omega) K)

/-- The cell update of step `u` over the gathered rows: gates, the gated pair put back, the cell, the new state rows
    stored into the state buffer and into the result; then `K`. -/
def tailK (k : Fin k0_t1_loop.trips) (u : ℕ) (hu : u < 16)
    (K : Prog (TpuEff nD τ sig (Elt F) Λ₀ .tc) Unit) : Prog (TpuEff nD τ sig (Elt F) Λ₀ .tc) Unit :=
  .op (.load arg18 (Rect.unit (s := S256x512) ![16 * u, 0] S16x512.size (slab_inb hu (by decide))).toLoadRect (View.loadsAt_vmem h_S16x512)) fun p =>
  .op (.load arg12 (Rect.unit (s := S2048x1280) (offX k u) S16x1280.size (offX_inb k hu 1280 2048 1280 le_rfl le_rfl)).toLoadRect (View.loadsAt_vmem h_S16x1280)) fun xg =>
  .op (.load arg14 (Rect.unit (s := S512x1280) ![0, 0] S512x1280.size inb_S512x1280_S512x1280_0_0).toLoadRect (View.loadsAt_vmem h_S512x1280)) fun wg =>
  .op (.load arg18 (Rect.unit (s := S256x512) ![16 * u, 0] S16x256.size (slab_inb hu (by decide))).toLoadRect (View.loadsAt_vmem h_S16x256)) fun _ =>
  .op (.store arg18 (Rect.unit (s := S256x512) ![16 * u, 0] S16x256.size (slab_inb hu (by decide))) (k0_pay43 p xg wg) Finset.univ
    (View.stores_vmem_bits_univ h_S16x256 rfl) (.inl rfl)) fun _ =>
  .op (.load arg18 (Rect.unit (s := S256x512) ![16 * u, 256] S16x256.size (slab_inb hu (by decide))).toLoadRect (View.loadsAt_vmem h_S16x256)) fun _ =>
  .op (.store arg18 (Rect.unit (s := S256x512) ![16 * u, 256] S16x256.size (slab_inb hu (by decide))) (k0_pay44 p xg wg) Finset.univ
    (View.stores_vmem_bits_univ h_S16x256 rfl) (.inl rfl)) fun _ =>
  .op (.load arg13 (Rect.unit (s := S2048x256) (offX k u) S16x256.size (offX_inb k hu 256 2048 256 le_rfl le_rfl)).toLoadRect (View.loadsAt_vmem h_S16x256)) fun xc =>
  .op (.load arg18 (Rect.unit (s := S256x512) ![16 * u, 0] S16x512.size (slab_inb hu (by decide))).toLoadRect (View.loadsAt_vmem h_S16x512)) fun q =>
  .op (.load arg15 (Rect.unit (s := S512x256) ![0, 0] S512x256.size inb_S512x256_S512x256_0_0).toLoadRect (View.loadsAt_vmem h_S512x256)) fun wc =>
  .op (.load arg17 (Rect.unit (s := S2064x256) (offX k u) S16x256.size (offX_inb k hu 256 2064 256 (by decide) le_rfl)).toLoadRect (View.loadsAt_vmem h_S16x256)) fun _ =>
  .op (.store arg17 (Rect.unit (s := S2064x256) (offX k u) S16x256.size (offX_inb k hu 256 2064 256 (by decide) le_rfl))
    (k0_pay46 (k0_pay45 p xg wg xc q wc)) Finset.univ (View.stores_vmem_bits_univ h_S16x256 rfl) (.inl rfl)) fun _ =>
  .op (.load arg11 (Rect.unit (s := S16x128x256) (offO k u) S16x1x256.size (offO_inb k hu)).toLoadRect (View.loadsAt_vmem h_S16x1x256)) fun _ =>
  .op (.store arg11 (Rect.unit (s := S16x128x256) (offO k u) S16x1x256.size (offO_inb k hu))
    (k0_pay47 (k0_pay45 p xg wg xc q wc)) Finset.univ (View.stores_vmem_bits_univ h_S16x1x256 rfl) (.inl rfl)) fun _ => K

/-- Step `u` of trip `k`; then `K`. -/
def stepK (k : Fin k0_t1_loop.trips) (u : ℕ) (hu : u < 16)
    (K : Prog (TpuEff nD τ sig (Elt F) Λ₀ .tc) Unit) : Prog (TpuEff nD τ sig (Elt F) Λ₀ .tc) Unit :=
  rowsK arg4 arg5 arg17 arg18 k u hu 16 0 le_rfl (tailK arg11 arg12 arg13 arg14 arg15 arg17 arg18 k u hu K)

/-- The `n` steps of trip `k` from `u` on; then return. -/
def stepsK (k : Fin k0_t1_loop.trips) : (n u : ℕ) → (u + n ≤ 16) → Prog (TpuEff nD τ sig (Elt F) Λ₀ .tc) Unit
  | 0, _, _ => .ret ⟨⟩
  | n + 1, u, h => stepK arg4 arg5 arg11 arg12 arg13 arg14 arg15 arg17 arg18 k u (by omega) (stepsK k n (u + 1) (by omega))

end Prog

/-- Two programs that issue the same request and go on alike are the same. -/
theorem op_congr {E : Type → Type _} {α β : Type} {e : E β} {k k' : β → Prog E α} (h : ∀ x, k x = k' x) :
    Prog.op e k = Prog.op e k' := congrArg (Prog.op e) (funext h)

end Cert.Proof.Tree

end
-- ==== Proof.Rules.lean ====
/- Loads and stores of a buffer owned at values, and what one row gather and one cell update of the fused kernel leave. -/
module

public import proofs.«01_k».proof.Proof.Steps
public import Idealize.ShloMosaic.Lib.VecWindow
public import Idealize.ShloMosaic.Lib.Pipeline.Frame

@[expose] public section

noncomputable section

namespace Cert.Proof.Tree

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The weakest precondition of a piece of the kernel body. -/
abbrev wpB (c : Dev nD) (p : Prog (TpuEff nD τ sig (Elt F) Λ₀ .tc) Unit) (Q : Unit → sProp 𝕄) : sProp 𝕄 :=
  wp frame (wpE (defs₀ (F := F)) Variants.none (c : Thread nD τ) none) Set.univ p Q

/-- A memref of core `c` owned whole at the values `x`. -/
abbrev own (c : Dev nD) {sp : Space} {s : Shape} {e : EltTy} (m : Memref sig .tc sp s e) (x : s.Idx → Elt F e) : sProp 𝕄 :=
  owns (c : Thread nD τ) m fullShare x

variable (c : Dev nD)

/-- A load of a window. -/
theorem wp_ld {Q : Unit → sProp 𝕄} {s : Shape} {e : EltTy} {m : Memref sig .tc .vmem s e} {off off' size : Fin s.rank → ℕ}
    {inb : ∀ a, off a + size a ≤ s.size a} (h : off = off') (inb' : ∀ a, off' a + size a ≤ s.size a)
    {hl : m.view.LoadsAt (Rect.unit off size inb).toLoadRect}
    {k : ((Rect.unit off size inb).toLoadRect.shape.Idx → Elt F e) → Prog (TpuEff nD τ sig (Elt F) Λ₀ .tc) Unit} (x : s.Idx → Elt F e) :
    iprop(own c m x ∗ (own c m x -∗ wpB c (k (VecWindow.window x off' size inb')) Q))
      ⊢ wpB c (.op (.load m (Rect.unit off size inb).toLoadRect hl) k) Q := by
  unfold own owns
  iintro ⟨⟨%f, %hf, H⟩, Hk⟩
  iapply (wp_load Variants.none (c : Thread nD τ) none Set.univ (m := m) (hl := hl) (k := k) (f := f) (q := fullShare) (S := m.view.set)
    (m.view.setOn_subset_set _)) $$ H
  iintro H
  rw [View.readAt_unit m.view f inb h inb', hf]
  iapply Hk
  iexists f
  isplitr; · ipureintro; exact hf
  iexact H

/-- A load of a window whose values are named. -/
theorem wp_ldv {Q : Unit → sProp 𝕄} {s : Shape} {e : EltTy} {m : Memref sig .tc .vmem s e} {off off' size : Fin s.rank → ℕ}
    {inb : ∀ a, off a + size a ≤ s.size a} (h : off = off') (inb' : ∀ a, off' a + size a ≤ s.size a)
    {hl : m.view.LoadsAt (Rect.unit off size inb).toLoadRect}
    {k : ((Rect.unit off size inb).toLoadRect.shape.Idx → Elt F e) → Prog (TpuEff nD τ sig (Elt F) Λ₀ .tc) Unit} (x : s.Idx → Elt F e)
    {v : (⟨s.rank, size⟩ : Shape).Idx → Elt F e} (hv : VecWindow.window x off' size inb' = v) :
    iprop(own c m x ∗ (own c m x -∗ wpB c (k v) Q))
      ⊢ wpB c (.op (.load m (Rect.unit off size inb).toLoadRect hl) k) Q := by
  subst hv
  exact wp_ld c h inb' x

/-- An unmasked store of a window. -/
theorem wp_st {Q : Unit → sProp 𝕄} {s : Shape} {e : EltTy} {m : Memref sig .tc .vmem s e} {off off' size : Fin s.rank → ℕ}
    {inb : ∀ a, off a + size a ≤ s.size a} (h : off = off') {w : (Rect.unit off size inb).shape.Idx → Elt F e}
    {hx : (m.access (Rect.unit off size inb)).Stores Finset.univ} {hm}
    {k : PUnit → Prog (TpuEff nD τ sig (Elt F) Λ₀ .tc) Unit} (x : s.Idx → Elt F e) :
    iprop(own c m x ∗ (own c m (VecWindow.put x off' size w) -∗ wpB c (k ⟨⟩) Q))
      ⊢ wpB c (.op (.store m (Rect.unit off size inb) w Finset.univ hx hm) k) Q := by
  unfold own owns
  iintro ⟨⟨%f, %hf, H⟩, Hk⟩
  iapply (wp_store Variants.none (c : Thread nD τ) none Set.univ (m := m) (r := Rect.unit off size inb) (hx := hx) (hm := hm) (k := k) (f := f)
    (S := m.view.set) ((View.setOn_subset_set _ _).trans (View.set_slice_subset _ _))) $$ H
  iintro H
  iapply Hk
  iexists _
  isplitr; swap; · iexact H
  ipureintro
  have e := View.read_writes_cons_put (Val := Elt F) m.view f inb w [] h
  rw [View.writes_nil, hf] at e
  exact e

/-- A load of one word of scalar memory. -/
theorem wp_word {Q : Unit → sProp 𝕄} {s : Shape} {m : Memref sig .tc .smem s .i32} {off : Fin s.rank → ℕ} {i : s.Idx} {size : Fin s.rank → ℕ}
    {inb : ∀ a, off a + size a ≤ s.size a} (h : off = fun a => (i a).val) (hs : ∀ a, size a = 1)
    (h1 : (Rect.unit off size inb).shape.numel = 1) (hp : EltTy.i32.packing = 1)
    {k : BitVec 32 → Prog (TpuEff nD τ sig (Elt F) Λ₀ .tc) Unit} (x : s.Idx → BitVec 32) :
    iprop(own (F := F) (e := .i32) c m x ∗ (own (F := F) (e := .i32) c m x -∗ wpB c (k (x i)) Q))
      ⊢ wpB c (smemLoad m (Rect.unit off size inb) h1 hp >>= k) Q := by
  rw [show ((smemLoad m (Rect.unit off size inb) h1 hp : Prog (TpuEff nD τ sig (Elt F) Λ₀ .tc) (BitVec 32)) >>= k) = smemLoadElt m (Rect.unit off size inb) (View.loads_smem_one hp h1)
    (Shape.Idx.first (h1.symm ▸ Nat.one_pos)) k from rfl]
  unfold own owns
  iintro ⟨⟨%f, %hf, H⟩, Hk⟩
  iapply (wp_smemLoadElt Variants.none (c : Thread nD τ) none Set.univ (m := m) (r := Rect.unit off size inb) (f := f) (q := fullShare) (S := m.view.set)
    (View.set_slice_subset _ _)) $$ H
  iintro H
  have e : (m.access (Rect.unit off size inb)).read (Elt F) f (Shape.Idx.first (h1.symm ▸ Nat.one_pos)) = x i := by
    rw [← hf]
    refine congrArg (m.view.read (Elt F) f) (funext fun a => Fin.ext ?_)
    have hy := (Shape.Idx.first (h1.symm ▸ Nat.one_pos : 0 < (Rect.unit off size inb).shape.numel) a).isLt
    generalize Shape.Idx.first (h1.symm ▸ Nat.one_pos : 0 < (Rect.unit off size inb).shape.numel) = y at hy
    show off a + 1 * (y a).val = (i a).val
    have hy' : (y a).val < size a := hy
    have := hs a
    have := congrFun h a
    omega
  rw [e]
  iapply Hk
  iexists f
  isplitr; · ipureintro; exact hf
  iexact H

end Cert.Proof.Tree

end
-- ==== Proof.Row.lean ====
/- One step of the fused kernel on values: the gathered rows, the gated pair, the cell, and what the step stores. -/
module

public import proofs.«01_k».proof.Proof.Rules
public import Idealize.ShloMosaic.Lib.Pointwise

@[expose] public section

set_option maxRecDepth 16384

noncomputable section

namespace Cert.Proof.Tree

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## Windows of matrices by coordinates -/

section Coord

variable {α : Type} {N M : ℕ} (x : (⟨2, ![N, M]⟩ : Shape).Idx → α)

/-- A window of a matrix at a row and a column. -/
theorem window2 {r0 c0 m n : ℕ} (inb : ∀ a : Fin 2, (![r0, c0] : Fin 2 → ℕ) a + (![m, n] : Fin 2 → ℕ) a ≤ (⟨2, ![N, M]⟩ : Shape).size a) (a : Fin m) (b : Fin n) :
    VecWindow.window (s := ⟨2, ![N, M]⟩) x ![r0, c0] ![m, n] inb (ix2 a b)
      = x (ix2 ⟨r0 + a.val, by have := inb 0; have := a.isLt; simp at *; omega⟩ ⟨c0 + b.val, by have := inb 1; have := b.isLt; simp at *; omega⟩) := by
  refine congrArg x (funext fun i => Fin.ext ?_)
  match i with
  | 0 => show r0 + 1 * a.val = r0 + a.val; omega
  | 1 => show c0 + 1 * b.val = c0 + b.val; omega

/-- Inside the window put, the payload. -/
theorem put2_in {r0 c0 m n : ℕ} (w : (⟨2, ![m, n]⟩ : Shape).Idx → α) (r : Fin N) (j : Fin M) (hr : r0 ≤ r.val ∧ r.val < r0 + m)
    (hj : c0 ≤ j.val ∧ j.val < c0 + n) :
    VecWindow.put (s := ⟨2, ![N, M]⟩) x ![r0, c0] ![m, n] w (ix2 r j) = w (ix2 ⟨r.val - r0, by omega⟩ ⟨j.val - c0, by omega⟩) := by
  have h : ∀ a : Fin 2, (![r0, c0] : Fin 2 → ℕ) a ≤ ((ix2 r j : (⟨2, ![N, M]⟩ : Shape).Idx) a).val
      ∧ ((ix2 r j : (⟨2, ![N, M]⟩ : Shape).Idx) a).val < (![r0, c0] : Fin 2 → ℕ) a + (![m, n] : Fin 2 → ℕ) a := fun a => by
    match a with
    | 0 => exact hr
    | 1 => exact hj
  unfold VecWindow.put
  refine (dif_pos h).trans (congrArg w (funext fun i => Fin.ext ?_))
  match i with
  | 0 => rfl
  | 1 => rfl

/-- Outside the window put, what was there. -/
theorem put2_out {r0 c0 m n : ℕ} (w : (⟨2, ![m, n]⟩ : Shape).Idx → α) (r : Fin N) (j : Fin M)
    (h : r.val < r0 ∨ r0 + m ≤ r.val ∨ j.val < c0 ∨ c0 + n ≤ j.val) :
    VecWindow.put (s := ⟨2, ![N, M]⟩) x ![r0, c0] ![m, n] w (ix2 r j) = x (ix2 r j) := by
  unfold VecWindow.put
  refine dif_neg fun hall => ?_
  have h0 : r0 ≤ r.val ∧ r.val < r0 + m := hall 0
  have h1 : c0 ≤ j.val ∧ j.val < c0 + n := hall 1
  omega

end Coord

/-! ## A step on values -/

/-- What the loop only reads: the two tables of row numbers, the input's products, and the state's weights. -/
structure Ins (F : FTy → Type) [FloatOps F] where
  L : Vec F S128x16 .i32
  R : Vec F S128x16 .i32
  XG : Vec F S2048x1280 .f32
  XC : Vec F S2048x256 .f32
  WG : Vec F S512x1280 .f32
  WC : Vec F S512x256 .f32

/-- A table of row numbers stays within the state buffer. -/
def InRange (L : Vec F S128x16 .i32) : Prop := ∀ i, BitVec.toNat (L i) < 2064

/-- The row of the state buffer that a word names. -/
def rowOf (w : BitVec 32) : Fin 2064 := ⟨w.toNat % 2064, Nat.mod_lt _ (by decide)⟩

/-- The gathered rows of step `t`: for each batch row, the left child's state and the right child's, side by side. -/
def gath (I : Ins F) (H : Vec F S2064x256 .f32) (t : Fin 128) : Vec F S16x512 .f32 := fun y =>
  if h : (y 1).val < 256 then H (ix2 (rowOf (I.L (ix2 t (y 0)))) ⟨(y 1).val, h⟩)
  else H (ix2 (rowOf (I.R (ix2 t (y 0)))) ⟨(y 1).val - 256, by have h2 : (y 1).val < 512 := (y 1).isLt; omega⟩)

/-- The sixteen rows of step `t` in an array of rows. -/
def blk {n : ℕ} (X : Vec F (⟨2, ![2048, n]⟩ : Shape) .f32) (t : Fin 128) : Vec F (⟨2, ![16, n]⟩ : Shape) .f32 := fun y =>
  X (ix2 ⟨16 * t.val + (y 0).val, by have h : (y 0).val < 16 := (y 0).isLt; have := t.isLt; omega⟩ ⟨(y 1).val, (y 1).isLt⟩)

/-- The gated pair of the gathered rows `p`, side by side. -/
def gated (p : Vec F S16x512 .f32) (xg : Vec F S16x1280 .f32) (wg : Vec F S512x1280 .f32) : Vec F S16x512 .f32 := fun y =>
  if h : (y 1).val < 256 then k0_pay43 p xg wg (ix2 (y 0) ⟨(y 1).val, h⟩)
  else k0_pay44 p xg wg (ix2 (y 0) ⟨(y 1).val - 256, by have h2 : (y 1).val < 512 := (y 1).isLt; omega⟩)

/-- The new state rows of step `t`, from the state buffer. -/
def cell (I : Ins F) (H : Vec F S2064x256 .f32) (t : Fin 128) : Vec F S16x256 .f32 :=
  k0_pay45 (gath I H t) (blk I.XG t) I.WG (blk I.XC t) (gated (gath I H t) (blk I.XG t) I.WG) I.WC

/-- The state buffer after step `t`. -/
def stH (I : Ins F) (H : Vec F S2064x256 .f32) (t : Fin 128) : Vec F S2064x256 .f32 :=
  VecWindow.put (s := S2064x256) H ![16 * t.val, 0] S16x256.size (k0_pay46 (cell I H t))

/-- The result buffer after step `t`. -/
def stO (I : Ins F) (H : Vec F S2064x256 .f32) (O : Vec F S16x128x256 .f32) (t : Fin 128) : Vec F S16x128x256 .f32 :=
  VecWindow.put (s := S16x128x256) O ![0, t.val, 0] S16x1x256.size (k0_pay47 (cell I H t))

/-! ## The row gathers -/

variable (c : Dev nD)

variable (arg4 arg5 : Memref sig .tc .smem S128x16 .i32) (arg11 : Memref sig .tc .vmem S16x128x256 .f32)
  (arg12 : Memref sig .tc .vmem S2048x1280 .f32) (arg13 : Memref sig .tc .vmem S2048x256 .f32)
  (arg14 : Memref sig .tc .vmem S512x1280 .f32) (arg15 : Memref sig .tc .vmem S512x256 .f32)
  (arg17 : Memref sig .tc .vmem S2064x256 .f32) (arg18 : Memref sig .tc .vmem S256x512 .f32)

/-- The step number of step `u` of trip `k`. -/
def tm (k : Fin k0_t1_loop.trips) (u : ℕ) (hu : u < 16) : Fin 128 := ⟨16 * k.val + u, by have := trip_lt k; omega⟩

/-- The pair buffer after one row gather. -/
def rowP (I : Ins F) (H : Vec F S2064x256 .f32) (P : Vec F S256x512 .f32) (t : Fin 128) (u b : ℕ) (hb : b < 16) : Vec F S256x512 .f32 :=
  VecWindow.put (s := S256x512) (VecWindow.put (s := S256x512) P ![16 * u + b, 0] S1x256.size fun y => gath I H t (ix2 ⟨b, hb⟩ ⟨(y 1).val, by have h : (y 1).val < 256 := (y 1).isLt; omega⟩))
    ![16 * u + b, 256] S1x256.size fun y => gath I H t (ix2 ⟨b, hb⟩ ⟨256 + (y 1).val, by have h : (y 1).val < 256 := (y 1).isLt; omega⟩)

theorem chk_of {w : BitVec 32} (h : w.toNat < 2064) : k0_chk1 w := by
  intro a
  unfold k0_off2
  match a with
  | 0 => show w.toNat + 1 ≤ 2064; omega
  | 1 => show 0 + 256 ≤ 256; omega

/-- The row a word names, as the kernel loads and stores it. -/
theorem pay_row (H : Vec F S2064x256 .f32) {w : BitVec 32} (h : w.toNat < 2064) (y : S1x256.Idx) :
    k0_pay8 (VecWindow.window (s := S2064x256) H (k0_off2 w) S1x256.size (chk_of h)) y = H (ix2 (rowOf w) ⟨(y 1).val, (y 1).isLt⟩) := by
  have e : k0_pay8 (VecWindow.window (s := S2064x256) H (k0_off2 w) S1x256.size (chk_of h)) y
      = VecWindow.window (s := S2064x256) H (k0_off2 w) S1x256.size (chk_of h) y := by
    unfold k0_pay8
    exact congrFun (shapeCast_self _ _) y
  rw [e]
  refine congrArg H (funext fun i => Fin.ext ?_)
  have hy : (y 0).val < 1 := (y 0).isLt
  match i with
  | 0 =>
    show w.toNat + 1 * (y 0).val = w.toNat % 2064
    rw [Nat.mod_eq_of_lt h]; omega
  | 1 => show 0 + 1 * (y 1).val = (y 1).val; omega

/-- The pair buffer after one row gather, as the kernel writes it. -/
theorem rowP_eq (I : Ins F) (hL : InRange I.L) (hR : InRange I.R) (H : Vec F S2064x256 .f32) (P : Vec F S256x512 .f32) (t : Fin 128) (u b : ℕ) (hb : b < 16) :
    rowP I H P t u b hb = VecWindow.put (s := S256x512) (VecWindow.put (s := S256x512) P ![16 * u + b, 0] S1x256.size
        (k0_pay8 (VecWindow.window (s := S2064x256) H (k0_off2 (I.L (ix2 t ⟨b, hb⟩))) S1x256.size (chk_of (hL _)))))
      ![16 * u + b, 256] S1x256.size
        (k0_pay8 (VecWindow.window (s := S2064x256) H (k0_off2 (I.R (ix2 t ⟨b, hb⟩))) S1x256.size (chk_of (hR _)))) := by
  unfold rowP
  have el : (fun y : S1x256.Idx => gath I H t (ix2 ⟨b, hb⟩ ⟨(y 1).val, by have h : (y 1).val < 256 := (y 1).isLt; omega⟩))
      = k0_pay8 (VecWindow.window (s := S2064x256) H (k0_off2 (I.L (ix2 t ⟨b, hb⟩))) S1x256.size (chk_of (hL _))) := by
    funext y
    rw [pay_row H (hL _) y]
    exact dif_pos (show (y 1).val < 256 from (y 1).isLt)
  have er : (fun y : S1x256.Idx => gath I H t (ix2 ⟨b, hb⟩ ⟨256 + (y 1).val, by have h : (y 1).val < 256 := (y 1).isLt; omega⟩))
      = k0_pay8 (VecWindow.window (s := S2064x256) H (k0_off2 (I.R (ix2 t ⟨b, hb⟩))) S1x256.size (chk_of (hR _))) := by
    funext y
    rw [pay_row H (hR _) y]
    refine (dif_neg (show ¬ 256 + (y 1).val < 256 by omega)).trans (congrArg H (funext fun i => Fin.ext ?_))
    match i with
    | 0 => rfl
    | 1 => show 256 + (y 1).val - 256 = (y 1).val; omega
  exact congrArg₂ (fun a b' => VecWindow.put (s := S256x512) (VecWindow.put (s := S256x512) P ![16 * u + b, 0] S1x256.size a) ![16 * u + b, 256] S1x256.size b') el er

/-- One row gather. -/
theorem wp_row {Q : Unit → sProp 𝕄} (I : Ins F) (hL : InRange I.L) (hR : InRange I.R) (H : Vec F S2064x256 .f32) (P : Vec F S256x512 .f32)
    (k : Fin k0_t1_loop.trips) (u b : ℕ) (hu : u < 16) (hb : b < 16) (K : Prog (TpuEff nD τ sig (Elt F) Λ₀ .tc) Unit) :
    iprop(own c arg4 I.L ∗ own c arg5 I.R ∗ own c arg17 H ∗ own c arg18 P
        ∗ (own c arg4 I.L ∗ own c arg5 I.R ∗ own c arg17 H ∗ own c arg18 (rowP I H P (tm k u hu) u b hb) -∗ wpB c K Q))
      ⊢ wpB c (rowK arg4 arg5 arg17 arg18 k u b hu hb K) Q := by
  have eI : offI k u b = fun a => ((ix2 (tm k u hu) ⟨b, hb⟩ : S128x16.Idx) a).val := by
    rw [offI_eq k u b hu]; funext a
    match a with
    | 0 => rfl
    | 1 => rfl
  rw [rowP_eq I hL hR]
  unfold rowK
  iintro ⟨H4, H5, H17, H18, Hk⟩
  iapply (wp_word c eI (by decide) _ _ I.L)
  isplitl [H4]; · iexact H4
  iintro H4
  iapply (wp_assume Variants.none (c : Thread nD τ) none Set.univ (chk_of (hL _)))
  iapply (wp_word c eI (by decide) _ _ I.R)
  isplitl [H5]; · iexact H5
  iintro H5
  iapply (wp_assume Variants.none (c : Thread nD τ) none Set.univ (chk_of (hR _)))
  iapply (wp_ld c (m := arg17) (size := S1x256.size) rfl (k0_off2_inb _ (chk_of (hL (ix2 (tm k u hu) ⟨b, hb⟩)))) H)
  isplitl [H17]; · iexact H17
  iintro H17
  iapply (wp_ld c rfl (row_inb hu hb (by decide)) P)
  isplitl [H18]; · iexact H18
  iintro H18
  iapply (wp_st c rfl P)
  isplitl [H18]; · iexact H18
  iintro H18
  iapply (wp_ld c (m := arg17) (size := S1x256.size) rfl (k0_off2_inb _ (chk_of (hR (ix2 (tm k u hu) ⟨b, hb⟩)))) H)
  isplitl [H17]; · iexact H17
  iintro H17
  iapply (wp_ld c rfl (row_inb hu hb (by decide)) _)
  isplitl [H18]; · iexact H18
  iintro H18
  iapply (wp_st c rfl _)
  isplitl [H18]; · iexact H18
  iintro H18
  iapply Hk
  isplitl [H4]; · iexact H4
  isplitl [H5]; · iexact H5
  isplitl [H17]; · iexact H17
  iexact H18

/-- The first `n` rows of block `u` of the pair buffer hold the gathered rows. -/
def Got (I : Ins F) (H : Vec F S2064x256 .f32) (t : Fin 128) (P : Vec F S256x512 .f32) (u : ℕ) (hu : u < 16) (n : ℕ) : Prop :=
  ∀ (b : Fin 16) (j : Fin 512), b.val < n → P (ix2 ⟨16 * u + b.val, by have := b.isLt; omega⟩ j) = gath I H t (ix2 b j)

theorem got_rowP (I : Ins F) (H : Vec F S2064x256 .f32) (t : Fin 128) (P : Vec F S256x512 .f32) (u : ℕ) (hu : u < 16) (n : ℕ) (hn : n < 16)
    (h : Got I H t P u hu n) : Got I H t (rowP I H P t u n hn) u hu (n + 1) := by
  intro b j hb
  unfold rowP
  have hj := j.isLt
  by_cases e : b.val = n
  · obtain rfl : b = ⟨n, hn⟩ := Fin.ext e
    by_cases hj2 : j.val < 256
    · refine (put2_out _ _ _ _ (by simp; omega)).trans ((put2_in _ _ _ _ (by simp) (by simp; omega)).trans ?_)
      exact congrArg (fun z => gath I H t (ix2 _ z)) (Fin.ext (by simp))
    · refine (put2_in _ _ _ _ (by simp) (by simp; omega)).trans ?_
      exact congrArg (fun z => gath I H t (ix2 _ z)) (Fin.ext (by simp; omega))
  · exact (put2_out _ _ _ _ (by simp; omega)).trans ((put2_out _ _ _ _ (by simp; omega)).trans (h b j (by omega)))

/-- The row gathers from row `b` on. -/
theorem wp_rows {Q : Unit → sProp 𝕄} (I : Ins F) (hL : InRange I.L) (hR : InRange I.R) (H : Vec F S2064x256 .f32)
    (k : Fin k0_t1_loop.trips) (u : ℕ) (hu : u < 16) (K : Prog (TpuEff nD τ sig (Elt F) Λ₀ .tc) Unit) :
    ∀ (n b : ℕ) (h : b + n ≤ 16) (P : Vec F S256x512 .f32), Got I H (tm k u hu) P u hu b →
    iprop(own c arg4 I.L ∗ own c arg5 I.R ∗ own c arg17 H ∗ own c arg18 P
        ∗ (∀ P', ⌜Got I H (tm k u hu) P' u hu (b + n)⌝ -∗ own c arg4 I.L ∗ own c arg5 I.R ∗ own c arg17 H ∗ own c arg18 P' -∗ wpB c K Q))
      ⊢ wpB c (rowsK arg4 arg5 arg17 arg18 k u hu n b h K) Q := by
  intro n
  induction n with
  | zero =>
    intro b h P hP
    unfold rowsK
    iintro ⟨H4, H5, H17, H18, Hk⟩
    iapply Hk
    · ipureintro; exact hP
    isplitl [H4]; · iexact H4
    isplitl [H5]; · iexact H5
    isplitl [H17]; · iexact H17
    iexact H18
  | succ n ih =>
    intro b h P hP
    iintro ⟨H4, H5, H17, H18, Hk⟩
    iapply (wp_row c arg4 arg5 arg17 arg18 I hL hR H P k u b hu (by omega) _)
    isplitl [H4]; · iexact H4
    isplitl [H5]; · iexact H5
    isplitl [H17]; · iexact H17
    isplitl [H18]; · iexact H18
    iintro ⟨H4, H5, H17, H18⟩
    iapply (ih (b + 1) _ _ (got_rowP I H (tm k u hu) P u hu b (by omega) hP))
    isplitl [H4]; · iexact H4
    isplitl [H5]; · iexact H5
    isplitl [H17]; · iexact H17
    isplitl [H18]; · iexact H18
    iintro %P' %hP'
    iapply Hk
    ipureintro
    exact (show b + 1 + n = b + (n + 1) by omega) ▸ hP'

/-! ## The cell update -/

/-- The block of the pair buffer read whole, once all its rows are gathered. -/
theorem window_got (I : Ins F) (H : Vec F S2064x256 .f32) (t : Fin 128) (P : Vec F S256x512 .f32) (u : ℕ) (hu : u < 16) (h : Got I H t P u hu 16) :
    VecWindow.window (s := S256x512) P ![16 * u, 0] S16x512.size (slab_inb hu (by decide)) = gath I H t := by
  funext y
  obtain ⟨b, j, rfl⟩ : ∃ (b : Fin 16) (j : Fin 512), y = ix2 b j := ⟨y 0, y 1, eq_ix2 y⟩
  refine (window2 P _ b j).trans (Eq.trans ?_ (h b j b.isLt))
  exact congrArg (fun z => P (ix2 _ z)) (Fin.ext (by simp))

/-- The block of the pair buffer read whole after the two gated halves are stored. -/
theorem window_gated (P : Vec F S256x512 .f32) (u : ℕ) (hu : u < 16) (p : Vec F S16x512 .f32) (xg : Vec F S16x1280 .f32) (wg : Vec F S512x1280 .f32) :
    VecWindow.window (s := S256x512) (VecWindow.put (s := S256x512) (VecWindow.put (s := S256x512) P ![16 * u, 0] S16x256.size (k0_pay43 p xg wg))
      ![16 * u, 256] S16x256.size (k0_pay44 p xg wg)) ![16 * u, 0] S16x512.size (slab_inb hu (by decide)) = gated p xg wg := by
  funext y
  obtain ⟨b, j, rfl⟩ : ∃ (b : Fin 16) (j : Fin 512), y = ix2 b j := ⟨y 0, y 1, eq_ix2 y⟩
  have hb := b.isLt
  have hj := j.isLt
  refine (window2 _ _ b j).trans ?_
  unfold gated
  by_cases hj2 : j.val < 256
  · refine (put2_out _ _ _ _ (by simp; omega)).trans ((put2_in _ _ _ _ (by simp) (by simp; omega)).trans (Eq.trans ?_ (dif_pos hj2).symm))
    exact congrArg₂ (fun a z => k0_pay43 p xg wg (ix2 a z)) (Fin.ext (by simp)) (Fin.ext (by simp))
  · refine (put2_in _ _ _ _ (by simp) (by simp; omega)).trans (Eq.trans ?_ (dif_neg hj2).symm)
    exact congrArg₂ (fun a z => k0_pay44 p xg wg (ix2 a z)) (Fin.ext (by simp)) (Fin.ext (by simp))

theorem window_blk {n : ℕ} (X : Vec F (⟨2, ![2048, n]⟩ : Shape) .f32) (t : Fin 128)
    (inb : ∀ a : Fin 2, (![16 * t.val, 0] : Fin 2 → ℕ) a + (![16, n] : Fin 2 → ℕ) a ≤ (⟨2, ![2048, n]⟩ : Shape).size a) :
    VecWindow.window (s := ⟨2, ![2048, n]⟩) X ![16 * t.val, 0] ![16, n] inb = blk X t := by
  funext y
  obtain ⟨b, j, rfl⟩ : ∃ (b : Fin 16) (j : Fin n), y = ix2 b j := ⟨y 0, y 1, eq_ix2 y⟩
  refine (window2 X inb b j).trans ?_
  exact congrArg (fun z => X (ix2 _ z)) (Fin.ext (by simp))

theorem window_full {s : Shape} {α : Type} (x : s.Idx → α) (off : Fin s.rank → ℕ) (inb : ∀ a, off a + s.size a ≤ s.size a) :
    VecWindow.window x off s.size inb = x := by
  funext y
  exact congrArg x (Rect.emb_unit_full inb y)

/-- The cell update of one step, over gathered rows. -/
theorem wp_tail {Q : Unit → sProp 𝕄} (I : Ins F) (H : Vec F S2064x256 .f32) (O : Vec F S16x128x256 .f32) (P : Vec F S256x512 .f32)
    (k : Fin k0_t1_loop.trips) (u : ℕ) (hu : u < 16) (hP : Got I H (tm k u hu) P u hu 16) (K : Prog (TpuEff nD τ sig (Elt F) Λ₀ .tc) Unit) :
    iprop(own c arg12 I.XG ∗ own c arg13 I.XC ∗ own c arg14 I.WG ∗ own c arg15 I.WC ∗ own c arg17 H ∗ own c arg11 O ∗ own c arg18 P
        ∗ (∀ P', own c arg12 I.XG ∗ own c arg13 I.XC ∗ own c arg14 I.WG ∗ own c arg15 I.WC ∗ own c arg17 (stH I H (tm k u hu))
            ∗ own c arg11 (stO I H O (tm k u hu)) ∗ own c arg18 P' -∗ wpB c K Q))
      ⊢ wpB c (tailK arg11 arg12 arg13 arg14 arg15 arg17 arg18 k u hu K) Q := by
  have eX := offX_eq k u hu
  have eO := offO_eq k u hu
  unfold tailK
  iintro ⟨H12, H13, H14, H15, H17, H11, H18, Hk⟩
  iapply (wp_ldv c rfl (slab_inb hu (by decide)) P (window_got I H (tm k u hu) P u hu hP))
  isplitl [H18]; · iexact H18
  iintro H18
  iapply (wp_ldv c (m := arg12) (size := S16x1280.size) eX (eX ▸ offX_inb k hu 1280 2048 1280 le_rfl le_rfl) I.XG (window_blk I.XG (tm k u hu) _))
  isplitl [H12]; · iexact H12
  iintro H12
  iapply (wp_ldv c (m := arg14) (size := S512x1280.size) rfl inb_S512x1280_S512x1280_0_0 I.WG (window_full I.WG _ _))
  isplitl [H14]; · iexact H14
  iintro H14
  iapply (wp_ld c rfl (slab_inb hu (by decide)) P)
  isplitl [H18]; · iexact H18
  iintro H18
  iapply (wp_st c rfl P)
  isplitl [H18]; · iexact H18
  iintro H18
  iapply (wp_ld c rfl (slab_inb hu (by decide)) _)
  isplitl [H18]; · iexact H18
  iintro H18
  iapply (wp_st c rfl _)
  isplitl [H18]; · iexact H18
  iintro H18
  iapply (wp_ldv c (m := arg13) (size := S16x256.size) eX (eX ▸ offX_inb k hu 256 2048 256 le_rfl le_rfl) I.XC (window_blk I.XC (tm k u hu) _))
  isplitl [H13]; · iexact H13
  iintro H13
  iapply (wp_ldv c rfl (slab_inb hu (by decide)) _ (window_gated P u hu _ _ _))
  isplitl [H18]; · iexact H18
  iintro H18
  iapply (wp_ldv c (m := arg15) (size := S512x256.size) rfl inb_S512x256_S512x256_0_0 I.WC (window_full I.WC _ _))
  isplitl [H15]; · iexact H15
  iintro H15
  iapply (wp_ld c (m := arg17) (size := S16x256.size) eX (eX ▸ offX_inb k hu 256 2064 256 (by decide) le_rfl) H)
  isplitl [H17]; · iexact H17
  iintro H17
  iapply (wp_st c (m := arg17) (size := S16x256.size) eX H)
  isplitl [H17]; · iexact H17
  iintro H17
  iapply (wp_ld c (m := arg11) (size := S16x1x256.size) eO (eO ▸ offO_inb k hu) O)
  isplitl [H11]; · iexact H11
  iintro H11
  iapply (wp_st c (m := arg11) (size := S16x1x256.size) eO O)
  isplitl [H11]; · iexact H11
  iintro H11
  iapply Hk
  isplitl [H12]; · iexact H12
  isplitl [H13]; · iexact H13
  isplitl [H14]; · iexact H14
  isplitl [H15]; · iexact H15
  isplitl [H17]; · iexact H17
  isplitl [H11]; · iexact H11
  iexact H18

end Cert.Proof.Tree

end
-- ==== Proof.Body.lean ====
/- The printed loop body is sixteen equal steps. -/
module

public import proofs.«01_k».proof.Proof.Steps

@[expose] public section

noncomputable section

namespace Cert.Proof.Tree

open Idealize.ShloMosaic Idealize.SL.Sem Cert.KernelIdeal Cert.KernelIdeal.Gen

variable {F : FTy → Type} [FloatOps F]

section Peel

variable {arg4 arg5 : Memref sig .tc .smem S128x16 .i32} {arg11 : Memref sig .tc .vmem S16x128x256 .f32}
  {arg12 : Memref sig .tc .vmem S2048x1280 .f32} {arg13 : Memref sig .tc .vmem S2048x256 .f32}
  {arg14 : Memref sig .tc .vmem S512x1280 .f32} {arg15 : Memref sig .tc .vmem S512x256 .f32}
  {arg17 : Memref sig .tc .vmem S2064x256 .f32} {arg18 : Memref sig .tc .vmem S256x512 .f32}

/-- A program that starts with the gather of one row and goes on as the remaining row gathers is the row gathers. -/
theorem row_peel {k : Fin k0_t1_loop.trips} {u n b : ℕ} {hu : u < 16} {h : b + (n + 1) ≤ 16}
    {T T' K : Prog (TpuEff nD τ sig (Elt F) Λ₀ .tc) Unit}
    (h₁ : T = rowK arg4 arg5 arg17 arg18 k u b hu (by omega) T')
    (h₂ : T' = rowsK arg4 arg5 arg17 arg18 k u hu n (b + 1) (by omega) K) :
    T = rowsK arg4 arg5 arg17 arg18 k u hu (n + 1) b h K := by
  rw [h₁, h₂]; rfl

/-- A program that starts with one step and goes on as the remaining steps is the steps. -/
theorem step_peel {k : Fin k0_t1_loop.trips} {u n : ℕ} {h : u + (n + 1) ≤ 16}
    {T T' T'' : Prog (TpuEff nD τ sig (Elt F) Λ₀ .tc) Unit}
    (h₁ : T = rowsK arg4 arg5 arg17 arg18 k u (by omega) 16 0 le_rfl T')
    (h₂ : T' = tailK arg11 arg12 arg13 arg14 arg15 arg17 arg18 k u (by omega) T'')
    (h₃ : T'' = stepsK arg4 arg5 arg11 arg12 arg13 arg14 arg15 arg17 arg18 k n (u + 1) (by omega)) :
    T = stepsK arg4 arg5 arg11 arg12 arg13 arg14 arg15 arg17 arg18 k (n + 1) u h := by
  rw [h₁, h₂, h₃]; rfl

end Peel

set_option maxRecDepth 100000 in
set_option maxHeartbeats 0 in
theorem body_eq (arg0 : Memref sig .tc .vmem S2048x512 .f32) (harg0 : arg0.IsWhole) (arg1 : Memref sig .tc .vmem S1280x512 .f32) (harg1 : arg1.IsWhole) (arg2 : Memref sig .tc .vmem S1x1280 .f32) (harg2 : arg2.IsWhole) (arg3 : Memref sig .tc .vmem S1x256 .f32) (harg3 : arg3.IsWhole) (arg4 : Memref sig .tc .smem S128x16 .i32) (harg4 : arg4.IsWhole) (arg5 : Memref sig .tc .smem S128x16 .i32) (harg5 : arg5.IsWhole) (arg6 : Memref sig .tc .vmem S1280x256 .f32) (harg6 : arg6.IsWhole) (arg7 : Memref sig .tc .vmem S1280x256 .f32) (harg7 : arg7.IsWhole) (arg8 : Memref sig .tc .vmem S256x512 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S16x128x256 .f32) (harg11 : arg11.IsWhole) (arg12 : Memref sig .tc .vmem S2048x1280 .f32) (harg12 : arg12.IsWhole) (arg13 : Memref sig .tc .vmem S2048x256 .f32) (harg13 : arg13.IsWhole) (arg14 : Memref sig .tc .vmem S512x1280 .f32) (harg14 : arg14.IsWhole) (arg15 : Memref sig .tc .vmem S512x256 .f32) (harg15 : arg15.IsWhole) (arg16 : Memref sig .tc .vmem S512x1280 .f32) (harg16 : arg16.IsWhole) (arg17 : Memref sig .tc .vmem S2064x256 .f32) (harg17 : arg17.IsWhole) (arg18 : Memref sig .tc .vmem S256x512 .f32) (harg18 : arg18.IsWhole) (k : Fin k0_t1_loop.trips) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  k () =
      stepsK arg4 arg5 arg11 arg12 arg13 arg14 arg15 arg17 arg18 k 16 0 le_rfl := by
  iterate 16
    refine step_peel (T' := ?_) (T'' := ?_) ?_ ?_ ?_
    rotate_left 2
    · iterate 16
        refine row_peel (T' := ?_) ?_ ?_
        rotate_left 1
        · iterate 10 refine op_congr fun _ => ?_
          conv_lhs => whnf
      exact rfl
    · iterate 14 refine op_congr fun _ => ?_
      conv_lhs => whnf
  exact rfl
end Cert.Proof.Tree

end
-- ==== Proof.Loop.lean ====
/- The kernel's loop on values: the steps of a trip one after another, the trips one after another. -/
module

public import proofs.«01_k».proof.Proof.Row
public import proofs.«01_k».proof.Proof.Body

@[expose] public section

set_option maxRecDepth 16384

noncomputable section

namespace Cert.Proof.Tree

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The state buffer before step `t`, from what it holds before the loop. -/
def iterH (I : Ins F) (H : Vec F S2064x256 .f32) : ℕ → Vec F S2064x256 .f32
  | 0 => H
  | t + 1 => if h : t < 128 then stH I (iterH I H t) ⟨t, h⟩ else iterH I H t

/-- The result buffer before step `t`, from what the two buffers hold before the loop. -/
def iterO (I : Ins F) (H : Vec F S2064x256 .f32) (O : Vec F S16x128x256 .f32) : ℕ → Vec F S16x128x256 .f32
  | 0 => O
  | t + 1 => if h : t < 128 then stO I (iterH I H t) (iterO I H O t) ⟨t, h⟩ else iterO I H O t

theorem iterH_succ (I : Ins F) (H : Vec F S2064x256 .f32) (t : Fin 128) : iterH I H (t.val + 1) = stH I (iterH I H t.val) t := dif_pos t.isLt

theorem iterO_succ (I : Ins F) (H : Vec F S2064x256 .f32) (O : Vec F S16x128x256 .f32) (t : Fin 128) :
    iterO I H O (t.val + 1) = stO I (iterH I H t.val) (iterO I H O t.val) t := dif_pos t.isLt

variable (c : Dev nD)

section Steps

variable (arg4 arg5 : Memref sig .tc .smem S128x16 .i32) (arg11 : Memref sig .tc .vmem S16x128x256 .f32)
  (arg12 : Memref sig .tc .vmem S2048x1280 .f32) (arg13 : Memref sig .tc .vmem S2048x256 .f32)
  (arg14 : Memref sig .tc .vmem S512x1280 .f32) (arg15 : Memref sig .tc .vmem S512x256 .f32)
  (arg17 : Memref sig .tc .vmem S2064x256 .f32) (arg18 : Memref sig .tc .vmem S256x512 .f32)

/-- What the loop holds before step `t`: what it only reads, the state and the result so far, the pair buffer at anything. -/
def St (I : Ins F) (H : Vec F S2064x256 .f32) (O : Vec F S16x128x256 .f32) (t : ℕ) : sProp 𝕄 :=
  iprop(own c arg4 I.L ∗ own c arg5 I.R ∗ own c arg12 I.XG ∗ own c arg13 I.XC ∗ own c arg14 I.WG ∗ own c arg15 I.WC
    ∗ own c arg17 (iterH I H t) ∗ own c arg11 (iterO I H O t) ∗ ∃ P : Vec F S256x512 .f32, own c arg18 P)

/-- One step. -/
theorem wp_step {Q : Unit → sProp 𝕄} (I : Ins F) (hL : InRange I.L) (hR : InRange I.R) (H : Vec F S2064x256 .f32) (O : Vec F S16x128x256 .f32)
    (k : Fin k0_t1_loop.trips) (u : ℕ) (hu : u < 16) (K : Prog (TpuEff nD τ sig (Elt F) Λ₀ .tc) Unit) :
    iprop(St c arg4 arg5 arg11 arg12 arg13 arg14 arg15 arg17 arg18 I H O (16 * k.val + u)
        ∗ (St c arg4 arg5 arg11 arg12 arg13 arg14 arg15 arg17 arg18 I H O (16 * k.val + u + 1) -∗ wpB c K Q))
      ⊢ wpB c (stepK arg4 arg5 arg11 arg12 arg13 arg14 arg15 arg17 arg18 k u hu K) Q := by
  have eH : iterH I H (16 * k.val + u + 1) = stH I (iterH I H (16 * k.val + u)) (tm k u hu) := iterH_succ I H (tm k u hu)
  have eO : iterO I H O (16 * k.val + u + 1) = stO I (iterH I H (16 * k.val + u)) (iterO I H O (16 * k.val + u)) (tm k u hu) := iterO_succ I H O (tm k u hu)
  unfold St stepK
  rw [eH, eO]
  iintro ⟨⟨H4, H5, H12, H13, H14, H15, H17, H11, ⟨%P, H18⟩⟩, Hk⟩
  iapply (wp_rows c arg4 arg5 arg17 arg18 I hL hR (iterH I H (16 * k.val + u)) k u hu _ 16 0 le_rfl P (fun _ _ h => absurd h (Nat.not_lt_zero _)))
  isplitl [H4]; · iexact H4
  isplitl [H5]; · iexact H5
  isplitl [H17]; · iexact H17
  isplitl [H18]; · iexact H18
  iintro %P' %hP' ⟨H4, H5, H17, H18⟩
  iapply (wp_tail c arg11 arg12 arg13 arg14 arg15 arg17 arg18 I (iterH I H (16 * k.val + u)) (iterO I H O (16 * k.val + u)) P' k u hu hP' _)
  isplitl [H12]; · iexact H12
  isplitl [H13]; · iexact H13
  isplitl [H14]; · iexact H14
  isplitl [H15]; · iexact H15
  isplitl [H17]; · iexact H17
  isplitl [H11]; · iexact H11
  isplitl [H18]; · iexact H18
  iintro %P2 ⟨H12, H13, H14, H15, H17, H11, H18⟩
  iapply Hk
  isplitl [H4]; · iexact H4
  isplitl [H5]; · iexact H5
  isplitl [H12]; · iexact H12
  isplitl [H13]; · iexact H13
  isplitl [H14]; · iexact H14
  isplitl [H15]; · iexact H15
  isplitl [H17]; · iexact H17
  isplitl [H11]; · iexact H11
  iexists P2
  iexact H18

/-- The steps of a trip from `u` on. -/
theorem wp_steps {Q : Unit → sProp 𝕄} (I : Ins F) (hL : InRange I.L) (hR : InRange I.R) (H : Vec F S2064x256 .f32) (O : Vec F S16x128x256 .f32)
    (k : Fin k0_t1_loop.trips) : ∀ (n u : ℕ) (h : u + n ≤ 16),
    iprop(St c arg4 arg5 arg11 arg12 arg13 arg14 arg15 arg17 arg18 I H O (16 * k.val + u)
        ∗ (St c arg4 arg5 arg11 arg12 arg13 arg14 arg15 arg17 arg18 I H O (16 * k.val + (u + n)) -∗ Q ()))
      ⊢ wpB c (stepsK arg4 arg5 arg11 arg12 arg13 arg14 arg15 arg17 arg18 k n u h) Q := by
  intro n
  induction n with
  | zero =>
    intro u h
    unfold stepsK wpB
    rw [wp_ret]
    iintro ⟨HS, Hk⟩
    imodintro
    iapply Hk
    iexact HS
  | succ n ih =>
    intro u h
    unfold stepsK
    iintro ⟨HS, Hk⟩
    iapply (wp_step c arg4 arg5 arg11 arg12 arg13 arg14 arg15 arg17 arg18 I hL hR H O k u _ _)
    isplitl [HS]; · iexact HS
    iintro HS
    iapply (ih (u + 1) _)
    isplitl [HS]; · iexact HS
    rw [show u + 1 + n = u + (n + 1) by omega]
    iexact Hk

end Steps

section Loop

variable (arg0 : Memref sig .tc .vmem S2048x512 .f32) (harg0 : arg0.IsWhole) (arg1 : Memref sig .tc .vmem S1280x512 .f32) (harg1 : arg1.IsWhole) (arg2 : Memref sig .tc .vmem S1x1280 .f32) (harg2 : arg2.IsWhole) (arg3 : Memref sig .tc .vmem S1x256 .f32) (harg3 : arg3.IsWhole) (arg4 : Memref sig .tc .smem S128x16 .i32) (harg4 : arg4.IsWhole) (arg5 : Memref sig .tc .smem S128x16 .i32) (harg5 : arg5.IsWhole) (arg6 : Memref sig .tc .vmem S1280x256 .f32) (harg6 : arg6.IsWhole) (arg7 : Memref sig .tc .vmem S1280x256 .f32) (harg7 : arg7.IsWhole) (arg8 : Memref sig .tc .vmem S256x512 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S16x128x256 .f32) (harg11 : arg11.IsWhole) (arg12 : Memref sig .tc .vmem S2048x1280 .f32) (harg12 : arg12.IsWhole) (arg13 : Memref sig .tc .vmem S2048x256 .f32) (harg13 : arg13.IsWhole) (arg14 : Memref sig .tc .vmem S512x1280 .f32) (harg14 : arg14.IsWhole) (arg15 : Memref sig .tc .vmem S512x256 .f32) (harg15 : arg15.IsWhole) (arg16 : Memref sig .tc .vmem S512x1280 .f32) (harg16 : arg16.IsWhole) (arg17 : Memref sig .tc .vmem S2064x256 .f32) (harg17 : arg17.IsWhole) (arg18 : Memref sig .tc .vmem S256x512 .f32) (harg18 : arg18.IsWhole)

/-- One trip. -/
theorem wp_trip (I : Ins F) (hL : InRange I.L) (hR : InRange I.R) (H : Vec F S2064x256 .f32) (O : Vec F S16x128x256 .f32)
    (k : Fin k0_t1_loop.trips) :
    St c arg4 arg5 arg11 arg12 arg13 arg14 arg15 arg17 arg18 I H O (16 * k.val)
      ⊢ wpB c (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k ())
          (fun _ => St c arg4 arg5 arg11 arg12 arg13 arg14 arg15 arg17 arg18 I H O (16 * (k.val + 1))) := by
  rw [body_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k]
  iintro HS
  iapply (wp_steps c arg4 arg5 arg11 arg12 arg13 arg14 arg15 arg17 arg18 I hL hR H O k 16 0 le_rfl)
  isplitl [HS]; · iexact HS
  iintro HS
  iexact HS

/-- The whole loop. -/
theorem wp_loop {Q : Unit → sProp 𝕄} (I : Ins F) (hL : InRange I.L) (hR : InRange I.R) (H : Vec F S2064x256 .f32) (O : Vec F S16x128x256 .f32)
    {kk : Unit → Prog (TpuEff nD τ sig (Elt F) Λ₀ .tc) Unit} :
    iprop(St c arg4 arg5 arg11 arg12 arg13 arg14 arg15 arg17 arg18 I H O 0
        ∗ (St c arg4 arg5 arg11 arg12 arg13 arg14 arg15 arg17 arg18 I H O 128 -∗ wpB c (kk ()) Q))
      ⊢ wpB c (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) >>= kk) Q := by
  have hstep := fun k => wp_trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hL hR H O k
  generalize k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = B at hstep ⊢
  iintro ⟨HS, Hk⟩
  iapply (Scf.wp_for_bind frame (wpE (defs₀ (F := F)) Variants.none (c : Thread nD τ) none) Set.univ k0_t1_loop.lb k0_t1_loop.ub k0_t1_loop.st k0_t1_ok () B
    (fun t _ => St c arg4 arg5 arg11 arg12 arg13 arg14 arg15 arg17 arg18 I H O (16 * t)) (fun k _ => hstep k) (kk := kk) (Q := Q)) $$ HS
  iintro %a HS
  iapply Hk
  rw [show Scf.trips k0_t1_loop.lb k0_t1_loop.ub k0_t1_loop.st = 8 from trips_eq]
  iexact HS

end Loop

end Cert.Proof.Tree

end
-- ==== Proof.Prolog.lean ====
/- The kernel's body on values: what is laid out before the loop, the loop, and what the result buffer holds at the end. -/
module

public import proofs.«01_k».proof.Proof.Loop

@[expose] public section

set_option maxRecDepth 16384

noncomputable section

namespace Cert.Proof.Tree

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## Before the loop -/

/-- What the kernel does before its loop: the weights transposed and laid one under the other, the products of the input
    with its weights, and the block of zero rows under the state; then `K`. -/
def prologK (arg0 : Memref sig .tc .vmem S2048x512 .f32) (arg1 : Memref sig .tc .vmem S1280x512 .f32) (arg2 : Memref sig .tc .vmem S1x1280 .f32) (arg3 : Memref sig .tc .vmem S1x256 .f32) (arg6 : Memref sig .tc .vmem S1280x256 .f32) (arg7 : Memref sig .tc .vmem S1280x256 .f32) (arg8 : Memref sig .tc .vmem S256x512 .f32) (arg9 : Memref sig .tc .vmem S256x256 .f32) (arg10 : Memref sig .tc .vmem S256x256 .f32) (arg12 : Memref sig .tc .vmem S2048x1280 .f32) (arg13 : Memref sig .tc .vmem S2048x256 .f32) (arg14 : Memref sig .tc .vmem S512x1280 .f32) (arg15 : Memref sig .tc .vmem S512x256 .f32) (arg16 : Memref sig .tc .vmem S512x1280 .f32) (arg17 : Memref sig .tc .vmem S2064x256 .f32)
    (K : Prog (TpuEff nD τ sig (Elt F) Λ₀ .tc) Unit) : Prog (TpuEff nD τ sig (Elt F) Λ₀ .tc) Unit :=
  .op (.load arg6 (Rect.unit (s := S1280x256) ![0, 0] S1280x256.size inb_S1280x256_S1280x256_0_0).toLoadRect (View.loadsAt_vmem h_S1280x256)) fun v0 =>
  .op (.load arg14 (Rect.unit (s := S512x1280) ![0, 0] S256x1280.size inb_S512x1280_S256x1280_0_0).toLoadRect (View.loadsAt_vmem h_S256x1280)) fun _ =>
  .op (.store arg14 (Rect.unit (s := S512x1280) ![0, 0] S256x1280.size inb_S512x1280_S256x1280_0_0) (k0_pay681 v0) Finset.univ (View.stores_vmem_bits_univ h_S256x1280 rfl) (.inl rfl)) fun _ =>
  .op (.load arg7 (Rect.unit (s := S1280x256) ![0, 0] S1280x256.size inb_S1280x256_S1280x256_0_0).toLoadRect (View.loadsAt_vmem h_S1280x256)) fun v5 =>
  .op (.load arg14 (Rect.unit (s := S512x1280) ![256, 0] S256x1280.size inb_S512x1280_S256x1280_256_0).toLoadRect (View.loadsAt_vmem h_S256x1280)) fun _ =>
  .op (.store arg14 (Rect.unit (s := S512x1280) ![256, 0] S256x1280.size inb_S512x1280_S256x1280_256_0) (k0_pay682 v5) Finset.univ (View.stores_vmem_bits_univ h_S256x1280 rfl) (.inl rfl)) fun _ =>
  .op (.load arg9 (Rect.unit (s := S256x256) ![0, 0] S256x256.size inb_S256x256_S256x256_0_0).toLoadRect (View.loadsAt_vmem h_S256x256)) fun v10 =>
  .op (.load arg15 (Rect.unit (s := S512x256) ![0, 0] S256x256.size inb_S512x256_S256x256_0_0).toLoadRect (View.loadsAt_vmem h_S256x256)) fun _ =>
  .op (.store arg15 (Rect.unit (s := S512x256) ![0, 0] S256x256.size inb_S512x256_S256x256_0_0) (k0_pay683 v10) Finset.univ (View.stores_vmem_bits_univ h_S256x256 rfl) (.inl rfl)) fun _ =>
  .op (.load arg10 (Rect.unit (s := S256x256) ![0, 0] S256x256.size inb_S256x256_S256x256_0_0).toLoadRect (View.loadsAt_vmem h_S256x256)) fun v15 =>
  .op (.load arg15 (Rect.unit (s := S512x256) ![256, 0] S256x256.size inb_S512x256_S256x256_256_0).toLoadRect (View.loadsAt_vmem h_S256x256)) fun _ =>
  .op (.store arg15 (Rect.unit (s := S512x256) ![256, 0] S256x256.size inb_S512x256_S256x256_256_0) (k0_pay684 v15) Finset.univ (View.stores_vmem_bits_univ h_S256x256 rfl) (.inl rfl)) fun _ =>
  .op (.load arg1 (Rect.unit (s := S1280x512) ![0, 0] S1280x512.size inb_S1280x512_S1280x512_0_0).toLoadRect (View.loadsAt_vmem h_S1280x512)) fun v20 =>
  .op (.load arg16 (Rect.unit (s := S512x1280) ![0, 0] S512x1280.size inb_S512x1280_S512x1280_0_0).toLoadRect (View.loadsAt_vmem h_S512x1280)) fun _ =>
  .op (.store arg16 (Rect.unit (s := S512x1280) ![0, 0] S512x1280.size inb_S512x1280_S512x1280_0_0) (k0_pay685 v20) Finset.univ (View.stores_vmem_bits_univ h_S512x1280 rfl) (.inl rfl)) fun _ =>
  .op (.load arg0 (Rect.unit (s := S2048x512) ![0, 0] S2048x512.size inb_S2048x512_S2048x512_0_0).toLoadRect (View.loadsAt_vmem h_S2048x512)) fun v25 =>
  .op (.load arg16 (Rect.unit (s := S512x1280) ![0, 0] S512x1280.size inb_S512x1280_S512x1280_0_0).toLoadRect (View.loadsAt_vmem h_S512x1280)) fun v27 =>
  .op (.load arg2 (Rect.unit (s := S1x1280) ![0, 0] S1x1280.size inb_S1x1280_S1x1280_0_0).toLoadRect (View.loadsAt_vmem h_S1x1280)) fun v29 =>
  .op (.load arg12 (Rect.unit (s := S2048x1280) ![0, 0] S2048x1280.size inb_S2048x1280_S2048x1280_0_0).toLoadRect (View.loadsAt_vmem h_S2048x1280)) fun _ =>
  .op (.store arg12 (Rect.unit (s := S2048x1280) ![0, 0] S2048x1280.size inb_S2048x1280_S2048x1280_0_0) (k0_pay1 (k0_pay687 v25 v27) v29) Finset.univ (View.stores_vmem_bits_univ h_S2048x1280 rfl) (.inl rfl)) fun _ =>
  .op (.load arg8 (Rect.unit (s := S256x512) ![0, 0] S256x512.size inb_S256x512_S256x512_0_0).toLoadRect (View.loadsAt_vmem h_S256x512)) fun v36 =>
  .op (.load arg3 (Rect.unit (s := S1x256) ![0, 0] S1x256.size inb_S1x256_S1x256_0_0).toLoadRect (View.loadsAt_vmem h_S1x256)) fun v38 =>
  .op (.load arg13 (Rect.unit (s := S2048x256) ![0, 0] S2048x256.size inb_S2048x256_S2048x256_0_0).toLoadRect (View.loadsAt_vmem h_S2048x256)) fun _ =>
  .op (.store arg13 (Rect.unit (s := S2048x256) ![0, 0] S2048x256.size inb_S2048x256_S2048x256_0_0) (k0_pay2 (k0_pay686 v25) v36 v38) Finset.univ (View.stores_vmem_bits_univ h_S2048x256 rfl) (.inl rfl)) fun _ =>
  .op (.load arg17 (Rect.unit (s := S2064x256) ![2048, 0] S16x256.size inb_S2064x256_S16x256_2048_0).toLoadRect (View.loadsAt_vmem h_S16x256)) fun _ =>
  .op (.store arg17 (Rect.unit (s := S2064x256) ![2048, 0] S16x256.size inb_S2064x256_S16x256_2048_0) (k0_pay3 (F := F)) Finset.univ (View.stores_vmem_bits_univ h_S16x256 rfl) (.inl rfl)) fun _ =>
  K

/-- The body is what comes before the loop, then the loop. -/
theorem skel_eq (arg0 : Memref sig .tc .vmem S2048x512 .f32) (harg0 : arg0.IsWhole) (arg1 : Memref sig .tc .vmem S1280x512 .f32) (harg1 : arg1.IsWhole) (arg2 : Memref sig .tc .vmem S1x1280 .f32) (harg2 : arg2.IsWhole) (arg3 : Memref sig .tc .vmem S1x256 .f32) (harg3 : arg3.IsWhole) (arg4 : Memref sig .tc .smem S128x16 .i32) (harg4 : arg4.IsWhole) (arg5 : Memref sig .tc .smem S128x16 .i32) (harg5 : arg5.IsWhole) (arg6 : Memref sig .tc .vmem S1280x256 .f32) (harg6 : arg6.IsWhole) (arg7 : Memref sig .tc .vmem S1280x256 .f32) (harg7 : arg7.IsWhole) (arg8 : Memref sig .tc .vmem S256x512 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S16x128x256 .f32) (harg11 : arg11.IsWhole) (arg12 : Memref sig .tc .vmem S2048x1280 .f32) (harg12 : arg12.IsWhole) (arg13 : Memref sig .tc .vmem S2048x256 .f32) (harg13 : arg13.IsWhole) (arg14 : Memref sig .tc .vmem S512x1280 .f32) (harg14 : arg14.IsWhole) (arg15 : Memref sig .tc .vmem S512x256 .f32) (harg15 : arg15.IsWhole) (arg16 : Memref sig .tc .vmem S512x1280 .f32) (harg16 : arg16.IsWhole) (arg17 : Memref sig .tc .vmem S2064x256 .f32) (harg17 : arg17.IsWhole) (arg18 : Memref sig .tc .vmem S256x512 .f32) (harg18 : arg18.IsWhole) :
    cc0__fused_kernel_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = prologK arg0 arg1 arg2 arg3 arg6 arg7 arg8 arg9 arg10 arg12 arg13 arg14 arg15 arg16 arg17
          (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) >>= fun _ => .ret ⟨⟩) := by
  unfold cc0__fused_kernel_skel
  rw [k0_part133_eq_skeleton]
  unfold k0_part133_skel
  generalize k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = B
  iterate 26 refine op_congr fun _ => ?_
  rfl

/-- Two matrices, one under the other. -/
def stack {n : ℕ} (a b : Vec F (⟨2, ![256, n]⟩ : Shape) .f32) : Vec F (⟨2, ![512, n]⟩ : Shape) .f32 := fun y =>
  if h : (y 0).val < 256 then a (ix2 ⟨(y 0).val, h⟩ ⟨(y 1).val, (y 1).isLt⟩)
  else b (ix2 ⟨(y 0).val - 256, by have h2 : (y 0).val < 512 := (y 0).isLt; omega⟩ ⟨(y 1).val, (y 1).isLt⟩)

theorem stack_eq {n : ℕ} (a b : Vec F (⟨2, ![256, n]⟩ : Shape) .f32) (x : Vec F (⟨2, ![512, n]⟩ : Shape) .f32) :
    VecWindow.put (s := ⟨2, ![512, n]⟩) (VecWindow.put (s := ⟨2, ![512, n]⟩) x ![0, 0] ![256, n] a) ![256, 0] ![256, n] b = stack a b := by
  funext y
  obtain ⟨r, j, rfl⟩ : ∃ (r : Fin 512) (j : Fin n), y = ix2 r j := ⟨y 0, y 1, eq_ix2 y⟩
  have hr := r.isLt
  have hj := j.isLt
  unfold stack
  by_cases h : r.val < 256
  · refine (put2_out _ _ _ _ (by omega)).trans ((put2_in _ _ _ _ (by omega) (by omega)).trans (Eq.trans ?_ (dif_pos h).symm))
    exact congrArg₂ (fun p q => a (ix2 p q)) (Fin.ext (by simp)) (Fin.ext (by simp))
  · refine (put2_in _ _ _ _ (by omega) (by omega)).trans (Eq.trans ?_ (dif_neg h).symm)
    exact congrArg₂ (fun p q => b (ix2 p q)) (Fin.ext (by simp)) (Fin.ext (by simp))

theorem put_full {s : Shape} {α : Type} (x : s.Idx → α) (off : Fin s.rank → ℕ) (h0 : ∀ a, off a = 0) (w : s.Idx → α) :
    VecWindow.put x off s.size w = w := by
  funext y
  unfold VecWindow.put
  refine (dif_pos fun a => ?_).trans (congrArg w (funext fun a => Fin.ext ?_))
  · have := (y a).isLt; have := h0 a; omega
  · show (y a).val - off a = (y a).val
    have := h0 a; omega

theorem zero2 : ∀ a : Fin 2, (![0, 0] : Fin 2 → ℕ) a = 0 := by decide

end Cert.Proof.Tree

end
-- ==== Proof.Sound.lean ====
/- The kernel's triple: from its inputs at given values it ends with the inputs unchanged and the result buffer at what the loop
   writes into it. -/
module

public import proofs.«01_k».proof.Proof.Prolog

@[expose] public section

set_option maxRecDepth 16384

noncomputable section

namespace Cert.Proof.Tree

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A store over the whole of a buffer. -/
theorem wp_st_full {Q : Unit → sProp 𝕄} (c : Dev nD) {s : Shape} {e : EltTy} {m : Memref sig .tc .vmem s e} {off : Fin s.rank → ℕ}
    {inb : ∀ a, off a + s.size a ≤ s.size a} (h : ∀ a, off a = 0) {w : s.Idx → Elt F e}
    {hx : (m.access (Rect.unit off s.size inb)).Stores Finset.univ} {hm}
    {k : PUnit → Prog (TpuEff nD τ sig (Elt F) Λ₀ .tc) Unit} (x : s.Idx → Elt F e) :
    iprop(own c m x ∗ (own c m w -∗ wpB c (k ⟨⟩) Q))
      ⊢ wpB c (.op (.store m (Rect.unit off s.size inb) w Finset.univ hx hm) k) Q := by
  have e1 := wp_st c (m := m) (size := s.size) (inb := inb) rfl (w := w) (hx := hx) (hm := hm) (k := k) (Q := Q) x
  rwa [put_full x off h w] at e1

/-- What the loop works from: the row numbers, the input's products with its weights (the bias rows added), and the recurrent
    weights transposed and stacked. -/
def insOf (x0 : Vec F S2048x512 .f32) (x1 : Vec F S1280x512 .f32) (x2 : Vec F S1x1280 .f32) (x3 : Vec F S1x256 .f32) (x4 : Vec F S128x16 .i32) (x5 : Vec F S128x16 .i32) (x6 : Vec F S1280x256 .f32) (x7 : Vec F S1280x256 .f32) (x8 : Vec F S256x512 .f32) (x9 : Vec F S256x256 .f32) (x10 : Vec F S256x256 .f32) : Ins F where
  L := x4
  R := x5
  XG := k0_pay1 (k0_pay687 x0 (k0_pay685 x1)) x2
  XC := k0_pay2 (k0_pay686 x0) x8 x3
  WG := stack (k0_pay681 x6) (k0_pay682 x7)
  WC := stack (k0_pay683 x9) (k0_pay684 x10)

/-- The state buffer when the loop begins: sixteen zero rows under whatever it held. -/
def initH (H : Vec F S2064x256 .f32) : Vec F S2064x256 .f32 := VecWindow.put H ![2048, 0] S16x256.size (k0_pay3 (F := F))

/-- What the result buffer holds at the end, of the inputs, of what the state buffer held at the start and of what the result
    buffer held. -/
def outOf (x0 : Vec F S2048x512 .f32) (x1 : Vec F S1280x512 .f32) (x2 : Vec F S1x1280 .f32) (x3 : Vec F S1x256 .f32) (x4 : Vec F S128x16 .i32) (x5 : Vec F S128x16 .i32) (x6 : Vec F S1280x256 .f32) (x7 : Vec F S1280x256 .f32) (x8 : Vec F S256x512 .f32) (x9 : Vec F S256x256 .f32) (x10 : Vec F S256x256 .f32) (H : Vec F S2064x256 .f32) (O : Vec F S16x128x256 .f32) : Vec F S16x128x256 .f32 :=
  iterO (insOf x0 x1 x2 x3 x4 x5 x6 x7 x8 x9 x10) (initH H) O 128

/-- The kernel, with its inputs at `x0` … `x10` and any contents in the result and the scratch buffers, ends with the inputs as
    they were and the result at `outOf` of some starting contents. -/
theorem sound_kernel (c : Dev nD) (arg0 : Memref sig .tc .vmem S2048x512 .f32) (harg0 : arg0.IsWhole) (arg1 : Memref sig .tc .vmem S1280x512 .f32) (harg1 : arg1.IsWhole) (arg2 : Memref sig .tc .vmem S1x1280 .f32) (harg2 : arg2.IsWhole) (arg3 : Memref sig .tc .vmem S1x256 .f32) (harg3 : arg3.IsWhole) (arg4 : Memref sig .tc .smem S128x16 .i32) (harg4 : arg4.IsWhole) (arg5 : Memref sig .tc .smem S128x16 .i32) (harg5 : arg5.IsWhole) (arg6 : Memref sig .tc .vmem S1280x256 .f32) (harg6 : arg6.IsWhole) (arg7 : Memref sig .tc .vmem S1280x256 .f32) (harg7 : arg7.IsWhole) (arg8 : Memref sig .tc .vmem S256x512 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S16x128x256 .f32) (harg11 : arg11.IsWhole) (arg12 : Memref sig .tc .vmem S2048x1280 .f32) (harg12 : arg12.IsWhole) (arg13 : Memref sig .tc .vmem S2048x256 .f32) (harg13 : arg13.IsWhole) (arg14 : Memref sig .tc .vmem S512x1280 .f32) (harg14 : arg14.IsWhole) (arg15 : Memref sig .tc .vmem S512x256 .f32) (harg15 : arg15.IsWhole) (arg16 : Memref sig .tc .vmem S512x1280 .f32) (harg16 : arg16.IsWhole) (arg17 : Memref sig .tc .vmem S2064x256 .f32) (harg17 : arg17.IsWhole) (arg18 : Memref sig .tc .vmem S256x512 .f32) (harg18 : arg18.IsWhole)
    (x0 : Vec F S2048x512 .f32) (x1 : Vec F S1280x512 .f32) (x2 : Vec F S1x1280 .f32) (x3 : Vec F S1x256 .f32) (x4 : Vec F S128x16 .i32) (x5 : Vec F S128x16 .i32) (x6 : Vec F S1280x256 .f32) (x7 : Vec F S1280x256 .f32) (x8 : Vec F S256x512 .f32) (x9 : Vec F S256x256 .f32) (x10 : Vec F S256x256 .f32) (hL : InRange x4) (hR : InRange x5) (K : PUnit → sProp 𝕄) :
    iprop(own c arg0 x0 ∗ own c arg1 x1 ∗ own c arg2 x2 ∗ own c arg3 x3 ∗ own c arg4 x4 ∗ own c arg5 x5 ∗ own c arg6 x6 ∗ own c arg7 x7 ∗ own c arg8 x8 ∗ own c arg9 x9 ∗ own c arg10 x10 ∗ (∃ d, own c arg11 d) ∗ (∃ d, own c arg12 d) ∗ (∃ d, own c arg13 d) ∗ (∃ d, own c arg14 d) ∗ (∃ d, own c arg15 d) ∗ (∃ d, own c arg16 d) ∗ (∃ d, own c arg17 d) ∗ (∃ d, own c arg18 d)
        ∗ (iprop(own c arg0 x0 ∗ own c arg1 x1 ∗ own c arg2 x2 ∗ own c arg3 x3 ∗ own c arg4 x4 ∗ own c arg5 x5 ∗ own c arg6 x6 ∗ own c arg7 x7 ∗ own c arg8 x8 ∗ own c arg9 x9 ∗ own c arg10 x10 ∗ (∃ H O, own c arg11 (outOf x0 x1 x2 x3 x4 x5 x6 x7 x8 x9 x10 H O)) ∗ (∃ d, own c arg12 d) ∗ (∃ d, own c arg13 d) ∗ (∃ d, own c arg14 d) ∗ (∃ d, own c arg15 d) ∗ (∃ d, own c arg16 d) ∗ (∃ d, own c arg17 d) ∗ (∃ d, own c arg18 d)) -∗ K ⟨⟩))
      ⊢ wpB c (cc0__fused_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0__fused_kernel_eq_skeleton, skel_eq]
  unfold prologK
  iintro ⟨H0, H1, H2, H3, H4, H5, H6, H7, H8, H9, H10, ⟨%O, H11⟩, ⟨%X12, H12⟩, ⟨%X13, H13⟩, ⟨%X14, H14⟩, ⟨%X15, H15⟩, ⟨%X16, H16⟩, ⟨%H, H17⟩, ⟨%P, H18⟩, Hk⟩
  iapply (wp_ldv c (m := arg6) (size := S1280x256.size) rfl inb_S1280x256_S1280x256_0_0 _ (window_full _ _ _))
  isplitl [H6]; · iexact H6
  iintro H6
  iapply (wp_ld c (m := arg14) (size := S256x1280.size) rfl inb_S512x1280_S256x1280_0_0 _)
  isplitl [H14]; · iexact H14
  iintro H14
  iapply (wp_st c (m := arg14) (size := S256x1280.size) rfl _)
  isplitl [H14]; · iexact H14
  iintro H14
  iapply (wp_ldv c (m := arg7) (size := S1280x256.size) rfl inb_S1280x256_S1280x256_0_0 _ (window_full _ _ _))
  isplitl [H7]; · iexact H7
  iintro H7
  iapply (wp_ld c (m := arg14) (size := S256x1280.size) rfl inb_S512x1280_S256x1280_256_0 _)
  isplitl [H14]; · iexact H14
  iintro H14
  iapply (wp_st c (m := arg14) (size := S256x1280.size) rfl _)
  isplitl [H14]; · iexact H14
  iintro H14
  iapply (wp_ldv c (m := arg9) (size := S256x256.size) rfl inb_S256x256_S256x256_0_0 _ (window_full _ _ _))
  isplitl [H9]; · iexact H9
  iintro H9
  iapply (wp_ld c (m := arg15) (size := S256x256.size) rfl inb_S512x256_S256x256_0_0 _)
  isplitl [H15]; · iexact H15
  iintro H15
  iapply (wp_st c (m := arg15) (size := S256x256.size) rfl _)
  isplitl [H15]; · iexact H15
  iintro H15
  iapply (wp_ldv c (m := arg10) (size := S256x256.size) rfl inb_S256x256_S256x256_0_0 _ (window_full _ _ _))
  isplitl [H10]; · iexact H10
  iintro H10
  iapply (wp_ld c (m := arg15) (size := S256x256.size) rfl inb_S512x256_S256x256_256_0 _)
  isplitl [H15]; · iexact H15
  iintro H15
  iapply (wp_st c (m := arg15) (size := S256x256.size) rfl _)
  isplitl [H15]; · iexact H15
  iintro H15
  iapply (wp_ldv c (m := arg1) (size := S1280x512.size) rfl inb_S1280x512_S1280x512_0_0 _ (window_full _ _ _))
  isplitl [H1]; · iexact H1
  iintro H1
  iapply (wp_ldv c (m := arg16) (size := S512x1280.size) rfl inb_S512x1280_S512x1280_0_0 _ (window_full _ _ _))
  isplitl [H16]; · iexact H16
  iintro H16
  iapply (wp_st_full c (m := arg16) zero2 _)
  isplitl [H16]; · iexact H16
  iintro H16
  iapply (wp_ldv c (m := arg0) (size := S2048x512.size) rfl inb_S2048x512_S2048x512_0_0 _ (window_full _ _ _))
  isplitl [H0]; · iexact H0
  iintro H0
  iapply (wp_ldv c (m := arg16) (size := S512x1280.size) rfl inb_S512x1280_S512x1280_0_0 _ (window_full _ _ _))
  isplitl [H16]; · iexact H16
  iintro H16
  iapply (wp_ldv c (m := arg2) (size := S1x1280.size) rfl inb_S1x1280_S1x1280_0_0 _ (window_full _ _ _))
  isplitl [H2]; · iexact H2
  iintro H2
  iapply (wp_ldv c (m := arg12) (size := S2048x1280.size) rfl inb_S2048x1280_S2048x1280_0_0 _ (window_full _ _ _))
  isplitl [H12]; · iexact H12
  iintro H12
  iapply (wp_st_full c (m := arg12) zero2 _)
  isplitl [H12]; · iexact H12
  iintro H12
  iapply (wp_ldv c (m := arg8) (size := S256x512.size) rfl inb_S256x512_S256x512_0_0 _ (window_full _ _ _))
  isplitl [H8]; · iexact H8
  iintro H8
  iapply (wp_ldv c (m := arg3) (size := S1x256.size) rfl inb_S1x256_S1x256_0_0 _ (window_full _ _ _))
  isplitl [H3]; · iexact H3
  iintro H3
  iapply (wp_ldv c (m := arg13) (size := S2048x256.size) rfl inb_S2048x256_S2048x256_0_0 _ (window_full _ _ _))
  isplitl [H13]; · iexact H13
  iintro H13
  iapply (wp_st_full c (m := arg13) zero2 _)
  isplitl [H13]; · iexact H13
  iintro H13
  iapply (wp_ld c (m := arg17) (size := S16x256.size) rfl inb_S2064x256_S16x256_2048_0 _)
  isplitl [H17]; · iexact H17
  iintro H17
  iapply (wp_st c (m := arg17) (size := S16x256.size) rfl _)
  isplitl [H17]; · iexact H17
  iintro H17
  rw [stack_eq (k0_pay681 x6) (k0_pay682 x7) X14, stack_eq (k0_pay683 x9) (k0_pay684 x10) X15]
  iapply (wp_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (insOf x0 x1 x2 x3 x4 x5 x6 x7 x8 x9 x10) hL hR (initH H) O)
  unfold St
  isplitl [H4 H5 H12 H13 H14 H15 H17 H11 H18]
  · isplitl [H4]; · iexact H4
    isplitl [H5]; · iexact H5
    isplitl [H12]; · iexact H12
    isplitl [H13]; · iexact H13
    isplitl [H14]; · iexact H14
    isplitl [H15]; · iexact H15
    isplitl [H17]; · iexact H17
    isplitl [H11]; · iexact H11
    iexists P; iexact H18
  iintro ⟨H4, H5, H12, H13, H14, H15, H17, H11, ⟨%P', H18⟩⟩
  iapply (le_wp_ret _ _ _ _ K)
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists H, O; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.Tree

end
-- ==== Proof.Net.lean ====
/- One step of the tree GRU over the extended reals, as sums over coordinates: what both programs compute. -/
module

public import Idealize.ShloMosaic.Lib.Pointwise
public import Idealize.ShloMosaic.Lib.Tactic.WordOmega

@[expose] public section

noncomputable section

namespace Cert.Proof

open Idealize.ShloMosaic

/-- The inputs that a step computes with. -/
structure Net where
  x : FVec Ideal ⟨3, ![128, 16, 512]⟩ .f32
  wg : FVec Ideal ⟨2, ![1280, 512]⟩ .f32
  bg : FVec Ideal ⟨1, ![1280]⟩ .f32
  wl : FVec Ideal ⟨2, ![1280, 256]⟩ .f32
  wr : FVec Ideal ⟨2, ![1280, 256]⟩ .f32
  wc : FVec Ideal ⟨2, ![256, 512]⟩ .f32
  bc : FVec Ideal ⟨1, ![256]⟩ .f32
  ul : FVec Ideal ⟨2, ![256, 256]⟩ .f32
  ur : FVec Ideal ⟨2, ![256, 256]⟩ .f32

namespace Net

variable (N : Net) (t : Fin 128) (l r : Fin 16 → Fin 256 → EReal) (b : Fin 16)

/-- Gate `j` of step `t` for batch entry `b`, the children's states being `l` and `r`. -/
def gate (j : Fin 1280) : EReal :=
  Ideal.logistic ((∑ k : Fin 512, N.x (ix3 t b k) * N.wg (ix2 j k)) + N.bg (ix1 j) + (∑ k : Fin 256, l b k * N.wl (ix2 j k))
    + ∑ k : Fin 256, r b k * N.wr (ix2 j k))

/-- The gate that acts on feature `j` of the `g`-th of the five groups. -/
def gateOf (g : Fin 5) (j : Fin 256) : EReal := N.gate t l r b ⟨256 * g.val + j.val, by omega⟩

/-- The candidate's feature `j`. -/
def cand (j : Fin 256) : EReal :=
  Ideal.tanh ((∑ k : Fin 512, N.x (ix3 t b k) * N.wc (ix2 j k)) + N.bc (ix1 j)
    + (∑ k : Fin 256, N.gateOf t l r b 0 k * l b k * N.ul (ix2 j k)) + ∑ k : Fin 256, N.gateOf t l r b 1 k * r b k * N.ur (ix2 j k))

/-- Feature `j` of the new state. -/
def step (j : Fin 256) : EReal :=
  N.gateOf t l r b 2 j * l b j + N.gateOf t l r b 3 j * r b j + N.gateOf t l r b 4 j * N.cand t l r b j

end Net

/-! ## The children of a step -/

/-- The step that an index names, indices outside the range taken to its ends. -/
def pos (a : BitVec 32) : Fin 128 := ⟨min 127 a.toInt.toNat, by omega⟩

/-- The states that step `t` takes from the earlier states `G`: that of the step the index names if it is an earlier one, else zero. -/
def kid (G : Fin 128 → Fin 16 → Fin 256 → EReal) (a : Fin 16 → BitVec 32) (t : ℕ) (b : Fin 16) (k : Fin 256) : EReal :=
  if (a b).toInt < t then G (pos (a b)) b k else 0

theorem clamp_toInt (a : BitVec 32) : (IntOp.minsi (127#32) (IntOp.maxsi (0#32) a)).toInt = (pos a).val := by
  unfold IntOp.minsi IntOp.maxsi pos
  have e0 : (0#32 : BitVec 32).toInt = 0 := by decide
  have e1 : (127#32 : BitVec 32).toInt = 127 := by decide
  simp only [BitVec.slt_iff_toInt_lt]
  split_ifs at * <;> omega

theorem clamp_toNat (a : BitVec 32) : (IntOp.minsi (127#32) (IntOp.maxsi (0#32) a)).toNat = (pos a).val := by
  have h := clamp_toInt a
  have hp := (pos a).isLt
  have e := BitVec.toInt_eq_toNat_cond (IntOp.minsi (127#32) (IntOp.maxsi (0#32) a))
  have := (IntOp.minsi (127#32) (IntOp.maxsi (0#32) a)).isLt
  split_ifs at e <;> omega

theorem toInt_ofNat {t : ℕ} (ht : t < 128) : (BitVec.ofNat 32 t).toInt = t := by
  have := BitVec.toInt_eq_toNat_cond (BitVec.ofNat 32 t)
  rw [BitVec.toNat_ofNat] at this
  split_ifs at this <;> omega

/-- A selection by "the index is earlier than the step". -/
theorem select_slt {α : Type} (a : BitVec 32) {t : ℕ} (ht : t < 128) (x y : α) :
    Scalar.select (IntOp.cmpi CmpIPredicate.slt a (BitVec.ofNat 32 t)) x y = if a.toInt < t then x else y := by
  have h := toInt_ofNat ht
  unfold Scalar.select IntOp.cmpi
  simp only [BitVec.slt_eq_decide, h]
  by_cases hc : a.toInt < t <;> simp [hc]

end Cert.Proof

end
-- ==== Proof.Host.lean ====
/- What the kernel's call finds in the arrays that the host lines before it write, index by index. -/
module

public import proofs.«01_k».proof.Proof.Row
public import proofs.«01_k».proof.Proof.Net
public import proofs.«01_k».proof.Proof.Gen.KernelIdeal.Frame
public import Idealize.ShloMosaic.Lib.Claim
public import Idealize.ShloMosaic.Lib.StableHlo.ReadAt
public import Idealize.ShloMosaic.Lib.Tactic.WordOmega

@[expose] public section

noncomputable section

namespace Cert.Proof.Tree

open Idealize.ShloMosaic Idealize.ShloMosaic.TcCoe Idealize.ShloMosaic.Tactic
open Cert.KernelIdeal Cert.KernelIdeal.Gen

variable {F : FTy → Type} [FloatOps F]

/-- The row of the state buffer that step `t` reads for batch entry `b`, from the index `a`: row `16 a + b` where `a` is an earlier
    step, and a zero row otherwise. -/
def word (a : BitVec 32) (t b : ℕ) : BitVec 32 :=
  Scalar.select (IntOp.cmpi CmpIPredicate.slt a (BitVec.ofNat 32 t))
    (IntOp.addi (IntOp.muli (IntOp.minsi (127#32) (IntOp.maxsi (0#32) a)) 16#32) (BitVec.ofNat 32 b))
    (IntOp.addi (2048#32) (BitVec.ofNat 32 b))

theorem muli_16 (x : BitVec 32) (h : x.toNat ≤ 127) : (IntOp.muli x 16#32).toNat = 16 * x.toNat := by
  show (x * 16#32).toNat = _
  rw [BitVec.toNat_mul]
  show x.toNat * 16 % 2 ^ 32 = _
  omega

/-- The row is the one that the index's step stored for the entry if that step is an earlier one, and a zero row otherwise. -/
theorem word_toNat (a : BitVec 32) {t b : ℕ} (ht : t < 128) (hb : b < 16) :
    (word a t b).toNat = if a.toInt < t then 16 * (pos a).val + b else 2048 + b := by
  have hp := (pos a).isLt
  have h1 := clamp_toNat a
  have h2 := muli_16 _ (by omega : (IntOp.minsi (127#32) (IntOp.maxsi (0#32) a)).toNat ≤ 127)
  rw [h1] at h2
  unfold word
  rw [select_slt a ht]
  generalize IntOp.muli (IntOp.minsi (127#32) (IntOp.maxsi (0#32) a)) 16#32 = y at h2
  split_ifs
  · word_omega
  · word_omega

/-- Every such row lies in the state buffer. -/
theorem word_lt (a : BitVec 32) {t b : ℕ} (ht : t < 128) (hb : b < 16) : (word a t b).toNat < 2064 := by
  have hp := (pos a).isLt
  rw [word_toNat a ht hb]
  split_ifs <;> omega

variable (m : (ℓ : Loc nD τ sig) → Buf (Elt F) ℓ)

/-- The left row numbers. -/
theorem V_lf (c : Dev nD) (t : Fin 128) (b : Fin 16) :
    V m c main_v14 (ix2 t b) = word (m ((c : Thread nD τ).loc main_arg1) (ix2 t b)) t.val b.val := by
  unfold V
  after_reads_at
  unfold word
  rfl

/-- The right row numbers. -/
theorem V_rf (c : Dev nD) (t : Fin 128) (b : Fin 16) :
    V m c main_v24 (ix2 t b) = word (m ((c : Thread nD τ).loc main_arg2) (ix2 t b)) t.val b.val := by
  unfold V
  after_reads_at
  rfl

theorem V_x (c : Dev nD) (t : Fin 128) (b : Fin 16) (k : Fin 512) :
    V m c main_v0 (ix2 ⟨16 * t.val + b.val, by omega⟩ k) = m ((c : Thread nD τ).loc main_arg0) (ix3 t b k) := by
  unfold V
  after_reads_at

theorem V_bg (c : Dev nD) (k : Fin 1280) : V m c main_v25 (ix2 0 k) = m ((c : Thread nD τ).loc main_arg4) (ix1 k) := by
  unfold V
  after_reads_at

theorem V_bc (c : Dev nD) (k : Fin 256) : V m c main_v26 (ix2 0 k) = m ((c : Thread nD τ).loc main_arg8) (ix1 k) := by
  unfold V
  after_reads_at

theorem inRange_lf (c : Dev nD) : InRange (F := F) (V m c main_v14) := fun i => by
  obtain ⟨t, b, rfl⟩ : ∃ (t : Fin 128) (b : Fin 16), i = ix2 t b := ⟨i 0, i 1, eq_ix2 i⟩
  rw [V_lf]; exact word_lt _ t.isLt b.isLt

theorem inRange_rf (c : Dev nD) : InRange (F := F) (V m c main_v24) := fun i => by
  obtain ⟨t, b, rfl⟩ : ∃ (t : Fin 128) (b : Fin 16), i = ix2 t b := ⟨i 0, i 1, eq_ix2 i⟩
  rw [V_rf]; exact word_lt _ t.isLt b.isLt

end Cert.Proof.Tree

end
-- ==== Proof.Run.lean ====
/- The kernel's run: its call's inputs are the arrays that the host lines leave, its argument arrays end unchanged, and the result
   array ends at what the kernel computes. -/
module

public import proofs.«01_k».proof.Proof.Sound
public import proofs.«01_k».proof.Proof.Host
public import Idealize.ShloMosaic.Lib.Pipeline.DatRel
public import Idealize.ShloMosaic.Lib.Pipeline.ArrRel

@[expose] public section

set_option maxRecDepth 16384

noncomputable section

namespace Cert.Proof.Tree

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' blocks are whole arrays -/

theorem whole_0 : ∀ (t : Fin cfg0.N) (a : Fin (cfg0.win 0).shape.rank), (cfg0.win 0).index t a = 0 := by decide +kernel
theorem whole_1 : ∀ (t : Fin cfg0.N) (a : Fin (cfg0.win 1).shape.rank), (cfg0.win 1).index t a = 0 := by decide +kernel
theorem whole_2 : ∀ (t : Fin cfg0.N) (a : Fin (cfg0.win 2).shape.rank), (cfg0.win 2).index t a = 0 := by decide +kernel
theorem whole_3 : ∀ (t : Fin cfg0.N) (a : Fin (cfg0.win 3).shape.rank), (cfg0.win 3).index t a = 0 := by decide +kernel
theorem whole_4 : ∀ (t : Fin cfg0.N) (a : Fin (cfg0.win 4).shape.rank), (cfg0.win 4).index t a = 0 := by decide +kernel
theorem whole_5 : ∀ (t : Fin cfg0.N) (a : Fin (cfg0.win 5).shape.rank), (cfg0.win 5).index t a = 0 := by decide +kernel
theorem whole_6 : ∀ (t : Fin cfg0.N) (a : Fin (cfg0.win 6).shape.rank), (cfg0.win 6).index t a = 0 := by decide +kernel
theorem whole_7 : ∀ (t : Fin cfg0.N) (a : Fin (cfg0.win 7).shape.rank), (cfg0.win 7).index t a = 0 := by decide +kernel
theorem whole_8 : ∀ (t : Fin cfg0.N) (a : Fin (cfg0.win 8).shape.rank), (cfg0.win 8).index t a = 0 := by decide +kernel
theorem whole_9 : ∀ (t : Fin cfg0.N) (a : Fin (cfg0.win 9).shape.rank), (cfg0.win 9).index t a = 0 := by decide +kernel
theorem whole_10 : ∀ (t : Fin cfg0.N) (a : Fin (cfg0.win 10).shape.rank), (cfg0.win 10).index t a = 0 := by decide +kernel

theorem iblk0_eq (c : Dev nD) (t : Fin cfg0.N) : iblk m c 0 t = V m c main_v0 := by
  funext j
  exact congrArg (V m c main_v0) (funext fun a => Fin.ext (Pipeline.Window.rect_emb_val_of_index_zero (cfg0.win 0) t a (whole_0 t a) j))
theorem iblk1_eq (c : Dev nD) (t : Fin cfg0.N) : iblk m c 1 t = V m c main_arg3 := by
  funext j
  exact congrArg (V m c main_arg3) (funext fun a => Fin.ext (Pipeline.Window.rect_emb_val_of_index_zero (cfg0.win 1) t a (whole_1 t a) j))
theorem iblk2_eq (c : Dev nD) (t : Fin cfg0.N) : iblk m c 2 t = V m c main_v25 := by
  funext j
  exact congrArg (V m c main_v25) (funext fun a => Fin.ext (Pipeline.Window.rect_emb_val_of_index_zero (cfg0.win 2) t a (whole_2 t a) j))
theorem iblk3_eq (c : Dev nD) (t : Fin cfg0.N) : iblk m c 3 t = V m c main_v26 := by
  funext j
  exact congrArg (V m c main_v26) (funext fun a => Fin.ext (Pipeline.Window.rect_emb_val_of_index_zero (cfg0.win 3) t a (whole_3 t a) j))
theorem iblk4_eq (c : Dev nD) (t : Fin cfg0.N) : iblk m c 4 t = V m c main_v14 := by
  funext j
  exact congrArg (V m c main_v14) (funext fun a => Fin.ext (Pipeline.Window.rect_emb_val_of_index_zero (cfg0.win 4) t a (whole_4 t a) j))
theorem iblk5_eq (c : Dev nD) (t : Fin cfg0.N) : iblk m c 5 t = V m c main_v24 := by
  funext j
  exact congrArg (V m c main_v24) (funext fun a => Fin.ext (Pipeline.Window.rect_emb_val_of_index_zero (cfg0.win 5) t a (whole_5 t a) j))
theorem iblk6_eq (c : Dev nD) (t : Fin cfg0.N) : iblk m c 6 t = V m c main_arg5 := by
  funext j
  exact congrArg (V m c main_arg5) (funext fun a => Fin.ext (Pipeline.Window.rect_emb_val_of_index_zero (cfg0.win 6) t a (whole_6 t a) j))
theorem iblk7_eq (c : Dev nD) (t : Fin cfg0.N) : iblk m c 7 t = V m c main_arg6 := by
  funext j
  exact congrArg (V m c main_arg6) (funext fun a => Fin.ext (Pipeline.Window.rect_emb_val_of_index_zero (cfg0.win 7) t a (whole_7 t a) j))
theorem iblk8_eq (c : Dev nD) (t : Fin cfg0.N) : iblk m c 8 t = V m c main_arg7 := by
  funext j
  exact congrArg (V m c main_arg7) (funext fun a => Fin.ext (Pipeline.Window.rect_emb_val_of_index_zero (cfg0.win 8) t a (whole_8 t a) j))
theorem iblk9_eq (c : Dev nD) (t : Fin cfg0.N) : iblk m c 9 t = V m c main_arg9 := by
  funext j
  exact congrArg (V m c main_arg9) (funext fun a => Fin.ext (Pipeline.Window.rect_emb_val_of_index_zero (cfg0.win 9) t a (whole_9 t a) j))
theorem iblk10_eq (c : Dev nD) (t : Fin cfg0.N) : iblk m c 10 t = V m c main_arg10 := by
  funext j
  exact congrArg (V m c main_arg10) (funext fun a => Fin.ext (Pipeline.Window.rect_emb_val_of_index_zero (cfg0.win 10) t a (whole_10 t a) j))

/-! ## The proof data -/

/-- What the call computes on core `c` from the arrays that it finds, of what the state buffer and the result buffer held. -/
def res (c : Dev nD) (H : Vec F S2064x256 .f32) (O : Vec F S16x128x256 .f32) : Vec F S16x128x256 .f32 :=
  outOf (V m c main_v0) (V m c main_arg3) (V m c main_v25) (V m c main_v26) (V m c main_v14) (V m c main_v24) (V m c main_arg5) (V m c main_arg6) (V m c main_arg7) (V m c main_arg9) (V m c main_arg10) H O

/-- The proof data: each input's buffer at its block, the result's not named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
  Φ _ := Pipeline.ΦA spec0 c
  q _ := fullShare
  owed _ := 0

/-- Only the result's window is held to a predicate. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true

/-- What the result's window holds after the call: the result from some starting contents of the two buffers. -/
def Rl (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun _ _ => True
  | ⟨8, _⟩ => fun _ _ => True
  | ⟨9, _⟩ => fun _ _ => True
  | ⟨10, _⟩ => fun _ _ => True
  | ⟨11, _⟩ => fun _ X => ∃ H O, X = res m c H O

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜((dats m 0 c).toRRel fgt (Rl m c)).Finds 11 t Y⌝ ∗ owns (c : Thread nD τ) (st0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜Rl m c 11 t X⌝ ∗ owns (c : Thread nD τ) (st0_11 t) fullShare X))

/-- The body at the one point. -/
theorem sound_body (c : Dev nD) (t : Fin cfg0.N) :
    bodyPre m c t ⊢ wp frame (wpE (defs₀ (F := F)) Variants.none c none) Set.univ (bodyAt0 t) (fun _ => bodyPost m c t) := by
  have hL : InRange (F := F) (iblk m c 4 t) := by rw [iblk4_eq]; exact inRange_lf m c
  have hR : InRange (F := F) (iblk m c 5 t) := by rw [iblk5_eq]; exact inRange_rf m c
  have hres : ∀ H O, outOf (iblk m c 0 t) (iblk m c 1 t) (iblk m c 2 t) (iblk m c 3 t) (iblk m c 4 t) (iblk m c 5 t) (iblk m c 6 t) (iblk m c 7 t) (iblk m c 8 t) (iblk m c 9 t) (iblk m c 10 t) H O = res m c H O := fun H O => by
    unfold res
    rw [iblk0_eq, iblk1_eq, iblk2_eq, iblk3_eq, iblk4_eq, iblk5_eq, iblk6_eq, iblk7_eq, iblk8_eq, iblk9_eq, iblk10_eq]
  unfold bodyPre bodyPost bodyAt0
  simp only [before_0, before_1, before_2, before_3, before_4, before_5, before_6, before_7, before_8, before_9, before_10]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10]
  unfold Pipeline.ΦA
  rw [scopedRest0_eq]
  simp only [← owns_whole]
  iintro ⟨⟨⟨S12, S13, S14, S15, S16, S17, S18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
  iapply (sound_kernel c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hL hR _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S12]; · iexact S12
  isplitl [S13]; · iexact S13
  isplitl [S14]; · iexact S14
  isplitl [S15]; · iexact S15
  isplitl [S16]; · iexact S16
  isplitl [S17]; · iexact S17
  isplitl [S18]; · iexact S18
  iintro ⟨H0, H1, H2, H3, H4, H5, H6, H7, H8, H9, H10, ⟨%H, %O, H11⟩, S12, S13, S14, S15, S16, S17, S18⟩
  isplitl [S12 S13 S14 S15 S16 S17 S18 Hg]
  · isplitr [Hg]; swap; · iexact Hg
    isplitl [S12]; · iexact S12
    isplitl [S13]; · iexact S13
    isplitl [S14]; · iexact S14
    isplitl [S15]; · iexact S15
    isplitl [S16]; · iexact S16
    isplitl [S17]; · iexact S17
    iexact S18
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr; swap; · iexact H11
  ipureintro
  exact ⟨H, O, hres H O⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run -/

-- the launch theorem's implicit arguments are found by unifying its conclusion with this one
set_option backward.isDefEq.respectTransparency.types false in
/-- From any memory with zero counters every execution ends, with the arrays as the proof data say and every counter at zero. -/
theorem run_main : θ_run defs (onTc (τ := τ) (main (F := F))) (s₀ m ρ)
    (fun r => RDat.FramePost (cfgs 0) (fun c => (dats m 0 c).toRRel fgt (Rl m c)) (V m) r ∧ r.2.sem = fun _ => 0) :=
  RDat.θ_run_frame (Q' := _) cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- What an argument array that a window stages ends at. -/
theorem arr_in {r : PUnit × MemSt nD τ sig (Elt F)} (h : RDat.FramePost (cfgs 0) (fun c => (dats m 0 c).toRRel fgt (Rl m c)) (V m) r)
    (c : Dev nD) (w : Fin cfg0.W) (hw : (cfg0.win w).isOut = false) :
    r.2.mem ((cfg0.spec w).arr.view.loc (c.tc : Thread nD τ)) = V m c (Pipeline.arrRef spec0 w) :=
  (h.arr_in c w hw).trans (A_eq m c w)

/-- What the result array ends at. -/
theorem arr_out {r : PUnit × MemSt nD τ sig (Elt F)} (h : RDat.FramePost (cfgs 0) (fun c => (dats m 0 c).toRRel fgt (Rl m c)) (V m) r)
    (c : Dev nD) : ∃ H O, r.2.mem ((c.tc : Thread nD τ).loc main_v27) = res m c H O := by
  obtain ⟨X, hX, hj⟩ := RDat.ArrAt.emb_eq_of_wholeAt ((h c).1 11) (t₀ := t0_0) (by decide +kernel)
  obtain ⟨H, O, e⟩ := (dats m 0 c).toRRel_leaves (fgt := fgt) (Rl := Rl m c) (w := 11) rfl hX
  refine ⟨H, O, funext fun j => (hj j).trans ?_⟩
  subst e
  rfl

/-- What the argument arrays end at. -/
theorem args {r : PUnit × MemSt nD τ sig (Elt F)} (h : RDat.FramePost (cfgs 0) (fun c => (dats m 0 c).toRRel fgt (Rl m c)) (V m) r)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (arr_in m h c 1 rfl).trans (V_main_arg3 m c),
      ((h c).2 main_arg4 (Pipeline.mem_restRefs_of main_arg4 (by decide) (by decide))).trans (V_main_arg4 m c),
      (arr_in m h c 6 rfl).trans (V_main_arg5 m c),
      (arr_in m h c 7 rfl).trans (V_main_arg6 m c),
      (arr_in m h c 8 rfl).trans (V_main_arg7 m c),
      ((h c).2 main_arg8 (Pipeline.mem_restRefs_of main_arg8 (by decide) (by decide))).trans (V_main_arg8 m c),
      (arr_in m h c 9 rfl).trans (V_main_arg9 m c),
      (arr_in m h c 10 rfl).trans (V_main_arg10 m c)⟩

/-- The kernel's frame: every execution ends, the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args m h.1, h.2⟩) (run_main m ρ)

end Cert.Proof.Tree

end
-- ==== Proof.Same.lean ====
/- The kernel as printed for words and the kernel as printed for the extended reals are one program: the frame is proved once. -/
module

public import proofs.«01_k».proof.Proof.Run
public import proofs.«01_k».proof.Defs
public import proofs.«01_k».proof.Proof.Gen.Kernel

@[expose] public section

set_option maxRecDepth 65536
set_option maxHeartbeats 4000000

noncomputable section

namespace Cert.Proof.Tree

open Idealize.ShloMosaic Idealize.ShloMosaic.TcCoe Idealize.ShloMosaic.Tactic Idealize.SL.Sem

variable {F : FTy → Type} [FloatOps F]

/-- The two programs' kernel functions are one term. -/
theorem body_same : @Cert.Kernel.cc0__fused_kernel F _ Cert.Kernel.Gen.facts = @Cert.KernelIdeal.cc0__fused_kernel F _ Cert.KernelIdeal.Gen.facts := by
  sl_kernel_rfl

/-- The frame of the kernel as printed for words, from the other program's. -/
theorem frame_words (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) := by
  have h := frame (F := F) m g
  refine cast ?_ h
  sl_kernel_rfl

end Cert.Proof.Tree

end
-- ==== Proof.Plain.lean ====
/- The reference's own conjuncts on its arguments and on the semaphore counters. -/
module

public import proofs.«01_k».proof.Proof.Gen.ReferenceIdeal.Run
public import Idealize.ShloMosaic.Lib.Claim
public import Idealize.ShloMosaic.Lib.Quiescent

@[expose] public section

noncomputable section

namespace Cert.Proof.Scan

open Idealize.ShloMosaic Idealize.ShloMosaic.TcCoe Idealize.SL.Sem Cert.ReferenceIdeal

variable {F : FTy → Type} [FloatOps F]

/-- The reference ends with its arguments unchanged; it has no semaphore, so every counter is zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run _ _ _).mono (fun r h => ⟨fun c => (h c).2, sem_eq_zero_of_no_sems rfl r.2⟩) (Value.run m ρ)

end Cert.Proof.Scan

end
-- ==== Proof.Cell.lean ====
/- The fused kernel's step, with its stacked weights and its products taken ahead of the loop, is the step of the tree GRU. -/
module

public import proofs.«01_k».proof.Proof.Net
public import proofs.«01_k».proof.Proof.Sound

@[expose] public section

set_option maxRecDepth 16384

noncomputable section

namespace Cert.Proof.Tree

open Idealize.ShloMosaic Idealize.ShloMosaic.TcCoe
open Cert.KernelIdeal Cert.KernelIdeal.Gen

/-- The arrays that the loop reads hold the products and the stacked weights of `N`. -/
structure Reads (I : Ins Ideal) (N : Net) : Prop where
  xg : ∀ (t : Fin 128) (b : Fin 16) (j : Fin 1280), I.XG (ix2 ⟨16 * t.val + b.val, by omega⟩ j)
    = (∑ k : Fin 512, N.x (ix3 t b k) * N.wg (ix2 j k)) + N.bg (ix1 j)
  xc : ∀ (t : Fin 128) (b : Fin 16) (j : Fin 256), I.XC (ix2 ⟨16 * t.val + b.val, by omega⟩ j)
    = (∑ k : Fin 512, N.x (ix3 t b k) * N.wc (ix2 j k)) + N.bc (ix1 j)
  wgl : ∀ (k : Fin 256) (j : Fin 1280), I.WG (ix2 ⟨k.val, by omega⟩ j) = N.wl (ix2 j k)
  wgr : ∀ (k : Fin 256) (j : Fin 1280), I.WG (ix2 ⟨256 + k.val, by omega⟩ j) = N.wr (ix2 j k)
  wcl : ∀ (k : Fin 256) (j : Fin 256), I.WC (ix2 ⟨k.val, by omega⟩ j) = N.ul (ix2 j k)
  wcr : ∀ (k : Fin 256) (j : Fin 256), I.WC (ix2 ⟨256 + k.val, by omega⟩ j) = N.ur (ix2 j k)

/-- A matrix product with the contracted axis cut in two halves. -/
theorem halves (f : Fin 512 → EReal) : ∑ k : Fin 512, f k
    = (∑ k : Fin 256, f ⟨k.val, by omega⟩) + ∑ k : Fin 256, f ⟨256 + k.val, by omega⟩ := by
  exact Fin.sum_univ_two_halves 256 256 rfl f

variable {I : Ins Ideal} {N : Net} (H : Vec Ideal S2064x256 .f32) (t : Fin 128)

/-- The left children's states that step `t` gathers. -/
def kidL (I : Ins Ideal) (H : Vec Ideal S2064x256 .f32) (t : Fin 128) (b : Fin 16) (k : Fin 256) : EReal := H (ix2 (rowOf (I.L (ix2 t b))) k)

/-- The right children's states that step `t` gathers. -/
def kidR (I : Ins Ideal) (H : Vec Ideal S2064x256 .f32) (t : Fin 128) (b : Fin 16) (k : Fin 256) : EReal := H (ix2 (rowOf (I.R (ix2 t b))) k)

theorem gath_left (b : Fin 16) (k : Fin 256) : gath I H t (ix2 b ⟨k.val, by omega⟩) = kidL I H t b k := dif_pos k.isLt

theorem gath_right (b : Fin 16) (k : Fin 256) : gath I H t (ix2 b ⟨256 + k.val, by omega⟩) = kidR I H t b k := by
  refine (dif_neg (show ¬ 256 + k.val < 256 by omega)).trans (congrArg (fun c => H (ix2 (rowOf (I.R (ix2 t b))) c)) (Fin.ext ?_))
  show 256 + k.val - 256 = k.val
  omega

variable (h : Reads I N)

include h

theorem gates (b : Fin 16) (j : Fin 1280) : k0_pay42 (gath I H t) (blk I.XG t) I.WG (ix2 b j) = N.gate t (kidL I H t) (kidR I H t) b j := by
  have e : k0_pay42 (gath I H t) (blk I.XG t) I.WG (ix2 b j)
      = Ideal.logistic (blk I.XG t (ix2 b j) + ∑ k : Fin 512, gath I H t (ix2 b k) * I.WG (ix2 k j)) := by
    pointwise [k0_pay42]
  rw [e, halves]
  simp only [gath_left, gath_right, h.wgl, h.wgr]
  rw [show blk I.XG t (ix2 b j) = _ from h.xg t b j, ← add_assoc]
  rfl

/-- The sizes agree: `256 g + j`. -/
theorem gates_at (b : Fin 16) (g : Fin 5) (j : Fin 256) (n : Fin 1280) (hn : n.val = 256 * g.val + j.val) :
    k0_pay42 (gath I H t) (blk I.XG t) I.WG (ix2 b n) = N.gateOf t (kidL I H t) (kidR I H t) b g j := by
  rw [gates H t h b n]
  exact congrArg (N.gate t (kidL I H t) (kidR I H t) b) (Fin.ext hn)

theorem gated_left (b : Fin 16) (k : Fin 256) : gated (gath I H t) (blk I.XG t) I.WG (ix2 b ⟨k.val, by omega⟩)
    = N.gateOf t (kidL I H t) (kidR I H t) b 0 k * kidL I H t b k := by
  refine (dif_pos k.isLt).trans ?_
  rw [← gates_at H t h b 0 k ⟨k.val, by omega⟩ (by simp), ← gath_left]
  pointwise [k0_pay43, k0_pay40]

theorem gated_right (b : Fin 16) (k : Fin 256) : gated (gath I H t) (blk I.XG t) I.WG (ix2 b ⟨256 + k.val, by omega⟩)
    = N.gateOf t (kidL I H t) (kidR I H t) b 1 k * kidR I H t b k := by
  refine (dif_neg (show ¬ 256 + k.val < 256 by omega)).trans ?_
  rw [← gates_at H t h b 1 k ⟨256 + k.val, by omega⟩ rfl, ← gath_right]
  pointwise [k0_pay44, k0_pay41]

/-- The rows that the kernel's step stores are the step's new state. -/
theorem cell_apply (b : Fin 16) (j : Fin 256) : cell I H t (ix2 b j) = N.step t (kidL I H t) (kidR I H t) b j := by
  have e : cell I H t (ix2 b j)
      = k0_pay42 (gath I H t) (blk I.XG t) I.WG (ix2 b ⟨512 + j.val, by omega⟩) * gath I H t (ix2 b ⟨j.val, by omega⟩)
        + k0_pay42 (gath I H t) (blk I.XG t) I.WG (ix2 b ⟨768 + j.val, by omega⟩) * gath I H t (ix2 b ⟨256 + j.val, by omega⟩)
        + k0_pay42 (gath I H t) (blk I.XG t) I.WG (ix2 b ⟨1024 + j.val, by omega⟩) * Ideal.tanh (blk I.XC t (ix2 b j)
          + ∑ k : Fin 512, gated (gath I H t) (blk I.XG t) I.WG (ix2 b k) * I.WC (ix2 k j)) := by
    pointwise [cell, k0_pay45, k0_pay40, k0_pay41]
  rw [e, halves, gates_at H t h b 2 j _ rfl, gates_at H t h b 3 j _ rfl, gates_at H t h b 4 j _ rfl]
  simp only [gath_left, gath_right, gated_left H t h, gated_right H t h, h.wcl, h.wcr]
  rw [show blk I.XC t (ix2 b j) = _ from h.xc t b j, ← add_assoc]
  rfl

omit h

/-- The arrays that the kernel makes before its loop. -/
theorem reads_insOf (N : Net) (x0 : Vec Ideal S2048x512 .f32) (x2 : Vec Ideal S1x1280 .f32) (x3 : Vec Ideal S1x256 .f32) (x4 x5 : Vec Ideal S128x16 .i32)
    (h0 : ∀ (t : Fin 128) (b : Fin 16) (k : Fin 512), x0 (ix2 ⟨16 * t.val + b.val, by omega⟩ k) = N.x (ix3 t b k))
    (h2 : ∀ j : Fin 1280, x2 (ix2 0 j) = N.bg (ix1 j)) (h3 : ∀ j : Fin 256, x3 (ix2 0 j) = N.bc (ix1 j)) :
    Reads (insOf x0 N.wg x2 x3 x4 x5 N.wl N.wr N.wc N.ul N.ur) N where
  xg t b j := by
    simp only [← h0, ← h2]
    unfold insOf
    pointwise [k0_pay1, k0_pay687, k0_pay686, k0_pay685]
  xc t b j := by
    simp only [← h0, ← h3]
    unfold insOf
    pointwise [k0_pay2, k0_pay686]
  wgl k j := by
    refine (dif_pos k.isLt).trans ?_
    pointwise [k0_pay681]
  wgr k j := by
    refine (dif_neg (show ¬ 256 + k.val < 256 by omega)).trans ?_
    pointwise [k0_pay682]
  wcl k j := by
    refine (dif_pos k.isLt).trans ?_
    pointwise [k0_pay683]
  wcr k j := by
    refine (dif_neg (show ¬ 256 + k.val < 256 by omega)).trans ?_
    pointwise [k0_pay684]

end Cert.Proof.Tree

end
-- ==== Proof.Value.lean ====
/- The kernel's steps against any sequence of stored states that follows the same recursion: they store the same states and the same
   results. -/
module

public import proofs.«01_k».proof.Proof.Cell
public import proofs.«01_k».proof.Proof.Loop
public import proofs.«01_k».proof.Proof.Sound

@[expose] public section

set_option maxRecDepth 16384

noncomputable section

namespace Cert.Proof.Tree

open Idealize.ShloMosaic Idealize.ShloMosaic.TcCoe Idealize.ShloMosaic.Tactic
open Cert.KernelIdeal Cert.KernelIdeal.Gen

/-! ## What a step stores -/

section Stored

variable (I : Ins Ideal) (H : Vec Ideal S2064x256 .f32) (O : Vec Ideal S16x128x256 .f32) (t : Fin 128)

theorem stH_new (b : Fin 16) (j : Fin 256) : stH I H t (ix2 ⟨16 * t.val + b.val, by omega⟩ j) = cell I H t (ix2 b j) := by
  unfold stH
  refine (put2_in (n := 256) _ _ _ _ (by show 16 * t.val ≤ 16 * t.val + b.val ∧ 16 * t.val + b.val < 16 * t.val + 16; omega)
    (by show 0 ≤ j.val ∧ j.val < 0 + 256; omega)).trans ?_
  pointwise [k0_pay46]

theorem stH_old (r : Fin 2064) (j : Fin 256) (h : r.val < 16 * t.val ∨ 16 * t.val + 16 ≤ r.val) :
    stH I H t (ix2 r j) = H (ix2 r j) := by
  unfold stH
  exact put2_out _ _ _ _ (by omega)

theorem stO_new (b : Fin 16) (j : Fin 256) : stO I H O t (ix3 b t j) = cell I H t (ix2 b j) := by
  unfold stO VecWindow.put
  refine (dif_pos fun a => ?_).trans ?_
  · match a with
    | 0 => exact ⟨Nat.zero_le _, by show b.val < 0 + 16; omega⟩
    | 1 => exact ⟨Nat.le_refl t.val, by show t.val < t.val + 1; omega⟩
    | 2 => exact ⟨Nat.zero_le _, by show j.val < 0 + 256; omega⟩
  · refine (congrArg (k0_pay47 (cell I H t)) (?_ : _ = ix3 b 0 j)).trans ?_
    · refine funext fun a => Fin.ext ?_
      match a with
      | 0 => rfl
      | 1 => exact Nat.sub_self t.val
      | 2 => rfl
    · pointwise [k0_pay47]

theorem stO_old (b : Fin 16) (s : Fin 128) (j : Fin 256) (h : s.val ≠ t.val) : stO I H O t (ix3 b s j) = O (ix3 b s j) := by
  unfold stO VecWindow.put
  refine dif_neg fun hall => ?_
  have h1 : t.val ≤ s.val ∧ s.val < t.val + 1 := hall 1
  omega

end Stored

/-! ## The recursion -/

/-- The stored states `G` and the results `R` of a scan over the steps, before each step. -/
structure Scans (N : Net) (il ir : IVec S128x16 32) (G R : ℕ → Fin 128 → Fin 16 → Fin 256 → EReal) : Prop where
  state (t s : Fin 128) (b : Fin 16) (k : Fin 256) : G (t.val + 1) s b k = if s.val = t.val
    then N.step t (kid (G t.val) (fun b => il (ix2 t b)) t.val) (kid (G t.val) (fun b => ir (ix2 t b)) t.val) b k else G t.val s b k
  result (t s : Fin 128) (b : Fin 16) (k : Fin 256) : R (t.val + 1) s b k = if s.val = t.val
    then N.step t (kid (G t.val) (fun b => il (ix2 t b)) t.val) (kid (G t.val) (fun b => ir (ix2 t b)) t.val) b k else R t.val s b k

/-- A table of row numbers holds, for each index, the row of the step that it names, and a zero row for an index that names no
    earlier step. -/
def Rows (L : Vec Ideal S128x16 .i32) (il : IVec S128x16 32) : Prop := ∀ (t : Fin 128) (b : Fin 16),
  BitVec.toNat (L (ix2 t b)) = if (il (ix2 t b)).toInt < t.val then 16 * (pos (il (ix2 t b))).val + b.val else 2048 + b.val

/-- Before step `t` the state buffer holds the states of the earlier steps, and zeros in its last rows. -/
structure Holds (H : Vec Ideal S2064x256 .f32) (G : Fin 128 → Fin 16 → Fin 256 → EReal) (t : ℕ) : Prop where
  early (s : Fin 128) (b : Fin 16) (k : Fin 256) : s.val < t → H (ix2 ⟨16 * s.val + b.val, by omega⟩ k) = G s b k
  zero (b : Fin 16) (k : Fin 256) : H (ix2 ⟨2048 + b.val, by omega⟩ k) = (0 : EReal)

/-- The row that a step reads is its child's state. -/
theorem read_kid {L : Vec Ideal S128x16 .i32} {il : IVec S128x16 32} (hL : Rows L il) (hn : ∀ b : Fin 16, 0 ≤ (il (ix2 0 b)).toInt)
    {H : Vec Ideal S2064x256 .f32} {G : Fin 128 → Fin 16 → Fin 256 → EReal} (t : Fin 128) (hH : Holds H G t.val) (b : Fin 16) (k : Fin 256) :
    H (ix2 (rowOf (L (ix2 t b))) k) = kid G (fun b => il (ix2 t b)) t.val b k := by
  have hp := (pos (il (ix2 t b))).isLt
  have hr := hL t b
  unfold kid
  by_cases hc : (il (ix2 t b)).toInt < t.val
  · rw [if_pos hc] at hr ⊢
    have hlt : (pos (il (ix2 t b))).val < t.val := by
      rcases Nat.eq_zero_or_pos t.val with h0 | h0
      · have := hn b
        have e : t = 0 := Fin.ext h0
        rw [e] at hc
        exact absurd hc (by simpa using this)
      · show min 127 (il (ix2 t b)).toInt.toNat < t.val
        omega
    rw [← hH.early _ b k hlt]
    refine congrArg (fun r => H (ix2 r k)) (Fin.ext ?_)
    show BitVec.toNat (L (ix2 t b)) % 2064 = _
    rw [hr]
    exact Nat.mod_eq_of_lt (by omega)
  · rw [if_neg hc] at hr ⊢
    rw [← hH.zero b k]
    refine congrArg (fun r => H (ix2 r k)) (Fin.ext ?_)
    show BitVec.toNat (L (ix2 t b)) % 2064 = _
    rw [hr]
    exact Nat.mod_eq_of_lt (by omega)

section Steps

variable {I : Ins Ideal} {N : Net} (hI : Reads I N) {il ir : IVec S128x16 32} (hL : Rows I.L il) (hR : Rows I.R ir)
  (nl : ∀ b : Fin 16, 0 ≤ (il (ix2 0 b)).toInt) (nr : ∀ b : Fin 16, 0 ≤ (ir (ix2 0 b)).toInt)
  {G R : ℕ → Fin 128 → Fin 16 → Fin 256 → EReal} (hS : Scans N il ir G R)

include hI hL hR nl nr hS

theorem cell_scan (H : Vec Ideal S2064x256 .f32) (t : Fin 128) (hH : Holds H (G t.val) t.val) (b : Fin 16) (k : Fin 256) :
    cell I H t (ix2 b k)
      = N.step t (kid (G t.val) (fun b => il (ix2 t b)) t.val) (kid (G t.val) (fun b => ir (ix2 t b)) t.val) b k := by
  rw [cell_apply H t hI b k]
  have e1 : kidL I H t = kid (G t.val) (fun b => il (ix2 t b)) t.val := funext fun b => funext fun k => read_kid hL nl t hH b k
  have e2 : kidR I H t = kid (G t.val) (fun b => ir (ix2 t b)) t.val := funext fun b => funext fun k => read_kid hR nr t hH b k
  rw [e1, e2]

/-- After `t` steps the kernel has stored the scan's states and results of those steps. -/
theorem steps_scan (H : Vec Ideal S2064x256 .f32) (O : Vec Ideal S16x128x256 .f32)
    (h0 : ∀ (b : Fin 16) (k : Fin 256), H (ix2 ⟨2048 + b.val, by omega⟩ k) = (0 : EReal)) :
    ∀ t : ℕ, t ≤ 128 → Holds (iterH I H t) (G t) t
      ∧ ∀ (s : Fin 128) (b : Fin 16) (k : Fin 256), s.val < t → iterO I H O t (ix3 b s k) = R t s b k
  | 0, _ => ⟨⟨fun _ _ _ h => absurd h (Nat.not_lt_zero _), h0⟩, fun _ _ _ h => absurd h (Nat.not_lt_zero _)⟩
  | n + 1, hn => by
    obtain ⟨hH, hO⟩ := steps_scan H O h0 n (by omega)
    let t : Fin 128 := ⟨n, hn⟩
    have eH : iterH I H (n + 1) = stH I (iterH I H n) t := iterH_succ I H t
    have eO : iterO I H O (n + 1) = stO I (iterH I H n) (iterO I H O n) t := iterO_succ I H O t
    have hc := cell_scan hI hL hR nl nr hS (iterH I H n) t hH
    rw [eH, eO]
    refine ⟨⟨fun s b k hs => ?_, fun b k => ?_⟩, fun s b k hs => ?_⟩
    · refine Eq.trans ?_ (hS.state t s b k).symm
      by_cases hst : s.val = t.val
      · have e : s = t := Fin.ext hst
        rw [if_pos hst, ← hc b k, e]
        exact stH_new I _ t b k
      · have hlt : s.val < n := by have : s.val ≠ n := hst; omega
        rw [if_neg hst]
        exact (stH_old I _ t _ k (Or.inl (by show 16 * s.val + b.val < 16 * n; omega))).trans (hH.early s b k hlt)
    · exact (stH_old I _ t _ k (Or.inr (by show 16 * n + 16 ≤ 2048 + b.val; omega))).trans (hH.zero b k)
    · refine Eq.trans ?_ (hS.result t s b k).symm
      by_cases hst : s.val = t.val
      · have e : s = t := Fin.ext hst
        rw [if_pos hst, ← hc b k, e]
        exact stO_new I _ _ t b k
      · have hlt : s.val < n := by have : s.val ≠ n := hst; omega
        rw [if_neg hst]
        exact (stO_old I _ _ t b s k hst).trans (hO s b k hlt)

end Steps

/-- The last rows of the state buffer are zeros before the loop. -/
theorem initH_zero (H : Vec Ideal S2064x256 .f32) (b : Fin 16) (k : Fin 256) :
    initH H (ix2 ⟨2048 + b.val, by omega⟩ k) = (0 : EReal) := by
  unfold initH
  refine (put2_in (n := 256) _ _ _ _ (by show 2048 ≤ 2048 + b.val ∧ 2048 + b.val < 2048 + 16; omega)
    (by show 0 ≤ k.val ∧ k.val < 0 + 256; omega)).trans ?_
  pointwise [k0_pay3]

end Cert.Proof.Tree

end
-- ==== Proof.Scan.lean ====
/- One trip of the reference's scan, read at an index. -/
module

public import proofs.«01_k».proof.Proof.Net
public import proofs.«01_k».proof.Proof.Gen.ReferenceIdeal.Run
public import Idealize.ShloMosaic.Lib.Pointwise
public import Idealize.ShloMosaic.Lib.Tactic.CleanTypes
public import Idealize.ShloMosaic.Lib.Tactic.WordOmega
public import Idealize.ShloMosaic.Lib.StableHlo.ReadAt

@[expose] public section

set_option maxRecDepth 16384

noncomputable section

namespace Cert.Proof.Scan

open Idealize.ShloMosaic Idealize.ShloMosaic.TcCoe Idealize.ShloMosaic.Tactic
open Cert.ReferenceIdeal Cert.ReferenceIdeal.Gen Cert.ReferenceIdeal.Value

/-- The rows that a gather by step and batch entry takes. -/
theorem gather_row {α : Type} (G : S128x16x256.Idx → α) (I : IVec S16x2 32) (b : Fin 16) (k : Fin 256) :
    Host.gather gather_S128x16x256_S16x2_S16x256_1_01_n_n_01_1_11256 G I (ix2 b k)
      = G (ix3 ⟨min (I (ix2 b 0)).toInt.toNat 127, by omega⟩ ⟨min (I (ix2 b 1)).toInt.toNat 15, by omega⟩ k) := by
  unfold Host.gather
  refine congrArg G (funext fun a => Fin.ext ?_)
  show GatherDims.start _ _ I a + GatherDims.batchCoord _ _ a + GatherDims.offCoord _ _ a = _
  rw [GatherDims.batchCoord_eq_zero _ _ _ List.not_mem_nil]
  match a with
  | 0 =>
    rw [GatherDims.offCoord_eq_zero _ _ _ (by decide)]
    unfold GatherDims.start
    rw [dif_pos (by decide)]
    refine congrArg (fun i => min (I i).toInt.toNat 127) (funext fun c => Fin.ext ?_)
    match c with
    | 0 => rfl
    | 1 => rfl
  | 1 =>
    rw [GatherDims.offCoord_eq_zero _ _ _ (by decide)]
    unfold GatherDims.start
    rw [dif_pos (by decide)]
    refine congrArg (fun i => min (I i).toInt.toNat 15) (funext fun c => Fin.ext ?_)
    match c with
    | 0 => rfl
    | 1 => rfl
  | 2 =>
    unfold GatherDims.start GatherDims.offCoord
    rw [dif_neg (by decide), dif_pos (by decide)]
    exact Nat.zero_add _

/-- A word that is not negative is kept by the reading that counts negative indices from the end. -/
theorem wrap_eq (a k : BitVec 32) (ha : 0 ≤ a.toInt) : Scalar.select (IntOp.cmpi CmpIPredicate.slt a (0#32)) (IntOp.addi a k) a = a := by
  have := select_slt a (t := 0) (by omega) (IntOp.addi a k) a
  rw [if_neg (by omega)] at this
  exact this

/-- The indices that a gather takes: for each batch entry the step in `v`, and the entry. -/
def pairs (v : IVec S16 32) : IVec S16x2 32 :=
  concatenate S16x2 1
    [⟨S16x1, broadcastInDim S16x1 ![0] bcast_S16_S16x1_0
      (select (cmpi CmpIPredicate.slt v (broadcastInDim S16 ![] bcast_S_S16 (constantI S_ 32 0#32)))
        (addi v (broadcastInDim S16 ![] bcast_S_S16 (constantI S_ 32 128#32))) v)⟩,
     ⟨S16x1, broadcastInDim S16x1 ![0] bcast_S16_S16x1_0
      (select (cmpi CmpIPredicate.slt (iotaInDim S16 32 0) (broadcastInDim S16 ![] bcast_S_S16 (constantI S_ 32 0#32)))
        (addi (iotaInDim S16 32 0) (broadcastInDim S16 ![] bcast_S_S16 (constantI S_ 32 16#32))) (iotaInDim S16 32 0))⟩]
    concatenates_S16x1_S16x1_S16x2_d1

/-- The row that a gather takes for a batch entry whose step is the clamped index `a`. -/
theorem gather_kid {α : Type} (G : S128x16x256.Idx → α) (v : IVec S16 32) (a : BitVec 32) (b : Fin 16) (k : Fin 256)
    (hv : v (ix1 b) = IntOp.minsi (127#32) (IntOp.maxsi (0#32) a)) :
    Host.gather gather_S128x16x256_S16x2_S16x256_1_01_n_n_01_1_11256 G (pairs v) (ix2 b k) = G (ix3 (pos a) b k) := by
  have hp := (pos a).isLt
  have hc := clamp_toInt a
  have e0 : pairs v (ix2 b 0) = IntOp.minsi (127#32) (IntOp.maxsi (0#32) a) := by
    unfold pairs
    pointwise
    rw [hv]
    exact wrap_eq _ _ (by omega)
  have hb : (BitVec.ofNat 32 b.val).toInt = b.val := toInt_ofNat (by omega)
  have e1 : pairs v (ix2 b 1) = BitVec.ofNat 32 b.val := by
    unfold pairs
    pointwise
    exact wrap_eq _ _ (by omega)
  have p0 : min (pairs v (ix2 b 0)).toInt.toNat 127 = (pos a).val := by rw [e0]; omega
  have p1 : min (pairs v (ix2 b 1)).toInt.toNat 15 = b.val := by rw [e1]; omega
  rw [gather_row]
  simp only [p0, p1]

/-- The row of a matrix that a slice at a step takes. -/
theorem slice_row {α : Type} (y : S128x16.Idx → α) (start : Fin 2 → Int) (t : Fin 128) (b : Fin 16) (h0 : start 0 = t.val)
    (h1 : start 1 = 0) (ht : S1x16.rank = S128x16.rank) (p0 : Host.clampedStart S128x16 S1x16 ht start 0 < 128)
    (p1 : Host.clampedStart S128x16 S1x16 ht start 1 + b.val < 16) :
    y (ix2 ⟨Host.clampedStart S128x16 S1x16 ht start 0, p0⟩ ⟨Host.clampedStart S128x16 S1x16 ht start 1 + b.val, p1⟩)
      = y (ix2 t b) := by
  have e0 : Host.clampedStart S128x16 S1x16 ht start 0 = t.val := Host.clampedStart_of_le ht start 0 t.val h0 t.isLt
  have e1 : Host.clampedStart S128x16 S1x16 ht start 1 = 0 := Host.clampedStart_of_le ht start 1 0 h1 (Nat.le_refl 16)
  simp only [e0, e1, Nat.zero_add]

/-- The matrix of an array that a slice at a step takes. -/
theorem slice_rows {α : Type} (y : S128x16x512.Idx → α) (start : Fin 3 → Int) (t : Fin 128) (b : Fin 16) (k : Fin 512)
    (h0 : start 0 = t.val) (h1 : start 1 = 0) (h2 : start 2 = 0) (ht : S1x16x512.rank = S128x16x512.rank)
    (p0 : Host.clampedStart S128x16x512 S1x16x512 ht start 0 < 128)
    (p1 : Host.clampedStart S128x16x512 S1x16x512 ht start 1 + b.val < 16)
    (p2 : Host.clampedStart S128x16x512 S1x16x512 ht start 2 + k.val < 512) :
    y (ix3 ⟨Host.clampedStart S128x16x512 S1x16x512 ht start 0, p0⟩ ⟨Host.clampedStart S128x16x512 S1x16x512 ht start 1 + b.val, p1⟩
        ⟨Host.clampedStart S128x16x512 S1x16x512 ht start 2 + k.val, p2⟩)
      = y (ix3 t b k) := by
  have e0 : Host.clampedStart S128x16x512 S1x16x512 ht start 0 = t.val := Host.clampedStart_of_le ht start 0 t.val h0 t.isLt
  have e1 : Host.clampedStart S128x16x512 S1x16x512 ht start 1 = 0 := Host.clampedStart_of_le ht start 1 0 h1 (Nat.le_refl 16)
  have e2 : Host.clampedStart S128x16x512 S1x16x512 ht start 2 = 0 := Host.clampedStart_of_le ht start 2 0 h2 (Nat.le_refl 512)
  simp only [e0, e1, e2, Nat.zero_add]

/-- A stored row read back: the new one at the step, the old ones elsewhere. -/
theorem update_row {α : Type} (x : S128x16x256.Idx → α) (y : S1x16x256.Idx → α) (start : Fin 3 → Int) (t : Fin 128)
    (h0 : start 0 = t.val) (h1 : start 1 = 0) (h2 : start 2 = 0) (hs : S128x16x256.Slices (fun _ => 0) S1x16x256)
    (s : Fin 128) (b : Fin 16) (k : Fin 256) :
    Host.dynamicUpdateSlice x y start hs (ix3 s b k) = if s.val = t.val then y (ix3 0 b k) else x (ix3 s b k) := by
  have e0 : Host.clampedStart S128x16x256 S1x16x256 hs.1 start 0 = t.val := Host.clampedStart_of_le hs.1 start 0 t.val h0 t.isLt
  have e1 : Host.clampedStart S128x16x256 S1x16x256 hs.1 start 1 = 0 := Host.clampedStart_of_le hs.1 start 1 0 h1 (Nat.le_refl 16)
  have e2 : Host.clampedStart S128x16x256 S1x16x256 hs.1 start 2 = 0 := Host.clampedStart_of_le hs.1 start 2 0 h2 (Nat.le_refl 256)
  rw [Host.dynamicUpdateSlice_apply]
  by_cases hst : s.val = t.val
  · rw [if_pos hst, dif_pos]
    · refine congrArg y (funext fun a => Fin.ext ?_)
      match a with
      | 0 => exact (congrArg (s.val - ·) e0).trans (by show s.val - t.val = 0; omega)
      | 1 => exact congrArg (b.val - ·) e1
      | 2 => exact congrArg (k.val - ·) e2
    · intro a
      match a with
      | 0 => rw [show Host.clampedStart S128x16x256 S1x16x256 hs.1 start _ = t.val from e0]; exact ⟨hst.ge, by show s.val < t.val + 1; omega⟩
      | 1 => rw [show Host.clampedStart S128x16x256 S1x16x256 hs.1 start _ = 0 from e1]; exact ⟨Nat.zero_le _, by show b.val < 0 + 16; omega⟩
      | 2 => rw [show Host.clampedStart S128x16x256 S1x16x256 hs.1 start _ = 0 from e2]; exact ⟨Nat.zero_le _, by show k.val < 0 + 256; omega⟩
  · rw [if_neg hst, dif_neg]
    intro hin
    have := hin 0
    rw [e0] at this
    have h1 : s.val < t.val + 1 := this.2
    have h2 : t.val ≤ s.val := this.1
    omega

/-- What the carried arrays that a trip only reads hold, and the step number. -/
structure At (V0 : Valuation τ sig (Elt Ideal)) (N : Net) (il ir : IVec S128x16 32) (t : ℕ) : Prop where
  x : V0 (Proc.devRef .tc main_v3_0) = N.x
  l : V0 (Proc.devRef .tc main_v3_1) = il
  r : V0 (Proc.devRef .tc main_v3_2) = ir
  e : V0 (Proc.devRef .tc main_v3_3) = iotaInDim S16 32 0
  wg : V0 (Proc.devRef .tc main_v3_4) = N.wg
  bg : V0 (Proc.devRef .tc main_v3_5) = N.bg
  wl : V0 (Proc.devRef .tc main_v3_6) = N.wl
  wr : V0 (Proc.devRef .tc main_v3_7) = N.wr
  wc : V0 (Proc.devRef .tc main_v3_8) = N.wc
  bc : V0 (Proc.devRef .tc main_v3_9) = N.bc
  ul : V0 (Proc.devRef .tc main_v3_10) = N.ul
  ur : V0 (Proc.devRef .tc main_v3_11) = N.ur
  n : V0 (Proc.devRef .tc main_v3_12) = fun _ => BitVec.ofNat 32 t
  u : V0 (Proc.devRef .tc main_v3_14) = fun _ => BitVec.ofNat 32 t

variable {V0 : Valuation τ sig (Elt Ideal)} {N : Net} {il ir : IVec S128x16 32} {t : Fin 128} (h : At V0 N il ir t.val)

include h

theorem v6_apply (b : Fin 16) : res_main_while0b_v6 V0 (ix1 b) = il (ix2 t b) := by
  unfold res_main_while0b_v6
  rw [h.l, h.n]
  clean_types
  pointwise
  have hw := toInt_ofNat t.isLt
  generalize BitVec.ofNat 32 t.val = w at hw ⊢
  exact slice_row il _ t b hw rfl _ _ _

theorem v7_apply (b : Fin 16) : res_main_while0b_v7 V0 (ix1 b) = ir (ix2 t b) := by
  unfold res_main_while0b_v7
  rw [h.r, h.n]
  clean_types
  pointwise
  have hw := toInt_ofNat t.isLt
  generalize BitVec.ofNat 32 t.val = w at hw ⊢
  exact slice_row ir _ t b hw rfl _ _ _

theorem v5_apply (b : Fin 16) (k : Fin 512) : res_main_while0b_v5 V0 (ix2 b k) = N.x (ix3 t b k) := by
  unfold res_main_while0b_v5
  rw [h.x, h.n]
  clean_types
  pointwise
  have hw := toInt_ofNat t.isLt
  generalize BitVec.ofNat 32 t.val = w at hw ⊢
  exact slice_rows N.x _ t b k hw rfl rfl _ _ _ _

theorem v8_apply (b : Fin 16) : res_main_while0b_v8 V0 (ix1 b) = IntOp.minsi (127#32) (IntOp.maxsi (0#32) (il (ix2 t b))) := by
  unfold res_main_while0b_v8
  clean_types
  pointwise
  rw [v6_apply h]
  rfl

theorem v28_apply (b : Fin 16) : res_main_while0b_v28 V0 (ix1 b) = IntOp.minsi (127#32) (IntOp.maxsi (0#32) (ir (ix2 t b))) := by
  unfold res_main_while0b_v28
  clean_types
  pointwise
  rw [v7_apply h]
  rfl

theorem v27_apply (b : Fin 16) (k : Fin 256) :
    res_main_while0b_v27 V0 (ix2 b k) = kid (fun s b k => V0 (Proc.devRef .tc main_v3_13) (ix3 s b k)) (fun b => il (ix2 t b)) t.val b k := by
  unfold res_main_while0b_v27
  rw [h.e, h.u]
  clean_types
  pointwise
  rw [v6_apply h, select_slt _ t.isLt]
  refine if_congr Iff.rfl ?_ rfl
  exact gather_kid _ _ _ b k (v8_apply h b)

theorem v47_apply (b : Fin 16) (k : Fin 256) :
    res_main_while0b_v47 V0 (ix2 b k) = kid (fun s b k => V0 (Proc.devRef .tc main_v3_13) (ix3 s b k)) (fun b => ir (ix2 t b)) t.val b k := by
  unfold res_main_while0b_v47
  rw [h.e, h.u]
  clean_types
  pointwise
  rw [v7_apply h, select_slt _ t.isLt]
  refine if_congr Iff.rfl ?_ rfl
  exact gather_kid _ _ _ b k (v28_apply h b)

theorem v64_apply (b : Fin 16) (j : Fin 1280) :
    res_main_while0b_v64 V0 (ix2 b j)
      = N.gate t (fun b k => res_main_while0b_v27 V0 (ix2 b k)) (fun b k => res_main_while0b_v47 V0 (ix2 b k)) b j := by
  unfold res_main_while0b_v64
  rw [h.wg, h.bg, h.wl, h.wr]
  clean_types
  pointwise
  simp only [v5_apply h]
  rfl

theorem v88_apply (b : Fin 16) (j : Fin 256) :
    res_main_while0b_v88 V0 (ix2 b j)
      = N.step t (fun b k => res_main_while0b_v27 V0 (ix2 b k)) (fun b k => res_main_while0b_v47 V0 (ix2 b k)) b j := by
  unfold res_main_while0b_v88
  rw [h.wc, h.bc, h.ul, h.ur]
  clean_types
  pointwise
  simp only [v5_apply h, v64_apply h]
  have e0 (l r : Fin 16 → Fin 256 → EReal) (x : Fin 256) : N.gateOf t l r b 0 x = N.gate t l r b ⟨x.val, by omega⟩ :=
    congrArg (N.gate t l r b) (Fin.ext (Nat.zero_add _))
  unfold Net.step Net.cand
  simp only [e0]
  rfl

/-- The states stored so far, and the results so far. -/
theorem states_apply (s : Fin 128) (b : Fin 16) (k : Fin 256) :
    STEP V0 (Proc.devRef .tc main_v3_13) (ix3 s b k)
      = if s.val = t.val then res_main_while0b_v88 V0 (ix2 b k) else V0 (Proc.devRef .tc main_v3_13) (ix3 s b k) := by
  rw [STEP_main_v3_13]
  unfold step_main_v3_13
  rw [h.u]
  have hw : (Scalar.select (IntOp.cmpi CmpIPredicate.slt (BitVec.ofNat 32 t.val) (0#32)) (IntOp.addi (BitVec.ofNat 32 t.val) (128#32))
      (BitVec.ofNat 32 t.val)).toInt = t.val := by
    have := toInt_ofNat t.isLt
    rw [wrap_eq _ _ (by omega), this]
  refine (update_row _ _ _ t hw rfl rfl _ s b k).trans ?_
  refine if_congr Iff.rfl ?_ rfl
  pointwise

theorem results_apply (s : Fin 128) (b : Fin 16) (k : Fin 256) :
    STEP V0 (Proc.devRef .tc main_v3_15) (ix3 s b k)
      = if s.val = t.val then res_main_while0b_v88 V0 (ix2 b k) else V0 (Proc.devRef .tc main_v3_15) (ix3 s b k) := by
  rw [STEP_main_v3_15]
  unfold step_main_v3_15
  rw [h.n]
  have hw : (BitVec.ofNat 32 t.val).toInt = t.val := toInt_ofNat t.isLt
  refine (update_row _ _ _ t hw rfl rfl _ s b k).trans ?_
  refine if_congr Iff.rfl ?_ rfl
  pointwise

/-- A trip keeps what it only reads and advances the step number. -/
theorem At.succ : At (STEP V0) N il ir (t.val + 1) where
  x := (STEP_main_v3_0 V0).trans h.x
  l := (STEP_main_v3_1 V0).trans h.l
  r := (STEP_main_v3_2 V0).trans h.r
  e := (STEP_main_v3_3 V0).trans h.e
  wg := (STEP_main_v3_4 V0).trans h.wg
  bg := (STEP_main_v3_5 V0).trans h.bg
  wl := (STEP_main_v3_6 V0).trans h.wl
  wr := (STEP_main_v3_7 V0).trans h.wr
  wc := (STEP_main_v3_8 V0).trans h.wc
  bc := (STEP_main_v3_9 V0).trans h.bc
  ul := (STEP_main_v3_10 V0).trans h.ul
  ur := (STEP_main_v3_11 V0).trans h.ur
  n := by
    rw [STEP_main_v3_12]
    unfold step_main_v3_12
    rw [h.n]
    exact funext fun _ => (BitVec.ofNat_add t.val 1).symm
  u := by
    rw [STEP_main_v3_14]
    unfold step_main_v3_14
    rw [h.u]
    exact funext fun _ => (BitVec.ofNat_add t.val 1).symm

end Cert.Proof.Scan

end
-- ==== Proof.Equal.lean ====
/- The two programs' results are equal when the first step's indices are not negative. -/
module

public import proofs.«01_k».proof.Defs
public import proofs.«01_k».proof.Proof.Value
public import proofs.«01_k».proof.Proof.Scan
public import proofs.«01_k».proof.Proof.Run
public import Idealize.ShloMosaic.Lib.ReduceAll

@[expose] public section

set_option maxRecDepth 16384

noncomputable section

namespace Cert.Proof

open Idealize.ShloMosaic Idealize.ShloMosaic.TcCoe Idealize.ShloMosaic.Tactic Idealize.SL.Sem

/-! ## The precondition -/

theorem preFacts : Cert.Pre_first_nonneg.Facts where
  slices_S128x16_S1x16_0_0 := by decide
  shapeCasts_S1x16_S16 := by decide
  bcast_S_S16 := by decide
  reducesTo_S16_S_d0 := by decide
  h_S_ := by decide

/-- A comparison "at least" that came out true. -/
theorem sge_zero {a : BitVec 32} (h : IntOp.cmpi CmpIPredicate.sge a (0#32) = 1#1) : 0 ≤ a.toInt := by
  unfold IntOp.cmpi at h
  by_contra hc
  have e : BitVec.sle 0#32 a = false := by
    rw [BitVec.sle_eq_decide]
    simpa using hc
  simp [e] at h

theorem and_one {a b : BitVec 1} (h : IntOp.andi a b = 1#1) : a = 1#1 ∧ b = 1#1 := by
  unfold IntOp.andi at h
  revert a b
  decide

section Pre

attribute [local instance] preFacts

open Cert.Pre_first_nonneg

instance : Subsingleton S_.Idx := ⟨fun i j => funext fun a => a.elim0⟩

/-- The precondition says that the first step's indices are not negative. -/
theorem first_nonneg {x0 : FVec Ideal S128x16x512 .f32} {il ir : IVec S128x16 32} {x3 : FVec Ideal S1280x512 .f32} {x4 : FVec Ideal S1280 .f32}
    {x5 x6 : FVec Ideal S1280x256 .f32} {x7 : FVec Ideal S256x512 .f32} {x8 : FVec Ideal S256 .f32} {x9 x10 : FVec Ideal S256x256 .f32}
    (h : fn x0 il ir x3 x4 x5 x6 x7 x8 x9 x10 = fun _ => 1#1) (b : Fin 16) : 0 ≤ (il (ix2 0 b)).toInt ∧ 0 ≤ (ir (ix2 0 b)).toInt := by
  have h0 := congrFun h (Shape.Idx.first Facts.h_S_)
  unfold fn at h0
  obtain ⟨h1, h2⟩ := and_one h0
  have e1 := Host.reduce_andi_all _ _ _ _ _ h1 (ix1 b)
  have e2 := Host.reduce_andi_all _ _ _ _ _ h2 (ix1 b)
  revert e1 e2
  pointwise
  exact fun e1 e2 => ⟨sge_zero e1, sge_zero e2⟩

end Pre

/-! ## The reference's scan -/

namespace Scan

open Cert.ReferenceIdeal Cert.ReferenceIdeal.Gen Cert.ReferenceIdeal.Value Idealize.ShloMosaic.StableHlo

theorem at_iterate {V0 : Valuation τ sig (Elt Ideal)} {N : Net} {il ir : IVec S128x16 32} (h : At V0 N il ir 0) :
    ∀ t : ℕ, t ≤ 128 → At (STEP^[t] V0) N il ir t
  | 0, _ => h
  | n + 1, hn => by
    rw [Function.iterate_succ_apply']
    exact At.succ (t := ⟨n, hn⟩) (at_iterate h n (by omega))

/-- The reference's stored states and results follow the recursion. -/
theorem scans {V0 : Valuation τ sig (Elt Ideal)} {N : Net} {il ir : IVec S128x16 32} (h : At V0 N il ir 0) :
    Tree.Scans N il ir (fun t s b k => (STEP^[t] V0) (Proc.devRef .tc main_v3_13) (ix3 s b k))
      (fun t s b k => (STEP^[t] V0) (Proc.devRef .tc main_v3_15) (ix3 s b k)) where
  state t s b k := by
    have ht := at_iterate h t.val (by omega)
    rw [Function.iterate_succ_apply', states_apply ht, v88_apply ht]
    simp only [v27_apply ht, v47_apply ht]
  result t s b k := by
    have ht := at_iterate h t.val (by omega)
    rw [Function.iterate_succ_apply', results_apply ht, v88_apply ht]
    simp only [v27_apply ht, v47_apply ht]

variable (m : (ℓ : Loc nD τ sig) → Buf (Elt Ideal) ℓ) (c : Dev nD)

/-- What the loop finds, read from the arguments. -/
theorem at_entry (N : Net) (hx : m ((c.tc : Thread nD τ).loc main_arg0) = N.x) (hwg : m ((c.tc : Thread nD τ).loc main_arg3) = N.wg)
    (hbg : m ((c.tc : Thread nD τ).loc main_arg4) = N.bg) (hwl : m ((c.tc : Thread nD τ).loc main_arg5) = N.wl)
    (hwr : m ((c.tc : Thread nD τ).loc main_arg6) = N.wr) (hwc : m ((c.tc : Thread nD τ).loc main_arg7) = N.wc)
    (hbc : m ((c.tc : Thread nD τ).loc main_arg8) = N.bc) (hul : m ((c.tc : Thread nD τ).loc main_arg9) = N.ul)
    (hur : m ((c.tc : Thread nD τ).loc main_arg10) = N.ur) :
    At (entryContents preI m c) N (m ((c.tc : Thread nD τ).loc main_arg1)) (m ((c.tc : Thread nD τ).loc main_arg2)) 0 := by
  constructor <;> simp only [entryContents, afterL_cons, afterL_nil] <;> after_reads_simp <;> first | assumption | rfl

end Scan

/-! ## The results -/

section Results

open Cert.KernelIdeal Cert.KernelIdeal.Gen

variable (m : (ℓ : Loc nD τ sig) → Buf (Elt Ideal) ℓ) (c : Dev nD)

/-- The inputs, read from the kernel's arguments. -/
def netOf : Net where
  x := m ((c.tc : Thread nD τ).loc main_arg0)
  wg := m ((c.tc : Thread nD τ).loc main_arg3)
  bg := m ((c.tc : Thread nD τ).loc main_arg4)
  wl := m ((c.tc : Thread nD τ).loc main_arg5)
  wr := m ((c.tc : Thread nD τ).loc main_arg6)
  wc := m ((c.tc : Thread nD τ).loc main_arg7)
  bc := m ((c.tc : Thread nD τ).loc main_arg8)
  ul := m ((c.tc : Thread nD τ).loc main_arg9)
  ur := m ((c.tc : Thread nD τ).loc main_arg10)

/-- What the kernel computes is the results of any scan from the same inputs, whatever its buffers held. -/
theorem res_scan (nl : ∀ b : Fin 16, 0 ≤ BitVec.toInt (m ((c.tc : Thread nD τ).loc main_arg1) (ix2 0 b)))
    (nr : ∀ b : Fin 16, 0 ≤ BitVec.toInt (m ((c.tc : Thread nD τ).loc main_arg2) (ix2 0 b)))
    {G R : ℕ → Fin 128 → Fin 16 → Fin 256 → EReal}
    (hS : Tree.Scans (netOf m c) (m ((c.tc : Thread nD τ).loc main_arg1)) (m ((c.tc : Thread nD τ).loc main_arg2)) G R)
    (H : Vec Ideal S2064x256 .f32) (O : Vec Ideal S16x128x256 .f32) (b : Fin 16) (s : Fin 128) (k : Fin 256) :
    Tree.res m c H O (ix3 b s k) = R 128 s b k := by
  unfold Tree.res Tree.outOf
  rw [V_main_arg3, V_main_arg5, V_main_arg6, V_main_arg7, V_main_arg9, V_main_arg10]
  have hI := Tree.reads_insOf (netOf m c) (V m c main_v0) (V m c main_v25) (V m c main_v26) (V m c main_v14) (V m c main_v24)
    (Tree.V_x m c) (Tree.V_bg m c) (Tree.V_bc m c)
  refine (Tree.steps_scan hI (il := m ((c.tc : Thread nD τ).loc main_arg1)) (ir := m ((c.tc : Thread nD τ).loc main_arg2))
    (fun t b => ?_) (fun t b => ?_) nl nr hS (Tree.initH H) O (Tree.initH_zero H) 128 le_rfl).2 s b k s.isLt
  · exact (congrArg BitVec.toNat (Tree.V_lf m c t b)).trans (Tree.word_toNat _ t.isLt b.isLt)
  · exact (congrArg BitVec.toNat (Tree.V_rf m c t b)).trans (Tree.word_toNat _ t.isLt b.isLt)

end Results

theorem equal : Cert.algebraic_KernelIdeal_ReferenceIdeal_pre_first_nonneg (hKernelIdeal := Cert.KernelIdeal.Gen.facts)
    (hReferenceIdeal := Cert.ReferenceIdeal.Gen.facts) (hPre_first_nonneg := preFacts) := by
  intro m g m' g' hpre hagree
  refine ⟨fun c => Cert.ReferenceIdeal.Value.out_main_v4
      (Cert.ReferenceIdeal.Value.STEP^[128] (Idealize.ShloMosaic.StableHlo.entryContents Cert.ReferenceIdeal.Value.preI m' c)), ?_, ?_⟩
  · refine (θ_run _ _ _).mono (fun r h c => ⟨?_, Tree.args m h.1 c⟩) (Tree.run_main m g)
    obtain ⟨H, O, e⟩ := Tree.arr_out m h.1 c
    obtain ⟨a0, a1, a2, a3, a4, a5, a6, a7, a8, a9, a10⟩ := hagree c
    have hn := first_nonneg (hpre c)
    have hE := Scan.at_entry m' c (netOf m c) a0 a3 a4 a5 a6 a7 a8 a9 a10
    rw [a1, a2] at hE
    refine e.trans (funext fun i => ?_)
    obtain ⟨b, s, k, rfl⟩ : ∃ (b : Fin 16) (s : Fin 128) (k : Fin 256), i = ix3 b s k := ⟨i 0, i 1, i 2, eq_ix3 i⟩
    refine (res_scan m c (fun b => (hn b).1) (fun b => (hn b).2) (Scan.scans hE) H O b s k).trans ?_
    unfold Cert.ReferenceIdeal.Value.out_main_v4
    pointwise
  · exact Cert.ReferenceIdeal.Value.run m' g'

end Cert.Proof

end
-- ==== Proof.lean ====
/- The claims put together: the kernel's frames, the reference's frame, and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Plain
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts,
  fun m g _ => Tree.frame_words (F := Bits) m g, fun m g _ => Tree.frame (F := Ideal) m g, fun m g _ => Tree.frame (F := Ideal) m g,
  fun m g _ => Scan.frame (F := Ideal) m g, fun m g _ => Scan.frame (F := Ideal) m g, trivial, equal⟩

end Cert.Proof

end
